-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_scan_finite [hPre_scan_finite : Cert.Pre_scan_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_scan_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).1 = (fun _ => 1#1)
    ∧ (Cert.Pre_scan_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).2.1 = (fun _ => 1#1)
    ∧ (Cert.Pre_scan_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).2.2.1 = (fun _ => 1#1)
    ∧ (Cert.Pre_scan_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_scan_finite [hPre_scan_finite : Cert.Pre_scan_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_scan_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).1 = (fun _ => 1#1)
    ∧ (Cert.Pre_scan_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).2.1 = (fun _ => 1#1)
    ∧ (Cert.Pre_scan_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).2.2.1 = (fun _ => 1#1)
    ∧ (Cert.Pre_scan_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15)
      ∧ r.2.mem ((c.tc : Thread Cert.Kernel5.nD Cert.Kernel5.τ).loc Cert.Kernel5.main_arg16) = m ((c.tc : Thread Cert.Kernel5.nD Cert.Kernel5.τ).loc Cert.Kernel5.main_arg16)
      ∧ r.2.mem ((c.tc : Thread Cert.Kernel5.nD Cert.Kernel5.τ).loc Cert.Kernel5.main_arg17) = m ((c.tc : Thread Cert.Kernel5.nD Cert.Kernel5.τ).loc Cert.Kernel5.main_arg17))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
      ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17))
      ∧ r.2.sem = fun _ => 0)

def quiescent_Kernel5Ideal_pre_scan_finite [hKernel5Ideal : Cert.Kernel5Ideal.Facts] [hPre_scan_finite : Cert.Pre_scan_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_scan_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
      ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16)
      ∧ r.2.mem ((c.tc : Thread Cert.Reference5Ideal.nD Cert.Reference5Ideal.τ).loc Cert.Reference5Ideal.main_arg17) = m ((c.tc : Thread Cert.Reference5Ideal.nD Cert.Reference5Ideal.τ).loc Cert.Reference5Ideal.main_arg17))
      ∧ r.2.sem = fun _ => 0)

def quiescent_Reference5Ideal_pre_scan_finite [hReference5Ideal : Cert.Reference5Ideal.Facts] [hPre_scan_finite : Cert.Pre_scan_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_scan_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16)
      ∧ r.2.mem ((c.tc : Thread Cert.Reference5Ideal.nD Cert.Reference5Ideal.τ).loc Cert.Reference5Ideal.main_arg17) = m ((c.tc : Thread Cert.Reference5Ideal.nD Cert.Reference5Ideal.τ).loc Cert.Reference5Ideal.main_arg17))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)) (v2 : (c : Dev Cert.Kernel3Ideal.nD) → Buf (Elt Ideal) ((c.tc : Thread Cert.Kernel3Ideal.nD Cert.Kernel3Ideal.τ).loc Cert.Kernel3Ideal.main_v13_2)) (v3 : (c : Dev Cert.Kernel3Ideal.nD) → Buf (Elt Ideal) ((c.tc : Thread Cert.Kernel3Ideal.nD Cert.Kernel3Ideal.τ).loc Cert.Kernel3Ideal.main_v13_3)) (v4 : (c : Dev Cert.Kernel3Ideal.nD) → Buf (Elt Ideal) ((c.tc : Thread Cert.Kernel3Ideal.nD Cert.Kernel3Ideal.τ).loc Cert.Kernel3Ideal.main_v13_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_v13_2) = v2 c
          ∧ r.2.mem ((c.tc : Thread Cert.Kernel3Ideal.nD Cert.Kernel3Ideal.τ).loc Cert.Kernel3Ideal.main_v13_3) = v3 c
          ∧ r.2.mem ((c.tc : Thread Cert.Kernel3Ideal.nD Cert.Kernel3Ideal.τ).loc Cert.Kernel3Ideal.main_v13_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v72) = v0 c
          ∧ r.2.mem ((c.tc : Thread Cert.Reference3Ideal.nD Cert.Reference3Ideal.τ).loc Cert.Reference3Ideal.main_v75) = v1 c
          ∧ r.2.mem ((c.tc : Thread Cert.Reference3Ideal.nD Cert.Reference3Ideal.τ).loc Cert.Reference3Ideal.main_v78) = v2 c
          ∧ r.2.mem ((c.tc : Thread Cert.Reference3Ideal.nD Cert.Reference3Ideal.τ).loc Cert.Reference3Ideal.main_v81) = v3 c
          ∧ r.2.mem ((c.tc : Thread Cert.Reference3Ideal.nD Cert.Reference3Ideal.τ).loc Cert.Reference3Ideal.main_v84) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_scan_finite [hKernel5Ideal : Cert.Kernel5Ideal.Facts] [hReference5Ideal : Cert.Reference5Ideal.Facts] [hPre_scan_finite : Cert.Pre_scan_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_scan_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)
      ∧ m' ((c.tc : Thread Cert.Reference5Ideal.nD Cert.Reference5Ideal.τ).loc Cert.Reference5Ideal.main_arg16) = m ((c.tc : Thread Cert.Kernel5Ideal.nD Cert.Kernel5Ideal.τ).loc Cert.Kernel5Ideal.main_arg16)
      ∧ m' ((c.tc : Thread Cert.Reference5Ideal.nD Cert.Reference5Ideal.τ).loc Cert.Reference5Ideal.main_arg17) = m ((c.tc : Thread Cert.Kernel5Ideal.nD Cert.Kernel5Ideal.τ).loc Cert.Kernel5Ideal.main_arg17)) →
    ∃ (v0 : (c : Dev Cert.Kernel5Ideal.nD) → Buf (Elt Ideal) ((c.tc : Thread Cert.Kernel5Ideal.nD Cert.Kernel5Ideal.τ).loc Cert.Kernel5Ideal.main_v17_0)) (v1 : (c : Dev Cert.Kernel5Ideal.nD) → Buf (Elt Ideal) ((c.tc : Thread Cert.Kernel5Ideal.nD Cert.Kernel5Ideal.τ).loc Cert.Kernel5Ideal.main_v17_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17_0) = v0 c
          ∧ r.2.mem ((c.tc : Thread Cert.Kernel5Ideal.nD Cert.Kernel5Ideal.τ).loc Cert.Kernel5Ideal.main_v17_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
          ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
          ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v72) = v0 c
          ∧ r.2.mem ((c.tc : Thread Cert.Reference5Ideal.nD Cert.Reference5Ideal.τ).loc Cert.Reference5Ideal.main_v90) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15)
          ∧ r.2.mem ((c.tc : Thread Cert.Reference5Ideal.nD Cert.Reference5Ideal.τ).loc Cert.Reference5Ideal.main_arg16) = m' ((c.tc : Thread Cert.Reference5Ideal.nD Cert.Reference5Ideal.τ).loc Cert.Reference5Ideal.main_arg16)
          ∧ r.2.mem ((c.tc : Thread Cert.Reference5Ideal.nD Cert.Reference5Ideal.τ).loc Cert.Reference5Ideal.main_arg17) = m' ((c.tc : Thread Cert.Reference5Ideal.nD Cert.Reference5Ideal.τ).loc Cert.Reference5Ideal.main_arg17))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v13_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13_1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v73) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_scan_finite : Cert.Pre_scan_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_scan_finite (hKernel5Ideal := hKernel5Ideal) (hPre_scan_finite := hPre_scan_finite)
    ∧ quiescent_Reference5Ideal (hReference5Ideal := hReference5Ideal)
    ∧ quiescent_Reference5Ideal_pre_scan_finite (hReference5Ideal := hReference5Ideal) (hPre_scan_finite := hPre_scan_finite)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_scan_finite (hKernel5Ideal := hKernel5Ideal) (hReference5Ideal := hReference5Ideal) (hPre_scan_finite := hPre_scan_finite)
    ∧ preserves_Kernel6_Kernel6Ideal
    ∧ algebraic_Kernel6Ideal_Reference6Ideal (hKernel6Ideal := hKernel6Ideal) (hReference6Ideal := hReference6Ideal)
-- ==== Pre_scan_finite.lean ====
abbrev S24576x1024 : Shape := ⟨2, ![24576, 1024]⟩
abbrev S2x8192x128 : Shape := ⟨3, ![2, 8192, 128]⟩
abbrev S2x16384x128 : Shape := ⟨3, ![2, 16384, 128]⟩
abbrev S24576x256 : Shape := ⟨2, ![24576, 256]⟩
abbrev S1024x8064 : Shape := ⟨2, ![1024, 8064]⟩
abbrev S4x256x1024 : Shape := ⟨3, ![4, 256, 1024]⟩
abbrev S1024x1024 : Shape := ⟨2, ![1024, 1024]⟩
abbrev S2x256 : Shape := ⟨2, ![2, 256]⟩
abbrev S16x6144 : Shape := ⟨2, ![16, 6144]⟩
abbrev S1024 : Shape := ⟨1, ![1024]⟩
abbrev S1024x16 : Shape := ⟨2, ![1024, 16]⟩
abbrev S_ : Shape := ⟨0, ![]⟩

class Facts : Prop where
  bcast_S_S2x8192x128 : S_.BroadcastsInDim S2x8192x128 (![] : Fin 0 → Fin S2x8192x128.rank)
  bcast_S_S2x16384x128 : S_.BroadcastsInDim S2x16384x128 (![] : Fin 0 → Fin S2x16384x128.rank)

variable [Facts]

def fn {F : FTy → Type} [FloatOps F] (main_arg0 : FVec F S24576x1024 .f32) (main_arg1 : FVec F S24576x1024 .bf16) (main_arg2 : FVec F S2x8192x128 .f32) (main_arg3 : FVec F S2x8192x128 .f32) (main_arg4 : FVec F S2x16384x128 .f32) (main_arg5 : FVec F S2x16384x128 .f32) (main_arg6 : FVec F S24576x256 .f32) (main_arg7 : FVec F S24576x256 .f32) (main_arg8 : FVec F S24576x256 .f32) (main_arg9 : FVec F S24576x256 .f32) (main_arg10 : FVec F S24576x256 .f32) (main_arg11 : FVec F S1024x8064 .f32) (main_arg12 : FVec F S4x256x1024 .f32) (main_arg13 : FVec F S1024x1024 .f32) (main_arg14 : FVec F S2x256 .f32) (main_arg15 : FVec F S16x6144 .f32) (main_arg16 : FVec F S1024 .f32) (main_arg17 : FVec F S1024x16 .f32) : IVec S2x8192x128 1 × IVec S2x8192x128 1 × IVec S2x16384x128 1 × IVec S2x16384x128 1 :=
  let main_v0 : FVec F S2x8192x128 .f32 := Host.absf main_arg2
  let main_cst : FVec F S_ .f32 := constant S_ .f32 0x7F800000#32
  let main_v1 : FVec F S2x8192x128 .f32 := broadcastInDim S2x8192x128 ![] bcast_S_S2x8192x128 main_cst
  let main_v2 : IVec S2x8192x128 1 := cmpf .olt main_v0 main_v1
  let main_v3 : FVec F S2x8192x128 .f32 := Host.absf main_arg3
  let main_cst_0 : FVec F S_ .f32 := constant S_ .f32 0x7F800000#32
  let main_v4 : FVec F S2x8192x128 .f32 := broadcastInDim S2x8192x128 ![] bcast_S_S2x8192x128 main_cst_0
  let main_v5 : IVec S2x8192x128 1 := cmpf .olt main_v3 main_v4
  let main_v6 : FVec F S2x16384x128 .f32 := Host.absf main_arg4
  let main_cst_1 : FVec F S_ .f32 := constant S_ .f32 0x7F800000#32
  let main_v7 : FVec F S2x16384x128 .f32 := broadcastInDim S2x16384x128 ![] bcast_S_S2x16384x128 main_cst_1
  let main_v8 : IVec S2x16384x128 1 := cmpf .olt main_v6 main_v7
  let main_v9 : FVec F S2x16384x128 .f32 := Host.absf main_arg5
  let main_cst_2 : FVec F S_ .f32 := constant S_ .f32 0x7F800000#32
  let main_v10 : FVec F S2x16384x128 .f32 := broadcastInDim S2x16384x128 ![] bcast_S_S2x16384x128 main_cst_2
  let main_v11 : IVec S2x16384x128 1 := cmpf .olt main_v9 main_v10
  (main_v2, main_v5, main_v8, main_v11)
-- ==== Kernel.lean ====
abbrev S256x64x128 : Shape := ⟨3, ![256, 64, 128]⟩
abbrev S2x256x64x128 : Shape := ⟨4, ![2, 256, 64, 128]⟩
abbrev S32x2x4x64x64 : Shape := ⟨5, ![32, 2, 4, 64, 64]⟩
abbrev S32x2x4x1x64x64 : Shape := ⟨6, ![32, 2, 4, 1, 64, 64]⟩
abbrev S2x64x64x1x4x32 : Shape := ⟨6, ![2, 64, 64, 1, 4, 32]⟩
abbrev S2x64x64x128 : Shape := ⟨4, ![2, 64, 64, 128]⟩
abbrev S32x64x128 : Shape := ⟨3, ![32, 64, 128]⟩
abbrev S1x32x64x128 : Shape := ⟨4, ![1, 32, 64, 128]⟩
abbrev S1x64x64x128 : Shape := ⟨4, ![1, 64, 64, 128]⟩
abbrev S64x64x128 : Shape := ⟨3, ![64, 64, 128]⟩
abbrev S1x32x128 : Shape := ⟨3, ![1, 32, 128]⟩
abbrev S32x128 : Shape := ⟨2, ![32, 128]⟩
abbrev S1x1x128 : Shape := ⟨3, ![1, 1, 128]⟩
abbrev S1x128 : Shape := ⟨2, ![1, 128]⟩
abbrev S1x1x1x128 : Shape := ⟨4, ![1, 1, 1, 128]⟩
abbrev S1x1x32x128 : Shape := ⟨4, ![1, 1, 32, 128]⟩

abbrev nBuf : Space → Nat
  | .hbm => 12
  | .vmem => 19
  | .smem => 0
  | _ => 0

abbrev bufTy : (tb : Table) → Fin (tcTables nBuf tb) → BufTy
  | .hbm, ⟨0, _⟩ => ⟨S256x64x128, .f32⟩
  | .hbm, ⟨1, _⟩ => ⟨S2x256x64x128, .f32⟩
  | .hbm, ⟨2, _⟩ => ⟨S256x64x128, .f32⟩
  | .hbm, ⟨3, _⟩ => ⟨S256x64x128, .f32⟩
  | .hbm, ⟨4, _⟩ => ⟨S256x64x128, .f32⟩
  | .hbm, ⟨5, _⟩ => ⟨S256x64x128, .f32⟩
  | .hbm, ⟨6, _⟩ => ⟨S32x2x4x64x64, .f32⟩
  | .hbm, ⟨7, _⟩ => ⟨S32x2x4x1x64x64, .f32⟩
  | .hbm, ⟨8, _⟩ => ⟨S2x64x64x1x4x32, .f32⟩
  | .hbm, ⟨9, _⟩ => ⟨S2x64x64x128, .f32⟩
  | .hbm, ⟨10, _⟩ => ⟨S2x256x64x128, .f32⟩
  | .hbm, ⟨11, _⟩ => ⟨S2x64x64x128, .f32⟩
  | .local _ .vmem, ⟨0, _⟩ => ⟨S32x64x128, .f32⟩
  | .local _ .vmem, ⟨1, _⟩ => ⟨S32x64x128, .f32⟩
  | .local _ .vmem, ⟨2, _⟩ => ⟨S1x32x64x128, .f32⟩
  | .local _ .vmem, ⟨3, _⟩ => ⟨S1x32x64x128, .f32⟩
  | .local _ .vmem, ⟨4, _⟩ => ⟨S32x64x128, .f32⟩
  | .local _ .vmem, ⟨5, _⟩ => ⟨S32x64x128, .f32⟩
  | .local _ .vmem, ⟨6, _⟩ => ⟨S32x64x128, .f32⟩
  | .local _ .vmem, ⟨7, _⟩ => ⟨S32x64x128, .f32⟩
  | .local _ .vmem, ⟨8, _⟩ => ⟨S32x64x128, .f32⟩
  | .local _ .vmem, ⟨9, _⟩ => ⟨S32x64x128, .f32⟩
  | .local _ .vmem, ⟨10, _⟩ => ⟨S32x64x128, .f32⟩
  | .local _ .vmem, ⟨11, _⟩ => ⟨S32x64x128, .f32⟩
  | .local _ .vmem, ⟨12, _⟩ => ⟨S1x64x64x128, .f32⟩
  | .local _ .vmem, ⟨13, _⟩ => ⟨S1x64x64x128, .f32⟩
  | .local _ .vmem, ⟨14, _⟩ => ⟨S1x32x64x128, .f32⟩
  | .local _ .vmem, ⟨15, _⟩ => ⟨S1x32x64x128, .f32⟩
  | .local _ .vmem, ⟨16, _⟩ => ⟨S1x64x64x128, .f32⟩
  | .local _ .vmem, ⟨17, _⟩ => ⟨S1x64x64x128, .f32⟩
  | .local _ .vmem, ⟨18, _⟩ => ⟨S64x64x128, .f32⟩
  | _, _ => ⟨S256x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_1 : BitVec 32 := 0#32
  let c32_i32 : BitVec 32 := 32#32
  let v3 : BitVec 32 := Scalar.addi c0_i32_1 c32_i32
  let c1_i32 : BitVec 32 := 1#32
  ⟨c0_i32_1, v3, c1_i32⟩
def k0_off1 (i : grid0.Coords) (k0_t1 : Fin k0_t1_loop.trips) : Fin 3 → Nat :=
  let c0_i32_1 : BitVec 32 := 0#32
  let c1_i32 : BitVec 32 := 1#32
  let arg12 : BitVec 32 := Scf.iv c0_i32_1 c1_i32 k0_t1
  let arg0 : BitVec 32 := BitVec.ofNat 32 (i 0).val
  let c31_i32 : BitVec 32 := 31#32
  let c2_i32 : BitVec 32 := 2#32
  let v7 : BitVec 32 := Scalar.muli c2_i32 arg12
  let v8 : BitVec 32 := Scalar.subi c31_i32 v7
  let v9 : BitVec 32 := Scalar.muli arg0 v8
  let v10 : BitVec 32 := Scalar.addi arg12 v9
  let v11 : Index := Scalar.indexCast v10
  let c0 : Index := 0#32
  let c0_4 : Index := 0#32
  ![v11.toNat, 0, 0]
@[reducible] def k0_t2_loop : Scf.Loop 32 :=
  let c0_i32_5 : BitVec 32 := 0#32
  let c16_i32 : BitVec 32 := 16#32
  let v15 : BitVec 32 := Scalar.addi c0_i32_5 c16_i32
  let c1_i32_6 : BitVec 32 := 1#32
  ⟨c0_i32_5, v15, c1_i32_6⟩
def k0_off2 (k0_t2 : Fin k0_t2_loop.trips) (c0_i32_32 : BitVec 32) : Fin 3 → Nat :=
  let c0_i32_5 : BitVec 32 := 0#32
  let c1_i32_6 : BitVec 32 := 1#32
  let arg13 : BitVec 32 := Scf.iv c0_i32_5 c1_i32_6 k0_t2
  let c4_i32 : BitVec 32 := 4#32
  let v55 : BitVec 32 := Scalar.muli arg13 c4_i32
  let v56 : BitVec 32 := Scalar.addi v55 c0_i32_32
  let v57 : Index := Scalar.indexCast v56
  let c0_33 : Index := 0#32
  let c0_34 : Index := 0#32
  ![v57.toNat, 0, 0]
def k0_off3 (i : grid0.Coords) (k0_t1 : Fin k0_t1_loop.trips) (k0_t2 : Fin k0_t2_loop.trips) (c0_i32_32 : BitVec 32) : Fin 3 → Nat :=
  let c0_i32_1 : BitVec 32 := 0#32
  let c1_i32 : BitVec 32 := 1#32
  let arg12 : BitVec 32 := Scf.iv c0_i32_1 c1_i32 k0_t1
  let arg0 : BitVec 32 := BitVec.ofNat 32 (i 0).val
  let c31_i32 : BitVec 32 := 31#32
  let c2_i32 : BitVec 32 := 2#32
  let v7 : BitVec 32 := Scalar.muli c2_i32 arg12
  let v8 : BitVec 32 := Scalar.subi c31_i32 v7
  let v9 : BitVec 32 := Scalar.muli arg0 v8
  let v10 : BitVec 32 := Scalar.addi arg12 v9
  let v60 : Index := Scalar.indexCast v10
  let c0_i32_5 : BitVec 32 := 0#32
  let c1_i32_6 : BitVec 32 := 1#32
  let arg13 : BitVec 32 := Scf.iv c0_i32_5 c1_i32_6 k0_t2
  let c4_i32 : BitVec 32 := 4#32
  let v55 : BitVec 32 := Scalar.muli arg13 c4_i32
  let v56 : BitVec 32 := Scalar.addi v55 c0_i32_32
  let v61 : Index := Scalar.indexCast v56
  let c0_35 : Index := 0#32
  ![v60.toNat, v61.toNat, 0]
@[reducible] def k0_t3_loop : Scf.Loop 32 :=
  let c0_i32_9 : BitVec 32 := 0#32
  let c16_i32_10 : BitVec 32 := 16#32
  let v22 : BitVec 32 := Scalar.addi c0_i32_9 c16_i32_10
  let c1_i32_11 : BitVec 32 := 1#32
  ⟨c0_i32_9, v22, c1_i32_11⟩
def k0_off4 (k0_t3 : Fin k0_t3_loop.trips) (c0_i32_32 : BitVec 32) : Fin 3 → Nat :=
  let c0_i32_9 : BitVec 32 := 0#32
  let c1_i32_11 : BitVec 32 := 1#32
  let arg13 : BitVec 32 := Scf.iv c0_i32_9 c1_i32_11 k0_t3
  let c4_i32 : BitVec 32 := 4#32
  let v55 : BitVec 32 := Scalar.muli arg13 c4_i32
  let v56 : BitVec 32 := Scalar.addi v55 c0_i32_32
  let v57 : Index := Scalar.indexCast v56
  let c0_33 : Index := 0#32
  let c0_34 : Index := 0#32
  ![v57.toNat, 0, 0]
def k0_off5 (i : grid0.Coords) (k0_t1 : Fin k0_t1_loop.trips) (k0_t3 : Fin k0_t3_loop.trips) (c0_i32_32 : BitVec 32) : Fin 4 → Nat :=
  let c0_35 : Index := 0#32
  let c0_i32_1 : BitVec 32 := 0#32
  let c1_i32 : BitVec 32 := 1#32
  let arg12 : BitVec 32 := Scf.iv c0_i32_1 c1_i32 k0_t1
  let arg0 : BitVec 32 := BitVec.ofNat 32 (i 0).val
  let c31_i32 : BitVec 32 := 31#32
  let c2_i32 : BitVec 32 := 2#32
  let v7 : BitVec 32 := Scalar.muli c2_i32 arg12
  let v8 : BitVec 32 := Scalar.subi c31_i32 v7
  let v9 : BitVec 32 := Scalar.muli arg0 v8
  let v10 : BitVec 32 := Scalar.addi arg12 v9
  let v60 : Index := Scalar.indexCast v10
  let c0_i32_9 : BitVec 32 := 0#32
  let c1_i32_11 : BitVec 32 := 1#32
  let arg13 : BitVec 32 := Scf.iv c0_i32_9 c1_i32_11 k0_t3
  let c4_i32 : BitVec 32 := 4#32
  let v55 : BitVec 32 := Scalar.muli arg13 c4_i32
  let v56 : BitVec 32 := Scalar.addi v55 c0_i32_32
  let v61 : Index := Scalar.indexCast v56
  let c0_36 : Index := 0#32
  ![0, v60.toNat, v61.toNat, 0]
def k0_off6 (i : grid0.Coords) (k0_t1 : Fin k0_t1_loop.trips) (k0_t3 : Fin k0_t3_loop.trips) (c0_i32_32 : BitVec 32) : Fin 3 → Nat :=
  let c0_i32_1 : BitVec 32 := 0#32
  let c1_i32 : BitVec 32 := 1#32
  let arg12 : BitVec 32 := Scf.iv c0_i32_1 c1_i32 k0_t1
  let arg0 : BitVec 32 := BitVec.ofNat 32 (i 0).val
  let c31_i32 : BitVec 32 := 31#32
  let c2_i32 : BitVec 32 := 2#32
  let v7 : BitVec 32 := Scalar.muli c2_i32 arg12
  let v8 : BitVec 32 := Scalar.subi c31_i32 v7
  let v9 : BitVec 32 := Scalar.muli arg0 v8
  let v10 : BitVec 32 := Scalar.addi arg12 v9
  let v66 : Index := Scalar.indexCast v10
  let c0_i32_9 : BitVec 32 := 0#32
  let c1_i32_11 : BitVec 32 := 1#32
  let arg13 : BitVec 32 := Scf.iv c0_i32_9 c1_i32_11 k0_t3
  let c4_i32 : BitVec 32 := 4#32
  let v55 : BitVec 32 := Scalar.muli arg13 c4_i32
  let v56 : BitVec 32 := Scalar.addi v55 c0_i32_32
  let v67 : Index := Scalar.indexCast v56
  let c0_37 : Index := 0#32
  ![v66.toNat, v67.toNat, 0]
def k0_off7 (i : grid0.Coords) (k0_t1 : Fin k0_t1_loop.trips) : Fin 4 → Nat :=
  let c0_14 : Index := 0#32
  let c0_i32_1 : BitVec 32 := 0#32
  let c1_i32 : BitVec 32 := 1#32
  let arg12 : BitVec 32 := Scf.iv c0_i32_1 c1_i32 k0_t1
  let arg0 : BitVec 32 := BitVec.ofNat 32 (i 0).val
  let c31_i32 : BitVec 32 := 31#32
  let c2_i32 : BitVec 32 := 2#32
  let v7 : BitVec 32 := Scalar.muli c2_i32 arg12
  let v8 : BitVec 32 := Scalar.subi c31_i32 v7
  let v9 : BitVec 32 := Scalar.muli arg0 v8
  let v10 : BitVec 32 := Scalar.addi arg12 v9
  let v29 : Index := Scalar.indexCast v10
  let c0_15 : Index := 0#32
  let c0_16 : Index := 0#32
  ![0, v29.toNat, 0, 0]
def k0_off8 (i : grid0.Coords) (k0_t1 : Fin k0_t1_loop.trips) : Fin 3 → Nat :=
  let c0_i32_1 : BitVec 32 := 0#32
  let c1_i32 : BitVec 32 := 1#32
  let arg12 : BitVec 32 := Scf.iv c0_i32_1 c1_i32 k0_t1
  let arg0 : BitVec 32 := BitVec.ofNat 32 (i 0).val
  let c31_i32 : BitVec 32 := 31#32
  let c2_i32 : BitVec 32 := 2#32
  let v7 : BitVec 32 := Scalar.muli c2_i32 arg12
  let v8 : BitVec 32 := Scalar.subi c31_i32 v7
  let v9 : BitVec 32 := Scalar.muli arg0 v8
  let v10 : BitVec 32 := Scalar.addi arg12 v9
  let v33 : Index := Scalar.indexCast v10
  let c32 : Index := 32#32
  let c0_17 : Index := 0#32
  ![v33.toNat, 32, 0]
@[reducible] def k0_t4_loop : Scf.Loop 32 :=
  let c0_i32_19 : BitVec 32 := 0#32
  let c16_i32_20 : BitVec 32 := 16#32
  let v37 : BitVec 32 := Scalar.addi c0_i32_19 c16_i32_20
  let c1_i32_21 : BitVec 32 := 1#32
  ⟨c0_i32_19, v37, c1_i32_21⟩
def k0_off9 (k0_t4 : Fin k0_t4_loop.trips) (c0_i32_32 : BitVec 32) : Fin 3 → Nat :=
  let c0_i32_19 : BitVec 32 := 0#32
  let c1_i32_21 : BitVec 32 := 1#32
  let arg13 : BitVec 32 := Scf.iv c0_i32_19 c1_i32_21 k0_t4
  let c4_i32 : BitVec 32 := 4#32
  let v55 : BitVec 32 := Scalar.muli arg13 c4_i32
  let v56 : BitVec 32 := Scalar.addi v55 c0_i32_32
  let v57 : Index := Scalar.indexCast v56
  let c32_33 : Index := 32#32
  let c0_34 : Index := 0#32
  ![v57.toNat, 32, 0]
def k0_off10 (i : grid0.Coords) (k0_t1 : Fin k0_t1_loop.trips) (k0_t4 : Fin k0_t4_loop.trips) (c0_i32_32 : BitVec 32) : Fin 3 → Nat :=
  let c0_i32_1 : BitVec 32 := 0#32
  let c1_i32 : BitVec 32 := 1#32
  let arg12 : BitVec 32 := Scf.iv c0_i32_1 c1_i32 k0_t1
  let arg0 : BitVec 32 := BitVec.ofNat 32 (i 0).val
  let c31_i32 : BitVec 32 := 31#32
  let c2_i32 : BitVec 32 := 2#32
  let v7 : BitVec 32 := Scalar.muli c2_i32 arg12
  let v8 : BitVec 32 := Scalar.subi c31_i32 v7
  let v9 : BitVec 32 := Scalar.muli arg0 v8
  let v10 : BitVec 32 := Scalar.addi arg12 v9
  let v60 : Index := Scalar.indexCast v10
  let c0_i32_19 : BitVec 32 := 0#32
  let c1_i32_21 : BitVec 32 := 1#32
  let arg13 : BitVec 32 := Scf.iv c0_i32_19 c1_i32_21 k0_t4
  let c4_i32 : BitVec 32 := 4#32
  let v55 : BitVec 32 := Scalar.muli arg13 c4_i32
  let v56 : BitVec 32 := Scalar.addi v55 c0_i32_32
  let v61 : Index := Scalar.indexCast v56
  let c0_35 : Index := 0#32
  ![v60.toNat, v61.toNat, 0]
@[reducible] def k0_t5_loop : Scf.Loop 32 :=
  let c0_i32_24 : BitVec 32 := 0#32
  let c16_i32_25 : BitVec 32 := 16#32
  let v44 : BitVec 32 := Scalar.addi c0_i32_24 c16_i32_25
  let c1_i32_26 : BitVec 32 := 1#32
  ⟨c0_i32_24, v44, c1_i32_26⟩
def k0_off11 (k0_t5 : Fin k0_t5_loop.trips) (c0_i32_32 : BitVec 32) : Fin 3 → Nat :=
  let c0_i32_24 : BitVec 32 := 0#32
  let c1_i32_26 : BitVec 32 := 1#32
  let arg13 : BitVec 32 := Scf.iv c0_i32_24 c1_i32_26 k0_t5
  let c4_i32 : BitVec 32 := 4#32
  let v55 : BitVec 32 := Scalar.muli arg13 c4_i32
  let v56 : BitVec 32 := Scalar.addi v55 c0_i32_32
  let v57 : Index := Scalar.indexCast v56
  let c32_33 : Index := 32#32
  let c0_34 : Index := 0#32
  ![v57.toNat, 32, 0]
def k0_off12 (i : grid0.Coords) (k0_t1 : Fin k0_t1_loop.trips) (k0_t5 : Fin k0_t5_loop.trips) (c0_i32_32 : BitVec 32) : Fin 4 → Nat :=
  let c0_35 : Index := 0#32
  let c0_i32_1 : BitVec 32 := 0#32
  let c1_i32 : BitVec 32 := 1#32
  let arg12 : BitVec 32 := Scf.iv c0_i32_1 c1_i32 k0_t1
  let arg0 : BitVec 32 := BitVec.ofNat 32 (i 0).val
  let c31_i32 : BitVec 32 := 31#32
  let c2_i32 : BitVec 32 := 2#32
  let v7 : BitVec 32 := Scalar.muli c2_i32 arg12
  let v8 : BitVec 32 := Scalar.subi c31_i32 v7
  let v9 : BitVec 32 := Scalar.muli arg0 v8
  let v10 : BitVec 32 := Scalar.addi arg12 v9
  let v60 : Index := Scalar.indexCast v10
  let c0_i32_24 : BitVec 32 := 0#32
  let c1_i32_26 : BitVec 32 := 1#32
  let arg13 : BitVec 32 := Scf.iv c0_i32_24 c1_i32_26 k0_t5
  let c4_i32 : BitVec 32 := 4#32
  let v55 : BitVec 32 := Scalar.muli arg13 c4_i32
  let v56 : BitVec 32 := Scalar.addi v55 c0_i32_32
  let v61 : Index := Scalar.indexCast v56
  let c0_36 : Index := 0#32
  ![0, v60.toNat, v61.toNat, 0]
def k0_off13 (i : grid0.Coords) (k0_t1 : Fin k0_t1_loop.trips) (k0_t5 : Fin k0_t5_loop.trips) (c0_i32_32 : BitVec 32) : Fin 3 → Nat :=
  let c0_i32_1 : BitVec 32 := 0#32
  let c1_i32 : BitVec 32 := 1#32
  let arg12 : BitVec 32 := Scf.iv c0_i32_1 c1_i32 k0_t1
  let arg0 : BitVec 32 := BitVec.ofNat 32 (i 0).val
  let c31_i32 : BitVec 32 := 31#32
  let c2_i32 : BitVec 32 := 2#32
  let v7 : BitVec 32 := Scalar.muli c2_i32 arg12
  let v8 : BitVec 32 := Scalar.subi c31_i32 v7
  let v9 : BitVec 32 := Scalar.muli arg0 v8
  let v10 : BitVec 32 := Scalar.addi arg12 v9
  let v66 : Index := Scalar.indexCast v10
  let c0_i32_24 : BitVec 32 := 0#32
  let c1_i32_26 : BitVec 32 := 1#32
  let arg13 : BitVec 32 := Scf.iv c0_i32_24 c1_i32_26 k0_t5
  let c4_i32 : BitVec 32 := 4#32
  let v55 : BitVec 32 := Scalar.muli arg13 c4_i32
  let v56 : BitVec 32 := Scalar.addi v55 c0_i32_32
  let v67 : Index := Scalar.indexCast v56
  let c0_37 : Index := 0#32
  ![v66.toNat, v67.toNat, 0]
def k0_off14 (i : grid0.Coords) (k0_t1 : Fin k0_t1_loop.trips) : Fin 4 → Nat :=
  let c0_29 : Index := 0#32
  let c0_i32_1 : BitVec 32 := 0#32
  let c1_i32 : BitVec 32 := 1#32
  let arg12 : BitVec 32 := Scf.iv c0_i32_1 c1_i32 k0_t1
  let arg0 : BitVec 32 := BitVec.ofNat 32 (i 0).val
  let c31_i32 : BitVec 32 := 31#32
  let c2_i32 : BitVec 32 := 2#32
  let v7 : BitVec 32 := Scalar.muli c2_i32 arg12
  let v8 : BitVec 32 := Scalar.subi c31_i32 v7
  let v9 : BitVec 32 := Scalar.muli arg0 v8
  let v10 : BitVec 32 := Scalar.addi arg12 v9
  let v51 : Index := Scalar.indexCast v10
  let c32_30 : Index := 32#32
  let c0_31 : Index := 0#32
  ![0, v51.toNat, 32, 0]
def k0_cond2 (i : grid0.Coords) : BitVec 1 :=
  let arg1 : BitVec 32 := BitVec.ofNat 32 (i 1).val
  let c7_i32 : BitVec 32 := 7#32
  let v4 : BitVec 1 := Scalar.cmpi .eq arg1 c7_i32
  let v5 : BitVec 32 := Scalar.extui v4
  let c0_i32_3 : BitVec 32 := 0#32
  let v6 : BitVec 1 := Scalar.cmpi .ne v5 c0_i32_3
  v6

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c7_i32 : BitVec 32 := 7#32
  let v1 : BitVec 32 := Scalar.subi c7_i32 v0
  let v2 : BitVec 32 := Scalar.muli arg0 v1
  let v3 : BitVec 32 := Scalar.addi arg1 v2
  let c0_i32 : BitVec 32 := 0#32
  let c0_i32_0 : BitVec 32 := 0#32
  let c0_i32_1 : BitVec 32 := 0#32
  ![v3.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c7_i32 : BitVec 32 := 7#32
  let v1 : BitVec 32 := Scalar.subi c7_i32 v0
  let v2 : BitVec 32 := Scalar.muli arg0 v1
  let v3 : BitVec 32 := Scalar.addi arg1 v2
  let c0_i32 : BitVec 32 := 0#32
  let c0_i32_0 : BitVec 32 := 0#32
  let c0_i32_1 : BitVec 32 := 0#32
  ![arg0.toNat, v3.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c7_i32 : BitVec 32 := 7#32
  let v1 : BitVec 32 := Scalar.subi c7_i32 v0
  let v2 : BitVec 32 := Scalar.muli arg0 v1
  let v3 : BitVec 32 := Scalar.addi arg1 v2
  let c0_i32 : BitVec 32 := 0#32
  let c0_i32_0 : BitVec 32 := 0#32
  let c0_i32_1 : BitVec 32 := 0#32
  ![v3.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c7_i32 : BitVec 32 := 7#32
  let v1 : BitVec 32 := Scalar.subi c7_i32 v0
  let v2 : BitVec 32 := Scalar.muli arg0 v1
  let v3 : BitVec 32 := Scalar.addi arg1 v2
  let c0_i32 : BitVec 32 := 0#32
  let c0_i32_0 : BitVec 32 := 0#32
  let c0_i32_1 : BitVec 32 := 0#32
  ![v3.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c7_i32 : BitVec 32 := 7#32
  let v1 : BitVec 32 := Scalar.subi c7_i32 v0
  let v2 : BitVec 32 := Scalar.muli arg0 v1
  let v3 : BitVec 32 := Scalar.addi arg1 v2
  let c0_i32 : BitVec 32 := 0#32
  let c0_i32_0 : BitVec 32 := 0#32
  let c0_i32_1 : BitVec 32 := 0#32
  ![v3.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c7_i32 : BitVec 32 := 7#32
  let v1 : BitVec 32 := Scalar.subi c7_i32 v0
  let v2 : BitVec 32 := Scalar.muli arg0 v1
  let v3 : BitVec 32 := Scalar.addi arg1 v2
  let c0_i32 : BitVec 32 := 0#32
  let c0_i32_0 : BitVec 32 := 0#32
  let c0_i32_1 : BitVec 32 := 0#32
  ![v3.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c7_i32 : BitVec 32 := 7#32
  let v1 : BitVec 32 := Scalar.subi c7_i32 v0
  let v2 : BitVec 32 := Scalar.muli arg0 v1
  let v3 : BitVec 32 := Scalar.addi arg1 v2
  let c0_i32 : BitVec 32 := 0#32
  let c0_i32_0 : BitVec 32 := 0#32
  let c0_i32_1 : BitVec 32 := 0#32
  ![arg0.toNat, v3.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S32x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x32x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S256x64x128 : Shape := ⟨3, ![256, 64, 128]⟩
abbrev S2x256x64x128 : Shape := ⟨4, ![2, 256, 64, 128]⟩
abbrev S32x2x4x64x64 : Shape := ⟨5, ![32, 2, 4, 64, 64]⟩
abbrev S256x64x4x32 : Shape := ⟨4, ![256, 64, 4, 32]⟩
abbrev S32x4x256x64 : Shape := ⟨4, ![32, 4, 256, 64]⟩
abbrev S1x32x4x256x64 : Shape := ⟨5, ![1, 32, 4, 256, 64]⟩
abbrev S2x32x4x256x64 : Shape := ⟨5, ![2, 32, 4, 256, 64]⟩
abbrev S1x256x64x128 : Shape := ⟨4, ![1, 256, 64, 128]⟩
abbrev S2x32x4x64x64 : Shape := ⟨5, ![2, 32, 4, 64, 64]⟩
abbrev S256x2x32x4x64 : Shape := ⟨5, ![256, 2, 32, 4, 64]⟩
abbrev S_ : Shape := ⟨0, ![]⟩
abbrev S1x2x32x4x64 : Shape := ⟨5, ![1, 2, 32, 4, 64]⟩
abbrev S2x32x4x64 : Shape := ⟨4, ![2, 32, 4, 64]⟩
abbrev S2x32x4x1x64 : Shape := ⟨5, ![2, 32, 4, 1, 64]⟩
abbrev S2x32x4x64x1 : Shape := ⟨5, ![2, 32, 4, 64, 1]⟩
abbrev S2x256x64x4x32 : Shape := ⟨5, ![2, 256, 64, 4, 32]⟩
abbrev S2x64x64x4x32 : Shape := ⟨5, ![2, 64, 64, 4, 32]⟩
abbrev S2x64x64x128 : Shape := ⟨4, ![2, 64, 64, 128]⟩

abbrev nBuf : Space → Nat
  | .hbm => 154
  | .vmem => 0
  | .smem => 0
  | _ => 0

abbrev hbmTy0_0 (i : Nat) : BufTy := match i % 128 with
  | 0 => ⟨S256x64x128, .f32⟩
  | 1 => ⟨S2x256x64x128, .f32⟩
  | 2 => ⟨S256x64x128, .f32⟩
  | 3 => ⟨S256x64x128, .f32⟩
  | 4 => ⟨S256x64x128, .f32⟩
  | 5 => ⟨S256x64x128, .f32⟩
  | 6 => ⟨S32x2x4x64x64, .f32⟩
  | 7 => ⟨S256x64x4x32, .f32⟩
  | 8 => ⟨S32x4x256x64, .f32⟩
  | 9 => ⟨S256x64x4x32, .f32⟩
  | 10 => ⟨S32x4x256x64, .f32⟩
  | 11 => ⟨S32x4x256x64, .f32⟩
  | 12 => ⟨S1x32x4x256x64, .f32⟩
  | 13 => ⟨S1x32x4x256x64, .f32⟩
  | 14 => ⟨S2x32x4x256x64, .f32⟩
  | 15 => ⟨S1x256x64x128, .f32⟩
  | 16 => ⟨S256x64x128, .f32⟩
  | 17 => ⟨S1x256x64x128, .f32⟩
  | 18 => ⟨S256x64x128, .f32⟩
  | 19 => ⟨S256x64x4x32, .f32⟩
  | 20 => ⟨S32x4x256x64, .f32⟩
  | 21 => ⟨S256x64x4x32, .f32⟩
  | 22 => ⟨S32x4x256x64, .f32⟩
  | 23 => ⟨S32x4x256x64, .f32⟩
  | 24 => ⟨S1x32x4x256x64, .f32⟩
  | 25 => ⟨S1x32x4x256x64, .f32⟩
  | 26 => ⟨S2x32x4x256x64, .f32⟩
  | 27 => ⟨S256x64x4x32, .f32⟩
  | 28 => ⟨S32x4x256x64, .f32⟩
  | 29 => ⟨S256x64x4x32, .f32⟩
  | 30 => ⟨S32x4x256x64, .f32⟩
  | 31 => ⟨S32x4x256x64, .f32⟩
  | 32 => ⟨S1x32x4x256x64, .f32⟩
  | 33 => ⟨S1x32x4x256x64, .f32⟩
  | 34 => ⟨S2x32x4x256x64, .f32⟩
  | 35 => ⟨S256x64x4x32, .f32⟩
  | 36 => ⟨S32x4x256x64, .f32⟩
  | 37 => ⟨S256x64x4x32, .f32⟩
  | 38 => ⟨S32x4x256x64, .f32⟩
  | 39 => ⟨S32x4x256x64, .f32⟩
  | 40 => ⟨S1x32x4x256x64, .f32⟩
  | 41 => ⟨S1x32x4x256x64, .f32⟩
  | 42 => ⟨S2x32x4x256x64, .f32⟩
  | 43 => ⟨S256x64x4x32, .f32⟩
  | 44 => ⟨S32x4x256x64, .f32⟩
  | 45 => ⟨S256x64x4x32, .f32⟩
  | 46 => ⟨S32x4x256x64, .f32⟩
  | 47 => ⟨S32x4x256x64, .f32⟩
  | 48 => ⟨S1x32x4x256x64, .f32⟩
  | 49 => ⟨S1x32x4x256x64, .f32⟩
  | 50 => ⟨S2x32x4x256x64, .f32⟩
  | 51 => ⟨S256x64x4x32, .f32⟩
  | 52 => ⟨S32x4x256x64, .f32⟩
  | 53 => ⟨S256x64x4x32, .f32⟩
  | 54 => ⟨S32x4x256x64, .f32⟩
  | 55 => ⟨S32x4x256x64, .f32⟩
  | 56 => ⟨S1x32x4x256x64, .f32⟩
  | 57 => ⟨S1x32x4x256x64, .f32⟩
  | 58 => ⟨S2x32x4x256x64, .f32⟩
  | 59 => ⟨S2x32x4x64x64, .f32⟩
  | 60 => ⟨S256x2x32x4x64, .f32⟩
  | 61 => ⟨S256x2x32x4x64, .f32⟩
  | 62 => ⟨S256x2x32x4x64, .f32⟩
  | 63 => ⟨S256x2x32x4x64, .f32⟩
  | 64 => ⟨S256x2x32x4x64, .f32⟩
  | 65 => ⟨S256x2x32x4x64, .f32⟩
  | 66 => ⟨S_, .f32⟩
  | 67 => ⟨S256x2x32x4x64, .f32⟩
  | 68 => ⟨S_, .i32⟩
  | 69 => ⟨S256x2x32x4x64, .f32⟩
  | 70 => ⟨S256x2x32x4x64, .f32⟩
  | 71 => ⟨S256x2x32x4x64, .f32⟩
  | 72 => ⟨S256x2x32x4x64, .f32⟩
  | 73 => ⟨S256x2x32x4x64, .f32⟩
  | 74 => ⟨S256x2x32x4x64, .f32⟩
  | 75 => ⟨S_, .i32⟩
  | 76 => ⟨S2x32x4x64x64, .f32⟩
  | 77 => ⟨S256x2x32x4x64, .f32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S1x2x32x4x64, .f32⟩
  | 85 => ⟨S2x32x4x64, .f32⟩
  | 86 => ⟨S_, .i32⟩
  | 87 => ⟨S_, .i32⟩
  | 88 => ⟨S_, .i32⟩
  | 89 => ⟨S_, .i32⟩
  | 90 => ⟨S1x2x32x4x64, .f32⟩
  | 91 => ⟨S2x32x4x64, .f32⟩
  | 92 => ⟨S_, .i32⟩
  | 93 => ⟨S_, .i32⟩
  | 94 => ⟨S_, .i32⟩
  | 95 => ⟨S_, .i32⟩
  | 96 => ⟨S1x2x32x4x64, .f32⟩
  | 97 => ⟨S2x32x4x64, .f32⟩
  | 98 => ⟨S_, .i32⟩
  | 99 => ⟨S_, .i32⟩
  | 100 => ⟨S_, .i32⟩
  | 101 => ⟨S_, .i32⟩
  | 102 => ⟨S1x2x32x4x64, .f32⟩
  | 103 => ⟨S2x32x4x64, .f32⟩
  | 104 => ⟨S_, .i32⟩
  | 105 => ⟨S_, .i32⟩
  | 106 => ⟨S_, .i32⟩
  | 107 => ⟨S_, .i32⟩
  | 108 => ⟨S1x2x32x4x64, .f32⟩
  | 109 => ⟨S2x32x4x64, .f32⟩
  | 110 => ⟨S_, .i32⟩
  | 111 => ⟨S_, .i32⟩
  | 112 => ⟨S_, .i32⟩
  | 113 => ⟨S_, .i32⟩
  | 114 => ⟨S1x2x32x4x64, .f32⟩
  | 115 => ⟨S2x32x4x64, .f32⟩
  | 116 => ⟨S2x32x4x1x64, .f32⟩
  | 117 => ⟨S2x32x4x64x64, .f32⟩
  | 118 => ⟨S2x32x4x64x64, .f32⟩
  | 119 => ⟨S2x32x4x64, .f32⟩
  | 120 => ⟨S2x32x4x64x1, .f32⟩
  | 121 => ⟨S2x32x4x1x64, .f32⟩
  | 122 => ⟨S2x32x4x64x64, .f32⟩
  | 123 => ⟨S2x32x4x64x64, .f32⟩
  | 124 => ⟨S2x32x4x64x64, .f32⟩
  | 125 => ⟨S2x32x4x64x64, .f32⟩
  | 126 => ⟨S2x32x4x64x1, .f32⟩
  | 127 => ⟨S2x32x4x1x64, .f32⟩
  | _ => ⟨S256x64x128, .f32⟩

abbrev hbmTy0_1 (i : Nat) : BufTy := match i % 128 with
  | 0 => ⟨S2x32x4x64x64, .f32⟩
  | 1 => ⟨S2x32x4x64x64, .f32⟩
  | 2 => ⟨S2x32x4x64x64, .f32⟩
  | 3 => ⟨S2x32x4x64x64, .f32⟩
  | 4 => ⟨S2x32x4x64, .f32⟩
  | 5 => ⟨S1x2x32x4x64, .f32⟩
  | 6 => ⟨S_, .i32⟩
  | 7 => ⟨S_, .i32⟩
  | 8 => ⟨S_, .i32⟩
  | 9 => ⟨S_, .i32⟩
  | 10 => ⟨S256x2x32x4x64, .f32⟩
  | 11 => ⟨S_, .i32⟩
  | 12 => ⟨S_, .i32⟩
  | 13 => ⟨S2x32x4x256x64, .f32⟩
  | 14 => ⟨S1x32x4x256x64, .f32⟩
  | 15 => ⟨S32x4x256x64, .f32⟩
  | 16 => ⟨S1x32x4x256x64, .f32⟩
  | 17 => ⟨S32x4x256x64, .f32⟩
  | 18 => ⟨S32x4x256x64, .f32⟩
  | 19 => ⟨S1x32x4x256x64, .f32⟩
  | 20 => ⟨S1x32x4x256x64, .f32⟩
  | 21 => ⟨S2x32x4x256x64, .f32⟩
  | 22 => ⟨S2x256x64x4x32, .f32⟩
  | 23 => ⟨S2x256x64x128, .f32⟩
  | 24 => ⟨S2x64x64x4x32, .f32⟩
  | 25 => ⟨S2x64x64x128, .f32⟩
  | _ => ⟨S256x64x128, .f32⟩

abbrev hbmTy (i : Nat) : BufTy := match i / 128 with
  | 0 => hbmTy0_0 i
  | 1 => hbmTy0_1 i
  | _ => ⟨S256x64x128, .f32⟩

abbrev bufTy : (tb : Table) → Fin (tcTables nBuf tb) → BufTy
  | .hbm, ⟨i, _⟩ => hbmTy i
  | _, _ => ⟨S256x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_cst : Ref sig .tc := ⟨.hbm, 66, rfl⟩
abbrev main_v59 : Ref sig .tc := ⟨.hbm, 67, rfl⟩
abbrev main_c : Ref sig .tc := ⟨.hbm, 68, rfl⟩
abbrev main_v60_0 : Ref sig .tc := ⟨.hbm, 69, rfl⟩
abbrev main_v60_1 : Ref sig .tc := ⟨.hbm, 70, rfl⟩
abbrev main_v60_2 : Ref sig .tc := ⟨.hbm, 71, rfl⟩
abbrev main_v60_3 : Ref sig .tc := ⟨.hbm, 72, rfl⟩
abbrev main_v60_4 : Ref sig .tc := ⟨.hbm, 73, rfl⟩
abbrev main_v60_5 : Ref sig .tc := ⟨.hbm, 74, rfl⟩
abbrev main_v60_6 : Ref sig .tc := ⟨.hbm, 75, rfl⟩
abbrev main_v60_7 : Ref sig .tc := ⟨.hbm, 76, rfl⟩
abbrev main_v60_8 : Ref sig .tc := ⟨.hbm, 77, rfl⟩
abbrev main_while0c_c_8 : Ref sig .tc := ⟨.hbm, 78, rfl⟩
abbrev main_while0c_v74 : Ref sig .tc := ⟨.hbm, 79, rfl⟩
abbrev main_while0b_call0_c : Ref sig .tc := ⟨.hbm, 80, rfl⟩
abbrev main_while0b_call0_c_0 : Ref sig .tc := ⟨.hbm, 81, rfl⟩
abbrev main_while0b_call0_c_1 : Ref sig .tc := ⟨.hbm, 82, rfl⟩
abbrev main_while0b_call0_c_2 : Ref sig .tc := ⟨.hbm, 83, rfl⟩
abbrev main_while0b_call0_v0 : Ref sig .tc := ⟨.hbm, 84, rfl⟩
abbrev main_while0b_v74 : Ref sig .tc := ⟨.hbm, 85, rfl⟩
abbrev main_while0b_call1_c : Ref sig .tc := ⟨.hbm, 86, rfl⟩
abbrev main_while0b_call1_c_0 : Ref sig .tc := ⟨.hbm, 87, rfl⟩
abbrev main_while0b_call1_c_1 : Ref sig .tc := ⟨.hbm, 88, rfl⟩
abbrev main_while0b_call1_c_2 : Ref sig .tc := ⟨.hbm, 89, rfl⟩
abbrev main_while0b_call1_v0 : Ref sig .tc := ⟨.hbm, 90, rfl⟩
abbrev main_while0b_v75 : Ref sig .tc := ⟨.hbm, 91, rfl⟩
abbrev main_while0b_call2_c : Ref sig .tc := ⟨.hbm, 92, rfl⟩
abbrev main_while0b_call2_c_0 : Ref sig .tc := ⟨.hbm, 93, rfl⟩
abbrev main_while0b_call2_c_1 : Ref sig .tc := ⟨.hbm, 94, rfl⟩
abbrev main_while0b_call2_c_2 : Ref sig .tc := ⟨.hbm, 95, rfl⟩
abbrev main_while0b_call2_v0 : Ref sig .tc := ⟨.hbm, 96, rfl⟩
abbrev main_while0b_v76 : Ref sig .tc := ⟨.hbm, 97, rfl⟩
abbrev main_while0b_call3_c : Ref sig .tc := ⟨.hbm, 98, rfl⟩
abbrev main_while0b_call3_c_0 : Ref sig .tc := ⟨.hbm, 99, rfl⟩
abbrev main_while0b_call3_c_1 : Ref sig .tc := ⟨.hbm, 100, rfl⟩
abbrev main_while0b_call3_c_2 : Ref sig .tc := ⟨.hbm, 101, rfl⟩
abbrev main_while0b_call3_v0 : Ref sig .tc := ⟨.hbm, 102, rfl⟩
abbrev main_while0b_v77 : Ref sig .tc := ⟨.hbm, 103, rfl⟩
abbrev main_while0b_call4_c : Ref sig .tc := ⟨.hbm, 104, rfl⟩
abbrev main_while0b_call4_c_0 : Ref sig .tc := ⟨.hbm, 105, rfl⟩
abbrev main_while0b_call4_c_1 : Ref sig .tc := ⟨.hbm, 106, rfl⟩
abbrev main_while0b_call4_c_2 : Ref sig .tc := ⟨.hbm, 107, rfl⟩
abbrev main_while0b_call4_v0 : Ref sig .tc := ⟨.hbm, 108, rfl⟩
abbrev main_while0b_v78 : Ref sig .tc := ⟨.hbm, 109, rfl⟩
abbrev main_while0b_call5_c : Ref sig .tc := ⟨.hbm, 110, rfl⟩
abbrev main_while0b_call5_c_0 : Ref sig .tc := ⟨.hbm, 111, rfl⟩
abbrev main_while0b_call5_c_1 : Ref sig .tc := ⟨.hbm, 112, rfl⟩
abbrev main_while0b_call5_c_2 : Ref sig .tc := ⟨.hbm, 113, rfl⟩
abbrev main_while0b_call5_v0 : Ref sig .tc := ⟨.hbm, 114, rfl⟩
abbrev main_while0b_v79 : Ref sig .tc := ⟨.hbm, 115, rfl⟩
abbrev main_while0b_v80 : Ref sig .tc := ⟨.hbm, 116, rfl⟩
abbrev main_while0b_v81 : Ref sig .tc := ⟨.hbm, 117, rfl⟩
abbrev main_while0b_v82 : Ref sig .tc := ⟨.hbm, 118, rfl⟩
abbrev main_while0b_v83 : Ref sig .tc := ⟨.hbm, 119, rfl⟩
abbrev main_while0b_v84 : Ref sig .tc := ⟨.hbm, 120, rfl⟩
abbrev main_while0b_v85 : Ref sig .tc := ⟨.hbm, 121, rfl⟩
abbrev main_while0b_v86 : Ref sig .tc := ⟨.hbm, 122, rfl⟩
abbrev main_while0b_v87 : Ref sig .tc := ⟨.hbm, 123, rfl⟩
abbrev main_while0b_v88 : Ref sig .tc := ⟨.hbm, 124, rfl⟩
abbrev main_while0b_v89 : Ref sig .tc := ⟨.hbm, 125, rfl⟩
abbrev main_while0b_v90 : Ref sig .tc := ⟨.hbm, 126, rfl⟩
abbrev main_while0b_v91 : Ref sig .tc := ⟨.hbm, 127, rfl⟩
abbrev main_while0b_v92 : Ref sig .tc := ⟨.hbm, 128, rfl⟩
abbrev main_while0b_v93 : Ref sig .tc := ⟨.hbm, 129, rfl⟩
abbrev main_while0b_v94 : Ref sig .tc := ⟨.hbm, 130, rfl⟩
abbrev main_while0b_v95 : Ref sig .tc := ⟨.hbm, 131, rfl⟩
abbrev main_while0b_v96 : Ref sig .tc := ⟨.hbm, 132, rfl⟩
abbrev main_while0b_call6_v0 : Ref sig .tc := ⟨.hbm, 133, rfl⟩
abbrev main_while0b_call6_c : Ref sig .tc := ⟨.hbm, 134, rfl⟩
abbrev main_while0b_call6_c_0 : Ref sig .tc := ⟨.hbm, 135, rfl⟩
abbrev main_while0b_call6_c_1 : Ref sig .tc := ⟨.hbm, 136, rfl⟩
abbrev main_while0b_call6_c_2 : Ref sig .tc := ⟨.hbm, 137, rfl⟩
abbrev main_while0b_v97 : Ref sig .tc := ⟨.hbm, 138, rfl⟩
abbrev main_while0b_c_8 : Ref sig .tc := ⟨.hbm, 139, rfl⟩
abbrev main_while0b_v98 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩

abbrev nD : Nat := 1
abbrev τ : Topo := Topo.v7x

variable {F : FTy → Type} [FloatOps F]

abbrev main_while0_count : Scf.Loop 32 := ⟨0#32, 256#32, 1#32⟩
-- ==== Kernel2.lean ====
abbrev S16x3072x1024 : Shape := ⟨3, ![16, 3072, 1024]⟩
abbrev S16x1024x2048 : Shape := ⟨3, ![16, 1024, 2048]⟩
abbrev S16x2048x1024 : Shape := ⟨3, ![16, 2048, 1024]⟩
abbrev S1x512x1024 : Shape := ⟨3, ![1, 512, 1024]⟩
abbrev S1x1024x2048 : Shape := ⟨3, ![1, 1024, 2048]⟩
abbrev S1x2048x1024 : Shape := ⟨3, ![1, 2048, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 8
  | .vmem => 10
  | .smem => 0
  | _ => 0

abbrev bufTy : (tb : Table) → Fin (tcTables nBuf tb) → BufTy
  | .hbm, ⟨0, _⟩ => ⟨S16x3072x1024, .bf16⟩
  | .hbm, ⟨1, _⟩ => ⟨S16x1024x2048, .f32⟩
  | .hbm, ⟨2, _⟩ => ⟨S16x1024x2048, .f32⟩
  | .hbm, ⟨3, _⟩ => ⟨S16x2048x1024, .f32⟩
  | .hbm, ⟨4, _⟩ => ⟨S16x1024x2048, .bf16⟩
  | .hbm, ⟨5, _⟩ => ⟨S16x1024x2048, .bf16⟩
  | .hbm, ⟨6, _⟩ => ⟨S16x2048x1024, .bf16⟩
  | .hbm, ⟨7, _⟩ => ⟨S16x3072x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1x512x1024, .bf16⟩
  | .local _ .vmem, ⟨9, _⟩ => ⟨S1x512x1024, .bf16⟩
  | _, _ => ⟨S16x3072x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S16x3072x1024 : Shape := ⟨3, ![16, 3072, 1024]⟩
abbrev S16x1024x2048 : Shape := ⟨3, ![16, 1024, 2048]⟩
abbrev S16x2048x1024 : Shape := ⟨3, ![16, 2048, 1024]⟩
abbrev S16x3072x2048 : Shape := ⟨3, ![16, 3072, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16x3072x1024, .bf16⟩
  | .hbm, ⟨1, _⟩ => ⟨S16x1024x2048, .f32⟩
  | .hbm, ⟨2, _⟩ => ⟨S16x1024x2048, .f32⟩
  | .hbm, ⟨3, _⟩ => ⟨S16x2048x1024, .f32⟩
  | .hbm, ⟨4, _⟩ => ⟨S16x3072x1024, .f32⟩
  | .hbm, ⟨5, _⟩ => ⟨S16x3072x2048, .f32⟩
  | .hbm, ⟨6, _⟩ => ⟨S16x3072x2048, .f32⟩
  | .hbm, ⟨7, _⟩ => ⟨S16x3072x2048, .f32⟩
  | .hbm, ⟨8, _⟩ => ⟨S_, .f32⟩
  | .hbm, ⟨9, _⟩ => ⟨S16x3072x2048, .f32⟩
  | .hbm, ⟨10, _⟩ => ⟨S16x3072x2048, .f32⟩
  | .hbm, ⟨11, _⟩ => ⟨S_, .f32⟩
  | .hbm, ⟨12, _⟩ => ⟨S16x3072x2048, .f32⟩
  | .hbm, ⟨13, _⟩ => ⟨S16x3072x2048, .f32⟩
  | .hbm, ⟨14, _⟩ => ⟨S16x3072x2048, .f32⟩
  | .hbm, ⟨15, _⟩ => ⟨S16x3072x2048, .f32⟩
  | .hbm, ⟨16, _⟩ => ⟨S16x3072x2048, .f32⟩
  | .hbm, ⟨17, _⟩ => ⟨S16x3072x1024, .f32⟩
  | .hbm, ⟨18, _⟩ => ⟨S16x3072x1024, .bf16⟩
  | _, _ => ⟨S16x3072x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== Kernel3.lean ====
abbrev S32x256x1024 : Shape := ⟨3, ![32, 256, 1024]⟩
abbrev S8x2048x1024 : Shape := ⟨3, ![8, 2048, 1024]⟩
abbrev S1024 : Shape := ⟨1, ![1024]⟩
abbrev S16x6144 : Shape := ⟨2, ![16, 6144]⟩
abbrev S1024x8064 : Shape := ⟨2, ![1024, 8064]⟩
abbrev S8192x1024 : Shape := ⟨2, ![8192, 1024]⟩
abbrev S16384x1024 : Shape := ⟨2, ![16384, 1024]⟩
abbrev S24576x1024 : Shape := ⟨2, ![24576, 1024]⟩
abbrev S16x1x6144 : Shape := ⟨3, ![16, 1, 6144]⟩
abbrev S1x1024 : Shape := ⟨2, ![1, 1024]⟩
abbrev S1024x896 : Shape := ⟨2, ![1024, 896]⟩
abbrev S1024x768 : Shape := ⟨2, ![1024, 768]⟩
abbrev S1024x1024 : Shape := ⟨2, ![1024, 1024]⟩
abbrev S1024x1280 : Shape := ⟨2, ![1024, 1280]⟩
abbrev S24576x896 : Shape := ⟨2, ![24576, 896]⟩
abbrev S24576x768 : Shape := ⟨2, ![24576, 768]⟩
abbrev S24576x1280 : Shape := ⟨2, ![24576, 1280]⟩
abbrev S256x1024 : Shape := ⟨2, ![256, 1024]⟩
abbrev S1x1x6144 : Shape := ⟨3, ![1, 1, 6144]⟩
abbrev S256x896 : Shape := ⟨2, ![256, 896]⟩
abbrev S256x768 : Shape := ⟨2, ![256, 768]⟩
abbrev S256x1280 : Shape := ⟨2, ![256, 1280]⟩
abbrev S256 : Shape := ⟨1, ![256]⟩
abbrev S256x1 : Shape := ⟨2, ![256, 1]⟩
abbrev S1x6144 : Shape := ⟨2, ![1, 6144]⟩

abbrev nBuf : Space → Nat
  | .hbm => 23
  | .vmem => 19
  | .smem => 0
  | _ => 0

abbrev bufTy : (tb : Table) → Fin (tcTables nBuf tb) → BufTy
  | .hbm, ⟨0, _⟩ => ⟨S32x256x1024, .f32⟩
  | .hbm, ⟨1, _⟩ => ⟨S8x2048x1024, .f32⟩
  | .hbm, ⟨2, _⟩ => ⟨S1024, .f32⟩
  | .hbm, ⟨3, _⟩ => ⟨S16x6144, .f32⟩
  | .hbm, ⟨4, _⟩ => ⟨S1024x8064, .f32⟩
  | .hbm, ⟨5, _⟩ => ⟨S8192x1024, .f32⟩
  | .hbm, ⟨6, _⟩ => ⟨S16384x1024, .f32⟩
  | .hbm, ⟨7, _⟩ => ⟨S24576x1024, .f32⟩
  | .hbm, ⟨8, _⟩ => ⟨S16x1x6144, .f32⟩
  | .hbm, ⟨9, _⟩ => ⟨S1x1024, .f32⟩
  | .hbm, ⟨10, _⟩ => ⟨S1024x896, .f32⟩
  | .hbm, ⟨11, _⟩ => ⟨S1024x896, .bf16⟩
  | .hbm, ⟨12, _⟩ => ⟨S1024x768, .f32⟩
  | .hbm, ⟨13, _⟩ => ⟨S1024x768, .bf16⟩
  | .hbm, ⟨14, _⟩ => ⟨S1024x1024, .f32⟩
  | .hbm, ⟨15, _⟩ => ⟨S1024x1024, .bf16⟩
  | .hbm, ⟨16, _⟩ => ⟨S1024x1280, .f32⟩
  | .hbm, ⟨17, _⟩ => ⟨S1024x1280, .bf16⟩
  | .hbm, ⟨18, _⟩ => ⟨S24576x1024, .bf16⟩
  | .hbm, ⟨19, _⟩ => ⟨S24576x896, .f32⟩
  | .hbm, ⟨20, _⟩ => ⟨S24576x768, .f32⟩
  | .hbm, ⟨21, _⟩ => ⟨S24576x1024, .f32⟩
  | .hbm, ⟨22, _⟩ => ⟨S24576x1280, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x6144, .f32⟩
  | .local _ .vmem, ⟨4, _⟩ => ⟨S1x1x6144, .f32⟩
  | .local _ .vmem, ⟨5, _⟩ => ⟨S1024x896, .bf16⟩
  | .local _ .vmem, ⟨6, _⟩ => ⟨S1024x768, .bf16⟩
  | .local _ .vmem, ⟨7, _⟩ => ⟨S1024x1024, .bf16⟩
  | .local _ .vmem, ⟨8, _⟩ => ⟨S1024x1280, .bf16⟩
  | .local _ .vmem, ⟨9, _⟩ => ⟨S256x1024, .bf16⟩
  | .local _ .vmem, ⟨10, _⟩ => ⟨S256x1024, .bf16⟩
  | .local _ .vmem, ⟨11, _⟩ => ⟨S256x896, .f32⟩
  | .local _ .vmem, ⟨12, _⟩ => ⟨S256x896, .f32⟩
  | .local _ .vmem, ⟨13, _⟩ => ⟨S256x768, .f32⟩
  | .local _ .vmem, ⟨14, _⟩ => ⟨S256x768, .f32⟩
  | .local _ .vmem, ⟨15, _⟩ => ⟨S256x1024, .f32⟩
  | .local _ .vmem, ⟨16, _⟩ => ⟨S256x1024, .f32⟩
  | .local _ .vmem, ⟨17, _⟩ => ⟨S256x1280, .f32⟩
  | .local _ .vmem, ⟨18, _⟩ => ⟨S256x1280, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev main_v13_3 : Ref sig .tc := ⟨.hbm, 21, rfl⟩
abbrev main_v13_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let v19 : BitVec 32 := Scalar.select v0 c8_i32_5 v18
  let c0_i32_6 : BitVec 32 := 0#32
  let c0_i32_7 : BitVec 32 := 0#32
  let c0_i32_8 : BitVec 32 := 0#32
  ![v19.toNat, c0_i32_6.toNat, c0_i32_7.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x896 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1280 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1280 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S32x256x1024 : Shape := ⟨3, ![32, 256, 1024]⟩
abbrev S8x2048x1024 : Shape := ⟨3, ![8, 2048, 1024]⟩
abbrev S1024 : Shape := ⟨1, ![1024]⟩
abbrev S16x6144 : Shape := ⟨2, ![16, 6144]⟩
abbrev S1024x8064 : Shape := ⟨2, ![1024, 8064]⟩
abbrev S1x6144 : Shape := ⟨2, ![1, 6144]⟩
abbrev S6144 : Shape := ⟨1, ![6144]⟩
abbrev S1x1x6144 : Shape := ⟨3, ![1, 1, 6144]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S32x256x8064 : Shape := ⟨3, ![32, 256, 8064]⟩
abbrev S32x256x896 : Shape := ⟨3, ![32, 256, 896]⟩
abbrev S32x256x768 : Shape := ⟨3, ![32, 256, 768]⟩
abbrev S32x256x1280 : Shape := ⟨3, ![32, 256, 1280]⟩
abbrev S32x256x4096 : Shape := ⟨3, ![32, 256, 4096]⟩
abbrev S8x6144 : Shape := ⟨2, ![8, 6144]⟩
abbrev S8x1x6144 : Shape := ⟨3, ![8, 1, 6144]⟩
abbrev S8x1x1024 : Shape := ⟨3, ![8, 1, 1024]⟩
abbrev S8x2048 : Shape := ⟨2, ![8, 2048]⟩
abbrev S8x2048x1 : Shape := ⟨3, ![8, 2048, 1]⟩
abbrev S8x2048x8064 : Shape := ⟨3, ![8, 2048, 8064]⟩
abbrev S8x2048x896 : Shape := ⟨3, ![8, 2048, 896]⟩
abbrev S8x2048x768 : Shape := ⟨3, ![8, 2048, 768]⟩
abbrev S8x2048x1280 : Shape := ⟨3, ![8, 2048, 1280]⟩
abbrev S8x2048x4096 : Shape := ⟨3, ![8, 2048, 4096]⟩
abbrev S8192x1024 : Shape := ⟨2, ![8192, 1024]⟩
abbrev S16384x1024 : Shape := ⟨2, ![16384, 1024]⟩
abbrev S24576x1024 : Shape := ⟨2, ![24576, 1024]⟩
abbrev S8192x896 : Shape := ⟨2, ![8192, 896]⟩
abbrev S16384x896 : Shape := ⟨2, ![16384, 896]⟩
abbrev S24576x896 : Shape := ⟨2, ![24576, 896]⟩
abbrev S8192x768 : Shape := ⟨2, ![8192, 768]⟩
abbrev S16384x768 : Shape := ⟨2, ![16384, 768]⟩
abbrev S24576x768 : Shape := ⟨2, ![24576, 768]⟩
abbrev S8192x1280 : Shape := ⟨2, ![8192, 1280]⟩
abbrev S16384x1280 : Shape := ⟨2, ![16384, 1280]⟩
abbrev S24576x1280 : Shape := ⟨2, ![24576, 1280]⟩

abbrev nBuf : Space → Nat
  | .hbm => 98
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S8x2048x1024, .f32⟩
  | .hbm, ⟨2, _⟩ => ⟨S1024, .f32⟩
  | .hbm, ⟨3, _⟩ => ⟨S16x6144, .f32⟩
  | .hbm, ⟨4, _⟩ => ⟨S1024x8064, .f32⟩
  | .hbm, ⟨5, _⟩ => ⟨S1x6144, .f32⟩
  | .hbm, ⟨6, _⟩ => ⟨S6144, .f32⟩
  | .hbm, ⟨7, _⟩ => ⟨S1x6144, .f32⟩
  | .hbm, ⟨8, _⟩ => ⟨S1x1x6144, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S32x256x1024, .f32⟩
  | .hbm, ⟨16, _⟩ => ⟨S_, .f32⟩
  | .hbm, ⟨17, _⟩ => ⟨S32x256, .f32⟩
  | .hbm, ⟨18, _⟩ => ⟨S32x256x1, .f32⟩
  | .hbm, ⟨19, _⟩ => ⟨S_, .f32⟩
  | .hbm, ⟨20, _⟩ => ⟨S32x256x1, .f32⟩
  | .hbm, ⟨21, _⟩ => ⟨S32x256x1, .f32⟩
  | .hbm, ⟨22, _⟩ => ⟨S_, .f32⟩
  | .hbm, ⟨23, _⟩ => ⟨S32x256x1, .f32⟩
  | .hbm, ⟨24, _⟩ => ⟨S32x256x1, .f32⟩
  | .hbm, ⟨25, _⟩ => ⟨S32x256x1, .f32⟩
  | .hbm, ⟨26, _⟩ => ⟨S32x256x1024, .f32⟩
  | .hbm, ⟨27, _⟩ => ⟨S32x256x1024, .f32⟩
  | .hbm, ⟨28, _⟩ => ⟨S1x1x1024, .f32⟩
  | .hbm, ⟨29, _⟩ => ⟨S32x256x1024, .f32⟩
  | .hbm, ⟨30, _⟩ => ⟨S32x256x1024, .f32⟩
  | .hbm, ⟨31, _⟩ => ⟨S_, .f32⟩
  | .hbm, ⟨32, _⟩ => ⟨S1x1x1024, .f32⟩
  | .hbm, ⟨33, _⟩ => ⟨S1x1x1024, .f32⟩
  | .hbm, ⟨34, _⟩ => ⟨S32x256x1024, .f32⟩
  | .hbm, ⟨35, _⟩ => ⟨S32x256x1024, .f32⟩
  | .hbm, ⟨36, _⟩ => ⟨S32x256x1024, .f32⟩
  | .hbm, ⟨37, _⟩ => ⟨S32x256x1024, .f32⟩
  | .hbm, ⟨38, _⟩ => ⟨S32x256x8064, .f32⟩
  | .hbm, ⟨39, _⟩ => ⟨S32x256x896, .f32⟩
  | .hbm, ⟨40, _⟩ => ⟨S32x256x768, .f32⟩
  | .hbm, ⟨41, _⟩ => ⟨S32x256x1024, .f32⟩
  | .hbm, ⟨42, _⟩ => ⟨S32x256x1280, .f32⟩
  | .hbm, ⟨43, _⟩ => ⟨S32x256x4096, .f32⟩
  | .hbm, ⟨44, _⟩ => ⟨S32x256x1024, .bf16⟩
  | .hbm, ⟨45, _⟩ => ⟨S8x6144, .f32⟩
  | .hbm, ⟨46, _⟩ => ⟨S8x1x6144, .f32⟩
  | .hbm, ⟨47, _⟩ => ⟨S8x1x1024, .f32⟩
  | .hbm, ⟨48, _⟩ => ⟨S8x1x1024, .f32⟩
  | .hbm, ⟨49, _⟩ => ⟨S8x1x1024, .f32⟩
  | .hbm, ⟨50, _⟩ => ⟨S8x1x1024, .f32⟩
  | .hbm, ⟨51, _⟩ => ⟨S8x1x1024, .f32⟩
  | .hbm, ⟨52, _⟩ => ⟨S8x1x1024, .f32⟩
  | .hbm, ⟨53, _⟩ => ⟨S8x2048x1024, .f32⟩
  | .hbm, ⟨54, _⟩ => ⟨S_, .f32⟩
  | .hbm, ⟨55, _⟩ => ⟨S8x2048, .f32⟩
  | .hbm, ⟨56, _⟩ => ⟨S8x2048x1, .f32⟩
  | .hbm, ⟨57, _⟩ => ⟨S_, .f32⟩
  | .hbm, ⟨58, _⟩ => ⟨S8x2048x1, .f32⟩
  | .hbm, ⟨59, _⟩ => ⟨S8x2048x1, .f32⟩
  | .hbm, ⟨60, _⟩ => ⟨S_, .f32⟩
  | .hbm, ⟨61, _⟩ => ⟨S8x2048x1, .f32⟩
  | .hbm, ⟨62, _⟩ => ⟨S8x2048x1, .f32⟩
  | .hbm, ⟨63, _⟩ => ⟨S8x2048x1, .f32⟩
  | .hbm, ⟨64, _⟩ => ⟨S8x2048x1024, .f32⟩
  | .hbm, ⟨65, _⟩ => ⟨S8x2048x1024, .f32⟩
  | .hbm, ⟨66, _⟩ => ⟨S1x1x1024, .f32⟩
  | .hbm, ⟨67, _⟩ => ⟨S8x2048x1024, .f32⟩
  | .hbm, ⟨68, _⟩ => ⟨S8x2048x1024, .f32⟩
  | .hbm, ⟨69, _⟩ => ⟨S_, .f32⟩
  | .hbm, ⟨70, _⟩ => ⟨S8x1x1024, .f32⟩
  | .hbm, ⟨71, _⟩ => ⟨S8x1x1024, .f32⟩
  | .hbm, ⟨72, _⟩ => ⟨S8x2048x1024, .f32⟩
  | .hbm, ⟨73, _⟩ => ⟨S8x2048x1024, .f32⟩
  | .hbm, ⟨74, _⟩ => ⟨S8x2048x1024, .f32⟩
  | .hbm, ⟨75, _⟩ => ⟨S8x2048x1024, .f32⟩
  | .hbm, ⟨76, _⟩ => ⟨S8x2048x8064, .f32⟩
  | .hbm, ⟨77, _⟩ => ⟨S8x2048x896, .f32⟩
  | .hbm, ⟨78, _⟩ => ⟨S8x2048x768, .f32⟩
  | .hbm, ⟨79, _⟩ => ⟨S8x2048x1024, .f32⟩
  | .hbm, ⟨80, _⟩ => ⟨S8x2048x1280, .f32⟩
  | .hbm, ⟨81, _⟩ => ⟨S8x2048x4096, .f32⟩
  | .hbm, ⟨82, _⟩ => ⟨S8x2048x1024, .bf16⟩
  | .hbm, ⟨83, _⟩ => ⟨S8192x1024, .bf16⟩
  | .hbm, ⟨84, _⟩ => ⟨S16384x1024, .bf16⟩
  | .hbm, ⟨85, _⟩ => ⟨S24576x1024, .bf16⟩
  | .hbm, ⟨86, _⟩ => ⟨S8192x896, .f32⟩
  | .hbm, ⟨87, _⟩ => ⟨S16384x896, .f32⟩
  | .hbm, ⟨88, _⟩ => ⟨S24576x896, .f32⟩
  | .hbm, ⟨89, _⟩ => ⟨S8192x768, .f32⟩
  | .hbm, ⟨90, _⟩ => ⟨S16384x768, .f32⟩
  | .hbm, ⟨91, _⟩ => ⟨S24576x768, .f32⟩
  | .hbm, ⟨92, _⟩ => ⟨S8192x1024, .f32⟩
  | .hbm, ⟨93, _⟩ => ⟨S16384x1024, .f32⟩
  | .hbm, ⟨94, _⟩ => ⟨S24576x1024, .f32⟩
  | .hbm, ⟨95, _⟩ => ⟨S8192x1280, .f32⟩
  | .hbm, ⟨96, _⟩ => ⟨S16384x1280, .f32⟩
  | .hbm, ⟨97, _⟩ => ⟨S24576x1280, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_3 : Ref sig .tc := ⟨.hbm, 54, rfl⟩
abbrev main_v45 : Ref sig .tc := ⟨.hbm, 55, rfl⟩
abbrev main_v46 : Ref sig .tc := ⟨.hbm, 56, rfl⟩
abbrev main_cst_4 : Ref sig .tc := ⟨.hbm, 57, rfl⟩
abbrev main_v47 : Ref sig .tc := ⟨.hbm, 58, rfl⟩
abbrev main_v48 : Ref sig .tc := ⟨.hbm, 59, rfl⟩
abbrev main_cst_5 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_6 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩

abbrev nD : Nat := 1
abbrev τ : Topo := Topo.v7x

variable {F : FTy → Type} [FloatOps F]
-- ==== Kernel4.lean ====
abbrev S32x256x1024 : Shape := ⟨3, ![32, 256, 1024]⟩
abbrev S8x2048x1024 : Shape := ⟨3, ![8, 2048, 1024]⟩
abbrev S1024 : Shape := ⟨1, ![1024]⟩
abbrev S8192x1024 : Shape := ⟨2, ![8192, 1024]⟩
abbrev S16384x1024 : Shape := ⟨2, ![16384, 1024]⟩
abbrev S24576x1024 : Shape := ⟨2, ![24576, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 5
  | .smem => 0
  | _ => 0

abbrev bufTy : (tb : Table) → Fin (tcTables nBuf tb) → BufTy
  | .hbm, ⟨0, _⟩ => ⟨S32x256x1024, .f32⟩
  | .hbm, ⟨1, _⟩ => ⟨S8x2048x1024, .f32⟩
  | .hbm, ⟨2, _⟩ => ⟨S1024, .f32⟩
  | .hbm, ⟨3, _⟩ => ⟨S8192x1024, .f32⟩
  | .hbm, ⟨4, _⟩ => ⟨S16384x1024, .f32⟩
  | .hbm, ⟨5, _⟩ => ⟨S24576x1024, .f32⟩
  | .hbm, ⟨6, _⟩ => ⟨S1x1024, .f32⟩
  | .hbm, ⟨7, _⟩ => ⟨S24576x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S32x256x1024 : Shape := ⟨3, ![32, 256, 1024]⟩
abbrev S8x2048x1024 : Shape := ⟨3, ![8, 2048, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S8x2048 : Shape := ⟨2, ![8, 2048]⟩
abbrev S8x2048x1 : Shape := ⟨3, ![8, 2048, 1]⟩
abbrev S8192x1024 : Shape := ⟨2, ![8192, 1024]⟩
abbrev S16384x1024 : Shape := ⟨2, ![16384, 1024]⟩
abbrev S24576x1024 : Shape := ⟨2, ![24576, 1024]⟩

abbrev nBuf : Space → Nat
  | .hbm => 38
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S8x2048x1024, .f32⟩
  | .hbm, ⟨2, _⟩ => ⟨S1024, .f32⟩
  | .hbm, ⟨3, _⟩ => ⟨S32x256x1024, .f32⟩
  | .hbm, ⟨4, _⟩ => ⟨S_, .f32⟩
  | .hbm, ⟨5, _⟩ => ⟨S32x256, .f32⟩
  | .hbm, ⟨6, _⟩ => ⟨S32x256x1, .f32⟩
  | .hbm, ⟨7, _⟩ => ⟨S_, .f32⟩
  | .hbm, ⟨8, _⟩ => ⟨S32x256x1, .f32⟩
  | .hbm, ⟨9, _⟩ => ⟨S32x256x1, .f32⟩
  | .hbm, ⟨10, _⟩ => ⟨S_, .f32⟩
  | .hbm, ⟨11, _⟩ => ⟨S32x256x1, .f32⟩
  | .hbm, ⟨12, _⟩ => ⟨S32x256x1, .f32⟩
  | .hbm, ⟨13, _⟩ => ⟨S32x256x1, .f32⟩
  | .hbm, ⟨14, _⟩ => ⟨S32x256x1024, .f32⟩
  | .hbm, ⟨15, _⟩ => ⟨S32x256x1024, .f32⟩
  | .hbm, ⟨16, _⟩ => ⟨S1x1x1024, .f32⟩
  | .hbm, ⟨17, _⟩ => ⟨S32x256x1024, .f32⟩
  | .hbm, ⟨18, _⟩ => ⟨S32x256x1024, .f32⟩
  | .hbm, ⟨19, _⟩ => ⟨S8x2048x1024, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1, .f32⟩
  | .hbm, ⟨30, _⟩ => ⟨S8x2048x1024, .f32⟩
  | .hbm, ⟨31, _⟩ => ⟨S8x2048x1024, .f32⟩
  | .hbm, ⟨32, _⟩ => ⟨S1x1x1024, .f32⟩
  | .hbm, ⟨33, _⟩ => ⟨S8x2048x1024, .f32⟩
  | .hbm, ⟨34, _⟩ => ⟨S8x2048x1024, .f32⟩
  | .hbm, ⟨35, _⟩ => ⟨S8192x1024, .f32⟩
  | .hbm, ⟨36, _⟩ => ⟨S16384x1024, .f32⟩
  | .hbm, ⟨37, _⟩ => ⟨S24576x1024, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel5.lean ====
abbrev S24576x1024 : Shape := ⟨2, ![24576, 1024]⟩
abbrev S2x8192x128 : Shape := ⟨3, ![2, 8192, 128]⟩
abbrev S2x16384x128 : Shape := ⟨3, ![2, 16384, 128]⟩
abbrev S24576x256 : Shape := ⟨2, ![24576, 256]⟩
abbrev S1024x8064 : Shape := ⟨2, ![1024, 8064]⟩
abbrev S4x256x1024 : Shape := ⟨3, ![4, 256, 1024]⟩
abbrev S1024x1024 : Shape := ⟨2, ![1024, 1024]⟩
abbrev S2x256 : Shape := ⟨2, ![2, 256]⟩
abbrev S16x6144 : Shape := ⟨2, ![16, 6144]⟩
abbrev S1024 : Shape := ⟨1, ![1024]⟩
abbrev S1024x16 : Shape := ⟨2, ![1024, 16]⟩
abbrev S16x1x6144 : Shape := ⟨3, ![16, 1, 6144]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S1024x4096 : Shape := ⟨2, ![1024, 4096]⟩
abbrev S1x1024 : Shape := ⟨2, ![1, 1024]⟩
abbrev S16x1024 : Shape := ⟨2, ![16, 1024]⟩
abbrev S16x24576 : Shape := ⟨2, ![16, 24576]⟩
abbrev S256x1024 : Shape := ⟨2, ![256, 1024]⟩
abbrev S2x256x128 : Shape := ⟨3, ![2, 256, 128]⟩
abbrev S1x1x6144 : Shape := ⟨3, ![1, 1, 6144]⟩
abbrev S16x256 : Shape := ⟨2, ![16, 256]⟩
abbrev S1x256x128 : Shape := ⟨3, ![1, 256, 128]⟩
abbrev S256x128 : Shape := ⟨2, ![256, 128]⟩
abbrev S1x256x1024 : Shape := ⟨3, ![1, 256, 1024]⟩
abbrev S1x6144 : Shape := ⟨2, ![1, 6144]⟩

abbrev nBuf : Space → Nat
  | .hbm => 72
  | .vmem => 37
  | .smem => 0
  | _ => 0

abbrev bufTy : (tb : Table) → Fin (tcTables nBuf tb) → BufTy
  | .hbm, ⟨0, _⟩ => ⟨S24576x1024, .f32⟩
  | .hbm, ⟨1, _⟩ => ⟨S24576x1024, .bf16⟩
  | .hbm, ⟨2, _⟩ => ⟨S2x8192x128, .f32⟩
  | .hbm, ⟨3, _⟩ => ⟨S2x8192x128, .f32⟩
  | .hbm, ⟨4, _⟩ => ⟨S2x16384x128, .f32⟩
  | .hbm, ⟨5, _⟩ => ⟨S2x16384x128, .f32⟩
  | .hbm, ⟨6, _⟩ => ⟨S24576x256, .f32⟩
  | .hbm, ⟨7, _⟩ => ⟨S24576x256, .f32⟩
  | .hbm, ⟨8, _⟩ => ⟨S24576x256, .f32⟩
  | .hbm, ⟨9, _⟩ => ⟨S24576x256, .f32⟩
  | .hbm, ⟨10, _⟩ => ⟨S24576x256, .f32⟩
  | .hbm, ⟨11, _⟩ => ⟨S1024x8064, .f32⟩
  | .hbm, ⟨12, _⟩ => ⟨S4x256x1024, .f32⟩
  | .hbm, ⟨13, _⟩ => ⟨S1024x1024, .f32⟩
  | .hbm, ⟨14, _⟩ => ⟨S2x256, .f32⟩
  | .hbm, ⟨15, _⟩ => ⟨S16x6144, .f32⟩
  | .hbm, ⟨16, _⟩ => ⟨S1024, .f32⟩
  | .hbm, ⟨17, _⟩ => ⟨S1024x16, .f32⟩
  | .hbm, ⟨18, _⟩ => ⟨S16x1x6144, .f32⟩
  | .hbm, ⟨19, _⟩ => ⟨S256, .i32⟩
  | .hbm, ⟨20, _⟩ => ⟨S256x1, .i32⟩
  | .hbm, ⟨21, _⟩ => ⟨S_, .i32⟩
  | .hbm, ⟨22, _⟩ => ⟨S_, .i32⟩
  | .hbm, ⟨23, _⟩ => ⟨S256x1, .i32⟩
  | .hbm, ⟨24, _⟩ => ⟨S256x1, .i32⟩
  | .hbm, ⟨25, _⟩ => ⟨S256x1, .i32⟩
  | .hbm, ⟨26, _⟩ => ⟨S_, .i32⟩
  | .hbm, ⟨27, _⟩ => ⟨S256x1, .i32⟩
  | .hbm, ⟨28, _⟩ => ⟨S256x1, .i1⟩
  | .hbm, ⟨29, _⟩ => ⟨S256x1, .i32⟩
  | .hbm, ⟨30, _⟩ => ⟨S256x1, .i32⟩
  | .hbm, ⟨31, _⟩ => ⟨S_, .i32⟩
  | .hbm, ⟨32, _⟩ => ⟨S256x1, .i32⟩
  | .hbm, ⟨33, _⟩ => ⟨S256x1, .i1⟩
  | .hbm, ⟨34, _⟩ => ⟨S256x1, .i1⟩
  | .hbm, ⟨35, _⟩ => ⟨S_, .i32⟩
  | .hbm, ⟨36, _⟩ => ⟨S256x1, .i32⟩
  | .hbm, ⟨37, _⟩ => ⟨S256x1, .i32⟩
  | .hbm, ⟨38, _⟩ => ⟨S256x1, .i32⟩
  | .hbm, ⟨39, _⟩ => ⟨S256, .i32⟩
  | .hbm, ⟨40, _⟩ => ⟨S1x256, .i32⟩
  | .hbm, ⟨41, _⟩ => ⟨S_, .i32⟩
  | .hbm, ⟨42, _⟩ => ⟨S_, .i32⟩
  | .hbm, ⟨43, _⟩ => ⟨S1x256, .i32⟩
  | .hbm, ⟨44, _⟩ => ⟨S1x256, .i32⟩
  | .hbm, ⟨45, _⟩ => ⟨S1x256, .i32⟩
  | .hbm, ⟨46, _⟩ => ⟨S_, .i32⟩
  | .hbm, ⟨47, _⟩ => ⟨S1x256, .i32⟩
  | .hbm, ⟨48, _⟩ => ⟨S1x256, .i1⟩
  | .hbm, ⟨49, _⟩ => ⟨S1x256, .i32⟩
  | .hbm, ⟨50, _⟩ => ⟨S1x256, .i32⟩
  | .hbm, ⟨51, _⟩ => ⟨S_, .i32⟩
  | .hbm, ⟨52, _⟩ => ⟨S1x256, .i32⟩
  | .hbm, ⟨53, _⟩ => ⟨S1x256, .i1⟩
  | .hbm, ⟨54, _⟩ => ⟨S1x256, .i1⟩
  | .hbm, ⟨55, _⟩ => ⟨S_, .i32⟩
  | .hbm, ⟨56, _⟩ => ⟨S1x256, .i32⟩
  | .hbm, ⟨57, _⟩ => ⟨S1x256, .i32⟩
  | .hbm, ⟨58, _⟩ => ⟨S1x256, .i32⟩
  | .hbm, ⟨59, _⟩ => ⟨S256x256, .i32⟩
  | .hbm, ⟨60, _⟩ => ⟨S256x256, .i32⟩
  | .hbm, ⟨61, _⟩ => ⟨S256x256, .i1⟩
  | .hbm, ⟨62, _⟩ => ⟨S256x256, .bf16⟩
  | .hbm, ⟨63, _⟩ => ⟨S1024x4096, .f32⟩
  | .hbm, ⟨64, _⟩ => ⟨S1024x4096, .bf16⟩
  | .hbm, ⟨65, _⟩ => ⟨S4x256x1024, .bf16⟩
  | .hbm, ⟨66, _⟩ => ⟨S1024x1024, .bf16⟩
  | .hbm, ⟨67, _⟩ => ⟨S1x1024, .f32⟩
  | .hbm, ⟨68, _⟩ => ⟨S16x1024, .f32⟩
  | .hbm, ⟨69, _⟩ => ⟨S24576x1024, .f32⟩
  | .hbm, ⟨70, _⟩ => ⟨S24576x1024, .bf16⟩
  | .hbm, ⟨71, _⟩ => ⟨S16x24576, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S2x256x128, .f32⟩
  | .local _ .vmem, ⟨5, _⟩ => ⟨S2x256x128, .f32⟩
  | .local _ .vmem, ⟨6, _⟩ => ⟨S2x256x128, .f32⟩
  | .local _ .vmem, ⟨7, _⟩ => ⟨S2x256x128, .f32⟩
  | .local _ .vmem, ⟨8, _⟩ => ⟨S2x256x128, .f32⟩
  | .local _ .vmem, ⟨9, _⟩ => ⟨S2x256x128, .f32⟩
  | .local _ .vmem, ⟨10, _⟩ => ⟨S2x256x128, .f32⟩
  | .local _ .vmem, ⟨11, _⟩ => ⟨S2x256x128, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S1024x4096, .bf16⟩
  | .local _ .vmem, ⟨23, _⟩ => ⟨S4x256x1024, .bf16⟩
  | .local _ .vmem, ⟨24, _⟩ => ⟨S1024x1024, .bf16⟩
  | .local _ .vmem, ⟨25, _⟩ => ⟨S2x256, .f32⟩
  | .local _ .vmem, ⟨26, _⟩ => ⟨S1x1x6144, .f32⟩
  | .local _ .vmem, ⟨27, _⟩ => ⟨S1x1x6144, .f32⟩
  | .local _ .vmem, ⟨28, _⟩ => ⟨S1x1024, .f32⟩
  | .local _ .vmem, ⟨29, _⟩ => ⟨S16x1024, .f32⟩
  | .local _ .vmem, ⟨30, _⟩ => ⟨S256x256, .bf16⟩
  | .local _ .vmem, ⟨31, _⟩ => ⟨S256x1024, .f32⟩
  | .local _ .vmem, ⟨32, _⟩ => ⟨S256x1024, .f32⟩
  | .local _ .vmem, ⟨33, _⟩ => ⟨S256x1024, .bf16⟩
  | .local _ .vmem, ⟨34, _⟩ => ⟨S256x1024, .bf16⟩
  | .local _ .vmem, ⟨35, _⟩ => ⟨S16x256, .f32⟩
  | .local _ .vmem, ⟨36, _⟩ => ⟨S16x256, .f32⟩
  | _, _ => ⟨S24576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_c_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_c : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_0 : Ref sig .tc := ⟨.hbm, 55, rfl⟩
abbrev main_call1_v12 : Ref sig .tc := ⟨.hbm, 56, rfl⟩
abbrev main_call1_v13 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17_0 : Ref sig .tc := ⟨.hbm, 69, rfl⟩
abbrev main_v17_1 : Ref sig .tc := ⟨.hbm, 70, rfl⟩
abbrev main_v17_2 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem15_1 : DmaSem sig := 27
abbrev cc0_sem16_0 : DmaSem sig := 28
abbrev cc0_sem17_0 : DmaSem sig := 29
abbrev cc0_sem18_0 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let v19 : BitVec 32 := Scalar.select v0 c8_i32_5 v18
  let c0_i32_6 : BitVec 32 := 0#32
  let c0_i32_7 : BitVec 32 := 0#32
  let c0_i32_8 : BitVec 32 := 0#32
  ![v19.toNat, c0_i32_6.toNat, c0_i32_7.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x1x6144 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S16x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S16x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference5Ideal.lean ====
abbrev S24576x1024 : Shape := ⟨2, ![24576, 1024]⟩
abbrev S2x8192x128 : Shape := ⟨3, ![2, 8192, 128]⟩
abbrev S2x16384x128 : Shape := ⟨3, ![2, 16384, 128]⟩
abbrev S24576x256 : Shape := ⟨2, ![24576, 256]⟩
abbrev S1024x8064 : Shape := ⟨2, ![1024, 8064]⟩
abbrev S4x256x1024 : Shape := ⟨3, ![4, 256, 1024]⟩
abbrev S1024x1024 : Shape := ⟨2, ![1024, 1024]⟩
abbrev S2x256 : Shape := ⟨2, ![2, 256]⟩
abbrev S16x6144 : Shape := ⟨2, ![16, 6144]⟩
abbrev S1024 : Shape := ⟨1, ![1024]⟩
abbrev S1024x16 : Shape := ⟨2, ![1024, 16]⟩
abbrev S1x6144 : Shape := ⟨2, ![1, 6144]⟩
abbrev S6144 : Shape := ⟨1, ![6144]⟩
abbrev S8192x6144 : Shape := ⟨2, ![8192, 6144]⟩
abbrev S8x6144 : Shape := ⟨2, ![8, 6144]⟩
abbrev S8x1x6144 : Shape := ⟨3, ![8, 1, 6144]⟩
abbrev S8x2048x6144 : Shape := ⟨3, ![8, 2048, 6144]⟩
abbrev S16384x6144 : Shape := ⟨2, ![16384, 6144]⟩
abbrev S24576x6144 : Shape := ⟨2, ![24576, 6144]⟩
abbrev S2x24576x128 : Shape := ⟨3, ![2, 24576, 128]⟩
abbrev S2x24576x2x64 : Shape := ⟨4, ![2, 24576, 2, 64]⟩
abbrev S24576x2x2x64 : Shape := ⟨4, ![24576, 2, 2, 64]⟩
abbrev S24576x4x64 : Shape := ⟨3, ![24576, 4, 64]⟩
abbrev S1x256 : Shape := ⟨2, ![1, 256]⟩
abbrev S256 : Shape := ⟨1, ![256]⟩
abbrev S_ : Shape := ⟨0, ![]⟩
abbrev S24576x4 : Shape := ⟨2, ![24576, 4]⟩
abbrev S24576x4x1 : Shape := ⟨3, ![24576, 4, 1]⟩
abbrev S24576x1x256 : Shape := ⟨3, ![24576, 1, 256]⟩
abbrev S24576x4x256 : Shape := ⟨3, ![24576, 4, 256]⟩
abbrev S4x1024x24576 : Shape := ⟨3, ![4, 1024, 24576]⟩
abbrev S24576x4x1024 : Shape := ⟨3, ![24576, 4, 1024]⟩
abbrev S24576x8064 : Shape := ⟨2, ![24576, 8064]⟩
abbrev S24576x4096 : Shape := ⟨2, ![24576, 4096]⟩
abbrev S24576 : Shape := ⟨1, ![24576]⟩
abbrev S24576x1 : Shape := ⟨2, ![24576, 1]⟩
abbrev S1x1024 : Shape := ⟨2, ![1, 1024]⟩

abbrev nBuf : Space → Nat
  | .hbm => 121
  | .vmem => 0
  | .smem => 0
  | _ => 0

abbrev bufTy : (tb : Table) → Fin (tcTables nBuf tb) → BufTy
  | .hbm, ⟨0, _⟩ => ⟨S24576x1024, .f32⟩
  | .hbm, ⟨1, _⟩ => ⟨S24576x1024, .bf16⟩
  | .hbm, ⟨2, _⟩ => ⟨S2x8192x128, .f32⟩
  | .hbm, ⟨3, _⟩ => ⟨S2x8192x128, .f32⟩
  | .hbm, ⟨4, _⟩ => ⟨S2x16384x128, .f32⟩
  | .hbm, ⟨5, _⟩ => ⟨S2x16384x128, .f32⟩
  | .hbm, ⟨6, _⟩ => ⟨S24576x256, .f32⟩
  | .hbm, ⟨7, _⟩ => ⟨S24576x256, .f32⟩
  | .hbm, ⟨8, _⟩ => ⟨S24576x256, .f32⟩
  | .hbm, ⟨9, _⟩ => ⟨S24576x256, .f32⟩
  | .hbm, ⟨10, _⟩ => ⟨S24576x256, .f32⟩
  | .hbm, ⟨11, _⟩ => ⟨S1024x8064, .f32⟩
  | .hbm, ⟨12, _⟩ => ⟨S4x256x1024, .f32⟩
  | .hbm, ⟨13, _⟩ => ⟨S1024x1024, .f32⟩
  | .hbm, ⟨14, _⟩ => ⟨S2x256, .f32⟩
  | .hbm, ⟨15, _⟩ => ⟨S16x6144, .f32⟩
  | .hbm, ⟨16, _⟩ => ⟨S1024, .f32⟩
  | .hbm, ⟨17, _⟩ => ⟨S1024x16, .f32⟩
  | .hbm, ⟨18, _⟩ => ⟨S1x6144, .f32⟩
  | .hbm, ⟨19, _⟩ => ⟨S6144, .f32⟩
  | .hbm, ⟨20, _⟩ => ⟨S8192x6144, .f32⟩
  | .hbm, ⟨21, _⟩ => ⟨S8x6144, .f32⟩
  | .hbm, ⟨22, _⟩ => ⟨S8x1x6144, .f32⟩
  | .hbm, ⟨23, _⟩ => ⟨S8x2048x6144, .f32⟩
  | .hbm, ⟨24, _⟩ => ⟨S16384x6144, .f32⟩
  | .hbm, ⟨25, _⟩ => ⟨S24576x6144, .f32⟩
  | .hbm, ⟨26, _⟩ => ⟨S24576x1024, .f32⟩
  | .hbm, ⟨27, _⟩ => ⟨S24576x1024, .f32⟩
  | .hbm, ⟨28, _⟩ => ⟨S24576x1024, .f32⟩
  | .hbm, ⟨29, _⟩ => ⟨S24576x1024, .f32⟩
  | .hbm, ⟨30, _⟩ => ⟨S24576x1024, .f32⟩
  | .hbm, ⟨31, _⟩ => ⟨S24576x1024, .f32⟩
  | .hbm, ⟨32, _⟩ => ⟨S24576x1024, .f32⟩
  | .hbm, ⟨33, _⟩ => ⟨S2x8192x128, .f32⟩
  | .hbm, ⟨34, _⟩ => ⟨S2x16384x128, .f32⟩
  | .hbm, ⟨35, _⟩ => ⟨S2x24576x128, .f32⟩
  | .hbm, ⟨36, _⟩ => ⟨S2x24576x2x64, .f32⟩
  | .hbm, ⟨37, _⟩ => ⟨S24576x2x2x64, .f32⟩
  | .hbm, ⟨38, _⟩ => ⟨S24576x4x64, .f32⟩
  | .hbm, ⟨39, _⟩ => ⟨S1x256, .f32⟩
  | .hbm, ⟨40, _⟩ => ⟨S256, .f32⟩
  | .hbm, ⟨41, _⟩ => ⟨S1x256, .f32⟩
  | .hbm, ⟨42, _⟩ => ⟨S256, .f32⟩
  | .hbm, ⟨43, _⟩ => ⟨S_, .f32⟩
  | .hbm, ⟨44, _⟩ => ⟨S24576x4, .f32⟩
  | .hbm, ⟨45, _⟩ => ⟨S24576x4x1, .f32⟩
  | .hbm, ⟨46, _⟩ => ⟨S_, .f32⟩
  | .hbm, ⟨47, _⟩ => ⟨S24576x4x1, .f32⟩
  | .hbm, ⟨48, _⟩ => ⟨S24576x4x1, .f32⟩
  | .hbm, ⟨49, _⟩ => ⟨S24576x4x64, .f32⟩
  | .hbm, ⟨50, _⟩ => ⟨S24576x4x64, .f32⟩
  | .hbm, ⟨51, _⟩ => ⟨S24576x4x64, .f32⟩
  | .hbm, ⟨52, _⟩ => ⟨S_, .f32⟩
  | .hbm, ⟨53, _⟩ => ⟨S24576x4, .f32⟩
  | .hbm, ⟨54, _⟩ => ⟨S24576x4x1, .f32⟩
  | .hbm, ⟨55, _⟩ => ⟨S_, .f32⟩
  | .hbm, ⟨56, _⟩ => ⟨S24576x4x1, .f32⟩
  | .hbm, ⟨57, _⟩ => ⟨S24576x4x1, .f32⟩
  | .hbm, ⟨58, _⟩ => ⟨S24576x4x64, .f32⟩
  | .hbm, ⟨59, _⟩ => ⟨S24576x4x64, .f32⟩
  | .hbm, ⟨60, _⟩ => ⟨S_, .f32⟩
  | .hbm, ⟨61, _⟩ => ⟨S24576x4x1, .f32⟩
  | .hbm, ⟨62, _⟩ => ⟨S24576x4x1, .f32⟩
  | .hbm, ⟨63, _⟩ => ⟨S24576x4x1, .f32⟩
  | .hbm, ⟨64, _⟩ => ⟨S24576x4x64, .f32⟩
  | .hbm, ⟨65, _⟩ => ⟨S24576x4x64, .f32⟩
  | .hbm, ⟨66, _⟩ => ⟨S24576x256, .f32⟩
  | .hbm, ⟨67, _⟩ => ⟨S1x256, .f32⟩
  | .hbm, ⟨68, _⟩ => ⟨S24576x256, .f32⟩
  | .hbm, ⟨69, _⟩ => ⟨S24576x256, .f32⟩
  | .hbm, ⟨70, _⟩ => ⟨S1x256, .f32⟩
  | .hbm, ⟨71, _⟩ => ⟨S24576x256, .f32⟩
  | .hbm, ⟨72, _⟩ => ⟨S24576x256, .f32⟩
  | .hbm, ⟨73, _⟩ => ⟨S24576x256, .f32⟩
  | .hbm, ⟨74, _⟩ => ⟨S24576x256, .f32⟩
  | .hbm, ⟨75, _⟩ => ⟨S24576x1x256, .f32⟩
  | .hbm, ⟨76, _⟩ => ⟨S24576x1x256, .f32⟩
  | .hbm, ⟨77, _⟩ => ⟨S24576x1x256, .f32⟩
  | .hbm, ⟨78, _⟩ => ⟨S24576x1x256, .f32⟩
  | .hbm, ⟨79, _⟩ => ⟨S24576x4x256, .f32⟩
  | .hbm, ⟨80, _⟩ => ⟨S4x1024x24576, .f32⟩
  | .hbm, ⟨81, _⟩ => ⟨S24576x4x1024, .f32⟩
  | .hbm, ⟨82, _⟩ => ⟨S24576x8064, .f32⟩
  | .hbm, ⟨83, _⟩ => ⟨S24576x4096, .f32⟩
  | .hbm, ⟨84, _⟩ => ⟨S24576x4x1024, .f32⟩
  | .hbm, ⟨85, _⟩ => ⟨S24576x4x1024, .f32⟩
  | .hbm, ⟨86, _⟩ => ⟨S24576x4x1024, .f32⟩
  | .hbm, ⟨87, _⟩ => ⟨S_, .f32⟩
  | .hbm, ⟨88, _⟩ => ⟨S24576x4x1024, .f32⟩
  | .hbm, ⟨89, _⟩ => ⟨S24576x4x1024, .f32⟩
  | .hbm, ⟨90, _⟩ => ⟨S_, .f32⟩
  | .hbm, ⟨91, _⟩ => ⟨S24576x4x1024, .f32⟩
  | .hbm, ⟨92, _⟩ => ⟨S24576x4x1024, .f32⟩
  | .hbm, ⟨93, _⟩ => ⟨S24576x4x1024, .f32⟩
  | .hbm, ⟨94, _⟩ => ⟨S_, .f32⟩
  | .hbm, ⟨95, _⟩ => ⟨S24576x1024, .f32⟩
  | .hbm, ⟨96, _⟩ => ⟨S24576x1024, .f32⟩
  | .hbm, ⟨97, _⟩ => ⟨S24576x1024, .f32⟩
  | .hbm, ⟨98, _⟩ => ⟨S24576x1024, .f32⟩
  | .hbm, ⟨99, _⟩ => ⟨S24576x1024, .f32⟩
  | .hbm, ⟨100, _⟩ => ⟨S_, .f32⟩
  | .hbm, ⟨101, _⟩ => ⟨S24576, .f32⟩
  | .hbm, ⟨102, _⟩ => ⟨S24576x1, .f32⟩
  | .hbm, ⟨103, _⟩ => ⟨S_, .f32⟩
  | .hbm, ⟨104, _⟩ => ⟨S24576x1, .f32⟩
  | .hbm, ⟨105, _⟩ => ⟨S24576x1, .f32⟩
  | .hbm, ⟨106, _⟩ => ⟨S_, .f32⟩
  | .hbm, ⟨107, _⟩ => ⟨S24576x1, .f32⟩
  | .hbm, ⟨108, _⟩ => ⟨S24576x1, .f32⟩
  | .hbm, ⟨109, _⟩ => ⟨S24576x1, .f32⟩
  | .hbm, ⟨110, _⟩ => ⟨S24576x1024, .f32⟩
  | .hbm, ⟨111, _⟩ => ⟨S24576x1024, .f32⟩
  | .hbm, ⟨112, _⟩ => ⟨S1x1024, .f32⟩
  | .hbm, ⟨113, _⟩ => ⟨S24576x1024, .f32⟩
  | .hbm, ⟨114, _⟩ => ⟨S24576x1024, .f32⟩
  | .hbm, ⟨115, _⟩ => ⟨S_, .f32⟩
  | .hbm, ⟨116, _⟩ => ⟨S24576x1024, .f32⟩
  | .hbm, ⟨117, _⟩ => ⟨S24576x1024, .f32⟩
  | .hbm, ⟨118, _⟩ => ⟨S24576x1024, .f32⟩
  | .hbm, ⟨119, _⟩ => ⟨S24576x1024, .f32⟩
  | .hbm, ⟨120, _⟩ => ⟨S24576x1024, .bf16⟩
  | _, _ => ⟨S24576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst : Ref sig .tc := ⟨.hbm, 43, rfl⟩
abbrev main_v25 : Ref sig .tc := ⟨.hbm, 44, rfl⟩
abbrev main_v26 : Ref sig .tc := ⟨.hbm, 45, rfl⟩
abbrev main_cst_0 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_1 : Ref sig .tc := ⟨.hbm, 52, rfl⟩
abbrev main_v32 : Ref sig .tc := ⟨.hbm, 53, rfl⟩
abbrev main_v33 : Ref sig .tc := ⟨.hbm, 54, rfl⟩
abbrev main_cst_2 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_3 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_4 : Ref sig .tc := ⟨.hbm, 87, rfl⟩
abbrev main_v64 : Ref sig .tc := ⟨.hbm, 88, rfl⟩
abbrev main_v65 : Ref sig .tc := ⟨.hbm, 89, rfl⟩
abbrev main_cst_5 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_6 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_7 : Ref sig .tc := ⟨.hbm, 100, rfl⟩
abbrev main_v74 : Ref sig .tc := ⟨.hbm, 101, rfl⟩
abbrev main_v75 : Ref sig .tc := ⟨.hbm, 102, rfl⟩
abbrev main_cst_8 : Ref sig .tc := ⟨.hbm, 103, rfl⟩
abbrev main_v76 : Ref sig .tc := ⟨.hbm, 104, rfl⟩
abbrev main_v77 : Ref sig .tc := ⟨.hbm, 105, rfl⟩
abbrev main_cst_9 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_10 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩

abbrev nD : Nat := 1
abbrev τ : Topo := Topo.v7x

variable {F : FTy → Type} [FloatOps F]
-- ==== Kernel6.lean ====
abbrev S24576x1024 : Shape := ⟨2, ![24576, 1024]⟩
abbrev S2x4 : Shape := ⟨2, ![2, 4]⟩
abbrev S2x256 : Shape := ⟨2, ![2, 256]⟩
abbrev S32x2x4x64x64 : Shape := ⟨5, ![32, 2, 4, 64, 64]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S2x4x64 : Shape := ⟨3, ![2, 4, 64]⟩
abbrev S24576x256 : Shape := ⟨2, ![24576, 256]⟩
abbrev S256x1024 : Shape := ⟨2, ![256, 1024]⟩
abbrev S1x2x4x64x64 : Shape := ⟨5, ![1, 2, 4, 64, 64]⟩
abbrev S2x256x256 : Shape := ⟨3, ![2, 256, 256]⟩
abbrev S2x4x64x64 : Shape := ⟨4, ![2, 4, 64, 64]⟩
abbrev S8x128x128 : Shape := ⟨3, ![8, 128, 128]⟩
abbrev S128x256 : Shape := ⟨2, ![128, 256]⟩
abbrev S128x128 : Shape := ⟨2, ![128, 128]⟩
abbrev S1x1 : Shape := ⟨2, ![1, 1]⟩
abbrev S1x128x128 : Shape := ⟨3, ![1, 128, 128]⟩
abbrev S1x1x64x64 : Shape := ⟨4, ![1, 1, 64, 64]⟩
abbrev S64x64 : Shape := ⟨2, ![64, 64]⟩
abbrev S128x64 : Shape := ⟨2, ![128, 64]⟩
abbrev S1x128x256 : Shape := ⟨3, ![1, 128, 256]⟩
abbrev S1x256x256 : Shape := ⟨3, ![1, 256, 256]⟩

abbrev nBuf : Space → Nat
  | .hbm => 54
  | .vmem => 18
  | .smem => 0
  | _ => 0

abbrev bufTy : (tb : Table) → Fin (tcTables nBuf tb) → BufTy
  | .hbm, ⟨0, _⟩ => ⟨S24576x1024, .f32⟩
  | .hbm, ⟨1, _⟩ => ⟨S2x4, .f32⟩
  | .hbm, ⟨2, _⟩ => ⟨S2x256, .f32⟩
  | .hbm, ⟨3, _⟩ => ⟨S32x2x4x64x64, .f32⟩
  | .hbm, ⟨4, _⟩ => ⟨S256, .i32⟩
  | .hbm, ⟨5, _⟩ => ⟨S256x1, .i32⟩
  | .hbm, ⟨6, _⟩ => ⟨S_, .i32⟩
  | .hbm, ⟨7, _⟩ => ⟨S_, .i32⟩
  | .hbm, ⟨8, _⟩ => ⟨S256x1, .i32⟩
  | .hbm, ⟨9, _⟩ => ⟨S256x1, .i32⟩
  | .hbm, ⟨10, _⟩ => ⟨S256x1, .i32⟩
  | .hbm, ⟨11, _⟩ => ⟨S_, .i32⟩
  | .hbm, ⟨12, _⟩ => ⟨S256x1, .i32⟩
  | .hbm, ⟨13, _⟩ => ⟨S256x1, .i1⟩
  | .hbm, ⟨14, _⟩ => ⟨S256x1, .i32⟩
  | .hbm, ⟨15, _⟩ => ⟨S256x1, .i32⟩
  | .hbm, ⟨16, _⟩ => ⟨S_, .i32⟩
  | .hbm, ⟨17, _⟩ => ⟨S256x1, .i32⟩
  | .hbm, ⟨18, _⟩ => ⟨S256x1, .i1⟩
  | .hbm, ⟨19, _⟩ => ⟨S256x1, .i1⟩
  | .hbm, ⟨20, _⟩ => ⟨S_, .i32⟩
  | .hbm, ⟨21, _⟩ => ⟨S256x1, .i32⟩
  | .hbm, ⟨22, _⟩ => ⟨S256x1, .i32⟩
  | .hbm, ⟨23, _⟩ => ⟨S256x1, .i32⟩
  | .hbm, ⟨24, _⟩ => ⟨S256, .i32⟩
  | .hbm, ⟨25, _⟩ => ⟨S1x256, .i32⟩
  | .hbm, ⟨26, _⟩ => ⟨S_, .i32⟩
  | .hbm, ⟨27, _⟩ => ⟨S_, .i32⟩
  | .hbm, ⟨28, _⟩ => ⟨S1x256, .i32⟩
  | .hbm, ⟨29, _⟩ => ⟨S1x256, .i32⟩
  | .hbm, ⟨30, _⟩ => ⟨S1x256, .i32⟩
  | .hbm, ⟨31, _⟩ => ⟨S_, .i32⟩
  | .hbm, ⟨32, _⟩ => ⟨S1x256, .i32⟩
  | .hbm, ⟨33, _⟩ => ⟨S1x256, .i1⟩
  | .hbm, ⟨34, _⟩ => ⟨S1x256, .i32⟩
  | .hbm, ⟨35, _⟩ => ⟨S1x256, .i32⟩
  | .hbm, ⟨36, _⟩ => ⟨S_, .i32⟩
  | .hbm, ⟨37, _⟩ => ⟨S1x256, .i32⟩
  | .hbm, ⟨38, _⟩ => ⟨S1x256, .i1⟩
  | .hbm, ⟨39, _⟩ => ⟨S1x256, .i1⟩
  | .hbm, ⟨40, _⟩ => ⟨S_, .i32⟩
  | .hbm, ⟨41, _⟩ => ⟨S1x256, .i32⟩
  | .hbm, ⟨42, _⟩ => ⟨S1x256, .i32⟩
  | .hbm, ⟨43, _⟩ => ⟨S1x256, .i32⟩
  | .hbm, ⟨44, _⟩ => ⟨S256x256, .i32⟩
  | .hbm, ⟨45, _⟩ => ⟨S256x256, .i32⟩
  | .hbm, ⟨46, _⟩ => ⟨S256x256, .i1⟩
  | .hbm, ⟨47, _⟩ => ⟨S256x256, .bf16⟩
  | .hbm, ⟨48, _⟩ => ⟨S_, .f32⟩
  | .hbm, ⟨49, _⟩ => ⟨S256x256, .f32⟩
  | .hbm, ⟨50, _⟩ => ⟨S2x4x64, .f32⟩
  | .hbm, ⟨51, _⟩ => ⟨S2x256, .f32⟩
  | .hbm, ⟨52, _⟩ => ⟨S24576x256, .f32⟩
  | .hbm, ⟨53, _⟩ => ⟨S32x2x4x64x64, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S2x256, .f32⟩
  | .local _ .vmem, ⟨5, _⟩ => ⟨S2x256, .f32⟩
  | .local _ .vmem, ⟨6, _⟩ => ⟨S1x2x4x64x64, .f32⟩
  | .local _ .vmem, ⟨7, _⟩ => ⟨S1x2x4x64x64, .f32⟩
  | .local _ .vmem, ⟨8, _⟩ => ⟨S256x256, .bf16⟩
  | .local _ .vmem, ⟨9, _⟩ => ⟨S256x256, .f32⟩
  | .local _ .vmem, ⟨10, _⟩ => ⟨S256x256, .f32⟩
  | .local _ .vmem, ⟨11, _⟩ => ⟨S1x2x4x64x64, .f32⟩
  | .local _ .vmem, ⟨12, _⟩ => ⟨S1x2x4x64x64, .f32⟩
  | .local _ .vmem, ⟨13, _⟩ => ⟨S256x256, .f32⟩
  | .local _ .vmem, ⟨14, _⟩ => ⟨S256x256, .f32⟩
  | .local _ .vmem, ⟨15, _⟩ => ⟨S2x256x256, .f32⟩
  | .local _ .vmem, ⟨16, _⟩ => ⟨S2x4x64x64, .f32⟩
  | .local _ .vmem, ⟨17, _⟩ => ⟨S8x128x128, .f32⟩
  | _, _ => ⟨S24576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_cst : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13_0 : Ref sig .tc := ⟨.hbm, 52, rfl⟩
abbrev main_v13_1 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_56 : BitVec 32 := 0#32
  let c2_i32 : BitVec 32 := 2#32
  let v145 : BitVec 32 := Scalar.addi c0_i32_56 c2_i32
  let c1_i32 : BitVec 32 := 1#32
  ⟨c0_i32_56, v145, c1_i32⟩
def k0_mult1 (k0_t1 : Fin k0_t1_loop.trips) : BitVec 32 :=
  let c0_i32_56 : BitVec 32 := 0#32
  let c1_i32 : BitVec 32 := 1#32
  let arg15 : BitVec 32 := Scf.iv c0_i32_56 c1_i32 k0_t1
  let c128_i32 : BitVec 32 := 128#32
  let v199 : BitVec 32 := Scalar.muli arg15 c128_i32
  v199
def k0_off1 (k0_t1 : Fin k0_t1_loop.trips) : Fin 2 → Nat :=
  let c0_i32_56 : BitVec 32 := 0#32
  let c1_i32 : BitVec 32 := 1#32
  let arg15 : BitVec 32 := Scf.iv c0_i32_56 c1_i32 k0_t1
  let c128_i32 : BitVec 32 := 128#32
  let v199 : BitVec 32 := Scalar.muli arg15 c128_i32
  let v200 : BitVec 32 := v199
  let v201 : Index := Scalar.indexCast v200
  let c0_90 : Index := 0#32
  ![v201.toNat, 0]
def k0_off2 (k0_t1 : Fin k0_t1_loop.trips) : Fin 2 → Nat :=
  let c0_i32_56 : BitVec 32 := 0#32
  let c1_i32 : BitVec 32 := 1#32
  let arg15 : BitVec 32 := Scf.iv c0_i32_56 c1_i32 k0_t1
  let c128_i32 : BitVec 32 := 128#32
  let v199 : BitVec 32 := Scalar.muli arg15 c128_i32
  let v200 : BitVec 32 := v199
  let v211 : Index := Scalar.indexCast v200
  let c512 : Index := 512#32
  ![v211.toNat, 512]
def k0_mult2 (k0_t1 : Fin k0_t1_loop.trips) : BitVec 32 :=
  let c1_i32_120 : BitVec 32 := 1#32
  let c0_i32_56 : BitVec 32 := 0#32
  let c1_i32 : BitVec 32 := 1#32
  let arg15 : BitVec 32 := Scf.iv c0_i32_56 c1_i32 k0_t1
  let v262 : BitVec 32 := Scalar.subi c1_i32_120 arg15
  let c128_i32_121 : BitVec 32 := 128#32
  let v263 : BitVec 32 := Scalar.muli v262 c128_i32_121
  v263
def k0_off3 (k0_t1 : Fin k0_t1_loop.trips) : Fin 2 → Nat :=
  let c1_i32_120 : BitVec 32 := 1#32
  let c0_i32_56 : BitVec 32 := 0#32
  let c1_i32 : BitVec 32 := 1#32
  let arg15 : BitVec 32 := Scf.iv c0_i32_56 c1_i32 k0_t1
  let v262 : BitVec 32 := Scalar.subi c1_i32_120 arg15
  let c128_i32_121 : BitVec 32 := 128#32
  let v263 : BitVec 32 := Scalar.muli v262 c128_i32_121
  let v264 : BitVec 32 := v263
  let v265 : Index := Scalar.indexCast v264
  let c0_122 : Index := 0#32
  ![v265.toNat, 0]
def k0_off4 (k0_t1 : Fin k0_t1_loop.trips) : Fin 2 → Nat :=
  let c1_i32_120 : BitVec 32 := 1#32
  let c0_i32_56 : BitVec 32 := 0#32
  let c1_i32 : BitVec 32 := 1#32
  let arg15 : BitVec 32 := Scf.iv c0_i32_56 c1_i32 k0_t1
  let v262 : BitVec 32 := Scalar.subi c1_i32_120 arg15
  let c128_i32_121 : BitVec 32 := 128#32
  let v263 : BitVec 32 := Scalar.muli v262 c128_i32_121
  let v264 : BitVec 32 := v263
  let v275 : Index := Scalar.indexCast v264
  let c512_124 : Index := 512#32
  ![v275.toNat, 512]
def k0_off5 (k0_t1 : Fin k0_t1_loop.trips) : Fin 3 → Nat :=
  let c0_217 : Index := 0#32
  let c0_i32_56 : BitVec 32 := 0#32
  let c1_i32 : BitVec 32 := 1#32
  let arg15 : BitVec 32 := Scf.iv c0_i32_56 c1_i32 k0_t1
  let c128_i32 : BitVec 32 := 128#32
  let v199 : BitVec 32 := Scalar.muli arg15 c128_i32
  let v200 : BitVec 32 := v199
  let v431 : Index := Scalar.indexCast v200
  let c0_218 : Index := 0#32
  ![0, v431.toNat, 0]
def k0_off6 (k0_t1 : Fin k0_t1_loop.trips) : Fin 3 → Nat :=
  let c1_219 : Index := 1#32
  let c1_i32_120 : BitVec 32 := 1#32
  let c0_i32_56 : BitVec 32 := 0#32
  let c1_i32 : BitVec 32 := 1#32
  let arg15 : BitVec 32 := Scf.iv c0_i32_56 c1_i32 k0_t1
  let v262 : BitVec 32 := Scalar.subi c1_i32_120 arg15
  let c128_i32_121 : BitVec 32 := 128#32
  let v263 : BitVec 32 := Scalar.muli v262 c128_i32_121
  let v264 : BitVec 32 := v263
  let v436 : Index := Scalar.indexCast v264
  let c0_220 : Index := 0#32
  ![1, v436.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_8 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2x4x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x4x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S24576x1024 : Shape := ⟨2, ![24576, 1024]⟩
abbrev S2x4 : Shape := ⟨2, ![2, 4]⟩
abbrev S2x256 : Shape := ⟨2, ![2, 256]⟩
abbrev S32x2x4x64x64 : Shape := ⟨5, ![32, 2, 4, 64, 64]⟩
abbrev S8192x1024 : Shape := ⟨2, ![8192, 1024]⟩
abbrev S32x256x1024 : Shape := ⟨3, ![32, 256, 1024]⟩
abbrev S32x256x256 : Shape := ⟨3, ![32, 256, 256]⟩
abbrev S_ : Shape := ⟨0, ![]⟩
abbrev S1x32x256x256 : Shape := ⟨4, ![1, 32, 256, 256]⟩
abbrev S2x32x256x256 : Shape := ⟨4, ![2, 32, 256, 256]⟩
abbrev S2x32x256x4x64 : Shape := ⟨5, ![2, 32, 256, 4, 64]⟩
abbrev S2x32x4x256x64 : Shape := ⟨5, ![2, 32, 4, 256, 64]⟩
abbrev S2x32x4x64x64 : Shape := ⟨5, ![2, 32, 4, 64, 64]⟩
abbrev S128 : Shape := ⟨1, ![128]⟩
abbrev S2x1x4x1x1 : Shape := ⟨5, ![2, 1, 4, 1, 1]⟩
abbrev S128x1 : Shape := ⟨2, ![128, 1]⟩
abbrev S1x128 : Shape := ⟨2, ![1, 128]⟩
abbrev S128x128 : Shape := ⟨2, ![128, 128]⟩
abbrev S1x1x1x128x128 : Shape := ⟨5, ![1, 1, 1, 128, 128]⟩
abbrev S2x1x4x128x128 : Shape := ⟨5, ![2, 1, 4, 128, 128]⟩
abbrev S1x1x1x128x1 : Shape := ⟨5, ![1, 1, 1, 128, 1]⟩
abbrev S2x1x4x128x1 : Shape := ⟨5, ![2, 1, 4, 128, 1]⟩
abbrev S2x32x4x2x128x64 : Shape := ⟨6, ![2, 32, 4, 2, 128, 64]⟩
abbrev S2x2x32x4x128x64 : Shape := ⟨6, ![2, 2, 32, 4, 128, 64]⟩
abbrev S1x2x32x4x128x64 : Shape := ⟨6, ![1, 2, 32, 4, 128, 64]⟩
abbrev S2x32x4x128x64 : Shape := ⟨5, ![2, 32, 4, 128, 64]⟩
abbrev S2x32x4x128x128 : Shape := ⟨5, ![2, 32, 4, 128, 128]⟩

abbrev nBuf : Space → Nat
  | .hbm => 144
  | .vmem => 0
  | .smem => 0
  | _ => 0

abbrev hbmTy0_0 (i : Nat) : BufTy := match i % 128 with
  | 0 => ⟨S24576x1024, .f32⟩
  | 1 => ⟨S2x4, .f32⟩
  | 2 => ⟨S2x256, .f32⟩
  | 3 => ⟨S32x2x4x64x64, .f32⟩
  | 4 => ⟨S8192x1024, .f32⟩
  | 5 => ⟨S32x256x1024, .f32⟩
  | 6 => ⟨S32x256x256, .f32⟩
  | 7 => ⟨S32x256x256, .f32⟩
  | 8 => ⟨S32x256x256, .f32⟩
  | 9 => ⟨S32x256x256, .f32⟩
  | 10 => ⟨S2x4, .f32⟩
  | 11 => ⟨S2x4, .f32⟩
  | 12 => ⟨S_, .f32⟩
  | 13 => ⟨S32x256x256, .f32⟩
  | 14 => ⟨S32x256x256, .f32⟩
  | 15 => ⟨S32x256x256, .f32⟩
  | 16 => ⟨S1x32x256x256, .f32⟩
  | 17 => ⟨S1x32x256x256, .f32⟩
  | 18 => ⟨S2x32x256x256, .f32⟩
  | 19 => ⟨S2x32x256x4x64, .f32⟩
  | 20 => ⟨S2x32x4x256x64, .f32⟩
  | 21 => ⟨S32x256x256, .f32⟩
  | 22 => ⟨S1x32x256x256, .f32⟩
  | 23 => ⟨S1x32x256x256, .f32⟩
  | 24 => ⟨S2x32x256x256, .f32⟩
  | 25 => ⟨S2x32x256x4x64, .f32⟩
  | 26 => ⟨S2x32x4x256x64, .f32⟩
  | 27 => ⟨S32x256x256, .f32⟩
  | 28 => ⟨S1x32x256x256, .f32⟩
  | 29 => ⟨S1x32x256x256, .f32⟩
  | 30 => ⟨S2x32x256x256, .f32⟩
  | 31 => ⟨S2x32x256x4x64, .f32⟩
  | 32 => ⟨S2x32x4x256x64, .f32⟩
  | 33 => ⟨S2x32x4x64x64, .f32⟩
  | 34 => ⟨S128, .f32⟩
  | 35 => ⟨S2x1x4x1x1, .f32⟩
  | 36 => ⟨S128x1, .f32⟩
  | 37 => ⟨S1x128, .f32⟩
  | 38 => ⟨S128x128, .f32⟩
  | 39 => ⟨S128x128, .f32⟩
  | 40 => ⟨S128x128, .f32⟩
  | 41 => ⟨S_, .f32⟩
  | 42 => ⟨S128x128, .f32⟩
  | 43 => ⟨S128x128, .i1⟩
  | 44 => ⟨S1x1x1x128x128, .f32⟩
  | 45 => ⟨S2x1x4x128x128, .f32⟩
  | 46 => ⟨S2x1x4x128x128, .f32⟩
  | 47 => ⟨S2x1x4x128x128, .f32⟩
  | 48 => ⟨S_, .f32⟩
  | 49 => ⟨S_, .f32⟩
  | 50 => ⟨S2x1x4x128x128, .i1⟩
  | 51 => ⟨S2x1x4x128x128, .f32⟩
  | 52 => ⟨S2x1x4x128x128, .f32⟩
  | 53 => ⟨S2x1x4x128x128, .f32⟩
  | 54 => ⟨S128x1, .f32⟩
  | 55 => ⟨S_, .f32⟩
  | 56 => ⟨S128x1, .f32⟩
  | 57 => ⟨S128x1, .f32⟩
  | 58 => ⟨S1x1x1x128x1, .f32⟩
  | 59 => ⟨S2x1x4x128x1, .f32⟩
  | 60 => ⟨S2x1x4x128x1, .f32⟩
  | 61 => ⟨S2x1x4x128x1, .f32⟩
  | 62 => ⟨S2x1x4x128x1, .f32⟩
  | 63 => ⟨S128x1, .f32⟩
  | 64 => ⟨S_, .f32⟩
  | 65 => ⟨S128x1, .f32⟩
  | 66 => ⟨S128x1, .f32⟩
  | 67 => ⟨S1x1x1x128x1, .f32⟩
  | 68 => ⟨S2x1x4x128x1, .f32⟩
  | 69 => ⟨S2x1x4x128x1, .f32⟩
  | 70 => ⟨S2x1x4x128x1, .f32⟩
  | 71 => ⟨S2x1x4x128x1, .f32⟩
  | 72 => ⟨S_, .f32⟩
  | 73 => ⟨S2x1x4x1x1, .f32⟩
  | 74 => ⟨S2x1x4x1x1, .f32⟩
  | 75 => ⟨S2x1x4x1x1, .f32⟩
  | 76 => ⟨S2x32x4x2x128x64, .f32⟩
  | 77 => ⟨S2x2x32x4x128x64, .f32⟩
  | 78 => ⟨S2x32x4x2x128x64, .f32⟩
  | 79 => ⟨S2x2x32x4x128x64, .f32⟩
  | 80 => ⟨S2x32x4x2x128x64, .f32⟩
  | 81 => ⟨S2x2x32x4x128x64, .f32⟩
  | 82 => ⟨S_, .f32⟩
  | 83 => ⟨S2x2x32x4x128x64, .f32⟩
  | 84 => ⟨S_, .i32⟩
  | 85 => ⟨S2x2x32x4x128x64, .f32⟩
  | 86 => ⟨S2x2x32x4x128x64, .f32⟩
  | 87 => ⟨S2x2x32x4x128x64, .f32⟩
  | 88 => ⟨S2x1x4x128x128, .f32⟩
  | 89 => ⟨S2x1x4x128x1, .f32⟩
  | 90 => ⟨S2x1x4x1x1, .f32⟩
  | 91 => ⟨S2x1x4x128x1, .f32⟩
  | 92 => ⟨S_, .i32⟩
  | 93 => ⟨S2x32x4x64x64, .f32⟩
  | 94 => ⟨S2x2x32x4x128x64, .f32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .i32⟩
  | 102 => ⟨S1x2x32x4x128x64, .f32⟩
  | 103 => ⟨S2x32x4x128x64, .f32⟩
  | 104 => ⟨S_, .i32⟩
  | 105 => ⟨S_, .i32⟩
  | 106 => ⟨S_, .i32⟩
  | 107 => ⟨S_, .i32⟩
  | 108 => ⟨S_, .i32⟩
  | 109 => ⟨S1x2x32x4x128x64, .f32⟩
  | 110 => ⟨S2x32x4x128x64, .f32⟩
  | 111 => ⟨S_, .i32⟩
  | 112 => ⟨S_, .i32⟩
  | 113 => ⟨S_, .i32⟩
  | 114 => ⟨S_, .i32⟩
  | 115 => ⟨S_, .i32⟩
  | 116 => ⟨S1x2x32x4x128x64, .f32⟩
  | 117 => ⟨S2x32x4x128x64, .f32⟩
  | 118 => ⟨S2x32x4x128x128, .f32⟩
  | 119 => ⟨S2x32x4x128x128, .f32⟩
  | 120 => ⟨S2x32x4x128x128, .f32⟩
  | 121 => ⟨S2x32x4x128x64, .f32⟩
  | 122 => ⟨S2x32x4x128x64, .f32⟩
  | 123 => ⟨S2x32x4x128x64, .f32⟩
  | 124 => ⟨S2x32x4x128x64, .f32⟩
  | 125 => ⟨S2x32x4x128x64, .f32⟩
  | 126 => ⟨S2x32x4x64x64, .f32⟩
  | 127 => ⟨S2x32x4x64x64, .f32⟩
  | _ => ⟨S24576x1024, .f32⟩

abbrev hbmTy0_1 (i : Nat) : BufTy := match i % 128 with
  | 0 => ⟨S2x32x4x128x64, .f32⟩
  | 1 => ⟨S2x32x4x128x64, .f32⟩
  | 2 => ⟨S2x32x4x64x64, .f32⟩
  | 3 => ⟨S2x32x4x64x64, .f32⟩
  | 4 => ⟨S1x2x32x4x128x64, .f32⟩
  | 5 => ⟨S_, .i32⟩
  | 6 => ⟨S_, .i32⟩
  | 7 => ⟨S_, .i32⟩
  | 8 => ⟨S_, .i32⟩
  | 9 => ⟨S_, .i32⟩
  | 10 => ⟨S2x2x32x4x128x64, .f32⟩
  | 11 => ⟨S_, .i32⟩
  | 12 => ⟨S_, .i32⟩
  | 13 => ⟨S2x32x4x2x128x64, .f32⟩
  | 14 => ⟨S2x32x4x256x64, .f32⟩
  | 15 => ⟨S32x2x4x64x64, .f32⟩
  | _ => ⟨S24576x1024, .f32⟩

abbrev hbmTy (i : Nat) : BufTy := match i / 128 with
  | 0 => hbmTy0_0 i
  | 1 => hbmTy0_1 i
  | _ => ⟨S24576x1024, .f32⟩

abbrev bufTy : (tb : Table) → Fin (tcTables nBuf tb) → BufTy
  | .hbm, ⟨i, _⟩ => hbmTy i
  | _, _ => ⟨S24576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_0 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_cst_1 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_2 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_3 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_4 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_cst_5 : Ref sig .tc := ⟨.hbm, 82, rfl⟩
abbrev main_v69 : Ref sig .tc := ⟨.hbm, 83, rfl⟩
abbrev main_c : Ref sig .tc := ⟨.hbm, 84, rfl⟩
abbrev main_v70_0 : Ref sig .tc := ⟨.hbm, 85, rfl⟩
abbrev main_v70_1 : Ref sig .tc := ⟨.hbm, 86, rfl⟩
abbrev main_v70_2 : Ref sig .tc := ⟨.hbm, 87, rfl⟩
abbrev main_v70_3 : Ref sig .tc := ⟨.hbm, 88, rfl⟩
abbrev main_v70_4 : Ref sig .tc := ⟨.hbm, 89, rfl⟩
abbrev main_v70_5 : Ref sig .tc := ⟨.hbm, 90, rfl⟩
abbrev main_v70_6 : Ref sig .tc := ⟨.hbm, 91, rfl⟩
abbrev main_v70_7 : Ref sig .tc := ⟨.hbm, 92, rfl⟩
abbrev main_v70_8 : Ref sig .tc := ⟨.hbm, 93, rfl⟩
abbrev main_v70_9 : Ref sig .tc := ⟨.hbm, 94, rfl⟩
abbrev main_while0c_c_15 : Ref sig .tc := ⟨.hbm, 95, rfl⟩
abbrev main_while0c_v74 : Ref sig .tc := ⟨.hbm, 96, rfl⟩
abbrev main_while0b_call1_c : Ref sig .tc := ⟨.hbm, 97, rfl⟩
abbrev main_while0b_call1_c_0 : Ref sig .tc := ⟨.hbm, 98, rfl⟩
abbrev main_while0b_call1_c_1 : Ref sig .tc := ⟨.hbm, 99, rfl⟩
abbrev main_while0b_call1_c_2 : Ref sig .tc := ⟨.hbm, 100, rfl⟩
abbrev main_while0b_call1_c_3 : Ref sig .tc := ⟨.hbm, 101, rfl⟩
abbrev main_while0b_call1_v0 : Ref sig .tc := ⟨.hbm, 102, rfl⟩
abbrev main_while0b_v74 : Ref sig .tc := ⟨.hbm, 103, rfl⟩
abbrev main_while0b_call2_c : Ref sig .tc := ⟨.hbm, 104, rfl⟩
abbrev main_while0b_call2_c_0 : Ref sig .tc := ⟨.hbm, 105, rfl⟩
abbrev main_while0b_call2_c_1 : Ref sig .tc := ⟨.hbm, 106, rfl⟩
abbrev main_while0b_call2_c_2 : Ref sig .tc := ⟨.hbm, 107, rfl⟩
abbrev main_while0b_call2_c_3 : Ref sig .tc := ⟨.hbm, 108, rfl⟩
abbrev main_while0b_call2_v0 : Ref sig .tc := ⟨.hbm, 109, rfl⟩
abbrev main_while0b_v75 : Ref sig .tc := ⟨.hbm, 110, rfl⟩
abbrev main_while0b_call3_c : Ref sig .tc := ⟨.hbm, 111, rfl⟩
abbrev main_while0b_call3_c_0 : Ref sig .tc := ⟨.hbm, 112, rfl⟩
abbrev main_while0b_call3_c_1 : Ref sig .tc := ⟨.hbm, 113, rfl⟩
abbrev main_while0b_call3_c_2 : Ref sig .tc := ⟨.hbm, 114, rfl⟩
abbrev main_while0b_call3_c_3 : Ref sig .tc := ⟨.hbm, 115, rfl⟩
abbrev main_while0b_call3_v0 : Ref sig .tc := ⟨.hbm, 116, rfl⟩
abbrev main_while0b_v76 : Ref sig .tc := ⟨.hbm, 117, rfl⟩
abbrev main_while0b_v77 : Ref sig .tc := ⟨.hbm, 118, rfl⟩
abbrev main_while0b_v78 : Ref sig .tc := ⟨.hbm, 119, rfl⟩
abbrev main_while0b_v79 : Ref sig .tc := ⟨.hbm, 120, rfl⟩
abbrev main_while0b_v80 : Ref sig .tc := ⟨.hbm, 121, rfl⟩
abbrev main_while0b_v81 : Ref sig .tc := ⟨.hbm, 122, rfl⟩
abbrev main_while0b_v82 : Ref sig .tc := ⟨.hbm, 123, rfl⟩
abbrev main_while0b_v83 : Ref sig .tc := ⟨.hbm, 124, rfl⟩
abbrev main_while0b_v84 : Ref sig .tc := ⟨.hbm, 125, rfl⟩
abbrev main_while0b_v85 : Ref sig .tc := ⟨.hbm, 126, rfl⟩
abbrev main_while0b_v86 : Ref sig .tc := ⟨.hbm, 127, rfl⟩
abbrev main_while0b_v87 : Ref sig .tc := ⟨.hbm, 128, rfl⟩
abbrev main_while0b_v88 : Ref sig .tc := ⟨.hbm, 129, rfl⟩
abbrev main_while0b_v89 : Ref sig .tc := ⟨.hbm, 130, rfl⟩
abbrev main_while0b_v90 : Ref sig .tc := ⟨.hbm, 131, rfl⟩
abbrev main_while0b_call4_v0 : Ref sig .tc := ⟨.hbm, 132, rfl⟩
abbrev main_while0b_call4_c : Ref sig .tc := ⟨.hbm, 133, rfl⟩
abbrev main_while0b_call4_c_0 : Ref sig .tc := ⟨.hbm, 134, rfl⟩
abbrev main_while0b_call4_c_1 : Ref sig .tc := ⟨.hbm, 135, rfl⟩
abbrev main_while0b_call4_c_2 : Ref sig .tc := ⟨.hbm, 136, rfl⟩
abbrev main_while0b_call4_c_3 : Ref sig .tc := ⟨.hbm, 137, rfl⟩
abbrev main_while0b_v91 : Ref sig .tc := ⟨.hbm, 138, rfl⟩
abbrev main_while0b_c_15 : Ref sig .tc := ⟨.hbm, 139, rfl⟩
abbrev main_while0b_v92 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩

abbrev nD : Nat := 1
abbrev τ : Topo := Topo.v7x

variable {F : FTy → Type} [FloatOps F]

abbrev main_while0_count : Scf.Loop 32 := ⟨0#32, 2#32, 1#32⟩
-- ==== Proof.Scan.Spec.lean ====
/- The recurrence of the RWKV-7 scan, one time step at a time, over any float values: what one pass over the 64 key rows of
   the state adds up, the state after a step, the output row of a step; and where the kernel's loads and stores lie. -/
module

public import proofs.«01_k».proof.Proof.Gen.KernelIdeal.Loops
public import Idealize.ShloMosaic.Lib.PointwiseCore
public import Idealize.ShloMosaic.Lib.Pointwise.Sums
public import Idealize.ShloMosaic.Lib.VecWindow
public import Idealize.ShloMosaic.Lib.WritesUnit

@[expose] public section

set_option maxRecDepth 16384

noncomputable section

namespace Cert.KernelIdeal.Scan

open Idealize.ShloMosaic Idealize.ShloMosaic.TcCoe Idealize.ShloMosaic.Tactic
open Cert.KernelIdeal.Gen

variable {F : FTy → Type} [FloatOps F]

/-- The float zero the accumulators start from. -/
abbrev zero : F .f32 := FloatOps.ofBits .f32 0#32

/-- Accumulator `a` of four after `k` trips: the terms `4 * j + a`, `j < k`, added one after the other. -/
def acc (g : ℕ → F .f32) (a : ℕ) : ℕ → F .f32
  | 0 => zero
  | k + 1 => FloatOps.addf (acc g a k) (g (4 * k + a))

/-- The four accumulators after the sixteen trips, added up from zero: the kernel's sum of 64 terms. -/
def comb (g : ℕ → F .f32) : F .f32 :=
  FloatOps.addf (FloatOps.addf (FloatOps.addf (FloatOps.addf zero (acc g 0 16)) (acc g 1 16)) (acc g 2 16)) (acc g 3 16)

/-- Four vectors carried through a loop. -/
abbrev Acc (F : FTy → Type) := FVec F S32x128 .f32 × FVec F S32x128 .f32 × FVec F S32x128 .f32 × FVec F S32x128 .f32

/-- A value row of the first half. -/
def lo (v : Fin 32) : Fin 64 := ⟨v.val, by omega⟩
/-- A value row of the second half. -/
def hi (v : Fin 32) : Fin 64 := ⟨32 + v.val, by omega⟩

/-- A state: key row, value row, lane. -/
abbrev St (F : FTy → Type) := Fin 64 → Fin 64 → Fin 128 → F .f32
/-- A row: channel, lane. -/
abbrev Row (F : FTy → Type) := Fin 64 → Fin 128 → F .f32

/-- The product of the state's columns with a row, summed over the key rows. -/
def colSum (S : St F) (q : Row F) (v : Fin 64) (l : Fin 128) : F .f32 :=
  comb fun n => FloatOps.mulf (S (Fin.ofNat 64 n) v l) (q (Fin.ofNat 64 n) l)

/-- One entry of the state after a step: decayed, plus the new outer product, minus the removal along the old key. -/
def upd (s w k kka : F .f32) (v sa : F .f32) : F .f32 :=
  FloatOps.addf (FloatOps.mulf s w) (FloatOps.subf (FloatOps.mulf v k) (FloatOps.mulf sa kka))

theorem upd_congr {s s' w w' k k' a a' v sa : F .f32} (hs : s = s') (hw : w = w') (hk : k = k') (ha : a = a') :
    upd s w k a v sa = upd s' w' k' a' v sa := by subst hs hw hk ha; rfl

/-- The state after a step. -/
def stepS (w kk kka k v : Row F) (S : St F) : St F := fun n vv l =>
  upd (S n vv l) (w n l) (k n l) (kka n l) (v vv l) (colSum S kk vv l)

/-! ## Where the loads and stores lie -/

/-- The row of the block that step `t` of a block visits: forwards in direction 0, backwards in direction 1. -/
def row (d : Fin 2) (t : Fin 32) : Fin 32 := if d = 0 then t else ⟨31 - t.val, by omega⟩

/-- The direction of a grid point. -/
def dir (i : grid0.Coords) : Fin 2 := i 0

theorem row_row (d : Fin 2) (t : Fin 32) : row d (row d t) = t := by revert d t; decide
theorem row_inj (d : Fin 2) {a b : Fin 32} (h : row d a = row d b) : a = b :=
  (row_row d a).symm.trans ((congrArg (row d) h).trans (row_row d b))

theorem row_word (d : Fin 2) (t : Fin k0_t1_loop.trips) :
    (Scalar.indexCast (Scalar.addi (Scf.iv 0#32 1#32 t) (Scalar.muli (BitVec.ofNat 32 d.val) (Scalar.subi 31#32 (Scalar.muli 2#32 (Scf.iv 0#32 1#32 t)))))).toNat
      = (row d t).val := by
  revert d t; decide +kernel

theorem word4 (k : Fin 16) (r : Fin 4) :
    (Scalar.indexCast (Scalar.addi (Scalar.muli (Scf.iv 0#32 1#32 k.val) 4#32) (BitVec.ofNat 32 r.val))).toNat = 4 * k.val + r.val := by
  revert k r; decide +kernel

theorem off1_eq (i : grid0.Coords) (t : Fin k0_t1_loop.trips) : k0_off1 i t = ![(row (dir i) t).val, 0, 0] :=
  congrArg (fun x : ℕ => (![x, 0, 0] : Fin 3 → ℕ)) (row_word (dir i) t)
theorem off8_eq (i : grid0.Coords) (t : Fin k0_t1_loop.trips) : k0_off8 i t = ![(row (dir i) t).val, 32, 0] :=
  congrArg (fun x : ℕ => (![x, 32, 0] : Fin 3 → ℕ)) (row_word (dir i) t)
theorem off7_eq (i : grid0.Coords) (t : Fin k0_t1_loop.trips) : k0_off7 i t = ![0, (row (dir i) t).val, 0, 0] :=
  congrArg (fun x : ℕ => (![0, x, 0, 0] : Fin 4 → ℕ)) (row_word (dir i) t)
theorem off14_eq (i : grid0.Coords) (t : Fin k0_t1_loop.trips) : k0_off14 i t = ![0, (row (dir i) t).val, 32, 0] :=
  congrArg (fun x : ℕ => (![0, x, 32, 0] : Fin 4 → ℕ)) (row_word (dir i) t)
theorem off2_eq (k : Fin k0_t2_loop.trips) (r : Fin 4) : k0_off2 k (BitVec.ofNat 32 r.val) = ![4 * k.val + r.val, 0, 0] :=
  congrArg (fun x : ℕ => (![x, 0, 0] : Fin 3 → ℕ)) (word4 k r)
theorem off4_eq (k : Fin k0_t3_loop.trips) (r : Fin 4) : k0_off4 k (BitVec.ofNat 32 r.val) = ![4 * k.val + r.val, 0, 0] :=
  congrArg (fun x : ℕ => (![x, 0, 0] : Fin 3 → ℕ)) (word4 k r)
theorem off9_eq (k : Fin k0_t4_loop.trips) (r : Fin 4) : k0_off9 k (BitVec.ofNat 32 r.val) = ![4 * k.val + r.val, 32, 0] :=
  congrArg (fun x : ℕ => (![x, 32, 0] : Fin 3 → ℕ)) (word4 k r)
theorem off11_eq (k : Fin k0_t5_loop.trips) (r : Fin 4) : k0_off11 k (BitVec.ofNat 32 r.val) = ![4 * k.val + r.val, 32, 0] :=
  congrArg (fun x : ℕ => (![x, 32, 0] : Fin 3 → ℕ)) (word4 k r)
theorem off3_eq (i : grid0.Coords) (t : Fin k0_t1_loop.trips) (k : Fin k0_t2_loop.trips) (r : Fin 4) :
    k0_off3 i t k (BitVec.ofNat 32 r.val) = ![(row (dir i) t).val, 4 * k.val + r.val, 0] :=
  congrArg₂ (fun x y : ℕ => (![x, y, 0] : Fin 3 → ℕ)) (row_word (dir i) t) (word4 k r)
theorem off6_eq (i : grid0.Coords) (t : Fin k0_t1_loop.trips) (k : Fin k0_t3_loop.trips) (r : Fin 4) :
    k0_off6 i t k (BitVec.ofNat 32 r.val) = ![(row (dir i) t).val, 4 * k.val + r.val, 0] :=
  congrArg₂ (fun x y : ℕ => (![x, y, 0] : Fin 3 → ℕ)) (row_word (dir i) t) (word4 k r)
theorem off10_eq (i : grid0.Coords) (t : Fin k0_t1_loop.trips) (k : Fin k0_t4_loop.trips) (r : Fin 4) :
    k0_off10 i t k (BitVec.ofNat 32 r.val) = ![(row (dir i) t).val, 4 * k.val + r.val, 0] :=
  congrArg₂ (fun x y : ℕ => (![x, y, 0] : Fin 3 → ℕ)) (row_word (dir i) t) (word4 k r)
theorem off13_eq (i : grid0.Coords) (t : Fin k0_t1_loop.trips) (k : Fin k0_t5_loop.trips) (r : Fin 4) :
    k0_off13 i t k (BitVec.ofNat 32 r.val) = ![(row (dir i) t).val, 4 * k.val + r.val, 0] :=
  congrArg₂ (fun x y : ℕ => (![x, y, 0] : Fin 3 → ℕ)) (row_word (dir i) t) (word4 k r)
theorem off5_eq (i : grid0.Coords) (t : Fin k0_t1_loop.trips) (k : Fin k0_t3_loop.trips) (r : Fin 4) :
    k0_off5 i t k (BitVec.ofNat 32 r.val) = ![0, (row (dir i) t).val, 4 * k.val + r.val, 0] :=
  congrArg₂ (fun x y : ℕ => (![0, x, y, 0] : Fin 4 → ℕ)) (row_word (dir i) t) (word4 k r)
theorem off12_eq (i : grid0.Coords) (t : Fin k0_t1_loop.trips) (k : Fin k0_t5_loop.trips) (r : Fin 4) :
    k0_off12 i t k (BitVec.ofNat 32 r.val) = ![0, (row (dir i) t).val, 4 * k.val + r.val, 0] :=
  congrArg₂ (fun x y : ℕ => (![0, x, y, 0] : Fin 4 → ℕ)) (row_word (dir i) t) (word4 k r)

/-- A load at a unit-stride rectangle reads, at `x`, what the memref holds at the offsets plus `x`. -/
theorem readAt_at {sig : RefSig} {κ : Kind} {sp : Space} {s : Shape} {e : EltTy} {Val : EltTy → Type}
    (v : View sig κ sp s e) (f : v.ty.Contents Val) {off off' size : Fin s.rank → ℕ} (inb : ∀ a, off a + size a ≤ s.size a)
    (h : off = off') (x : (Rect.unit off size inb).shape.Idx) (y : s.Idx) (hy : ∀ a, (y a).val = off' a + (x a).val) :
    v.readAt Val (Rect.unit off size inb).toLoadRect f x = v.read Val f y := by
  subst h
  exact congrArg (v.read Val f) (funext fun a => Fin.ext (by
    show off a + 1 * (x a).val = (y a).val
    rw [hy a, Nat.one_mul]))

section Reads

variable {sig : RefSig} {κ : Kind} {sp : Space}

/-- A load of half a state row. -/
theorem rdSt (A : View sig κ sp S64x64x128 .f32) (X : A.ty.Contents (Elt F)) {off : Fin 3 → ℕ} {r v0 : ℕ} (h : off = ![r, v0, 0])
    (inb : ∀ a, off a + S1x32x128.size a ≤ S64x64x128.size a) (z : Fin 1) (v : Fin 32) (l : Fin 128) (n m : Fin 64)
    (hn : n.val = r) (hm : m.val = v0 + v.val) :
    A.readAt (Elt F) (Rect.unit (s := S64x64x128) off S1x32x128.size inb).toLoadRect X (ix3 z v l) = A.read (Elt F) X (ix3 n m l) :=
  readAt_at A X inb h (ix3 z v l) (ix3 n m l) (fun a => by
    match a with
    | ⟨0, _⟩ => show n.val = r + z.val; omega
    | ⟨1, _⟩ => exact hm
    | ⟨2, _⟩ => exact (Nat.zero_add _).symm)

/-- A load of one row of one time of a block of rows. -/
theorem rdRow (A : View sig κ sp S32x64x128 .f32) (X : A.ty.Contents (Elt F)) {off : Fin 3 → ℕ} {t r : ℕ} (h : off = ![t, r, 0])
    (inb : ∀ a, off a + S1x1x128.size a ≤ S32x64x128.size a) (y z : Fin 1) (l : Fin 128) (tt : Fin 32) (n : Fin 64)
    (ht : tt.val = t) (hn : n.val = r) :
    A.readAt (Elt F) (Rect.unit (s := S32x64x128) off S1x1x128.size inb).toLoadRect X (ix3 y z l) = A.read (Elt F) X (ix3 tt n l) :=
  readAt_at A X inb h (ix3 y z l) (ix3 tt n l) (fun a => by
    match a with
    | ⟨0, _⟩ => show tt.val = t + y.val; omega
    | ⟨1, _⟩ => show n.val = r + z.val; omega
    | ⟨2, _⟩ => exact (Nat.zero_add _).symm)

/-- A load of half a value row of one time. -/
theorem rdVal (A : View sig κ sp S32x64x128 .f32) (X : A.ty.Contents (Elt F)) {off : Fin 3 → ℕ} {t v0 : ℕ} (h : off = ![t, v0, 0])
    (inb : ∀ a, off a + S1x32x128.size a ≤ S32x64x128.size a) (z : Fin 1) (v : Fin 32) (l : Fin 128) (tt : Fin 32) (n : Fin 64)
    (ht : tt.val = t) (hn : n.val = v0 + v.val) :
    A.readAt (Elt F) (Rect.unit (s := S32x64x128) off S1x32x128.size inb).toLoadRect X (ix3 z v l) = A.read (Elt F) X (ix3 tt n l) :=
  readAt_at A X inb h (ix3 z v l) (ix3 tt n l) (fun a => by
    match a with
    | ⟨0, _⟩ => show tt.val = t + z.val; omega
    | ⟨1, _⟩ => exact hn
    | ⟨2, _⟩ => exact (Nat.zero_add _).symm)

/-- A load of one row of one time of a block of decays. -/
theorem rdDec (A : View sig κ sp S1x32x64x128 .f32) (X : A.ty.Contents (Elt F)) {off : Fin 4 → ℕ} {t r : ℕ} (h : off = ![0, t, r, 0])
    (inb : ∀ a, off a + S1x1x1x128.size a ≤ S1x32x64x128.size a) (x y z : Fin 1) (l : Fin 128) (tt : Fin 32) (n : Fin 64)
    (ht : tt.val = t) (hn : n.val = r) :
    A.readAt (Elt F) (Rect.unit (s := S1x32x64x128) off S1x1x1x128.size inb).toLoadRect X (ix4 x y z l) = A.read (Elt F) X (ix4 (0 : Fin 1) tt n l) :=
  readAt_at A X inb h (ix4 x y z l) (ix4 (0 : Fin 1) tt n l) (fun a => by
    match a with
    | ⟨0, _⟩ => show (0 : ℕ) = 0 + x.val; omega
    | ⟨1, _⟩ => show tt.val = t + y.val; omega
    | ⟨2, _⟩ => show n.val = r + z.val; omega
    | ⟨3, _⟩ => exact (Nat.zero_add _).symm)

/-- Of a row number under 64, the row it names. -/
theorem ofNat_val {n : ℕ} (h : n < 64) : (Fin.ofNat 64 n).val = n := Nat.mod_eq_of_lt h

/-- Four stores of half a state row each: the stored rows read back the payloads. -/
theorem wr4_mem (A : View sig κ sp S64x64x128 .f32) (f : A.ty.Contents (Elt F)) {o0 o1 o2 o3 : Fin 3 → ℕ} {r v0 : ℕ}
    (h0 : o0 = ![r, v0, 0]) (h1 : o1 = ![r + 1, v0, 0]) (h2 : o2 = ![r + 2, v0, 0]) (h3 : o3 = ![r + 3, v0, 0])
    (i0 : ∀ a, o0 a + S1x32x128.size a ≤ S64x64x128.size a) (i1 : ∀ a, o1 a + S1x32x128.size a ≤ S64x64x128.size a)
    (i2 : ∀ a, o2 a + S1x32x128.size a ≤ S64x64x128.size a) (i3 : ∀ a, o3 a + S1x32x128.size a ≤ S64x64x128.size a)
    (w0 w1 w2 w3 : S1x32x128.Idx → F .f32) (a : ℕ) (ha : a < 4) (n m : Fin 64) (v : Fin 32) (l : Fin 128) (hn : n.val = r + a) (hm : m.val = v0 + v.val) :
    A.read (Elt F) (A.writes (Elt F) f
      [⟨Rect.unit (s := S64x64x128) o3 S1x32x128.size i3, w3⟩, ⟨Rect.unit (s := S64x64x128) o2 S1x32x128.size i2, w2⟩,
       ⟨Rect.unit (s := S64x64x128) o1 S1x32x128.size i1, w1⟩, ⟨Rect.unit (s := S64x64x128) o0 S1x32x128.size i0, w0⟩]) (ix3 n m l)
      = (match a with | 0 => w0 | 1 => w1 | 2 => w2 | _ => w3) (ix3 (0 : Fin 1) v l) := by
  have hx (b : ℕ) (hb : n.val = r + b) : ∀ c : Fin 3, ((ix3 n m l : S64x64x128.Idx) c).val = (![r + b, v0, 0] : Fin 3 → ℕ) c + ((ix3 (0 : Fin 1) v l : S1x32x128.Idx) c).val := fun c => by
    match c with
    | ⟨0, _⟩ => exact hb
    | ⟨1, _⟩ => exact hm
    | ⟨2, _⟩ => exact (Nat.zero_add _).symm
  have hne (b : ℕ) (hb : n.val ≠ r + b) : ((ix3 n m l : S64x64x128.Idx) 0).val < (![r + b, v0, 0] : Fin 3 → ℕ) 0 ∨ (![r + b, v0, 0] : Fin 3 → ℕ) 0 + S1x32x128.size 0 ≤ ((ix3 n m l : S64x64x128.Idx) 0).val := by
    show n.val < r + b ∨ r + b + 1 ≤ n.val
    omega
  match a, ha with
  | 3, _ => exact View.read_writes_cons_unit_of_mem A f i3 w3 _ _ (ix3 (0 : Fin 1) v l) h3 (hx 3 hn)
  | 2, _ =>
    rw [View.read_writes_cons_unit_of_not_mem A f i3 w3 _ _ h3 0 (hne 3 (by omega))]
    exact View.read_writes_cons_unit_of_mem A f i2 w2 _ _ (ix3 (0 : Fin 1) v l) h2 (hx 2 hn)
  | 1, _ =>
    rw [View.read_writes_cons_unit_of_not_mem A f i3 w3 _ _ h3 0 (hne 3 (by omega)),
      View.read_writes_cons_unit_of_not_mem A f i2 w2 _ _ h2 0 (hne 2 (by omega))]
    exact View.read_writes_cons_unit_of_mem A f i1 w1 _ _ (ix3 (0 : Fin 1) v l) h1 (hx 1 hn)
  | 0, _ =>
    rw [View.read_writes_cons_unit_of_not_mem A f i3 w3 _ _ h3 0 (hne 3 (by omega)),
      View.read_writes_cons_unit_of_not_mem A f i2 w2 _ _ h2 0 (hne 2 (by omega)),
      View.read_writes_cons_unit_of_not_mem A f i1 w1 _ _ h1 0 (hne 1 (by omega))]
    exact View.read_writes_cons_unit_of_mem A f i0 w0 _ _ (ix3 (0 : Fin 1) v l) h0 (hx 0 hn)

/-- Elsewhere they leave what was there. -/
theorem wr4_not_mem (A : View sig κ sp S64x64x128 .f32) (f : A.ty.Contents (Elt F)) {o0 o1 o2 o3 : Fin 3 → ℕ} {r v0 : ℕ}
    (h0 : o0 = ![r, v0, 0]) (h1 : o1 = ![r + 1, v0, 0]) (h2 : o2 = ![r + 2, v0, 0]) (h3 : o3 = ![r + 3, v0, 0])
    (i0 : ∀ a, o0 a + S1x32x128.size a ≤ S64x64x128.size a) (i1 : ∀ a, o1 a + S1x32x128.size a ≤ S64x64x128.size a)
    (i2 : ∀ a, o2 a + S1x32x128.size a ≤ S64x64x128.size a) (i3 : ∀ a, o3 a + S1x32x128.size a ≤ S64x64x128.size a)
    (w0 w1 w2 w3 : S1x32x128.Idx → F .f32) (n m : Fin 64) (l : Fin 128)
    (h : n.val < r ∨ r + 4 ≤ n.val ∨ m.val < v0 ∨ v0 + 32 ≤ m.val) :
    A.read (Elt F) (A.writes (Elt F) f
      [⟨Rect.unit (s := S64x64x128) o3 S1x32x128.size i3, w3⟩, ⟨Rect.unit (s := S64x64x128) o2 S1x32x128.size i2, w2⟩,
       ⟨Rect.unit (s := S64x64x128) o1 S1x32x128.size i1, w1⟩, ⟨Rect.unit (s := S64x64x128) o0 S1x32x128.size i0, w0⟩]) (ix3 n m l)
      = A.read (Elt F) f (ix3 n m l) := by
  have hne (b : ℕ) (hb : b < 4) : ∃ c : Fin 3, ((ix3 n m l : S64x64x128.Idx) c).val < (![r + b, v0, 0] : Fin 3 → ℕ) c ∨ (![r + b, v0, 0] : Fin 3 → ℕ) c + S1x32x128.size c ≤ ((ix3 n m l : S64x64x128.Idx) c).val := by
    by_cases hn : n.val < r ∨ r + 4 ≤ n.val
    · refine ⟨0, ?_⟩
      show n.val < r + b ∨ r + b + 1 ≤ n.val
      omega
    · refine ⟨1, ?_⟩
      show m.val < v0 ∨ v0 + 32 ≤ m.val
      omega
  obtain ⟨c0, g0⟩ := hne 0 (by decide)
  obtain ⟨c1, g1⟩ := hne 1 (by decide)
  obtain ⟨c2, g2⟩ := hne 2 (by decide)
  obtain ⟨c3, g3⟩ := hne 3 (by decide)
  rw [View.read_writes_cons_unit_of_not_mem A f i3 w3 _ _ h3 c3 g3,
    View.read_writes_cons_unit_of_not_mem A f i2 w2 _ _ h2 c2 g2,
    View.read_writes_cons_unit_of_not_mem A f i1 w1 _ _ h1 c1 g1,
    View.read_writes_cons_unit_of_not_mem A f i0 w0 _ _ h0 c0 g0, View.writes_nil]

end Reads

end Cert.KernelIdeal.Scan

end
-- ==== Proof.Scan.Upd.lean ====
/- The two loops of a step that renew the state: after `k` trips the first `4 * k` key rows of the half hold their new
   entries, the rest is as found, and each of the four accumulators holds its terms of the output so far. -/
module

public import proofs.«01_k».proof.Proof.Scan.Spec

@[expose] public section

set_option maxRecDepth 16384

noncomputable section

namespace Cert.KernelIdeal.Scan

open Idealize.ShloMosaic Idealize.ShloMosaic.TcCoe Idealize.ShloMosaic.Tactic
open Cert.KernelIdeal.Gen

variable {F : FTy → Type} [FloatOps F]

variable (𝒱 : Variants) (c : Dev nD) (bd : Option 𝒱.V) (i : grid0.Coords)
  (arg2 : Memref sig .tc .vmem S32x64x128 .f32) (harg2 : arg2.IsWhole)
  (arg3 : Memref sig .tc .vmem S1x32x64x128 .f32) (harg3 : arg3.IsWhole)
  (arg4 : Memref sig .tc .vmem S32x64x128 .f32) (harg4 : arg4.IsWhole)
  (arg5 : Memref sig .tc .vmem S32x64x128 .f32) (harg5 : arg5.IsWhole)
  (arg6 : Memref sig .tc .vmem S32x64x128 .f32) (harg6 : arg6.IsWhole)
  (arg7 : Memref sig .tc .vmem S32x64x128 .f32) (harg7 : arg7.IsWhole)
  (arg8 : Memref sig .tc .vmem S1x64x64x128 .f32) (harg8 : arg8.IsWhole)
  (arg9 : Memref sig .tc .vmem S1x32x64x128 .f32) (harg9 : arg9.IsWhole)
  (arg10 : Memref sig .tc .vmem S1x64x64x128 .f32) (harg10 : arg10.IsWhole)
  (arg11 : Memref sig .tc .vmem S64x64x128 .f32) (harg11 : arg11.IsWhole)

/-- The new entry of key row `n` in the first half, from the entries `f` holds. -/
def new3 (i : grid0.Coords) (arg3 : Memref sig .tc .vmem S1x32x64x128 .f32) (arg5 arg6 : Memref sig .tc .vmem S32x64x128 .f32)
    (arg11 : Memref sig .tc .vmem S64x64x128 .f32) (t1 : Fin k0_t1_loop.trips) (X3 : BufTy.Contents (Elt F) arg3.view.ty)
    (X5 : BufTy.Contents (Elt F) arg5.view.ty) (X6 : BufTy.Contents (Elt F) arg6.view.ty) (f : BufTy.Contents (Elt F) arg11.view.ty)
    (vt sa : FVec F S32x128 .f32) (v : Fin 32) (l : Fin 128) (n : ℕ) : F .f32 :=
  upd (arg11.view.read (Elt F) f (ix3 (Fin.ofNat 64 n) (lo v) l)) (arg3.view.read (Elt F) X3 (ix4 (0 : Fin 1) (row (dir i) t1) (Fin.ofNat 64 n) l))
    (arg6.view.read (Elt F) X6 (ix3 (row (dir i) t1) (Fin.ofNat 64 n) l)) (arg5.view.read (Elt F) X5 (ix3 (row (dir i) t1) (Fin.ofNat 64 n) l))
    (vt (ix2 v l)) (sa (ix2 v l))

/-- The term of the output that key row `n` adds. -/
def outTerm3 (i : grid0.Coords) (arg2 : Memref sig .tc .vmem S32x64x128 .f32) (arg3 : Memref sig .tc .vmem S1x32x64x128 .f32) (arg5 arg6 : Memref sig .tc .vmem S32x64x128 .f32)
    (arg11 : Memref sig .tc .vmem S64x64x128 .f32) (t1 : Fin k0_t1_loop.trips) (X2 : BufTy.Contents (Elt F) arg2.view.ty) (X3 : BufTy.Contents (Elt F) arg3.view.ty)
    (X5 : BufTy.Contents (Elt F) arg5.view.ty) (X6 : BufTy.Contents (Elt F) arg6.view.ty) (f : BufTy.Contents (Elt F) arg11.view.ty)
    (vt sa : FVec F S32x128 .f32) (v : Fin 32) (l : Fin 128) (n : ℕ) : F .f32 :=
  FloatOps.mulf (new3 i arg3 arg5 arg6 arg11 t1 X3 X5 X6 f vt sa v l n) (arg2.view.read (Elt F) X2 (ix3 (row (dir i) t1) (Fin.ofNat 64 n) l))

/-- One trip adds, to each of the four accumulators, its term. -/
theorem updTripR3 (arg0 c0 c1 : BitVec 32) (t1 : Fin k0_t1_loop.trips) (v10 : BitVec 32) (v12 : Vec F S1x32x128 .f32) (q0 q1 q2 q3 : FVec F S32x128 .f32) (X2 : BufTy.Contents (Elt F) arg2.view.ty) (X3 : BufTy.Contents (Elt F) arg3.view.ty)
    (X5 : BufTy.Contents (Elt F) arg5.view.ty) (X6 : BufTy.Contents (Elt F) arg6.view.ty)
    (k : Fin k0_t3_loop.trips) (a : Acc F) (f : BufTy.Contents (Elt F) arg11.view.ty) (v : Fin 32) (l : Fin 128) :
    let R := tripR_k0_t3 𝒱 c bd i arg2 harg2 arg3 harg3 arg4 harg4 arg5 harg5 arg6 harg6 arg7 harg7 arg8 harg8 arg9 harg9 arg10 harg10 arg11 harg11 arg0 c0 c1 t1 v10 v12 q0 q1 q2 q3 X2 X3 X5 X6 k a f
    let g := outTerm3 i arg2 arg3 arg5 arg6 arg11 t1 X2 X3 X5 X6 f (k0_pay39 v12) (k0_pay42 q0 q1 q2 q3) v l
    R.1 (ix2 v l) = FloatOps.addf (a.1 (ix2 v l)) (g (4 * k.val + 0))
    ∧ R.2.1 (ix2 v l) = FloatOps.addf (a.2.1 (ix2 v l)) (g (4 * k.val + 1))
    ∧ R.2.2.1 (ix2 v l) = FloatOps.addf (a.2.2.1 (ix2 v l)) (g (4 * k.val + 2))
    ∧ R.2.2.2 (ix2 v l) = FloatOps.addf (a.2.2.2 (ix2 v l)) (g (4 * k.val + 3)) := by
  have hk : k.val < 16 := k.isLt
  have hd (a : ℕ) (ha : a < 4) : (Fin.ofNat 64 (4 * k.val + a)).val = 4 * k.val + a := ofNat_val (by omega)
  unfold tripR_k0_t3 trip_k0_t3
  dsimp only
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.v94, trip_k0_t3.sl.v130, trip_k0_t3.sl.v166]
  pointwise [k0_pay11, k0_pay15, k0_pay20, k0_pay43, k0_pay12, k0_pay16, k0_pay21, k0_pay44, k0_pay10, k0_pay13, k0_pay14, k0_pay17, k0_pay18, k0_pay19, k0_pay22]
  exact ⟨congrArg (FloatOps.addf _) (congrArg₂ FloatOps.mulf (upd_congr (rdSt arg11.view f (off4_eq k 0) _ _ _ _ _ _ (hd 0 (by decide)) (Nat.zero_add _).symm) (rdDec arg3.view X3 (off5_eq i t1 k 0) _ _ _ _ _ _ _ rfl (hd 0 (by decide))) (rdRow arg6.view X6 (off6_eq i t1 k 0) _ _ _ _ _ _ rfl (hd 0 (by decide))) (rdRow arg5.view X5 (off6_eq i t1 k 0) _ _ _ _ _ _ rfl (hd 0 (by decide)))) (rdRow arg2.view X2 (off6_eq i t1 k 0) _ _ _ _ _ _ rfl (hd 0 (by decide)))),
    congrArg (FloatOps.addf _) (congrArg₂ FloatOps.mulf (upd_congr (rdSt arg11.view f (off4_eq k 1) _ _ _ _ _ _ (hd 1 (by decide)) (Nat.zero_add _).symm) (rdDec arg3.view X3 (off5_eq i t1 k 1) _ _ _ _ _ _ _ rfl (hd 1 (by decide))) (rdRow arg6.view X6 (off6_eq i t1 k 1) _ _ _ _ _ _ rfl (hd 1 (by decide))) (rdRow arg5.view X5 (off6_eq i t1 k 1) _ _ _ _ _ _ rfl (hd 1 (by decide)))) (rdRow arg2.view X2 (off6_eq i t1 k 1) _ _ _ _ _ _ rfl (hd 1 (by decide)))),
    congrArg (FloatOps.addf _) (congrArg₂ FloatOps.mulf (upd_congr (rdSt arg11.view f (off4_eq k 2) _ _ _ _ _ _ (hd 2 (by decide)) (Nat.zero_add _).symm) (rdDec arg3.view X3 (off5_eq i t1 k 2) _ _ _ _ _ _ _ rfl (hd 2 (by decide))) (rdRow arg6.view X6 (off6_eq i t1 k 2) _ _ _ _ _ _ rfl (hd 2 (by decide))) (rdRow arg5.view X5 (off6_eq i t1 k 2) _ _ _ _ _ _ rfl (hd 2 (by decide)))) (rdRow arg2.view X2 (off6_eq i t1 k 2) _ _ _ _ _ _ rfl (hd 2 (by decide)))),
    congrArg (FloatOps.addf _) (congrArg₂ FloatOps.mulf (upd_congr (rdSt arg11.view f (off4_eq k 3) _ _ _ _ _ _ (hd 3 (by decide)) (Nat.zero_add _).symm) (rdDec arg3.view X3 (off5_eq i t1 k 3) _ _ _ _ _ _ _ rfl (hd 3 (by decide))) (rdRow arg6.view X6 (off6_eq i t1 k 3) _ _ _ _ _ _ rfl (hd 3 (by decide))) (rdRow arg5.view X5 (off6_eq i t1 k 3) _ _ _ _ _ _ rfl (hd 3 (by decide)))) (rdRow arg2.view X2 (off6_eq i t1 k 3) _ _ _ _ _ _ rfl (hd 3 (by decide))))⟩

/-- One trip stores the new entries of its four key rows. -/
theorem updTripL3_mem (arg0 c0 c1 : BitVec 32) (t1 : Fin k0_t1_loop.trips) (v10 : BitVec 32) (v12 : Vec F S1x32x128 .f32) (q0 q1 q2 q3 : FVec F S32x128 .f32) (X2 : BufTy.Contents (Elt F) arg2.view.ty) (X3 : BufTy.Contents (Elt F) arg3.view.ty)
    (X5 : BufTy.Contents (Elt F) arg5.view.ty) (X6 : BufTy.Contents (Elt F) arg6.view.ty)
    (k : Fin k0_t3_loop.trips) (a : Acc F) (f g : BufTy.Contents (Elt F) arg11.view.ty) (b : ℕ) (hb : b < 4) (v : Fin 32) (l : Fin 128) :
    arg11.view.read (Elt F) (arg11.view.writes (Elt F) g (tripL_k0_t3 𝒱 c bd i arg2 harg2 arg3 harg3 arg4 harg4 arg5 harg5 arg6 harg6 arg7 harg7 arg8 harg8 arg9 harg9 arg10 harg10 arg11 harg11 arg0 c0 c1 t1 v10 v12 q0 q1 q2 q3 X2 X3 X5 X6 k a f))
        (ix3 (Fin.ofNat 64 (4 * k.val + b)) (lo v) l)
      = new3 i arg3 arg5 arg6 arg11 t1 X3 X5 X6 f (k0_pay39 v12) (k0_pay42 q0 q1 q2 q3) v l (4 * k.val + b) := by
  have hk : k.val < 16 := k.isLt
  have hd (a : ℕ) (ha : a < 4) : (Fin.ofNat 64 (4 * k.val + a)).val = 4 * k.val + a := ofNat_val (by omega)
  unfold tripL_k0_t3 trip_k0_t3
  dsimp only
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.v94, trip_k0_t3.sl.v130, trip_k0_t3.sl.v166]
  refine (wr4_mem arg11.view g (off4_eq k 0) (off4_eq k 1) (off4_eq k 2) (off4_eq k 3) _ _ _ _ _ _ _ _ b hb _ _ v l (hd b hb) (Nat.zero_add _).symm).trans ?_
  match b, hb with
  | 0, _ =>
    pointwise [k0_pay11, k0_pay15, k0_pay20, k0_pay43, k0_pay12, k0_pay16, k0_pay21, k0_pay44, k0_pay10, k0_pay13, k0_pay14, k0_pay17, k0_pay18, k0_pay19, k0_pay22]
    exact (upd_congr (rdSt arg11.view f (off4_eq k 0) _ _ _ _ _ _ (hd 0 (by decide)) (Nat.zero_add _).symm) (rdDec arg3.view X3 (off5_eq i t1 k 0) _ _ _ _ _ _ _ rfl (hd 0 (by decide))) (rdRow arg6.view X6 (off6_eq i t1 k 0) _ _ _ _ _ _ rfl (hd 0 (by decide))) (rdRow arg5.view X5 (off6_eq i t1 k 0) _ _ _ _ _ _ rfl (hd 0 (by decide))))
  | 1, _ =>
    pointwise [k0_pay11, k0_pay15, k0_pay20, k0_pay43, k0_pay12, k0_pay16, k0_pay21, k0_pay44, k0_pay10, k0_pay13, k0_pay14, k0_pay17, k0_pay18, k0_pay19, k0_pay22]
    exact (upd_congr (rdSt arg11.view f (off4_eq k 1) _ _ _ _ _ _ (hd 1 (by decide)) (Nat.zero_add _).symm) (rdDec arg3.view X3 (off5_eq i t1 k 1) _ _ _ _ _ _ _ rfl (hd 1 (by decide))) (rdRow arg6.view X6 (off6_eq i t1 k 1) _ _ _ _ _ _ rfl (hd 1 (by decide))) (rdRow arg5.view X5 (off6_eq i t1 k 1) _ _ _ _ _ _ rfl (hd 1 (by decide))))
  | 2, _ =>
    pointwise [k0_pay11, k0_pay15, k0_pay20, k0_pay43, k0_pay12, k0_pay16, k0_pay21, k0_pay44, k0_pay10, k0_pay13, k0_pay14, k0_pay17, k0_pay18, k0_pay19, k0_pay22]
    exact (upd_congr (rdSt arg11.view f (off4_eq k 2) _ _ _ _ _ _ (hd 2 (by decide)) (Nat.zero_add _).symm) (rdDec arg3.view X3 (off5_eq i t1 k 2) _ _ _ _ _ _ _ rfl (hd 2 (by decide))) (rdRow arg6.view X6 (off6_eq i t1 k 2) _ _ _ _ _ _ rfl (hd 2 (by decide))) (rdRow arg5.view X5 (off6_eq i t1 k 2) _ _ _ _ _ _ rfl (hd 2 (by decide))))
  | 3, _ =>
    pointwise [k0_pay11, k0_pay15, k0_pay20, k0_pay43, k0_pay12, k0_pay16, k0_pay21, k0_pay44, k0_pay10, k0_pay13, k0_pay14, k0_pay17, k0_pay18, k0_pay19, k0_pay22]
    exact (upd_congr (rdSt arg11.view f (off4_eq k 3) _ _ _ _ _ _ (hd 3 (by decide)) (Nat.zero_add _).symm) (rdDec arg3.view X3 (off5_eq i t1 k 3) _ _ _ _ _ _ _ rfl (hd 3 (by decide))) (rdRow arg6.view X6 (off6_eq i t1 k 3) _ _ _ _ _ _ rfl (hd 3 (by decide))) (rdRow arg5.view X5 (off6_eq i t1 k 3) _ _ _ _ _ _ rfl (hd 3 (by decide))))

/-- One trip leaves every other entry. -/
theorem updTripL3_not_mem (arg0 c0 c1 : BitVec 32) (t1 : Fin k0_t1_loop.trips) (v10 : BitVec 32) (v12 : Vec F S1x32x128 .f32) (q0 q1 q2 q3 : FVec F S32x128 .f32) (X2 : BufTy.Contents (Elt F) arg2.view.ty) (X3 : BufTy.Contents (Elt F) arg3.view.ty)
    (X5 : BufTy.Contents (Elt F) arg5.view.ty) (X6 : BufTy.Contents (Elt F) arg6.view.ty)
    (k : Fin k0_t3_loop.trips) (a : Acc F) (f g : BufTy.Contents (Elt F) arg11.view.ty) (n m : Fin 64) (l : Fin 128)
    (h : n.val < 4 * k.val ∨ 4 * k.val + 4 ≤ n.val ∨ m.val < 0 ∨ 0 + 32 ≤ m.val) :
    arg11.view.read (Elt F) (arg11.view.writes (Elt F) g (tripL_k0_t3 𝒱 c bd i arg2 harg2 arg3 harg3 arg4 harg4 arg5 harg5 arg6 harg6 arg7 harg7 arg8 harg8 arg9 harg9 arg10 harg10 arg11 harg11 arg0 c0 c1 t1 v10 v12 q0 q1 q2 q3 X2 X3 X5 X6 k a f)) (ix3 n m l)
      = arg11.view.read (Elt F) g (ix3 n m l) := by
  unfold tripL_k0_t3 trip_k0_t3
  dsimp only
  exact wr4_not_mem arg11.view g (off4_eq k 0) (off4_eq k 1) (off4_eq k 2) (off4_eq k 3) _ _ _ _ _ _ _ _ n m l h

/-- After `k` trips over contents `f`: the accumulators, the rows renewed so far, and the rest as found. -/
theorem updAcc3 (arg0 c0 c1 : BitVec 32) (t1 : Fin k0_t1_loop.trips) (v10 : BitVec 32) (v12 : Vec F S1x32x128 .f32) (q0 q1 q2 q3 : FVec F S32x128 .f32) (X2 : BufTy.Contents (Elt F) arg2.view.ty) (X3 : BufTy.Contents (Elt F) arg3.view.ty)
    (X5 : BufTy.Contents (Elt F) arg5.view.ty) (X6 : BufTy.Contents (Elt F) arg6.view.ty) (f : BufTy.Contents (Elt F) arg11.view.ty) (z : FVec F S32x128 .f32) (hz : ∀ j, z j = zero) (k : ℕ) (hk : k ≤ 16) :
    let R := st_k0_t3 𝒱 c bd i arg2 harg2 arg3 harg3 arg4 harg4 arg5 harg5 arg6 harg6 arg7 harg7 arg8 harg8 arg9 harg9 arg10 harg10 arg11 harg11 arg0 c0 c1 t1 v10 v12 q0 q1 q2 q3 X2 X3 X5 X6 f (z, z, z, z) k
    (∀ (v : Fin 32) (l : Fin 128), let g := outTerm3 i arg2 arg3 arg5 arg6 arg11 t1 X2 X3 X5 X6 f (k0_pay39 v12) (k0_pay42 q0 q1 q2 q3) v l
      R.1.1 (ix2 v l) = acc g 0 k ∧ R.1.2.1 (ix2 v l) = acc g 1 k ∧ R.1.2.2.1 (ix2 v l) = acc g 2 k ∧ R.1.2.2.2 (ix2 v l) = acc g 3 k)
    ∧ (∀ (n : ℕ) (v : Fin 32) (l : Fin 128), n < 4 * k → arg11.view.read (Elt F) (arg11.view.writes (Elt F) f R.2) (ix3 (Fin.ofNat 64 n) (lo v) l)
        = new3 i arg3 arg5 arg6 arg11 t1 X3 X5 X6 f (k0_pay39 v12) (k0_pay42 q0 q1 q2 q3) v l n)
    ∧ (∀ (n m : Fin 64) (l : Fin 128), (4 * k ≤ n.val ∨ 32 ≤ m.val) → arg11.view.read (Elt F) (arg11.view.writes (Elt F) f R.2) (ix3 n m l)
        = arg11.view.read (Elt F) f (ix3 n m l)) := by
  induction k with
  | zero => exact ⟨fun v l => ⟨hz _, hz _, hz _, hz _⟩, fun n v l h => absurd h (by omega), fun n m l h => rfl⟩
  | succ k ih =>
    obtain ⟨ih1, ih2, ih3⟩ := ih (by omega)
    have hs := st_k0_t3_succ 𝒱 c bd i arg2 harg2 arg3 harg3 arg4 harg4 arg5 harg5 arg6 harg6 arg7 harg7 arg8 harg8 arg9 harg9 arg10 harg10 arg11 harg11 arg0 c0 c1 t1 v10 v12 q0 q1 q2 q3 X2 X3 X5 X6 f (z, z, z, z) ⟨k, hk⟩
    generalize hR : st_k0_t3 𝒱 c bd i arg2 harg2 arg3 harg3 arg4 harg4 arg5 harg5 arg6 harg6 arg7 harg7 arg8 harg8 arg9 harg9 arg10 harg10 arg11 harg11 arg0 c0 c1 t1 v10 v12 q0 q1 q2 q3 X2 X3 X5 X6 f (z, z, z, z) k = R at ih1 ih2 ih3 hs
    have ht := updTripR3 𝒱 c bd i arg2 harg2 arg3 harg3 arg4 harg4 arg5 harg5 arg6 harg6 arg7 harg7 arg8 harg8 arg9 harg9 arg10 harg10 arg11 harg11 arg0 c0 c1 t1 v10 v12 q0 q1 q2 q3 X2 X3 X5 X6 ⟨k, hk⟩ R.1 (arg11.view.writes (Elt F) f R.2)
    have hm := updTripL3_mem 𝒱 c bd i arg2 harg2 arg3 harg3 arg4 harg4 arg5 harg5 arg6 harg6 arg7 harg7 arg8 harg8 arg9 harg9 arg10 harg10 arg11 harg11 arg0 c0 c1 t1 v10 v12 q0 q1 q2 q3 X2 X3 X5 X6 ⟨k, hk⟩ R.1 (arg11.view.writes (Elt F) f R.2) (arg11.view.writes (Elt F) f R.2)
    have hn := updTripL3_not_mem 𝒱 c bd i arg2 harg2 arg3 harg3 arg4 harg4 arg5 harg5 arg6 harg6 arg7 harg7 arg8 harg8 arg9 harg9 arg10 harg10 arg11 harg11 arg0 c0 c1 t1 v10 v12 q0 q1 q2 q3 X2 X3 X5 X6 ⟨k, hk⟩ R.1 (arg11.view.writes (Elt F) f R.2) (arg11.view.writes (Elt F) f R.2)
    have hd (a : ℕ) (ha : a < 4) : (Fin.ofNat 64 (4 * k + a)).val = 4 * k + a := ofNat_val (by omega)
    -- the trip reads rows that no earlier trip stored
    have hf (a : ℕ) (ha : a < 4) (v : Fin 32) (l : Fin 128) :
        arg11.view.read (Elt F) (arg11.view.writes (Elt F) f R.2) (ix3 (Fin.ofNat 64 (4 * k + a)) (lo v) l)
          = arg11.view.read (Elt F) f (ix3 (Fin.ofNat 64 (4 * k + a)) (lo v) l) := ih3 _ _ l (.inl (by rw [hd a ha]; omega))
    have hnew (a : ℕ) (ha : a < 4) (v : Fin 32) (l : Fin 128) :
        new3 i arg3 arg5 arg6 arg11 t1 X3 X5 X6 (arg11.view.writes (Elt F) f R.2) (k0_pay39 v12) (k0_pay42 q0 q1 q2 q3) v l (4 * k + a)
          = new3 i arg3 arg5 arg6 arg11 t1 X3 X5 X6 f (k0_pay39 v12) (k0_pay42 q0 q1 q2 q3) v l (4 * k + a) := by
      unfold new3; rw [hf a ha v l]
    have hout (a : ℕ) (ha : a < 4) (v : Fin 32) (l : Fin 128) :
        outTerm3 i arg2 arg3 arg5 arg6 arg11 t1 X2 X3 X5 X6 (arg11.view.writes (Elt F) f R.2) (k0_pay39 v12) (k0_pay42 q0 q1 q2 q3) v l (4 * k + a)
          = outTerm3 i arg2 arg3 arg5 arg6 arg11 t1 X2 X3 X5 X6 f (k0_pay39 v12) (k0_pay42 q0 q1 q2 q3) v l (4 * k + a) := by
      unfold outTerm3; rw [hnew a ha v l]
    dsimp only at hs ht hm hn ⊢
    rw [hs]
    dsimp only
    rw [View.writes_append]
    refine ⟨fun v l => ?_, fun n v l h => ?_, fun n m l h => ?_⟩
    · have h0 := ih1 v l
      have h1 := ht v l
      rw [hout 0 (by decide), hout 1 (by decide), hout 2 (by decide), hout 3 (by decide)] at h1
      dsimp only at h0
      rw [h0.1, h0.2.1, h0.2.2.1, h0.2.2.2] at h1
      exact h1
    · by_cases hlt : n < 4 * k
      · rw [hn _ _ l (.inl (by rw [ofNat_val (by omega)]; exact hlt))]
        exact ih2 n v l hlt
      · obtain ⟨a, ha, rfl⟩ : ∃ a, a < 4 ∧ n = 4 * k + a := ⟨n - 4 * k, by omega, by omega⟩
        rw [hm a ha v l]
        exact hnew a ha v l
    · rw [hn n m l (by omega)]
      exact ih3 n m l (by omega)

/-- The new entry of key row `n` in the second half, from the entries `f` holds. -/
def new5 (i : grid0.Coords) (arg3 : Memref sig .tc .vmem S1x32x64x128 .f32) (arg5 arg6 : Memref sig .tc .vmem S32x64x128 .f32)
    (arg11 : Memref sig .tc .vmem S64x64x128 .f32) (t1 : Fin k0_t1_loop.trips) (X3 : BufTy.Contents (Elt F) arg3.view.ty)
    (X5 : BufTy.Contents (Elt F) arg5.view.ty) (X6 : BufTy.Contents (Elt F) arg6.view.ty) (f : BufTy.Contents (Elt F) arg11.view.ty)
    (vt sa : FVec F S32x128 .f32) (v : Fin 32) (l : Fin 128) (n : ℕ) : F .f32 :=
  upd (arg11.view.read (Elt F) f (ix3 (Fin.ofNat 64 n) (hi v) l)) (arg3.view.read (Elt F) X3 (ix4 (0 : Fin 1) (row (dir i) t1) (Fin.ofNat 64 n) l))
    (arg6.view.read (Elt F) X6 (ix3 (row (dir i) t1) (Fin.ofNat 64 n) l)) (arg5.view.read (Elt F) X5 (ix3 (row (dir i) t1) (Fin.ofNat 64 n) l))
    (vt (ix2 v l)) (sa (ix2 v l))

/-- The term of the output that key row `n` adds. -/
def outTerm5 (i : grid0.Coords) (arg2 : Memref sig .tc .vmem S32x64x128 .f32) (arg3 : Memref sig .tc .vmem S1x32x64x128 .f32) (arg5 arg6 : Memref sig .tc .vmem S32x64x128 .f32)
    (arg11 : Memref sig .tc .vmem S64x64x128 .f32) (t1 : Fin k0_t1_loop.trips) (X2 : BufTy.Contents (Elt F) arg2.view.ty) (X3 : BufTy.Contents (Elt F) arg3.view.ty)
    (X5 : BufTy.Contents (Elt F) arg5.view.ty) (X6 : BufTy.Contents (Elt F) arg6.view.ty) (f : BufTy.Contents (Elt F) arg11.view.ty)
    (vt sa : FVec F S32x128 .f32) (v : Fin 32) (l : Fin 128) (n : ℕ) : F .f32 :=
  FloatOps.mulf (new5 i arg3 arg5 arg6 arg11 t1 X3 X5 X6 f vt sa v l n) (arg2.view.read (Elt F) X2 (ix3 (row (dir i) t1) (Fin.ofNat 64 n) l))

/-- One trip adds, to each of the four accumulators, its term. -/
theorem updTripR5 (t1 : Fin k0_t1_loop.trips) (v10 : BitVec 32) (vt q0 q1 q2 q3 : FVec F S32x128 .f32) (cst : F .f32) (X2 : BufTy.Contents (Elt F) arg2.view.ty) (X3 : BufTy.Contents (Elt F) arg3.view.ty)
    (X5 : BufTy.Contents (Elt F) arg5.view.ty) (X6 : BufTy.Contents (Elt F) arg6.view.ty)
    (k : Fin k0_t5_loop.trips) (a : Acc F) (f : BufTy.Contents (Elt F) arg11.view.ty) (v : Fin 32) (l : Fin 128) :
    let R := tripR_k0_t5 𝒱 c bd i arg2 harg2 arg3 harg3 arg4 harg4 arg5 harg5 arg6 harg6 arg7 harg7 arg8 harg8 arg9 harg9 arg10 harg10 arg11 harg11 t1 v10 vt q0 q1 q2 q3 cst X2 X3 X5 X6 k a f
    let g := outTerm5 i arg2 arg3 arg5 arg6 arg11 t1 X2 X3 X5 X6 f (vt) (k0_pay2 q0 q1 q2 q3 cst) v l
    R.1 (ix2 v l) = FloatOps.addf (a.1 (ix2 v l)) (g (4 * k.val + 0))
    ∧ R.2.1 (ix2 v l) = FloatOps.addf (a.2.1 (ix2 v l)) (g (4 * k.val + 1))
    ∧ R.2.2.1 (ix2 v l) = FloatOps.addf (a.2.2.1 (ix2 v l)) (g (4 * k.val + 2))
    ∧ R.2.2.2 (ix2 v l) = FloatOps.addf (a.2.2.2 (ix2 v l)) (g (4 * k.val + 3)) := by
  have hk : k.val < 16 := k.isLt
  have hd (a : ℕ) (ha : a < 4) : (Fin.ofNat 64 (4 * k.val + a)).val = 4 * k.val + a := ofNat_val (by omega)
  unfold tripR_k0_t5 trip_k0_t5
  dsimp only
  simp only [trip_k0_t5.sl.r, trip_k0_t5.sl.r_1, trip_k0_t5.sl.r_2, trip_k0_t5.sl.r_3, trip_k0_t5.sl.r_4, trip_k0_t5.sl.r_5, trip_k0_t5.sl.r_6, trip_k0_t5.sl.v94, trip_k0_t5.sl.v130, trip_k0_t5.sl.v166]
  pointwise [k0_pay27, k0_pay31, k0_pay36, k0_pay3, k0_pay28, k0_pay32, k0_pay37, k0_pay4, k0_pay26, k0_pay29, k0_pay30, k0_pay33, k0_pay34, k0_pay35, k0_pay38]
  exact ⟨congrArg (FloatOps.addf _) (congrArg₂ FloatOps.mulf (upd_congr (rdSt arg11.view f (off11_eq k 0) _ _ _ _ _ _ (hd 0 (by decide)) rfl) (rdDec arg3.view X3 (off12_eq i t1 k 0) _ _ _ _ _ _ _ rfl (hd 0 (by decide))) (rdRow arg6.view X6 (off13_eq i t1 k 0) _ _ _ _ _ _ rfl (hd 0 (by decide))) (rdRow arg5.view X5 (off13_eq i t1 k 0) _ _ _ _ _ _ rfl (hd 0 (by decide)))) (rdRow arg2.view X2 (off13_eq i t1 k 0) _ _ _ _ _ _ rfl (hd 0 (by decide)))),
    congrArg (FloatOps.addf _) (congrArg₂ FloatOps.mulf (upd_congr (rdSt arg11.view f (off11_eq k 1) _ _ _ _ _ _ (hd 1 (by decide)) rfl) (rdDec arg3.view X3 (off12_eq i t1 k 1) _ _ _ _ _ _ _ rfl (hd 1 (by decide))) (rdRow arg6.view X6 (off13_eq i t1 k 1) _ _ _ _ _ _ rfl (hd 1 (by decide))) (rdRow arg5.view X5 (off13_eq i t1 k 1) _ _ _ _ _ _ rfl (hd 1 (by decide)))) (rdRow arg2.view X2 (off13_eq i t1 k 1) _ _ _ _ _ _ rfl (hd 1 (by decide)))),
    congrArg (FloatOps.addf _) (congrArg₂ FloatOps.mulf (upd_congr (rdSt arg11.view f (off11_eq k 2) _ _ _ _ _ _ (hd 2 (by decide)) rfl) (rdDec arg3.view X3 (off12_eq i t1 k 2) _ _ _ _ _ _ _ rfl (hd 2 (by decide))) (rdRow arg6.view X6 (off13_eq i t1 k 2) _ _ _ _ _ _ rfl (hd 2 (by decide))) (rdRow arg5.view X5 (off13_eq i t1 k 2) _ _ _ _ _ _ rfl (hd 2 (by decide)))) (rdRow arg2.view X2 (off13_eq i t1 k 2) _ _ _ _ _ _ rfl (hd 2 (by decide)))),
    congrArg (FloatOps.addf _) (congrArg₂ FloatOps.mulf (upd_congr (rdSt arg11.view f (off11_eq k 3) _ _ _ _ _ _ (hd 3 (by decide)) rfl) (rdDec arg3.view X3 (off12_eq i t1 k 3) _ _ _ _ _ _ _ rfl (hd 3 (by decide))) (rdRow arg6.view X6 (off13_eq i t1 k 3) _ _ _ _ _ _ rfl (hd 3 (by decide))) (rdRow arg5.view X5 (off13_eq i t1 k 3) _ _ _ _ _ _ rfl (hd 3 (by decide)))) (rdRow arg2.view X2 (off13_eq i t1 k 3) _ _ _ _ _ _ rfl (hd 3 (by decide))))⟩

/-- One trip stores the new entries of its four key rows. -/
theorem updTripL5_mem (t1 : Fin k0_t1_loop.trips) (v10 : BitVec 32) (vt q0 q1 q2 q3 : FVec F S32x128 .f32) (cst : F .f32) (X2 : BufTy.Contents (Elt F) arg2.view.ty) (X3 : BufTy.Contents (Elt F) arg3.view.ty)
    (X5 : BufTy.Contents (Elt F) arg5.view.ty) (X6 : BufTy.Contents (Elt F) arg6.view.ty)
    (k : Fin k0_t5_loop.trips) (a : Acc F) (f g : BufTy.Contents (Elt F) arg11.view.ty) (b : ℕ) (hb : b < 4) (v : Fin 32) (l : Fin 128) :
    arg11.view.read (Elt F) (arg11.view.writes (Elt F) g (tripL_k0_t5 𝒱 c bd i arg2 harg2 arg3 harg3 arg4 harg4 arg5 harg5 arg6 harg6 arg7 harg7 arg8 harg8 arg9 harg9 arg10 harg10 arg11 harg11 t1 v10 vt q0 q1 q2 q3 cst X2 X3 X5 X6 k a f))
        (ix3 (Fin.ofNat 64 (4 * k.val + b)) (hi v) l)
      = new5 i arg3 arg5 arg6 arg11 t1 X3 X5 X6 f (vt) (k0_pay2 q0 q1 q2 q3 cst) v l (4 * k.val + b) := by
  have hk : k.val < 16 := k.isLt
  have hd (a : ℕ) (ha : a < 4) : (Fin.ofNat 64 (4 * k.val + a)).val = 4 * k.val + a := ofNat_val (by omega)
  unfold tripL_k0_t5 trip_k0_t5
  dsimp only
  simp only [trip_k0_t5.sl.r, trip_k0_t5.sl.r_1, trip_k0_t5.sl.r_2, trip_k0_t5.sl.r_3, trip_k0_t5.sl.r_4, trip_k0_t5.sl.r_5, trip_k0_t5.sl.r_6, trip_k0_t5.sl.v94, trip_k0_t5.sl.v130, trip_k0_t5.sl.v166]
  refine (wr4_mem arg11.view g (off11_eq k 0) (off11_eq k 1) (off11_eq k 2) (off11_eq k 3) _ _ _ _ _ _ _ _ b hb _ _ v l (hd b hb) rfl).trans ?_
  match b, hb with
  | 0, _ =>
    pointwise [k0_pay27, k0_pay31, k0_pay36, k0_pay3, k0_pay28, k0_pay32, k0_pay37, k0_pay4, k0_pay26, k0_pay29, k0_pay30, k0_pay33, k0_pay34, k0_pay35, k0_pay38]
    exact (upd_congr (rdSt arg11.view f (off11_eq k 0) _ _ _ _ _ _ (hd 0 (by decide)) rfl) (rdDec arg3.view X3 (off12_eq i t1 k 0) _ _ _ _ _ _ _ rfl (hd 0 (by decide))) (rdRow arg6.view X6 (off13_eq i t1 k 0) _ _ _ _ _ _ rfl (hd 0 (by decide))) (rdRow arg5.view X5 (off13_eq i t1 k 0) _ _ _ _ _ _ rfl (hd 0 (by decide))))
  | 1, _ =>
    pointwise [k0_pay27, k0_pay31, k0_pay36, k0_pay3, k0_pay28, k0_pay32, k0_pay37, k0_pay4, k0_pay26, k0_pay29, k0_pay30, k0_pay33, k0_pay34, k0_pay35, k0_pay38]
    exact (upd_congr (rdSt arg11.view f (off11_eq k 1) _ _ _ _ _ _ (hd 1 (by decide)) rfl) (rdDec arg3.view X3 (off12_eq i t1 k 1) _ _ _ _ _ _ _ rfl (hd 1 (by decide))) (rdRow arg6.view X6 (off13_eq i t1 k 1) _ _ _ _ _ _ rfl (hd 1 (by decide))) (rdRow arg5.view X5 (off13_eq i t1 k 1) _ _ _ _ _ _ rfl (hd 1 (by decide))))
  | 2, _ =>
    pointwise [k0_pay27, k0_pay31, k0_pay36, k0_pay3, k0_pay28, k0_pay32, k0_pay37, k0_pay4, k0_pay26, k0_pay29, k0_pay30, k0_pay33, k0_pay34, k0_pay35, k0_pay38]
    exact (upd_congr (rdSt arg11.view f (off11_eq k 2) _ _ _ _ _ _ (hd 2 (by decide)) rfl) (rdDec arg3.view X3 (off12_eq i t1 k 2) _ _ _ _ _ _ _ rfl (hd 2 (by decide))) (rdRow arg6.view X6 (off13_eq i t1 k 2) _ _ _ _ _ _ rfl (hd 2 (by decide))) (rdRow arg5.view X5 (off13_eq i t1 k 2) _ _ _ _ _ _ rfl (hd 2 (by decide))))
  | 3, _ =>
    pointwise [k0_pay27, k0_pay31, k0_pay36, k0_pay3, k0_pay28, k0_pay32, k0_pay37, k0_pay4, k0_pay26, k0_pay29, k0_pay30, k0_pay33, k0_pay34, k0_pay35, k0_pay38]
    exact (upd_congr (rdSt arg11.view f (off11_eq k 3) _ _ _ _ _ _ (hd 3 (by decide)) rfl) (rdDec arg3.view X3 (off12_eq i t1 k 3) _ _ _ _ _ _ _ rfl (hd 3 (by decide))) (rdRow arg6.view X6 (off13_eq i t1 k 3) _ _ _ _ _ _ rfl (hd 3 (by decide))) (rdRow arg5.view X5 (off13_eq i t1 k 3) _ _ _ _ _ _ rfl (hd 3 (by decide))))

/-- One trip leaves every other entry. -/
theorem updTripL5_not_mem (t1 : Fin k0_t1_loop.trips) (v10 : BitVec 32) (vt q0 q1 q2 q3 : FVec F S32x128 .f32) (cst : F .f32) (X2 : BufTy.Contents (Elt F) arg2.view.ty) (X3 : BufTy.Contents (Elt F) arg3.view.ty)
    (X5 : BufTy.Contents (Elt F) arg5.view.ty) (X6 : BufTy.Contents (Elt F) arg6.view.ty)
    (k : Fin k0_t5_loop.trips) (a : Acc F) (f g : BufTy.Contents (Elt F) arg11.view.ty) (n m : Fin 64) (l : Fin 128)
    (h : n.val < 4 * k.val ∨ 4 * k.val + 4 ≤ n.val ∨ m.val < 32 ∨ 32 + 32 ≤ m.val) :
    arg11.view.read (Elt F) (arg11.view.writes (Elt F) g (tripL_k0_t5 𝒱 c bd i arg2 harg2 arg3 harg3 arg4 harg4 arg5 harg5 arg6 harg6 arg7 harg7 arg8 harg8 arg9 harg9 arg10 harg10 arg11 harg11 t1 v10 vt q0 q1 q2 q3 cst X2 X3 X5 X6 k a f)) (ix3 n m l)
      = arg11.view.read (Elt F) g (ix3 n m l) := by
  unfold tripL_k0_t5 trip_k0_t5
  dsimp only
  exact wr4_not_mem arg11.view g (off11_eq k 0) (off11_eq k 1) (off11_eq k 2) (off11_eq k 3) _ _ _ _ _ _ _ _ n m l h

/-- After `k` trips over contents `f`: the accumulators, the rows renewed so far, and the rest as found. -/
theorem updAcc5 (t1 : Fin k0_t1_loop.trips) (v10 : BitVec 32) (vt q0 q1 q2 q3 : FVec F S32x128 .f32) (cst : F .f32) (X2 : BufTy.Contents (Elt F) arg2.view.ty) (X3 : BufTy.Contents (Elt F) arg3.view.ty)
    (X5 : BufTy.Contents (Elt F) arg5.view.ty) (X6 : BufTy.Contents (Elt F) arg6.view.ty) (f : BufTy.Contents (Elt F) arg11.view.ty) (z : FVec F S32x128 .f32) (hz : ∀ j, z j = zero) (k : ℕ) (hk : k ≤ 16) :
    let R := st_k0_t5 𝒱 c bd i arg2 harg2 arg3 harg3 arg4 harg4 arg5 harg5 arg6 harg6 arg7 harg7 arg8 harg8 arg9 harg9 arg10 harg10 arg11 harg11 t1 v10 vt q0 q1 q2 q3 cst X2 X3 X5 X6 f (z, z, z, z) k
    (∀ (v : Fin 32) (l : Fin 128), let g := outTerm5 i arg2 arg3 arg5 arg6 arg11 t1 X2 X3 X5 X6 f (vt) (k0_pay2 q0 q1 q2 q3 cst) v l
      R.1.1 (ix2 v l) = acc g 0 k ∧ R.1.2.1 (ix2 v l) = acc g 1 k ∧ R.1.2.2.1 (ix2 v l) = acc g 2 k ∧ R.1.2.2.2 (ix2 v l) = acc g 3 k)
    ∧ (∀ (n : ℕ) (v : Fin 32) (l : Fin 128), n < 4 * k → arg11.view.read (Elt F) (arg11.view.writes (Elt F) f R.2) (ix3 (Fin.ofNat 64 n) (hi v) l)
        = new5 i arg3 arg5 arg6 arg11 t1 X3 X5 X6 f (vt) (k0_pay2 q0 q1 q2 q3 cst) v l n)
    ∧ (∀ (n m : Fin 64) (l : Fin 128), (4 * k ≤ n.val ∨ m.val < 32) → arg11.view.read (Elt F) (arg11.view.writes (Elt F) f R.2) (ix3 n m l)
        = arg11.view.read (Elt F) f (ix3 n m l)) := by
  induction k with
  | zero => exact ⟨fun v l => ⟨hz _, hz _, hz _, hz _⟩, fun n v l h => absurd h (by omega), fun n m l h => rfl⟩
  | succ k ih =>
    obtain ⟨ih1, ih2, ih3⟩ := ih (by omega)
    have hs := st_k0_t5_succ 𝒱 c bd i arg2 harg2 arg3 harg3 arg4 harg4 arg5 harg5 arg6 harg6 arg7 harg7 arg8 harg8 arg9 harg9 arg10 harg10 arg11 harg11 t1 v10 vt q0 q1 q2 q3 cst X2 X3 X5 X6 f (z, z, z, z) ⟨k, hk⟩
    generalize hR : st_k0_t5 𝒱 c bd i arg2 harg2 arg3 harg3 arg4 harg4 arg5 harg5 arg6 harg6 arg7 harg7 arg8 harg8 arg9 harg9 arg10 harg10 arg11 harg11 t1 v10 vt q0 q1 q2 q3 cst X2 X3 X5 X6 f (z, z, z, z) k = R at ih1 ih2 ih3 hs
    have ht := updTripR5 𝒱 c bd i arg2 harg2 arg3 harg3 arg4 harg4 arg5 harg5 arg6 harg6 arg7 harg7 arg8 harg8 arg9 harg9 arg10 harg10 arg11 harg11 t1 v10 vt q0 q1 q2 q3 cst X2 X3 X5 X6 ⟨k, hk⟩ R.1 (arg11.view.writes (Elt F) f R.2)
    have hm := updTripL5_mem 𝒱 c bd i arg2 harg2 arg3 harg3 arg4 harg4 arg5 harg5 arg6 harg6 arg7 harg7 arg8 harg8 arg9 harg9 arg10 harg10 arg11 harg11 t1 v10 vt q0 q1 q2 q3 cst X2 X3 X5 X6 ⟨k, hk⟩ R.1 (arg11.view.writes (Elt F) f R.2) (arg11.view.writes (Elt F) f R.2)
    have hn := updTripL5_not_mem 𝒱 c bd i arg2 harg2 arg3 harg3 arg4 harg4 arg5 harg5 arg6 harg6 arg7 harg7 arg8 harg8 arg9 harg9 arg10 harg10 arg11 harg11 t1 v10 vt q0 q1 q2 q3 cst X2 X3 X5 X6 ⟨k, hk⟩ R.1 (arg11.view.writes (Elt F) f R.2) (arg11.view.writes (Elt F) f R.2)
    have hd (a : ℕ) (ha : a < 4) : (Fin.ofNat 64 (4 * k + a)).val = 4 * k + a := ofNat_val (by omega)
    -- the trip reads rows that no earlier trip stored
    have hf (a : ℕ) (ha : a < 4) (v : Fin 32) (l : Fin 128) :
        arg11.view.read (Elt F) (arg11.view.writes (Elt F) f R.2) (ix3 (Fin.ofNat 64 (4 * k + a)) (hi v) l)
          = arg11.view.read (Elt F) f (ix3 (Fin.ofNat 64 (4 * k + a)) (hi v) l) := ih3 _ _ l (.inl (by rw [hd a ha]; omega))
    have hnew (a : ℕ) (ha : a < 4) (v : Fin 32) (l : Fin 128) :
        new5 i arg3 arg5 arg6 arg11 t1 X3 X5 X6 (arg11.view.writes (Elt F) f R.2) (vt) (k0_pay2 q0 q1 q2 q3 cst) v l (4 * k + a)
          = new5 i arg3 arg5 arg6 arg11 t1 X3 X5 X6 f (vt) (k0_pay2 q0 q1 q2 q3 cst) v l (4 * k + a) := by
      unfold new5; rw [hf a ha v l]
    have hout (a : ℕ) (ha : a < 4) (v : Fin 32) (l : Fin 128) :
        outTerm5 i arg2 arg3 arg5 arg6 arg11 t1 X2 X3 X5 X6 (arg11.view.writes (Elt F) f R.2) (vt) (k0_pay2 q0 q1 q2 q3 cst) v l (4 * k + a)
          = outTerm5 i arg2 arg3 arg5 arg6 arg11 t1 X2 X3 X5 X6 f (vt) (k0_pay2 q0 q1 q2 q3 cst) v l (4 * k + a) := by
      unfold outTerm5; rw [hnew a ha v l]
    dsimp only at hs ht hm hn ⊢
    rw [hs]
    dsimp only
    rw [View.writes_append]
    refine ⟨fun v l => ?_, fun n v l h => ?_, fun n m l h => ?_⟩
    · have h0 := ih1 v l
      have h1 := ht v l
      rw [hout 0 (by decide), hout 1 (by decide), hout 2 (by decide), hout 3 (by decide)] at h1
      dsimp only at h0
      rw [h0.1, h0.2.1, h0.2.2.1, h0.2.2.2] at h1
      exact h1
    · by_cases hlt : n < 4 * k
      · rw [hn _ _ l (.inl (by rw [ofNat_val (by omega)]; exact hlt))]
        exact ih2 n v l hlt
      · obtain ⟨a, ha, rfl⟩ : ∃ a, a < 4 ∧ n = 4 * k + a := ⟨n - 4 * k, by omega, by omega⟩
        rw [hm a ha v l]
        exact hnew a ha v l
    · rw [hn n m l (by omega)]
      exact ih3 n m l (by omega)

end Cert.KernelIdeal.Scan

end
-- ==== Proof.Scan.Dot.lean ====
/- The two loops of a step that sum the state against the old key: after `k` trips each of the four accumulators holds its
   terms so far. -/
module

public import proofs.«01_k».proof.Proof.Scan.Spec

@[expose] public section

set_option maxRecDepth 16384

noncomputable section

namespace Cert.KernelIdeal.Scan

open Idealize.ShloMosaic Idealize.ShloMosaic.TcCoe Idealize.ShloMosaic.Tactic
open Cert.KernelIdeal.Gen

variable {F : FTy → Type} [FloatOps F]

variable (𝒱 : Variants) (c : Dev nD) (bd : Option 𝒱.V) (i : grid0.Coords)
  (arg2 : Memref sig .tc .vmem S32x64x128 .f32) (harg2 : arg2.IsWhole)
  (arg3 : Memref sig .tc .vmem S1x32x64x128 .f32) (harg3 : arg3.IsWhole)
  (arg4 : Memref sig .tc .vmem S32x64x128 .f32) (harg4 : arg4.IsWhole)
  (arg5 : Memref sig .tc .vmem S32x64x128 .f32) (harg5 : arg5.IsWhole)
  (arg6 : Memref sig .tc .vmem S32x64x128 .f32) (harg6 : arg6.IsWhole)
  (arg7 : Memref sig .tc .vmem S32x64x128 .f32) (harg7 : arg7.IsWhole)
  (arg8 : Memref sig .tc .vmem S1x64x64x128 .f32) (harg8 : arg8.IsWhole)
  (arg9 : Memref sig .tc .vmem S1x32x64x128 .f32) (harg9 : arg9.IsWhole)
  (arg10 : Memref sig .tc .vmem S1x64x64x128 .f32) (harg10 : arg10.IsWhole)
  (arg11 : Memref sig .tc .vmem S64x64x128 .f32) (harg11 : arg11.IsWhole)

/-- The terms of the loop over the value rows of the first half. -/
def dotTerm2 (i : grid0.Coords) (arg4 : Memref sig .tc .vmem S32x64x128 .f32) (arg11 : Memref sig .tc .vmem S64x64x128 .f32) (t1 : Fin k0_t1_loop.trips) (X4 : BufTy.Contents (Elt F) arg4.view.ty)
    (X11 : BufTy.Contents (Elt F) arg11.view.ty) (v : Fin 32) (l : Fin 128) (n : ℕ) : F .f32 :=
  FloatOps.mulf (arg11.view.read (Elt F) X11 (ix3 (Fin.ofNat 64 n) (lo v) l)) (arg4.view.read (Elt F) X4 (ix3 (row (dir i) t1) (Fin.ofNat 64 n) l))

/-- One trip adds, to each of the four accumulators, its term. -/
theorem dotTrip2 (arg0 c0 c1 : BitVec 32) (t1 : Fin k0_t1_loop.trips) (v10 : BitVec 32) (X4 : BufTy.Contents (Elt F) arg4.view.ty)
    (X11 : BufTy.Contents (Elt F) arg11.view.ty) (k : Fin k0_t2_loop.trips) (a : Acc F) (v : Fin 32) (l : Fin 128) :
    let R := tripR_k0_t2 𝒱 c bd i arg2 harg2 arg3 harg3 arg4 harg4 arg5 harg5 arg6 harg6 arg7 harg7 arg8 harg8 arg9 harg9 arg10 harg10 arg11 harg11 arg0 c0 c1 t1 v10 X4 X11 k a
    let g := dotTerm2 i arg4 arg11 t1 X4 X11 v l
    R.1 (ix2 v l) = FloatOps.addf (a.1 (ix2 v l)) (g (4 * k.val + 0))
    ∧ R.2.1 (ix2 v l) = FloatOps.addf (a.2.1 (ix2 v l)) (g (4 * k.val + 1))
    ∧ R.2.2.1 (ix2 v l) = FloatOps.addf (a.2.2.1 (ix2 v l)) (g (4 * k.val + 2))
    ∧ R.2.2.2 (ix2 v l) = FloatOps.addf (a.2.2.2 (ix2 v l)) (g (4 * k.val + 3)) := by
  have hk : k.val < 16 := k.isLt
  unfold tripR_k0_t2 trip_k0_t2
  sl_unfold_words
  dsimp only
  pointwise [k0_pay7, k0_pay8, k0_pay9, k0_pay41, dotTerm2]
  have hd (a : ℕ) (ha : a < 4) : (Fin.ofNat 64 (4 * k.val + a)).val = 4 * k.val + a := ofNat_val (by omega)
  refine ⟨?_, ?_, ?_, ?_⟩ <;> congr 2
  · exact rdSt arg11.view X11 (off2_eq k 0) _ _ _ _ _ _ (hd 0 (by decide)) (Nat.zero_add _).symm
  · exact rdRow arg4.view X4 (off3_eq i t1 k 0) _ _ _ _ _ _ rfl (hd 0 (by decide))
  · exact rdSt arg11.view X11 (off2_eq k 1) _ _ _ _ _ _ (hd 1 (by decide)) (Nat.zero_add _).symm
  · exact rdRow arg4.view X4 (off3_eq i t1 k 1) _ _ _ _ _ _ rfl (hd 1 (by decide))
  · exact rdSt arg11.view X11 (off2_eq k 2) _ _ _ _ _ _ (hd 2 (by decide)) (Nat.zero_add _).symm
  · exact rdRow arg4.view X4 (off3_eq i t1 k 2) _ _ _ _ _ _ rfl (hd 2 (by decide))
  · exact rdSt arg11.view X11 (off2_eq k 3) _ _ _ _ _ _ (hd 3 (by decide)) (Nat.zero_add _).symm
  · exact rdRow arg4.view X4 (off3_eq i t1 k 3) _ _ _ _ _ _ rfl (hd 3 (by decide))

/-- After `k` trips the four accumulators, started from zero, hold their terms. -/
theorem dotAcc2 (arg0 c0 c1 : BitVec 32) (t1 : Fin k0_t1_loop.trips) (v10 : BitVec 32) (X4 : BufTy.Contents (Elt F) arg4.view.ty)
    (X11 : BufTy.Contents (Elt F) arg11.view.ty) (z : FVec F S32x128 .f32) (hz : ∀ j, z j = zero) (v : Fin 32) (l : Fin 128) (k : ℕ) (hk : k ≤ 16) :
    let R := st_k0_t2 𝒱 c bd i arg2 harg2 arg3 harg3 arg4 harg4 arg5 harg5 arg6 harg6 arg7 harg7 arg8 harg8 arg9 harg9 arg10 harg10 arg11 harg11 arg0 c0 c1 t1 v10 X4 X11 (z, z, z, z) k
    let g := dotTerm2 i arg4 arg11 t1 X4 X11 v l
    R.1 (ix2 v l) = acc g 0 k ∧ R.2.1 (ix2 v l) = acc g 1 k ∧ R.2.2.1 (ix2 v l) = acc g 2 k ∧ R.2.2.2 (ix2 v l) = acc g 3 k := by
  induction k with
  | zero => exact ⟨hz _, hz _, hz _, hz _⟩
  | succ k ih =>
    have ih := ih (by omega)
    have hs := st_k0_t2_succ 𝒱 c bd i arg2 harg2 arg3 harg3 arg4 harg4 arg5 harg5 arg6 harg6 arg7 harg7 arg8 harg8 arg9 harg9 arg10 harg10 arg11 harg11 arg0 c0 c1 t1 v10 X4 X11 (z, z, z, z) ⟨k, hk⟩
    have ht := dotTrip2 𝒱 c bd i arg2 harg2 arg3 harg3 arg4 harg4 arg5 harg5 arg6 harg6 arg7 harg7 arg8 harg8 arg9 harg9 arg10 harg10 arg11 harg11 arg0 c0 c1 t1 v10 X4 X11 ⟨k, hk⟩
      (st_k0_t2 𝒱 c bd i arg2 harg2 arg3 harg3 arg4 harg4 arg5 harg5 arg6 harg6 arg7 harg7 arg8 harg8 arg9 harg9 arg10 harg10 arg11 harg11 arg0 c0 c1 t1 v10 X4 X11 (z, z, z, z) k) v l
    dsimp only at ih ht hs ⊢
    rw [hs]
    simp only [acc, ← ih.1, ← ih.2.1, ← ih.2.2.1, ← ih.2.2.2]
    exact ht

/-- The terms of the loop over the value rows of the second half. -/
def dotTerm4 (i : grid0.Coords) (arg4 : Memref sig .tc .vmem S32x64x128 .f32) (arg11 : Memref sig .tc .vmem S64x64x128 .f32) (t1 : Fin k0_t1_loop.trips) (X4 : BufTy.Contents (Elt F) arg4.view.ty)
    (X11 : BufTy.Contents (Elt F) arg11.view.ty) (v : Fin 32) (l : Fin 128) (n : ℕ) : F .f32 :=
  FloatOps.mulf (arg11.view.read (Elt F) X11 (ix3 (Fin.ofNat 64 n) (hi v) l)) (arg4.view.read (Elt F) X4 (ix3 (row (dir i) t1) (Fin.ofNat 64 n) l))

/-- One trip adds, to each of the four accumulators, its term. -/
theorem dotTrip4 (arg0 c0 c1 : BitVec 32) (t1 : Fin k0_t1_loop.trips) (v10 : BitVec 32) (X4 : BufTy.Contents (Elt F) arg4.view.ty)
    (X11 : BufTy.Contents (Elt F) arg11.view.ty) (k : Fin k0_t4_loop.trips) (a : Acc F) (v : Fin 32) (l : Fin 128) :
    let R := tripR_k0_t4 𝒱 c bd i arg2 harg2 arg3 harg3 arg4 harg4 arg5 harg5 arg6 harg6 arg7 harg7 arg8 harg8 arg9 harg9 arg10 harg10 arg11 harg11 arg0 c0 c1 t1 v10 X4 X11 k a
    let g := dotTerm4 i arg4 arg11 t1 X4 X11 v l
    R.1 (ix2 v l) = FloatOps.addf (a.1 (ix2 v l)) (g (4 * k.val + 0))
    ∧ R.2.1 (ix2 v l) = FloatOps.addf (a.2.1 (ix2 v l)) (g (4 * k.val + 1))
    ∧ R.2.2.1 (ix2 v l) = FloatOps.addf (a.2.2.1 (ix2 v l)) (g (4 * k.val + 2))
    ∧ R.2.2.2 (ix2 v l) = FloatOps.addf (a.2.2.2 (ix2 v l)) (g (4 * k.val + 3)) := by
  have hk : k.val < 16 := k.isLt
  unfold tripR_k0_t4 trip_k0_t4
  sl_unfold_words
  dsimp only
  pointwise [k0_pay23, k0_pay24, k0_pay25, k0_pay48, dotTerm4]
  have hd (a : ℕ) (ha : a < 4) : (Fin.ofNat 64 (4 * k.val + a)).val = 4 * k.val + a := ofNat_val (by omega)
  refine ⟨?_, ?_, ?_, ?_⟩ <;> congr 2
  · exact rdSt arg11.view X11 (off9_eq k 0) _ _ _ _ _ _ (hd 0 (by decide)) rfl
  · exact rdRow arg4.view X4 (off10_eq i t1 k 0) _ _ _ _ _ _ rfl (hd 0 (by decide))
  · exact rdSt arg11.view X11 (off9_eq k 1) _ _ _ _ _ _ (hd 1 (by decide)) rfl
  · exact rdRow arg4.view X4 (off10_eq i t1 k 1) _ _ _ _ _ _ rfl (hd 1 (by decide))
  · exact rdSt arg11.view X11 (off9_eq k 2) _ _ _ _ _ _ (hd 2 (by decide)) rfl
  · exact rdRow arg4.view X4 (off10_eq i t1 k 2) _ _ _ _ _ _ rfl (hd 2 (by decide))
  · exact rdSt arg11.view X11 (off9_eq k 3) _ _ _ _ _ _ (hd 3 (by decide)) rfl
  · exact rdRow arg4.view X4 (off10_eq i t1 k 3) _ _ _ _ _ _ rfl (hd 3 (by decide))

/-- After `k` trips the four accumulators, started from zero, hold their terms. -/
theorem dotAcc4 (arg0 c0 c1 : BitVec 32) (t1 : Fin k0_t1_loop.trips) (v10 : BitVec 32) (X4 : BufTy.Contents (Elt F) arg4.view.ty)
    (X11 : BufTy.Contents (Elt F) arg11.view.ty) (z : FVec F S32x128 .f32) (hz : ∀ j, z j = zero) (v : Fin 32) (l : Fin 128) (k : ℕ) (hk : k ≤ 16) :
    let R := st_k0_t4 𝒱 c bd i arg2 harg2 arg3 harg3 arg4 harg4 arg5 harg5 arg6 harg6 arg7 harg7 arg8 harg8 arg9 harg9 arg10 harg10 arg11 harg11 arg0 c0 c1 t1 v10 X4 X11 (z, z, z, z) k
    let g := dotTerm4 i arg4 arg11 t1 X4 X11 v l
    R.1 (ix2 v l) = acc g 0 k ∧ R.2.1 (ix2 v l) = acc g 1 k ∧ R.2.2.1 (ix2 v l) = acc g 2 k ∧ R.2.2.2 (ix2 v l) = acc g 3 k := by
  induction k with
  | zero => exact ⟨hz _, hz _, hz _, hz _⟩
  | succ k ih =>
    have ih := ih (by omega)
    have hs := st_k0_t4_succ 𝒱 c bd i arg2 harg2 arg3 harg3 arg4 harg4 arg5 harg5 arg6 harg6 arg7 harg7 arg8 harg8 arg9 harg9 arg10 harg10 arg11 harg11 arg0 c0 c1 t1 v10 X4 X11 (z, z, z, z) ⟨k, hk⟩
    have ht := dotTrip4 𝒱 c bd i arg2 harg2 arg3 harg3 arg4 harg4 arg5 harg5 arg6 harg6 arg7 harg7 arg8 harg8 arg9 harg9 arg10 harg10 arg11 harg11 arg0 c0 c1 t1 v10 X4 X11 ⟨k, hk⟩
      (st_k0_t4 𝒱 c bd i arg2 harg2 arg3 harg3 arg4 harg4 arg5 harg5 arg6 harg6 arg7 harg7 arg8 harg8 arg9 harg9 arg10 harg10 arg11 harg11 arg0 c0 c1 t1 v10 X4 X11 (z, z, z, z) k) v l
    dsimp only at ih ht hs ⊢
    rw [hs]
    simp only [acc, ← ih.1, ← ih.2.1, ← ih.2.2.1, ← ih.2.2.2]
    exact ht

end Cert.KernelIdeal.Scan

end
-- ==== Proof.Scan.Step.lean ====
/- One time step of the scan's kernel: the two halves of the value rows, each read as the step's mathematics. -/
module

public import proofs.«01_k».proof.Proof.Scan.Upd
public import proofs.«01_k».proof.Proof.Scan.Dot

@[expose] public section

set_option maxRecDepth 16384

noncomputable section

namespace Cert.KernelIdeal.Scan

open Idealize.ShloMosaic Idealize.ShloMosaic.TcCoe Idealize.ShloMosaic.Tactic
open Cert.KernelIdeal.Gen

variable {F : FTy → Type} [FloatOps F]

variable (𝒱 : Variants) (c : Dev nD) (bd : Option 𝒱.V) (i : grid0.Coords)
  (arg2 : Memref sig .tc .vmem S32x64x128 .f32) (harg2 : arg2.IsWhole)
  (arg3 : Memref sig .tc .vmem S1x32x64x128 .f32) (harg3 : arg3.IsWhole)
  (arg4 : Memref sig .tc .vmem S32x64x128 .f32) (harg4 : arg4.IsWhole)
  (arg5 : Memref sig .tc .vmem S32x64x128 .f32) (harg5 : arg5.IsWhole)
  (arg6 : Memref sig .tc .vmem S32x64x128 .f32) (harg6 : arg6.IsWhole)
  (arg7 : Memref sig .tc .vmem S32x64x128 .f32) (harg7 : arg7.IsWhole)
  (arg8 : Memref sig .tc .vmem S1x64x64x128 .f32) (harg8 : arg8.IsWhole)
  (arg9 : Memref sig .tc .vmem S1x32x64x128 .f32) (harg9 : arg9.IsWhole)
  (arg10 : Memref sig .tc .vmem S1x64x64x128 .f32) (harg10 : arg10.IsWhole)
  (arg11 : Memref sig .tc .vmem S64x64x128 .f32) (harg11 : arg11.IsWhole)

/-- Time `t` of a block of rows. -/
def at3 (x : S32x64x128.Idx → F .f32) (t : Fin 32) : Row F := fun n l => x (ix3 t n l)
/-- Time `t` of a block of rows with a direction axis of length one. -/
def at4 (x : S1x32x64x128.Idx → F .f32) (t : Fin 32) : Row F := fun n l => x (ix4 (0 : Fin 1) t n l)
/-- The state an array of the scratch's shape holds. -/
def stOf (x : S64x64x128.Idx → F .f32) : St F := fun n v l => x (ix3 n v l)

/-- The state after step `t` of a block, from the blocks of decays, removal keys, gated keys, keys and values. -/
def stepAt (d : Fin 2) (t : Fin 32) (x3 : S1x32x64x128.Idx → F .f32) (x4 x5 x6 x7 : S32x64x128.Idx → F .f32) (S : St F) : St F :=
  stepS (at4 x3 (row d t)) (at3 x4 (row d t)) (at3 x5 (row d t)) (at3 x6 (row d t)) (at3 x7 (row d t)) S

theorem sum42 {q0 q1 q2 q3 : FVec F S32x128 .f32} {g : ℕ → F .f32} {v : Fin 32} {l : Fin 128}
    (h : q0 (ix2 v l) = acc g 0 16 ∧ q1 (ix2 v l) = acc g 1 16 ∧ q2 (ix2 v l) = acc g 2 16 ∧ q3 (ix2 v l) = acc g 3 16) :
    k0_pay42 q0 q1 q2 q3 (ix2 v l) = comb g := by
  unfold comb; rw [← h.1, ← h.2.1, ← h.2.2.1, ← h.2.2.2]; rfl
theorem sum2 {q0 q1 q2 q3 : FVec F S32x128 .f32} {g : ℕ → F .f32} {v : Fin 32} {l : Fin 128}
    (h : q0 (ix2 v l) = acc g 0 16 ∧ q1 (ix2 v l) = acc g 1 16 ∧ q2 (ix2 v l) = acc g 2 16 ∧ q3 (ix2 v l) = acc g 3 16) :
    k0_pay2 q0 q1 q2 q3 (Scalar.ofBits .f32 0x00000000#32) (ix2 v l) = comb g := by
  unfold comb; rw [← h.1, ← h.2.1, ← h.2.2.1, ← h.2.2.2]; rfl
theorem sum45 {q0 q1 q2 q3 : FVec F S32x128 .f32} {g : ℕ → F .f32} {v : Fin 32} {l : Fin 128} (a b : Fin 1)
    (h : q0 (ix2 v l) = acc g 0 16 ∧ q1 (ix2 v l) = acc g 1 16 ∧ q2 (ix2 v l) = acc g 2 16 ∧ q3 (ix2 v l) = acc g 3 16) :
    k0_pay45 q0 q1 q2 q3 (ix4 a b v l) = comb g := by
  unfold comb; rw [← h.1, ← h.2.1, ← h.2.2.1, ← h.2.2.2]; pointwise [k0_pay45, zero]
theorem sum5 {q0 q1 q2 q3 : FVec F S32x128 .f32} {g : ℕ → F .f32} {v : Fin 32} {l : Fin 128} (a b : Fin 1)
    (h : q0 (ix2 v l) = acc g 0 16 ∧ q1 (ix2 v l) = acc g 1 16 ∧ q2 (ix2 v l) = acc g 2 16 ∧ q3 (ix2 v l) = acc g 3 16) :
    k0_pay5 q0 q1 q2 q3 (ix4 a b v l) = comb g := by
  unfold comb; rw [← h.1, ← h.2.1, ← h.2.2.1, ← h.2.2.2]; pointwise [k0_pay5, zero]
theorem pay39_at (x : Vec F S1x32x128 .f32) (v : Fin 32) (l : Fin 128) : k0_pay39 x (ix2 v l) = x (ix3 (0 : Fin 1) v l) := by
  pointwise [k0_pay39]
theorem pay46_at (x : Vec F S1x32x128 .f32) (v : Fin 32) (l : Fin 128) : k0_pay46 x (ix2 v l) = x (ix3 (0 : Fin 1) v l) := by
  pointwise [k0_pay46]
theorem zero40 (j : S32x128.Idx) : k0_pay40 (F := F) j = zero := rfl
theorem zero47 (j : S32x128.Idx) : k0_pay47 (F := F) j = zero := rfl
theorem ofNat_self (n : Fin 64) : Fin.ofNat 64 n.val = n := Fin.ext (Nat.mod_eq_of_lt n.isLt)

/-- The first half of the value rows: the stored state is the step's, the other half is left, and the row of outputs is the new state's
    product with the receptance. -/
theorem half3 (arg0 c0 c1 : BitVec 32) (t1 : Fin k0_t1_loop.trips) (v10 : BitVec 32) (v12 : Vec F S1x32x128 .f32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (f : BufTy.Contents (Elt F) arg11.view.ty)
    (hv : ∀ (v : Fin 32) (l : Fin 128), v12 (ix3 (0 : Fin 1) v l) = at3 (arg7.view.read (Elt F) X7) (row (dir i) t1) (lo v) l) :
    let Q := st_k0_t2 𝒱 c bd i arg2 harg2 arg3 harg3 arg4 harg4 arg5 harg5 arg6 harg6 arg7 harg7 arg8 harg8 arg9 harg9 arg10 harg10 arg11 harg11 arg0 c0 c1 t1 v10 X4 f (k0_pay40, k0_pay40, k0_pay40, k0_pay40) 16
    let U := st_k0_t3 𝒱 c bd i arg2 harg2 arg3 harg3 arg4 harg4 arg5 harg5 arg6 harg6 arg7 harg7 arg8 harg8 arg9 harg9 arg10 harg10 arg11 harg11 arg0 c0 c1 t1 v10 v12 Q.1 Q.2.1 Q.2.2.1 Q.2.2.2 X2 X3 X5 X6 f (k0_pay40, k0_pay40, k0_pay40, k0_pay40) 16
    let S := stOf (arg11.view.read (Elt F) f)
    let S' := stepAt (dir i) t1 (arg3.view.read (Elt F) X3) (arg4.view.read (Elt F) X4) (arg5.view.read (Elt F) X5) (arg6.view.read (Elt F) X6) (arg7.view.read (Elt F) X7) S
    (∀ (n : Fin 64) (v : Fin 32) (l : Fin 128), stOf (arg11.view.read (Elt F) (arg11.view.writes (Elt F) f U.2)) n (lo v) l = S' n (lo v) l)
    ∧ (∀ (n : Fin 64) (v : Fin 32) (l : Fin 128), stOf (arg11.view.read (Elt F) (arg11.view.writes (Elt F) f U.2)) n (hi v) l = S n (hi v) l)
    ∧ (∀ (a b : Fin 1) (v : Fin 32) (l : Fin 128), k0_pay45 U.1.1 U.1.2.1 U.1.2.2.1 U.1.2.2.2 (ix4 a b v l)
        = colSum S' (at3 (arg2.view.read (Elt F) X2) (row (dir i) t1)) (lo v) l) := by
  intro Q U S S'
  have hq := dotAcc2 𝒱 c bd i arg2 harg2 arg3 harg3 arg4 harg4 arg5 harg5 arg6 harg6 arg7 harg7 arg8 harg8 arg9 harg9 arg10 harg10 arg11 harg11 arg0 c0 c1 t1 v10 X4 f k0_pay40 zero40
  have hu := updAcc3 𝒱 c bd i arg2 harg2 arg3 harg3 arg4 harg4 arg5 harg5 arg6 harg6 arg7 harg7 arg8 harg8 arg9 harg9 arg10 harg10 arg11 harg11 arg0 c0 c1 t1 v10 v12 Q.1 Q.2.1 Q.2.2.1 Q.2.2.2 X2 X3 X5 X6 f k0_pay40 zero40 16 le_rfl
  have hsa (v : Fin 32) (l : Fin 128) : k0_pay42 Q.1 Q.2.1 Q.2.2.1 Q.2.2.2 (ix2 v l) = colSum S (at3 (arg4.view.read (Elt F) X4) (row (dir i) t1)) (lo v) l :=
    sum42 (hq v l 16 le_rfl)
  have hvt (v : Fin 32) (l : Fin 128) : k0_pay39 v12 (ix2 v l) = at3 (arg7.view.read (Elt F) X7) (row (dir i) t1) (lo v) l :=
    (pay39_at _ v l).trans (hv v l)
  have hnew (n : ℕ) (v : Fin 32) (l : Fin 128) : new3 i arg3 arg5 arg6 arg11 t1 X3 X5 X6 f (k0_pay39 v12) (k0_pay42 Q.1 Q.2.1 Q.2.2.1 Q.2.2.2) v l n = S' (Fin.ofNat 64 n) (lo v) l := by
    unfold new3; rw [hsa v l, hvt v l]; rfl
  obtain ⟨h1, h2, h3⟩ := hu
  refine ⟨fun n v l => ?_, fun n v l => ?_, fun a b v l => ?_⟩
  · have := h2 n.val v l (by omega)
    rw [hnew, ofNat_self] at this
    exact this
  · exact h3 n (hi v) l (.inr (Nat.le_add_right 32 v.val))
  · refine (sum45 a b (h1 v l)).trans ?_
    unfold colSum outTerm3
    exact congrArg comb (funext fun n => congrArg₂ FloatOps.mulf (hnew n v l) rfl)

/-- The second half of the value rows: the stored state is the step's, the other half is left, and the row of outputs is the new state's
    product with the receptance. -/
theorem half5 (arg0 c0 c1 : BitVec 32) (t1 : Fin k0_t1_loop.trips) (v10 : BitVec 32) (v34 : Vec F S1x32x128 .f32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (f : BufTy.Contents (Elt F) arg11.view.ty)
    (hv : ∀ (v : Fin 32) (l : Fin 128), v34 (ix3 (0 : Fin 1) v l) = at3 (arg7.view.read (Elt F) X7) (row (dir i) t1) (hi v) l) :
    let Q := st_k0_t4 𝒱 c bd i arg2 harg2 arg3 harg3 arg4 harg4 arg5 harg5 arg6 harg6 arg7 harg7 arg8 harg8 arg9 harg9 arg10 harg10 arg11 harg11 arg0 c0 c1 t1 v10 X4 f (k0_pay47, k0_pay47, k0_pay47, k0_pay47) 16
    let U := st_k0_t5 𝒱 c bd i arg2 harg2 arg3 harg3 arg4 harg4 arg5 harg5 arg6 harg6 arg7 harg7 arg8 harg8 arg9 harg9 arg10 harg10 arg11 harg11 t1 v10 (k0_pay46 v34) Q.1 Q.2.1 Q.2.2.1 Q.2.2.2 (Scalar.ofBits .f32 0x00000000#32) X2 X3 X5 X6 f (k0_pay47, k0_pay47, k0_pay47, k0_pay47) 16
    let S := stOf (arg11.view.read (Elt F) f)
    let S' := stepAt (dir i) t1 (arg3.view.read (Elt F) X3) (arg4.view.read (Elt F) X4) (arg5.view.read (Elt F) X5) (arg6.view.read (Elt F) X6) (arg7.view.read (Elt F) X7) S
    (∀ (n : Fin 64) (v : Fin 32) (l : Fin 128), stOf (arg11.view.read (Elt F) (arg11.view.writes (Elt F) f U.2)) n (hi v) l = S' n (hi v) l)
    ∧ (∀ (n : Fin 64) (v : Fin 32) (l : Fin 128), stOf (arg11.view.read (Elt F) (arg11.view.writes (Elt F) f U.2)) n (lo v) l = S n (lo v) l)
    ∧ (∀ (a b : Fin 1) (v : Fin 32) (l : Fin 128), k0_pay5 U.1.1 U.1.2.1 U.1.2.2.1 U.1.2.2.2 (ix4 a b v l)
        = colSum S' (at3 (arg2.view.read (Elt F) X2) (row (dir i) t1)) (hi v) l) := by
  intro Q U S S'
  have hq := dotAcc4 𝒱 c bd i arg2 harg2 arg3 harg3 arg4 harg4 arg5 harg5 arg6 harg6 arg7 harg7 arg8 harg8 arg9 harg9 arg10 harg10 arg11 harg11 arg0 c0 c1 t1 v10 X4 f k0_pay47 zero47
  have hu := updAcc5 𝒱 c bd i arg2 harg2 arg3 harg3 arg4 harg4 arg5 harg5 arg6 harg6 arg7 harg7 arg8 harg8 arg9 harg9 arg10 harg10 arg11 harg11 t1 v10 (k0_pay46 v34) Q.1 Q.2.1 Q.2.2.1 Q.2.2.2 (Scalar.ofBits .f32 0x00000000#32) X2 X3 X5 X6 f k0_pay47 zero47 16 le_rfl
  have hsa (v : Fin 32) (l : Fin 128) : k0_pay2 Q.1 Q.2.1 Q.2.2.1 Q.2.2.2 (Scalar.ofBits .f32 0x00000000#32) (ix2 v l) = colSum S (at3 (arg4.view.read (Elt F) X4) (row (dir i) t1)) (hi v) l :=
    sum2 (hq v l 16 le_rfl)
  have hvt (v : Fin 32) (l : Fin 128) : k0_pay46 v34 (ix2 v l) = at3 (arg7.view.read (Elt F) X7) (row (dir i) t1) (hi v) l :=
    (pay46_at _ v l).trans (hv v l)
  have hnew (n : ℕ) (v : Fin 32) (l : Fin 128) : new5 i arg3 arg5 arg6 arg11 t1 X3 X5 X6 f (k0_pay46 v34) (k0_pay2 Q.1 Q.2.1 Q.2.2.1 Q.2.2.2 (Scalar.ofBits .f32 0x00000000#32)) v l n = S' (Fin.ofNat 64 n) (hi v) l := by
    unfold new5; rw [hsa v l, hvt v l]; rfl
  obtain ⟨h1, h2, h3⟩ := hu
  refine ⟨fun n v l => ?_, fun n v l => ?_, fun a b v l => ?_⟩
  · have := h2 n.val v l (by omega)
    rw [hnew, ofNat_self] at this
    exact this
  · exact h3 n (lo v) l (.inr v.isLt)
  · refine (sum5 a b (h1 v l)).trans ?_
    unfold colSum outTerm5
    exact congrArg comb (funext fun n => congrArg₂ FloatOps.mulf (hnew n v l) rfl)

/-- A step changes a value row's column by that column alone. -/
theorem stepS_col (w kk kka k vv : Row F) {S T : St F} {v : Fin 64} (h : ∀ n l, S n v l = T n v l) (n : Fin 64) (l : Fin 128) :
    stepS w kk kka k vv S n v l = stepS w kk kka k vv T n v l := by
  have hc : colSum S kk v l = colSum T kk v l := congrArg comb (funext fun m => congrArg₂ FloatOps.mulf (h _ l) rfl)
  unfold stepS
  rw [h n l, hc]

theorem colSum_col {S T : St F} (q : Row F) {v : Fin 64} {l : Fin 128} (h : ∀ n, S n v l = T n v l) : colSum S q v l = colSum T q v l :=
  congrArg comb (funext fun m => congrArg₂ FloatOps.mulf (h _) rfl)

/-- Every value row lies in one of the halves. -/
theorem lo_or_hi (v : Fin 64) : (∃ u, v = lo u) ∨ (∃ u, v = hi u) := by
  by_cases h : v.val < 32
  · exact .inl ⟨⟨v.val, h⟩, rfl⟩
  · exact .inr ⟨⟨v.val - 32, by omega⟩, Fin.ext (by show v.val = 32 + (v.val - 32); omega)⟩

section Out

variable {sig : RefSig} {κ : Kind} {sp : Space}

/-- Two stores of half a row of outputs each: the row reads back the two payloads, -/
theorem wr2_hi (A : View sig κ sp S1x32x64x128 .f32) (f : A.ty.Contents (Elt F)) {o0 o1 : Fin 4 → ℕ} {r : ℕ}
    (h0 : o0 = ![0, r, 0, 0]) (h1 : o1 = ![0, r, 32, 0])
    (i0 : ∀ a, o0 a + S1x1x32x128.size a ≤ S1x32x64x128.size a) (i1 : ∀ a, o1 a + S1x1x32x128.size a ≤ S1x32x64x128.size a)
    (w0 w1 : S1x1x32x128.Idx → F .f32) (t : Fin 32) (v : Fin 32) (l : Fin 128) (ht : t.val = r) :
    A.read (Elt F) (A.writes (Elt F) f
      [⟨Rect.unit (s := S1x32x64x128) o1 S1x1x32x128.size i1, w1⟩, ⟨Rect.unit (s := S1x32x64x128) o0 S1x1x32x128.size i0, w0⟩])
        (ix4 (0 : Fin 1) t (hi v) l) = w1 (ix4 (0 : Fin 1) (0 : Fin 1) v l) :=
  View.read_writes_cons_unit_of_mem A f i1 w1 _ _ (ix4 (0 : Fin 1) (0 : Fin 1) v l) h1 (fun c => by
    match c with
    | ⟨0, _⟩ => rfl
    | ⟨1, _⟩ => exact ht
    | ⟨2, _⟩ => rfl
    | ⟨3, _⟩ => exact (Nat.zero_add _).symm)

theorem wr2_lo (A : View sig κ sp S1x32x64x128 .f32) (f : A.ty.Contents (Elt F)) {o0 o1 : Fin 4 → ℕ} {r : ℕ}
    (h0 : o0 = ![0, r, 0, 0]) (h1 : o1 = ![0, r, 32, 0])
    (i0 : ∀ a, o0 a + S1x1x32x128.size a ≤ S1x32x64x128.size a) (i1 : ∀ a, o1 a + S1x1x32x128.size a ≤ S1x32x64x128.size a)
    (w0 w1 : S1x1x32x128.Idx → F .f32) (t : Fin 32) (v : Fin 32) (l : Fin 128) (ht : t.val = r) :
    A.read (Elt F) (A.writes (Elt F) f
      [⟨Rect.unit (s := S1x32x64x128) o1 S1x1x32x128.size i1, w1⟩, ⟨Rect.unit (s := S1x32x64x128) o0 S1x1x32x128.size i0, w0⟩])
        (ix4 (0 : Fin 1) t (lo v) l) = w0 (ix4 (0 : Fin 1) (0 : Fin 1) v l) := by
  rw [View.read_writes_cons_unit_of_not_mem A f i1 w1 _ _ h1 2 (.inl (by show v.val < 32; exact v.isLt))]
  exact View.read_writes_cons_unit_of_mem A f i0 w0 _ _ (ix4 (0 : Fin 1) (0 : Fin 1) v l) h0 (fun c => by
    match c with
    | ⟨0, _⟩ => rfl
    | ⟨1, _⟩ => exact ht
    | ⟨2, _⟩ => exact (Nat.zero_add _).symm
    | ⟨3, _⟩ => exact (Nat.zero_add _).symm)

/-- and the other rows are left. -/
theorem wr2_ne (A : View sig κ sp S1x32x64x128 .f32) (f : A.ty.Contents (Elt F)) {o0 o1 : Fin 4 → ℕ} {r : ℕ}
    (h0 : o0 = ![0, r, 0, 0]) (h1 : o1 = ![0, r, 32, 0])
    (i0 : ∀ a, o0 a + S1x1x32x128.size a ≤ S1x32x64x128.size a) (i1 : ∀ a, o1 a + S1x1x32x128.size a ≤ S1x32x64x128.size a)
    (w0 w1 : S1x1x32x128.Idx → F .f32) (t : Fin 32) (v : Fin 64) (l : Fin 128) (ht : t.val ≠ r) :
    A.read (Elt F) (A.writes (Elt F) f
      [⟨Rect.unit (s := S1x32x64x128) o1 S1x1x32x128.size i1, w1⟩, ⟨Rect.unit (s := S1x32x64x128) o0 S1x1x32x128.size i0, w0⟩])
        (ix4 (0 : Fin 1) t v l) = A.read (Elt F) f (ix4 (0 : Fin 1) t v l) := by
  rw [View.read_writes_cons_unit_of_not_mem A f i1 w1 _ _ h1 1 (by show t.val < r ∨ r + 1 ≤ t.val; omega),
    View.read_writes_cons_unit_of_not_mem A f i0 w0 _ _ h0 1 (by show t.val < r ∨ r + 1 ≤ t.val; omega)]
  rfl

end Out

end Cert.KernelIdeal.Scan

end
-- ==== Proof.Scan.Loop.lean ====
/- One time step of the scan's kernel, and the loop over a block's 32 steps. -/
module

public import proofs.«01_k».proof.Proof.Scan.Step

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- The resource algebra of the run. -/
local notation "𝕄G" => MT nD τ sig Unit (Elt F) ℕ (UR sig nD τ) ℕ

variable (𝒱 : Variants) (c : Dev nD) (bd : Option 𝒱.V) (i : grid0.Coords)
  (arg2 : Memref sig .tc .vmem S32x64x128 .f32) (harg2 : arg2.IsWhole)
  (arg3 : Memref sig .tc .vmem S1x32x64x128 .f32) (harg3 : arg3.IsWhole)
  (arg4 : Memref sig .tc .vmem S32x64x128 .f32) (harg4 : arg4.IsWhole)
  (arg5 : Memref sig .tc .vmem S32x64x128 .f32) (harg5 : arg5.IsWhole)
  (arg6 : Memref sig .tc .vmem S32x64x128 .f32) (harg6 : arg6.IsWhole)
  (arg7 : Memref sig .tc .vmem S32x64x128 .f32) (harg7 : arg7.IsWhole)
  (arg8 : Memref sig .tc .vmem S1x64x64x128 .f32) (harg8 : arg8.IsWhole)
  (arg9 : Memref sig .tc .vmem S1x32x64x128 .f32) (harg9 : arg9.IsWhole)
  (arg10 : Memref sig .tc .vmem S1x64x64x128 .f32) (harg10 : arg10.IsWhole)
  (arg11 : Memref sig .tc .vmem S64x64x128 .f32) (harg11 : arg11.IsWhole)

/-- What one time step of a block touches: the six inputs' blocks, the state's scratch and the block of outputs. -/
abbrev Res (c : Dev nD) (arg2 : Memref sig .tc .vmem S32x64x128 .f32) (arg3 : Memref sig .tc .vmem S1x32x64x128 .f32)
    (arg4 arg5 arg6 arg7 : Memref sig .tc .vmem S32x64x128 .f32) (arg9 : Memref sig .tc .vmem S1x32x64x128 .f32) (arg11 : Memref sig .tc .vmem S64x64x128 .f32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f : BufTy.Contents (Elt F) arg11.view.ty) (g : BufTy.Contents (Elt F) arg9.view.ty) : sProp 𝕄G :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6) ∗ (arg7.view.loc (c : Thread nD τ) ↦[arg7.view.set]{fullShare} X7)
    ∗ (arg11.view.loc (c : Thread nD τ) ↦[arg11.view.set]{fullShare} f) ∗ (arg9.view.loc (c : Thread nD τ) ↦[arg9.view.set]{fullShare} g))

/-- What one time step leaves: the state after the step in the scratch, its product with the receptance in the step's row of the outputs,
    the other rows as they were. -/
def Facts (i : grid0.Coords) (arg2 : Memref sig .tc .vmem S32x64x128 .f32) (arg3 : Memref sig .tc .vmem S1x32x64x128 .f32)
    (arg4 arg5 arg6 arg7 : Memref sig .tc .vmem S32x64x128 .f32) (arg9 : Memref sig .tc .vmem S1x32x64x128 .f32) (arg11 : Memref sig .tc .vmem S64x64x128 .f32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (k : Fin 32) (f f' : BufTy.Contents (Elt F) arg11.view.ty) (g g' : BufTy.Contents (Elt F) arg9.view.ty) : Prop :=
  let S' := stepAt (dir i) k (arg3.view.read (Elt F) X3) (arg4.view.read (Elt F) X4) (arg5.view.read (Elt F) X5) (arg6.view.read (Elt F) X6)
    (arg7.view.read (Elt F) X7) (stOf (arg11.view.read (Elt F) f))
  stOf (arg11.view.read (Elt F) f') = S'
  ∧ (∀ (v : Fin 64) (l : Fin 128), arg9.view.read (Elt F) g' (ix4 (0 : Fin 1) (row (dir i) k) v l) = colSum S' (at3 (arg2.view.read (Elt F) X2) (row (dir i) k)) v l)
  ∧ (∀ (t : Fin 32), t ≠ row (dir i) k → ∀ (v : Fin 64) (l : Fin 128), arg9.view.read (Elt F) g' (ix4 (0 : Fin 1) t v l) = arg9.view.read (Elt F) g (ix4 (0 : Fin 1) t v l))

/-- The two halves put together. -/
theorem facts_of_halves (k : Fin k0_t1_loop.trips) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f : BufTy.Contents (Elt F) arg11.view.ty) (g : BufTy.Contents (Elt F) arg9.view.ty)
    {v12 v34 : Vec F S1x32x128 .f32}
    (h12 : v12 = arg7.view.readAt (Elt F) (Rect.unit (s := S32x64x128) (k0_off1 i k) S1x32x128.size (k0_off1_inb i k)).toLoadRect X7)
    (h34 : v34 = arg7.view.readAt (Elt F) (Rect.unit (s := S32x64x128) (k0_off8 i k) S1x32x128.size (k0_off8_inb i k)).toLoadRect X7)
    (arg0 c0 c1 v10 : BitVec 32) :
    let Q := st_k0_t2 𝒱 c bd i arg2 harg2 arg3 harg3 arg4 harg4 arg5 harg5 arg6 harg6 arg7 harg7 arg8 harg8 arg9 harg9 arg10 harg10 arg11 harg11 arg0 c0 c1 k v10 X4 f (k0_pay40, k0_pay40, k0_pay40, k0_pay40) 16
    let U := st_k0_t3 𝒱 c bd i arg2 harg2 arg3 harg3 arg4 harg4 arg5 harg5 arg6 harg6 arg7 harg7 arg8 harg8 arg9 harg9 arg10 harg10 arg11 harg11 arg0 c0 c1 k v10 v12 Q.1 Q.2.1 Q.2.2.1 Q.2.2.2 X2 X3 X5 X6 f (k0_pay40, k0_pay40, k0_pay40, k0_pay40) 16
    let f1 := arg11.view.writes (Elt F) f U.2
    let Q' := st_k0_t4 𝒱 c bd i arg2 harg2 arg3 harg3 arg4 harg4 arg5 harg5 arg6 harg6 arg7 harg7 arg8 harg8 arg9 harg9 arg10 harg10 arg11 harg11 arg0 c0 c1 k v10 X4 f1 (k0_pay47, k0_pay47, k0_pay47, k0_pay47) 16
    let U' := st_k0_t5 𝒱 c bd i arg2 harg2 arg3 harg3 arg4 harg4 arg5 harg5 arg6 harg6 arg7 harg7 arg8 harg8 arg9 harg9 arg10 harg10 arg11 harg11 k v10 (k0_pay46 v34) Q'.1 Q'.2.1 Q'.2.2.1 Q'.2.2.2 (Scalar.ofBits .f32 0x00000000#32) X2 X3 X5 X6 f1 (k0_pay47, k0_pay47, k0_pay47, k0_pay47) 16
    Facts i arg2 arg3 arg4 arg5 arg6 arg7 arg9 arg11 X2 X3 X4 X5 X6 X7 k f (arg11.view.writes (Elt F) f1 U'.2) g
      (arg9.view.writes (Elt F) g
        [⟨Rect.unit (s := S1x32x64x128) (k0_off14 i k) S1x1x32x128.size (k0_off14_inb i k), k0_pay5 U'.1.1 U'.1.2.1 U'.1.2.2.1 U'.1.2.2.2⟩,
         ⟨Rect.unit (s := S1x32x64x128) (k0_off7 i k) S1x1x32x128.size (k0_off7_inb i k), k0_pay45 U.1.1 U.1.2.1 U.1.2.2.1 U.1.2.2.2⟩]) := by
  intro Q U f1 Q' U'
  have A := half3 𝒱 c bd i arg2 harg2 arg3 harg3 arg4 harg4 arg5 harg5 arg6 harg6 arg7 harg7 arg8 harg8 arg9 harg9 arg10 harg10 arg11 harg11 arg0 c0 c1 k v10 v12 X2 X3 X4 X5 X6 X7 f (fun v l => by
    subst h12; exact rdVal arg7.view X7 (off1_eq i k) _ _ v l (row (dir i) k) (lo v) rfl (Nat.zero_add _).symm)
  have B := half5 𝒱 c bd i arg2 harg2 arg3 harg3 arg4 harg4 arg5 harg5 arg6 harg6 arg7 harg7 arg8 harg8 arg9 harg9 arg10 harg10 arg11 harg11 arg0 c0 c1 k v10 v34 X2 X3 X4 X5 X6 X7 f1 (fun v l => by
    subst h34; exact rdVal arg7.view X7 (off8_eq i k) _ _ v l (row (dir i) k) (hi v) rfl rfl)
  obtain ⟨a1, a2, a3⟩ := A
  obtain ⟨b1, b2, b3⟩ := B
  -- the second half's step reads columns the first half left
  have hcol (n : Fin 64) (v : Fin 32) (l : Fin 128) :
      stepAt (dir i) k (arg3.view.read (Elt F) X3) (arg4.view.read (Elt F) X4) (arg5.view.read (Elt F) X5) (arg6.view.read (Elt F) X6) (arg7.view.read (Elt F) X7)
        (stOf (arg11.view.read (Elt F) f1)) n (hi v) l
      = stepAt (dir i) k (arg3.view.read (Elt F) X3) (arg4.view.read (Elt F) X4) (arg5.view.read (Elt F) X5) (arg6.view.read (Elt F) X6) (arg7.view.read (Elt F) X7)
        (stOf (arg11.view.read (Elt F) f)) n (hi v) l :=
    stepS_col _ _ _ _ _ (fun n l => a2 n v l) n l
  refine ⟨?_, ?_, ?_⟩
  · funext n v l
    obtain ⟨u, rfl⟩ | ⟨u, rfl⟩ := lo_or_hi v
    · exact (b2 n u l).trans (a1 n u l)
    · exact (b1 n u l).trans (hcol n u l)
  · intro v l
    obtain ⟨u, rfl⟩ | ⟨u, rfl⟩ := lo_or_hi v
    · exact (wr2_lo arg9.view g (off7_eq i k) (off14_eq i k) _ _ _ _ (row (dir i) k) u l rfl).trans (a3 0 0 u l)
    · refine (wr2_hi arg9.view g (off7_eq i k) (off14_eq i k) _ _ _ _ (row (dir i) k) u l rfl).trans ((b3 0 0 u l).trans ?_)
      exact colSum_col _ fun n => hcol n u l
  · intro t ht v l
    exact wr2_ne arg9.view g (off7_eq i k) (off14_eq i k) _ _ _ _ t v l (fun e => ht (Fin.ext e))

/-- One time step, run. -/
theorem trip_t1 (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f : BufTy.Contents (Elt F) arg11.view.ty) (g : BufTy.Contents (Elt F) arg9.view.ty) (k : Fin k0_t1_loop.trips) :
    ∃ f' g', Facts i arg2 arg3 arg4 arg5 arg6 arg7 arg9 arg11 X2 X3 X4 X5 X6 X7 k f f' g g' ∧ ∀ (E : Set ℕ) (acc : Unit),
      (Res c arg2 arg3 arg4 arg5 arg6 arg7 arg9 arg11 X2 X3 X4 X5 X6 X7 f g
      ⊢ wp (M := 𝕄G) frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 (BitVec.ofNat 32 (i 0).val) k acc)
        (fun _ => Res c arg2 arg3 arg4 arg5 arg6 arg7 arg9 arg11 X2 X3 X4 X5 X6 X7 f' g')) := by
  refine ⟨?_, ?_, ?facts, fun E acc => ?run⟩
  case run =>
    unfold k0_t1_body
    iintro ⟨H2, H3, H4, H5, H6, H7, H11, H9⟩
    sl_exec
    sl_step
    isplitl [H2]; · iexact H2
    isplitl [H3]; · iexact H3
    isplitl [H4]; · iexact H4
    isplitl [H5]; · iexact H5
    isplitl [H6]; · iexact H6
    isplitl [H7]; · iexact H7
    isplitl [H11]; · iexact H11
    iexact H9
  case facts =>
    sl_unfold_words
    rw [View.writes_append]
    exact facts_of_halves 𝒱 c bd i arg2 harg2 arg3 harg3 arg4 harg4 arg5 harg5 arg6 harg6 arg7 harg7 arg8 harg8 arg9 harg9 arg10 harg10 arg11 harg11 k X2 X3 X4 X5 X6 X7 f g rfl rfl _ _ _ _

/-- The state after `n` steps of a block started at `S`. -/
def bS (d : Fin 2) (x3 : S1x32x64x128.Idx → F .f32) (x4 x5 x6 x7 : S32x64x128.Idx → F .f32) (S : St F) : ℕ → St F
  | 0 => S
  | n + 1 => stepAt d (Fin.ofNat 32 n) x3 x4 x5 x6 x7 (bS d x3 x4 x5 x6 x7 S n)

/-- The outputs of step `n` of the block. -/
def bY (d : Fin 2) (x2 : S32x64x128.Idx → F .f32) (x3 : S1x32x64x128.Idx → F .f32) (x4 x5 x6 x7 : S32x64x128.Idx → F .f32) (S : St F) (n : ℕ) :
    Fin 64 → Fin 128 → F .f32 :=
  colSum (bS d x3 x4 x5 x6 x7 S (n + 1)) (at3 x2 (row d (Fin.ofNat 32 n)))

/-- What scratch and outputs hold before step `n`, from what they hold before the first. -/
def cont (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f : BufTy.Contents (Elt F) arg11.view.ty) (g : BufTy.Contents (Elt F) arg9.view.ty) :
    ℕ → BufTy.Contents (Elt F) arg11.view.ty × BufTy.Contents (Elt F) arg9.view.ty
  | 0 => (f, g)
  | n + 1 => if h : n < k0_t1_loop.trips then
      let T := trip_t1 𝒱 c bd i arg2 harg2 arg3 harg3 arg4 harg4 arg5 harg5 arg6 harg6 arg7 harg7 arg8 harg8 arg9 harg9 arg10 harg10 arg11 harg11 X2 X3 X4 X5 X6 X7 (cont X2 X3 X4 X5 X6 X7 f g n).1 (cont X2 X3 X4 X5 X6 X7 f g n).2 ⟨n, h⟩
      (T.choose, T.choose_spec.choose)
    else (cont X2 X3 X4 X5 X6 X7 f g n)

theorem cont_succ (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f : BufTy.Contents (Elt F) arg11.view.ty) (g : BufTy.Contents (Elt F) arg9.view.ty) (k : Fin k0_t1_loop.trips) :
    let C := cont 𝒱 c bd i arg2 harg2 arg3 harg3 arg4 harg4 arg5 harg5 arg6 harg6 arg7 harg7 arg8 harg8 arg9 harg9 arg10 harg10 arg11 harg11 X2 X3 X4 X5 X6 X7 f g
    Facts i arg2 arg3 arg4 arg5 arg6 arg7 arg9 arg11 X2 X3 X4 X5 X6 X7 k (C k).1 (C (k + 1)).1 (C k).2 (C (k + 1)).2 ∧ ∀ (E : Set ℕ) (acc : Unit),
      (Res c arg2 arg3 arg4 arg5 arg6 arg7 arg9 arg11 X2 X3 X4 X5 X6 X7 (C k).1 (C k).2
      ⊢ wp (M := 𝕄G) frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 (BitVec.ofNat 32 (i 0).val) k acc)
        (fun _ => Res c arg2 arg3 arg4 arg5 arg6 arg7 arg9 arg11 X2 X3 X4 X5 X6 X7 (C (k + 1)).1 (C (k + 1)).2)) := by
  intro C
  have h : C (k.val + 1) = _ := (cont.eq_2 ..).trans (dif_pos k.isLt)
  rw [h]
  exact (trip_t1 𝒱 c bd i arg2 harg2 arg3 harg3 arg4 harg4 arg5 harg5 arg6 harg6 arg7 harg7 arg8 harg8 arg9 harg9 arg10 harg10 arg11 harg11 X2 X3 X4 X5 X6 X7 (C k).1 (C k).2 k).choose_spec.choose_spec

/-- Before step `n` the scratch holds the state after `n` steps and the rows visited hold their outputs. -/
theorem cont_reads (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f : BufTy.Contents (Elt F) arg11.view.ty) (g : BufTy.Contents (Elt F) arg9.view.ty) (n : ℕ) (hn : n ≤ 32) :
    let C := cont 𝒱 c bd i arg2 harg2 arg3 harg3 arg4 harg4 arg5 harg5 arg6 harg6 arg7 harg7 arg8 harg8 arg9 harg9 arg10 harg10 arg11 harg11 X2 X3 X4 X5 X6 X7 f g
    let S := stOf (arg11.view.read (Elt F) f)
    stOf (arg11.view.read (Elt F) (C n).1) = bS (dir i) (arg3.view.read (Elt F) X3) (arg4.view.read (Elt F) X4) (arg5.view.read (Elt F) X5) (arg6.view.read (Elt F) X6)
        (arg7.view.read (Elt F) X7) S n
    ∧ ∀ m : Fin 32, m.val < n → ∀ (v : Fin 64) (l : Fin 128), arg9.view.read (Elt F) (C n).2 (ix4 (0 : Fin 1) (row (dir i) m) v l)
        = bY (dir i) (arg2.view.read (Elt F) X2) (arg3.view.read (Elt F) X3) (arg4.view.read (Elt F) X4) (arg5.view.read (Elt F) X5) (arg6.view.read (Elt F) X6)
        (arg7.view.read (Elt F) X7) S m.val v l := by
  intro C S
  induction n with
  | zero => exact ⟨rfl, fun m h => absurd h (Nat.not_lt_zero _)⟩
  | succ n ih =>
    obtain ⟨ih1, ih2⟩ := ih (by omega)
    obtain ⟨⟨s1, s2, s3⟩, -⟩ := cont_succ 𝒱 c bd i arg2 harg2 arg3 harg3 arg4 harg4 arg5 harg5 arg6 harg6 arg7 harg7 arg8 harg8 arg9 harg9 arg10 harg10 arg11 harg11 X2 X3 X4 X5 X6 X7 f g ⟨n, hn⟩
    have e : (⟨n, hn⟩ : Fin 32) = Fin.ofNat 32 n := Fin.ext (Nat.mod_eq_of_lt hn).symm
    have t1 : stOf (arg11.view.read (Elt F) (C (n + 1)).1) = bS (dir i) (arg3.view.read (Elt F) X3) (arg4.view.read (Elt F) X4) (arg5.view.read (Elt F) X5)
        (arg6.view.read (Elt F) X6) (arg7.view.read (Elt F) X7) S (n + 1) := by
      refine s1.trans ?_
      show stepAt _ ⟨n, hn⟩ _ _ _ _ _ (stOf (arg11.view.read (Elt F) (C n).1)) = stepAt _ (Fin.ofNat 32 n) _ _ _ _ _ _
      rw [ih1, e]
    refine ⟨t1, fun m hm v l => ?_⟩
    by_cases hmn : m.val = n
    · obtain rfl : m = ⟨n, hn⟩ := Fin.ext hmn
      refine (s2 v l).trans ?_
      show colSum _ _ v l = colSum _ (at3 _ (row (dir i) (Fin.ofNat 32 n))) v l
      rw [← t1, ← s1, ← e]
      rfl
    · exact (s3 (row (dir i) m) (fun h => hmn (congrArg Fin.val (row_inj (dir i) h))) v l).trans (ih2 m (by omega) v l)

set_option warn.classDefReducibility false in
/-- The loop over the block's 32 steps. -/
@[sl_loop] def loopInv_k0_t1 (E : Set ℕ) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (G11 : BufTy.Contents (Elt F) arg11.view.ty) (G9 : BufTy.Contents (Elt F) arg9.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 (BitVec.ofNat 32 (i 0).val) where
  inv n _ := iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6) ∗ (arg7.view.loc (c : Thread nD τ) ↦[arg7.view.set]{fullShare} X7)
    ∗ (∃ f, (arg11.view.loc (c : Thread nD τ) ↦[arg11.view.set]{fullShare} f) ∗ ⌜f = (cont 𝒱 c bd i arg2 harg2 arg3 harg3 arg4 harg4 arg5 harg5 arg6 harg6 arg7 harg7 arg8 harg8 arg9 harg9 arg10 harg10 arg11 harg11 X2 X3 X4 X5 X6 X7 G11 G9 n).1⌝)
    ∗ (∃ g, (arg9.view.loc (c : Thread nD τ) ↦[arg9.view.set]{fullShare} g) ∗ ⌜g = (cont 𝒱 c bd i arg2 harg2 arg3 harg3 arg4 harg4 arg5 harg5 arg6 harg6 arg7 harg7 arg8 harg8 arg9 harg9 arg10 harg10 arg11 harg11 X2 X3 X4 X5 X6 X7 G11 G9 n).2⌝))
  step k acc := by
    iintro ⟨H2, H3, H4, H5, H6, H7, ⟨%f, H11, %hf⟩, ⟨%g, H9, %hg⟩⟩
    subst hf hg
    iapply (wp_wand_r Idealize.ShloMosaic.frame (wpE (defs₀ (F := F)) 𝒱 (c : Thread nD τ) bd) E)
    isplitl [H2 H3 H4 H5 H6 H7 H11 H9]
    · iapply ((cont_succ 𝒱 c bd i arg2 harg2 arg3 harg3 arg4 harg4 arg5 harg5 arg6 harg6 arg7 harg7 arg8 harg8 arg9 harg9 arg10 harg10 arg11 harg11 X2 X3 X4 X5 X6 X7 G11 G9 k).2 E acc)
      isplitl [H2]; · iexact H2
      isplitl [H3]; · iexact H3
      isplitl [H4]; · iexact H4
      isplitl [H5]; · iexact H5
      isplitl [H6]; · iexact H6
      isplitl [H7]; · iexact H7
      isplitl [H11]; · iexact H11
      iexact H9
    · iintro %yld ⟨H2, H3, H4, H5, H6, H7, H11, H9⟩
      isplitl [H2]; · iexact H2
      isplitl [H3]; · iexact H3
      isplitl [H4]; · iexact H4
      isplitl [H5]; · iexact H5
      isplitl [H6]; · iexact H6
      isplitl [H7]; · iexact H7
      isplitl [H11]
      · iexists _; isplitl [H11]; · iexact H11
        ipureintro; rfl
      · iexists _; isplitl [H9]; · iexact H9
        ipureintro; rfl

end Cert.KernelIdeal.Scan

end
-- ==== Proof.Scan.Body.lean ====
/- The scan's kernel at one grid point, run: what the scratch and the two outputs hold afterwards. -/
module

public import proofs.«01_k».proof.Proof.Scan.Loop
public import proofs.«01_k».proof.Proof.Gen.KernelIdeal.Frame

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- The block of outputs of one grid point, from the state before it. -/
def yBlk (d : Fin 2) (x2 : Vec F S32x64x128 .f32) (x3 : Vec F S1x32x64x128 .f32) (x4 x5 x6 x7 : Vec F S32x64x128 .f32) (S : St F) : Vec F S1x32x64x128 .f32 :=
  fun j => bY d x2 x3 x4 x5 x6 x7 S (row d (j 1)).val (j 2) (j 3)
/-- The scratch's contents for a state. -/
def scOf (S : St F) : Vec F S64x64x128 .f32 := fun j => S (j 0) (j 1) (j 2)
/-- The state's block for a state. -/
def blkOf (S : St F) : Vec F S1x64x64x128 .f32 := fun j => S (j 1) (j 2) (j 3)
/-- The state a block of the initial state holds. -/
def s0Of (x : Vec F S1x64x64x128 .f32) : St F := fun n v l => x (ix4 (0 : Fin 1) n v l)

theorem stOf_scOf (S : St F) : stOf (scOf S) = S := rfl
theorem scOf_of (x : Vec F S64x64x128 .f32) {S : St F} (h : stOf x = S) : x = scOf S := by
  subst h; funext j; idx_vars j; rfl
theorem stOf_pay1 (x : Vec F S1x64x64x128 .f32) : stOf (k0_pay1 x) = s0Of x := by
  funext n v l; pointwise [k0_pay1, stOf, s0Of]
theorem pay6_of (x : Vec F S64x64x128 .f32) {S : St F} (h : stOf x = S) : k0_pay6 x = blkOf S := by
  subst h; funext j; idx_vars j; pointwise [k0_pay6, stOf, blkOf]
theorem yBlk_of (d : Fin 2) (y : Vec F S1x32x64x128 .f32) (x2 : Vec F S32x64x128 .f32) (x3 : Vec F S1x32x64x128 .f32) (x4 x5 x6 x7 : Vec F S32x64x128 .f32) (S : St F)
    (h : ∀ m : Fin 32, ∀ (v : Fin 64) (l : Fin 128), y (ix4 (0 : Fin 1) (row d m) v l) = bY d x2 x3 x4 x5 x6 x7 S m.val v l) :
    y = yBlk d x2 x3 x4 x5 x6 x7 S := by
  refine funext fun (j : S1x32x64x128.Idx) => ?_
  have hj : j = ix4 (0 : Fin 1) (row d (row d (j 1))) (j 2) (j 3) := by
    refine funext fun a => ?_
    match a with
    | ⟨0, _⟩ => exact Subsingleton.elim (α := Fin 1) _ _
    | ⟨1, _⟩ => exact (row_row d (j 1)).symm
    | ⟨2, _⟩ => rfl
    | ⟨3, _⟩ => rfl
  exact (congrArg y hj).trans (h (row d (j 1)) (j 2) (j 3))

set_option maxHeartbeats 1000000 in
/-- The first block of a direction: the state is loaded before the loop. -/
theorem bodyA (c : Dev nD) (i : grid0.Coords) (arg2 : Memref sig .tc .vmem S32x64x128 .f32) (harg2 : arg2.IsWhole) (arg3 : Memref sig .tc .vmem S1x32x64x128 .f32) (harg3 : arg3.IsWhole) (arg4 : Memref sig .tc .vmem S32x64x128 .f32) (harg4 : arg4.IsWhole) (arg5 : Memref sig .tc .vmem S32x64x128 .f32) (harg5 : arg5.IsWhole) (arg6 : Memref sig .tc .vmem S32x64x128 .f32) (harg6 : arg6.IsWhole) (arg7 : Memref sig .tc .vmem S32x64x128 .f32) (harg7 : arg7.IsWhole) (arg8 : Memref sig .tc .vmem S1x64x64x128 .f32) (harg8 : arg8.IsWhole) (arg9 : Memref sig .tc .vmem S1x32x64x128 .f32) (harg9 : arg9.IsWhole) (arg10 : Memref sig .tc .vmem S1x64x64x128 .f32) (harg10 : arg10.IsWhole) (arg11 : Memref sig .tc .vmem S64x64x128 .f32) (harg11 : arg11.IsWhole)
    (hc0 : ((Scalar.cmpi .ne (Scalar.extui (Scalar.cmpi .eq (BitVec.ofNat 32 (i 1).val) 0#32)) 0#32) = 1#1)) (hc1 : ¬(k0_cond2 i = 1#1))
    (x2 : Vec F S32x64x128 .f32) (x3 : Vec F S1x32x64x128 .f32) (x4 x5 x6 x7 : Vec F S32x64x128 .f32) (x8 : Vec F S1x64x64x128 .f32) (xi : Vec F S1x64x64x128 .f32) (E : Set ℕ) (K : PUnit → sProp (MT nD τ sig Unit (Elt F) ℕ (UR sig nD τ) ℕ)) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare xi ∗ (∃ d, owns (c : Thread nD τ) arg11 fullShare d)
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (yBlk (dir i) x2 x3 x4 x5 x6 x7 (s0Of x8)) ∗ owns (c : Thread nD τ) arg10 fullShare xi
        ∗ owns (c : Thread nD τ) arg11 fullShare (scOf (bS (dir i) x3 x4 x5 x6 x7 (s0Of x8) 32))) -∗ K ⟨⟩))
    ⊢ wp frame (wpE (defs₀ (F := F)) Variants.none c none) E (cc0_rwkv_scan i arg2 harg2 arg3 harg3 arg4 harg4 arg5 harg5 arg6 harg6 arg7 harg7 arg8 harg8 arg9 harg9 arg10 harg10 arg11 harg11) K := by
  simp only [cc0_rwkv_scan_eq_skeleton]; unfold cc0_rwkv_scan_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, Hk⟩
  subst hf2 hf3 hf4 hf5 hf6 hf7 hf8 hf10
  sl_exec (disch := first | sl_exact hc0 | sl_exact hc1)
  generalize hG : arg11.view.writes (Elt F) arg11.view.junk (bodyA.sl.H11_1 c arg8 f8) = G11
  have hG' : stOf (arg11.view.read (Elt F) G11) = s0Of (arg8.view.read (Elt F) f8) := by
    rw [← hG]
    sl_unfold_run_names
    rw [View.read_writes_full, View.readAt_full]
    exact stOf_pay1 _
  clear hG
  sl_exec (disch := first | sl_exact hc0 | sl_exact hc1)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; swap; · iexact H9
    ipureintro
    rw [← hG']
    exact yBlk_of _ _ _ _ _ _ _ _ _ (cont_reads Variants.none c none i arg2 harg2 arg3 harg3 arg4 harg4 arg5 harg5 arg6 harg6 arg7 harg7 arg8 harg8 arg9 harg9 arg10 harg10 arg11 harg11 _ _ _ _ _ _ _ _ 32 le_rfl |>.2 · (by omega))
  isplitl [H10]
  · iexists _; isplitr; · ipureintro; rfl
    iexact H10
  iexists _; isplitr; swap; · iexact H11
  ipureintro
  rw [← hG']
  exact scOf_of _ (cont_reads Variants.none c none i arg2 harg2 arg3 harg3 arg4 harg4 arg5 harg5 arg6 harg6 arg7 harg7 arg8 harg8 arg9 harg9 arg10 harg10 arg11 harg11 _ _ _ _ _ _ _ _ 32 le_rfl).1

set_option maxHeartbeats 1000000 in
/-- A block in the middle. -/
theorem bodyB (c : Dev nD) (i : grid0.Coords) (arg2 : Memref sig .tc .vmem S32x64x128 .f32) (harg2 : arg2.IsWhole) (arg3 : Memref sig .tc .vmem S1x32x64x128 .f32) (harg3 : arg3.IsWhole) (arg4 : Memref sig .tc .vmem S32x64x128 .f32) (harg4 : arg4.IsWhole) (arg5 : Memref sig .tc .vmem S32x64x128 .f32) (harg5 : arg5.IsWhole) (arg6 : Memref sig .tc .vmem S32x64x128 .f32) (harg6 : arg6.IsWhole) (arg7 : Memref sig .tc .vmem S32x64x128 .f32) (harg7 : arg7.IsWhole) (arg8 : Memref sig .tc .vmem S1x64x64x128 .f32) (harg8 : arg8.IsWhole) (arg9 : Memref sig .tc .vmem S1x32x64x128 .f32) (harg9 : arg9.IsWhole) (arg10 : Memref sig .tc .vmem S1x64x64x128 .f32) (harg10 : arg10.IsWhole) (arg11 : Memref sig .tc .vmem S64x64x128 .f32) (harg11 : arg11.IsWhole)
    (hc0 : ¬((Scalar.cmpi .ne (Scalar.extui (Scalar.cmpi .eq (BitVec.ofNat 32 (i 1).val) 0#32)) 0#32) = 1#1)) (hc1 : ¬(k0_cond2 i = 1#1))
    (x2 : Vec F S32x64x128 .f32) (x3 : Vec F S1x32x64x128 .f32) (x4 x5 x6 x7 : Vec F S32x64x128 .f32) (x8 : Vec F S1x64x64x128 .f32) (xi : Vec F S1x64x64x128 .f32) (xs : Vec F S64x64x128 .f32) (E : Set ℕ) (K : PUnit → sProp (MT nD τ sig Unit (Elt F) ℕ (UR sig nD τ) ℕ)) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare xi ∗ owns (c : Thread nD τ) arg11 fullShare xs
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (yBlk (dir i) x2 x3 x4 x5 x6 x7 (stOf xs)) ∗ owns (c : Thread nD τ) arg10 fullShare xi
        ∗ owns (c : Thread nD τ) arg11 fullShare (scOf (bS (dir i) x3 x4 x5 x6 x7 (stOf xs) 32))) -∗ K ⟨⟩))
    ⊢ wp frame (wpE (defs₀ (F := F)) Variants.none c none) E (cc0_rwkv_scan i arg2 harg2 arg3 harg3 arg4 harg4 arg5 harg5 arg6 harg6 arg7 harg7 arg8 harg8 arg9 harg9 arg10 harg10 arg11 harg11) K := by
  simp only [cc0_rwkv_scan_eq_skeleton]; unfold cc0_rwkv_scan_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
  subst hf2 hf3 hf4 hf5 hf6 hf7 hf8 hf10 hf11
  sl_exec (disch := first | sl_exact hc0 | sl_exact hc1)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; swap; · iexact H9
    ipureintro
    exact yBlk_of _ _ _ _ _ _ _ _ _ (cont_reads Variants.none c none i arg2 harg2 arg3 harg3 arg4 harg4 arg5 harg5 arg6 harg6 arg7 harg7 arg8 harg8 arg9 harg9 arg10 harg10 arg11 harg11 _ _ _ _ _ _ _ _ 32 le_rfl |>.2 · (by omega))
  isplitl [H10]
  · iexists _; isplitr; · ipureintro; rfl
    iexact H10
  iexists _; isplitr; swap; · iexact H11
  ipureintro
  exact scOf_of _ (cont_reads Variants.none c none i arg2 harg2 arg3 harg3 arg4 harg4 arg5 harg5 arg6 harg6 arg7 harg7 arg8 harg8 arg9 harg9 arg10 harg10 arg11 harg11 _ _ _ _ _ _ _ _ 32 le_rfl).1

set_option maxHeartbeats 1000000 in
/-- The last block of a direction: the state is stored after the loop. -/
theorem bodyC (c : Dev nD) (i : grid0.Coords) (arg2 : Memref sig .tc .vmem S32x64x128 .f32) (harg2 : arg2.IsWhole) (arg3 : Memref sig .tc .vmem S1x32x64x128 .f32) (harg3 : arg3.IsWhole) (arg4 : Memref sig .tc .vmem S32x64x128 .f32) (harg4 : arg4.IsWhole) (arg5 : Memref sig .tc .vmem S32x64x128 .f32) (harg5 : arg5.IsWhole) (arg6 : Memref sig .tc .vmem S32x64x128 .f32) (harg6 : arg6.IsWhole) (arg7 : Memref sig .tc .vmem S32x64x128 .f32) (harg7 : arg7.IsWhole) (arg8 : Memref sig .tc .vmem S1x64x64x128 .f32) (harg8 : arg8.IsWhole) (arg9 : Memref sig .tc .vmem S1x32x64x128 .f32) (harg9 : arg9.IsWhole) (arg10 : Memref sig .tc .vmem S1x64x64x128 .f32) (harg10 : arg10.IsWhole) (arg11 : Memref sig .tc .vmem S64x64x128 .f32) (harg11 : arg11.IsWhole)
    (hc0 : ¬((Scalar.cmpi .ne (Scalar.extui (Scalar.cmpi .eq (BitVec.ofNat 32 (i 1).val) 0#32)) 0#32) = 1#1)) (hc1 : (k0_cond2 i = 1#1))
    (x2 : Vec F S32x64x128 .f32) (x3 : Vec F S1x32x64x128 .f32) (x4 x5 x6 x7 : Vec F S32x64x128 .f32) (x8 : Vec F S1x64x64x128 .f32) (xs : Vec F S64x64x128 .f32) (E : Set ℕ) (K : PUnit → sProp (MT nD τ sig Unit (Elt F) ℕ (UR sig nD τ) ℕ)) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ owns (c : Thread nD τ) arg11 fullShare xs
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (yBlk (dir i) x2 x3 x4 x5 x6 x7 (stOf xs)) ∗ owns (c : Thread nD τ) arg10 fullShare (blkOf (bS (dir i) x3 x4 x5 x6 x7 (stOf xs) 32))
        ∗ owns (c : Thread nD τ) arg11 fullShare (scOf (bS (dir i) x3 x4 x5 x6 x7 (stOf xs) 32))) -∗ K ⟨⟩))
    ⊢ wp frame (wpE (defs₀ (F := F)) Variants.none c none) E (cc0_rwkv_scan i arg2 harg2 arg3 harg3 arg4 harg4 arg5 harg5 arg6 harg6 arg7 harg7 arg8 harg8 arg9 harg9 arg10 harg10 arg11 harg11) K := by
  simp only [cc0_rwkv_scan_eq_skeleton]; unfold cc0_rwkv_scan_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, Hk⟩
  subst hf2 hf3 hf4 hf5 hf6 hf7 hf8 hf11
  sl_exec (disch := first | sl_exact hc0 | sl_exact hc1)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; swap; · iexact H9
    ipureintro
    exact yBlk_of _ _ _ _ _ _ _ _ _ (cont_reads Variants.none c none i arg2 harg2 arg3 harg3 arg4 harg4 arg5 harg5 arg6 harg6 arg7 harg7 arg8 harg8 arg9 harg9 arg10 harg10 arg11 harg11 _ _ _ _ _ _ _ _ 32 le_rfl |>.2 · (by omega))
  isplitl [H10]
  · iexists _; isplitr; swap; · iexact H10
    ipureintro
    sl_unfold_run_names
    rw [View.read_writes_full]
    refine pay6_of _ ?_
    have hc := (cont_reads Variants.none c none i arg2 harg2 arg3 harg3 arg4 harg4 arg5 harg5 arg6 harg6 arg7 harg7 arg8 harg8 arg9 harg9 arg10 harg10 arg11 harg11 f2 f3 f4 f5 f6 f7 f11 f9 (Scf.trips k0_t1_loop.lb k0_t1_loop.ub k0_t1_loop.st) (by decide +kernel)).1
    refine (congrArg stOf (View.readAt_full arg11.view _ _)).trans (Eq.trans ?_ (hc.trans (congrArg (bS (dir i) (arg3.view.read (Elt F) f3) (arg4.view.read (Elt F) f4) (arg5.view.read (Elt F) f5) (arg6.view.read (Elt F) f6) (arg7.view.read (Elt F) f7) (stOf (arg11.view.read (Elt F) f11))) (by decide +kernel))))
    with_reducible_and_instances rfl
  iexists _; isplitr; swap; · iexact H11
  ipureintro
  exact scOf_of _ (cont_reads Variants.none c none i arg2 harg2 arg3 harg3 arg4 harg4 arg5 harg5 arg6 harg6 arg7 harg7 arg8 harg8 arg9 harg9 arg10 harg10 arg11 harg11 _ _ _ _ _ _ _ _ 32 le_rfl).1

end Cert.KernelIdeal.Scan

end
-- ==== Proof.Scan.Run.lean ====
/- The scan's run over its grid: the state and the block of outputs point by point, the pipeline's proof data,
the run and what it leaves unchanged. -/
module

public import proofs.«01_k».proof.Proof.Scan.Body
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.WordCmp
public import Idealize.ShloMosaic.Lib.Claim

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's first conditional, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The condition of the body's second conditional, from the grid coordinates. -/
abbrev cond0_1 (i : grid0.Coords) : Prop := k0_cond2 i = 1#1
/-- It holds at the points ≡ 7 (mod 8) — by arithmetic of the point. -/
theorem hcond0_1 : ∀ t : Fin cfg0.N, cond0_1 (grid0.coords t) ↔ t.val % 8 = 7 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_1, k0_cond2, e0, e1]
    word_cmp
   : ∀ t : Fin grid0.N, cond0_1 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-- At the points of case A the printed configuration (`Cfg.idle`) calls output 8 idle: the case stores nothing into it. -/
theorem idleAt0_8_A : ∀ t : Fin cfg0.N, cond0_0 (grid0.coords t) → ¬cond0_1 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → cond0_1 (grid0.coords t) → cfg0.idle 8 (grid0.coords t) = false := by decide +kernel

/-- Each window's current staging memref at point `t`, spelled as the pipeline passes it (`bodyAt0`), and its wholeness. -/
abbrev ms0_0 (t : Fin cfg0.N) : Memref sig .tc .vmem S32x64x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x64x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x64x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x64x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x64x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x64x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64x64x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x32x64x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64x64x128 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S64x64x128 .f32 := Memref.whole cc0_scratch0
/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The state point by point -/

/-- The state the loop of point `t` starts from, `S` being the state the point before left: at a direction's first block its initial state. -/
def ent (c : Dev nD) (t : Fin cfg0.N) (S : St F) : St F := if t.val % 8 = 0 then s0Of (iblk m c 6 t) else S

/-- The state point `t` leaves, from the state the point before left. -/
def nxt (c : Dev nD) (t : Fin cfg0.N) (S : St F) : St F := bS (dir (grid0.coords t)) (iblk m c 1 t) (iblk m c 2 t) (iblk m c 3 t) (iblk m c 4 t) (iblk m c 5 t) (ent m c t S) 32

/-- The state after the first `n` points. -/
def stN (c : Dev nD) : ℕ → St F
  | 0 => fun _ _ _ => zero
  | n + 1 => if h : n < cfg0.N then nxt m c ⟨n, h⟩ (stN c n) else stN c n

theorem stN_succ (c : Dev nD) (t : Fin cfg0.N) : stN m c (t.val + 1) = nxt m c t (stN m c t.val) := dif_pos t.isLt

/-- The block of outputs of point `t`. -/
def yN (c : Dev nD) (t : Fin cfg0.N) : Vec F S1x32x64x128 .f32 :=
  yBlk (dir (grid0.coords t)) (iblk m c 0 t) (iblk m c 1 t) (iblk m c 2 t) (iblk m c 3 t) (iblk m c 4 t) (iblk m c 5 t) (ent m c t (stN m c t.val))

theorem ent_first (c : Dev nD) (t : Fin cfg0.N) (S : St F) (h : t.val % 8 = 0) : ent m c t S = s0Of (iblk m c 6 t) := if_pos h
theorem ent_rest (c : Dev nD) (t : Fin cfg0.N) (S : St F) (h : ¬t.val % 8 = 0) : ent m c t S = stOf (scOf S) := if_neg h

theorem stN_first (c : Dev nD) (t : Fin cfg0.N) (h : t.val % 8 = 0) :
    stN m c (t.val + 1) = bS (dir (grid0.coords t)) (iblk m c 1 t) (iblk m c 2 t) (iblk m c 3 t) (iblk m c 4 t) (iblk m c 5 t) (s0Of (iblk m c 6 t)) 32 := by
  rw [stN_succ, nxt, ent_first m c t _ h]
theorem stN_rest (c : Dev nD) (t : Fin cfg0.N) (h : ¬t.val % 8 = 0) :
    stN m c (t.val + 1) = bS (dir (grid0.coords t)) (iblk m c 1 t) (iblk m c 2 t) (iblk m c 3 t) (iblk m c 4 t) (iblk m c 5 t) (stOf (scOf (stN m c t.val))) 32 := by
  rw [stN_succ, nxt, ent_rest m c t _ h]
theorem yN_first (c : Dev nD) (t : Fin cfg0.N) (h : t.val % 8 = 0) :
    yN m c t = yBlk (dir (grid0.coords t)) (iblk m c 0 t) (iblk m c 1 t) (iblk m c 2 t) (iblk m c 3 t) (iblk m c 4 t) (iblk m c 5 t) (s0Of (iblk m c 6 t)) := by
  rw [yN, ent_first m c t _ h]
theorem yN_rest (c : Dev nD) (t : Fin cfg0.N) (h : ¬t.val % 8 = 0) :
    yN m c t = yBlk (dir (grid0.coords t)) (iblk m c 0 t) (iblk m c 1 t) (iblk m c 2 t) (iblk m c 3 t) (iblk m c 4 t) (iblk m c 5 t) (stOf (scOf (stN m c t.val))) := by
  rw [yN, ent_rest m c t _ h]

/-- The invariant between points: before the first the scratch at anything; afterwards at the state the points so far leave. -/
def PhiS (c : Dev nD) : (n : ℕ) → n ≤ cfg0.N → sProp 𝕄
  | 0, _ => Pipeline.ΦA spec0 c
  | n + 1, hn => iprop(iprop(owns (c : Thread nD τ) scM0_0 fullShare (scOf (stN m c (n + 1)))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (scOf (stN m c (n + 1)))) ∗ (∃ r, prngReg c r)) := rfl

theorem PhiS_pos (c : Dev nD) (n : ℕ) (h : n ≤ cfg0.N) (hz : n ≠ 0) :
    PhiS m c n h = iprop(iprop(owns (c : Thread nD τ) scM0_0 fullShare (scOf (stN m c n))) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block, the outputs' at `yN` and at the state's block; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => yN m c t
    | ⟨8, _⟩ => blkOf (stN m c (t.val + 1))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = yN m c t := by dsimp only [dats]
theorem after0_8 (c : Dev nD) (t : Fin cfg0.N) : (dats m 0 c).after 8 t = blkOf (stN m c (t.val + 1)) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 9600000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  have hN : t.val < 16 := lt_of_lt_of_eq t.isLt (show cfg0.N = 16 from N_0)
  by_cases h0 : t.val % 8 = 0
  · have h1 : ¬t.val % 8 = 7 := by omega
    rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
    rw [stN_first m c t h0, yN_first m c t h0]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (bodyA c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS0]; · iexact HS0
      iintro ⟨H0, H1, H2, H3, H4, H5, H6, H7, H8, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (bodyA c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS0]; · iexists _; iexact HS0
      iintro ⟨H0, H1, H2, H3, H4, H5, H6, H7, H8, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · have hz : t.val ≠ 0 := fun h => h0 (by omega)
    rw [PhiS_castSucc m c t, PhiS_pos m c _ _ hz]
    rw [yN_rest m c t h0]
    by_cases h1 : t.val % 8 = 7
    · rw [show (dats m 0 c).leavesExact 8 t = owns (c : Thread nD τ) (ms0_8 t) fullShare ((dats m 0 c).after 8 t) from by
        unfold Dat.leavesExact; rw [liveAt0_8_C t (fun h => h0 ((hcond0_0 t).mp h)) ((hcond0_1 t).mpr h1)], after0_8]
      rw [stN_rest m c t h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (bodyC c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (scOf (stN m c t.val)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      iintro ⟨H0, H1, H2, H3, H4, H5, H6, H7, H8, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [stN_rest m c t h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (bodyB c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _ (scOf (stN m c t.val)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS0]; · iexact HS0
      iintro ⟨H0, H1, H2, H3, H4, H5, H6, H7, H8, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The run leaves the arguments unchanged and every semaphore at zero, over any float values. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Scan

end
-- ==== Proof.Scan.RefStep.lean ====
/- The scan's reference: one trip of its loop at an index, over the extended reals. -/
module

public import proofs.«01_k».proof.Proof.Gen.ReferenceIdeal.Run
public import Idealize.ShloMosaic.Lib.Pointwise
public import Idealize.ShloMosaic.Lib.DynamicIndex
public import Idealize.ShloMosaic.Lib.WordCmp

@[expose] public section

set_option maxRecDepth 16384

noncomputable section

namespace Cert.ReferenceIdeal.Scan

open Idealize.ShloMosaic Idealize.ShloMosaic.TcCoe Idealize.ShloMosaic.Tactic Idealize.ShloMosaic.StableHlo
open Cert.ReferenceIdeal Cert.ReferenceIdeal.Gen Cert.ReferenceIdeal.Value

/-- A step's rows: row `c` of an array of 256 rows, as the reference's loop reads it. -/
def rowAt (x : FVec Ideal S256x2x32x4x64 .f32) (c : (⟨S_, .i32⟩ : BufTy).Contents (Elt Ideal)) : FVec Ideal S2x32x4x64 .f32 :=
  shapeCast S2x32x4x64 (Host.dynamicSlice S1x2x32x4x64 x (fun k => (((![c, constantI S_ 32 0#32, constantI S_ 32 0#32, constantI S_ 32 0#32, constantI S_ 32 0#32] : Fin 5 → (⟨S_, .i32⟩ : BufTy).Contents (Elt Ideal))) k (Shape.Idx.first h_S_)).toInt) sliceFits_S256x2x32x4x64_S1x2x32x4x64) shapeCasts_S1x2x32x4x64_S2x32x4x64

/-- The loop counter's word at trip `n`, read as an integer. -/
theorem toInt_ctr (n : ℕ) (hn : n < 256) : (Scf.iv 0#32 1#32 n).toInt = (n : ℤ) := by
  simp only [Scf.iv, BitVec.zero_add, BitVec.mul_one]
  rw [BitVec.toInt_ofNat']
  simp [Int.bmod_def]
  omega

theorem starts_at (n : ℕ) (hn : n < 256) (a : Fin 5) :
    ((![(fun _ => Scf.iv 0#32 1#32 n), constantI S_ 32 0#32, constantI S_ 32 0#32, constantI S_ 32 0#32, constantI S_ 32 0#32] : Fin 5 → (⟨S_, .i32⟩ : BufTy).Contents (Elt Ideal)) a (Shape.Idx.first h_S_)).toInt = ((![n, 0, 0, 0, 0] : Fin 5 → ℕ) a : ℤ) := by
  fin_cases a
  · exact toInt_ctr n hn
  all_goals rfl

theorem fits (n : ℕ) (hn : n < 256) : S256x2x32x4x64.Slices ![n, 0, 0, 0, 0] S1x2x32x4x64 := by
  refine ⟨rfl, fun a => ?_⟩
  fin_cases a
  · show n + 1 ≤ 256; omega
  all_goals (show 0 + _ ≤ _; decide)

theorem rowAt_eq (x : FVec Ideal S256x2x32x4x64 .f32) (c : (⟨S_, .i32⟩ : BufTy).Contents (Elt Ideal)) (n : ℕ) (hn : n < 256) (hc : c = fun _ => Scf.iv 0#32 1#32 n) (d : Fin 2) (b : Fin 32) (h : Fin 4) (k : Fin 64) :
    rowAt x c (ix4 d b h k) = x (ix5 ⟨n, hn⟩ d b h k) := by
  subst hc
  unfold rowAt
  rw [Host.dynamicSlice_eq_extractStridedSlice S1x2x32x4x64 x _ ![n, 0, 0, 0, 0] _ (fits n hn) (starts_at n hn)]
  pointwise

/-- What one trip makes of the state from its rows: decay, removal along `kk`, addition of the outer product `v ⊗ k`. -/
def tripS (w kk kka v k : FVec Ideal S2x32x4x64 .f32) (S : FVec Ideal S2x32x4x64x64 .f32) : FVec Ideal S2x32x4x64x64 .f32 :=
  addf (subf (mulf S (broadcastInDim S2x32x4x64x64 ![0, 1, 2, 3, 4] bcast_S2x32x4x1x64_S2x32x4x64x64_0_1_2_3_4 (broadcastInDim S2x32x4x1x64 ![0, 1, 2, 4] bcast_S2x32x4x64_S2x32x4x1x64_0_1_2_4 w)))
      (mulf (broadcastInDim S2x32x4x64x64 ![0, 1, 2, 3, 4] bcast_S2x32x4x64x1_S2x32x4x64x64_0_1_2_3_4 (broadcastInDim S2x32x4x64x1 ![0, 1, 2, 3] bcast_S2x32x4x64_S2x32x4x64x1_0_1_2_3 (Host.dotGeneral (F := Ideal) (φ₁ := .f32) (φ₂ := .f32) dot_S2x32x4x64x64_S2x32x4x64_S2x32x4x64_4_3_3_n_012_012 none S kk)))
        (broadcastInDim S2x32x4x64x64 ![0, 1, 2, 3, 4] bcast_S2x32x4x1x64_S2x32x4x64x64_0_1_2_3_4 (broadcastInDim S2x32x4x1x64 ![0, 1, 2, 4] bcast_S2x32x4x64_S2x32x4x1x64_0_1_2_4 kka))))
    (mulf (broadcastInDim S2x32x4x64x64 ![0, 1, 2, 3, 4] bcast_S2x32x4x64x1_S2x32x4x64x64_0_1_2_3_4 (broadcastInDim S2x32x4x64x1 ![0, 1, 2, 3] bcast_S2x32x4x64_S2x32x4x64x1_0_1_2_3 v))
      (broadcastInDim S2x32x4x64x64 ![0, 1, 2, 3, 4] bcast_S2x32x4x1x64_S2x32x4x64x64_0_1_2_3_4 (broadcastInDim S2x32x4x1x64 ![0, 1, 2, 4] bcast_S2x32x4x64_S2x32x4x1x64_0_1_2_4 k)))

theorem res_eq (X : Valuation τ sig (Elt Ideal)) :
    res_main_while0b_v95 X = tripS (rowAt (X (Proc.devRef .tc main_v60_1)) (X (Proc.devRef .tc main_v60_6)))
      (rowAt (X (Proc.devRef .tc main_v60_2)) (X (Proc.devRef .tc main_v60_6))) (rowAt (X (Proc.devRef .tc main_v60_3)) (X (Proc.devRef .tc main_v60_6)))
      (rowAt (X (Proc.devRef .tc main_v60_4)) (X (Proc.devRef .tc main_v60_6))) (rowAt (X (Proc.devRef .tc main_v60_5)) (X (Proc.devRef .tc main_v60_6)))
      (X (Proc.devRef .tc main_v60_7)) := rfl

theorem tripS_at (w kk kka v k : FVec Ideal S2x32x4x64 .f32) (S : FVec Ideal S2x32x4x64x64 .f32) (d : Fin 2) (b : Fin 32) (h : Fin 4) (q l : Fin 64) :
    tripS w kk kka v k S (ix5 d b h q l) = (S (ix5 d b h q l) * w (ix4 d b h l)
      - (∑ j : Fin 64, S (ix5 d b h q j) * kk (ix4 d b h j)) * kka (ix4 d b h l) + v (ix4 d b h q) * k (ix4 d b h l) : EReal) := by
  unfold tripS
  pointwise

/-- The outputs of one trip: the state after it contracted with the row of `r`. -/
def tripY (r : FVec Ideal S2x32x4x64 .f32) (S : FVec Ideal S2x32x4x64x64 .f32) : FVec Ideal S1x2x32x4x64 .f32 :=
  broadcastInDim S1x2x32x4x64 ![1, 2, 3, 4] bcast_S2x32x4x64_S1x2x32x4x64_1_2_3_4 (Host.dotGeneral (F := Ideal) (φ₁ := .f32) (φ₂ := .f32) dot_S2x32x4x64x64_S2x32x4x64_S2x32x4x64_4_3_3_n_012_012 none S r)

theorem tripY_at (r : FVec Ideal S2x32x4x64 .f32) (S : FVec Ideal S2x32x4x64x64 .f32) (d : Fin 2) (b : Fin 32) (h : Fin 4) (q : Fin 64) :
    tripY r S (ix5 0 d b h q) = (∑ j : Fin 64, S (ix5 d b h q j) * r (ix4 d b h j) : EReal) := by
  unfold tripY
  pointwise

/-- Row `c` of the outputs replaced. -/
def putAt (ys : FVec Ideal S256x2x32x4x64 .f32) (c : (⟨S_, .i32⟩ : BufTy).Contents (Elt Ideal)) (u : FVec Ideal S1x2x32x4x64 .f32) : FVec Ideal S256x2x32x4x64 .f32 :=
  Host.dynamicUpdateSlice ys u (fun k => (((![c, constantI S_ 32 0#32, constantI S_ 32 0#32, constantI S_ 32 0#32, constantI S_ 32 0#32] : Fin 5 → (⟨S_, .i32⟩ : BufTy).Contents (Elt Ideal))) k (Shape.Idx.first h_S_)).toInt) updateFits_S256x2x32x4x64_S1x2x32x4x64

theorem putAt_at (ys : FVec Ideal S256x2x32x4x64 .f32) (u : FVec Ideal S1x2x32x4x64 .f32) (c : (⟨S_, .i32⟩ : BufTy).Contents (Elt Ideal)) (n : ℕ) (hn : n < 256) (hc : c = fun _ => Scf.iv 0#32 1#32 n) (T : Fin 256) (d : Fin 2) (b : Fin 32) (h : Fin 4) (q : Fin 64) :
    putAt ys c u (ix5 T d b h q) = if T.val = n then u (ix5 0 d b h q) else ys (ix5 T d b h q) := by
  subst hc
  unfold putAt
  rw [Idealize.ShloMosaic.WordCmp.dynamicUpdateSlice_eq_update ys u _ _ ![n, 0, 0, 0, 0] (fits n hn) (starts_at n hn)]
  pointwise
  by_cases e : T.val = n
  · rw [dif_pos (by omega), if_pos e]
    congr 2
    exact Fin.ext (by simp [e])
  · rw [dif_neg (by omega), if_neg e]

theorem step8_eq (X : Valuation τ sig (Elt Ideal)) :
    step_main_v60_8 X = putAt (X (Proc.devRef .tc main_v60_8)) (X (Proc.devRef .tc main_v60_6))
      (tripY (rowAt (X (Proc.devRef .tc main_v60_0)) (X (Proc.devRef .tc main_v60_6))) (res_main_while0b_v95 X)) := by
  unfold step_main_v60_8 putAt tripY rowAt
  rw [id_eq]
  rfl

/-- The loop's state, over the extended reals: direction, batch, head, value row, key row. -/
abbrev RSt := Fin 2 → Fin 32 → Fin 4 → Fin 64 → Fin 64 → EReal

/-- One step of the recurrence on the state. -/
def rstep (w kk kka v k : Fin 2 → Fin 32 → Fin 4 → Fin 64 → EReal) (S : RSt) : RSt := fun d b h q l =>
  S d b h q l * w d b h l - (∑ j : Fin 64, S d b h q j * kk d b h j) * kka d b h l + v d b h q * k d b h l

/-- The rows the loop scans, as functions of the step. -/
structure Rows where
  r : Fin 256 → Fin 2 → Fin 32 → Fin 4 → Fin 64 → EReal
  w : Fin 256 → Fin 2 → Fin 32 → Fin 4 → Fin 64 → EReal
  kk : Fin 256 → Fin 2 → Fin 32 → Fin 4 → Fin 64 → EReal
  kka : Fin 256 → Fin 2 → Fin 32 → Fin 4 → Fin 64 → EReal
  v : Fin 256 → Fin 2 → Fin 32 → Fin 4 → Fin 64 → EReal
  k : Fin 256 → Fin 2 → Fin 32 → Fin 4 → Fin 64 → EReal

/-- The state after `n` steps. -/
def rS (R : Rows) (S0 : RSt) : ℕ → RSt
  | 0 => S0
  | n + 1 => rstep (R.w (Fin.ofNat 256 n)) (R.kk (Fin.ofNat 256 n)) (R.kka (Fin.ofNat 256 n)) (R.v (Fin.ofNat 256 n)) (R.k (Fin.ofNat 256 n)) (rS R S0 n)

/-- The output of step `n`. -/
def rY (R : Rows) (S0 : RSt) (n : Fin 256) (d : Fin 2) (b : Fin 32) (h : Fin 4) (q : Fin 64) : EReal :=
  ∑ j : Fin 64, rS R S0 (n.val + 1) d b h q j * R.r n d b h j

/-- The rows and the first state that the loop's buffers hold before it. -/
def rowsOf (E : Valuation τ sig (Elt Ideal)) : Rows where
  r t d b h j := (E (Proc.devRef .tc main_v60_0) : FVec Ideal S256x2x32x4x64 .f32) (ix5 t d b h j)
  w t d b h j := (E (Proc.devRef .tc main_v60_1) : FVec Ideal S256x2x32x4x64 .f32) (ix5 t d b h j)
  kk t d b h j := (E (Proc.devRef .tc main_v60_2) : FVec Ideal S256x2x32x4x64 .f32) (ix5 t d b h j)
  kka t d b h j := (E (Proc.devRef .tc main_v60_3) : FVec Ideal S256x2x32x4x64 .f32) (ix5 t d b h j)
  v t d b h j := (E (Proc.devRef .tc main_v60_4) : FVec Ideal S256x2x32x4x64 .f32) (ix5 t d b h j)
  k t d b h j := (E (Proc.devRef .tc main_v60_5) : FVec Ideal S256x2x32x4x64 .f32) (ix5 t d b h j)

def stateOf (E : Valuation τ sig (Elt Ideal)) : RSt := fun d b h q l =>
  (E (Proc.devRef .tc main_v60_7) : FVec Ideal S2x32x4x64x64 .f32) (ix5 d b h q l)

/-- The loop's buffers after `n` trips: the rows stand, the counter counts, the state is `rS`, the outputs of the
    steps run are `rY`. -/
structure Inv (E : Valuation τ sig (Elt Ideal)) (n : ℕ) (X : Valuation τ sig (Elt Ideal)) : Prop where
  r : X (Proc.devRef .tc main_v60_0) = E (Proc.devRef .tc main_v60_0)
  w : X (Proc.devRef .tc main_v60_1) = E (Proc.devRef .tc main_v60_1)
  kk : X (Proc.devRef .tc main_v60_2) = E (Proc.devRef .tc main_v60_2)
  kka : X (Proc.devRef .tc main_v60_3) = E (Proc.devRef .tc main_v60_3)
  v : X (Proc.devRef .tc main_v60_4) = E (Proc.devRef .tc main_v60_4)
  k : X (Proc.devRef .tc main_v60_5) = E (Proc.devRef .tc main_v60_5)
  ctr : X (Proc.devRef .tc main_v60_6) = fun _ => Scf.iv 0#32 1#32 n
  state : ∀ d b h q l, (X (Proc.devRef .tc main_v60_7) : FVec Ideal S2x32x4x64x64 .f32) (ix5 d b h q l) = rS (rowsOf E) (stateOf E) n d b h q l
  ys : ∀ (T : Fin 256) d b h q, T.val < n → (X (Proc.devRef .tc main_v60_8) : FVec Ideal S256x2x32x4x64 .f32) (ix5 T d b h q) = rY (rowsOf E) (stateOf E) T d b h q

theorem res_at {E X : Valuation τ sig (Elt Ideal)} {n : ℕ} (hn : n < 256) (I : Inv E n X) (d : Fin 2) (b : Fin 32) (h : Fin 4) (q l : Fin 64) :
    (res_main_while0b_v95 X : FVec Ideal S2x32x4x64x64 .f32) (ix5 d b h q l) = rS (rowsOf E) (stateOf E) (n + 1) d b h q l := by
  have e : (Fin.ofNat 256 n) = ⟨n, hn⟩ := Fin.ext (Nat.mod_eq_of_lt hn)
  rw [res_eq, tripS_at]
  simp only [rowAt_eq _ _ n hn I.ctr, I.w, I.kk, I.kka, I.v, I.k, I.state, rS, rstep, e]
  rfl

theorem Inv.step {E X : Valuation τ sig (Elt Ideal)} {n : ℕ} (hn : n < 256) (I : Inv E n X) : Inv E (n + 1) (STEP X) where
  r := (STEP_main_v60_0 X).trans I.r
  w := (STEP_main_v60_1 X).trans I.w
  kk := (STEP_main_v60_2 X).trans I.kk
  kka := (STEP_main_v60_3 X).trans I.kka
  v := (STEP_main_v60_4 X).trans I.v
  k := (STEP_main_v60_5 X).trans I.k
  ctr := by
    rw [STEP_main_v60_6]
    show addi (X (Proc.devRef .tc main_v60_6)) (constantI S_ 32 1#32) = _
    rw [I.ctr]
    funext j
    exact (Scf.iv_succ _ _ _).symm
  state d b h q l := by
    rw [STEP_main_v60_7]
    exact res_at hn I d b h q l
  ys T d b h q hT := by
    rw [STEP_main_v60_8, step8_eq, putAt_at _ _ _ n hn I.ctr]
    split
    · next e =>
      obtain rfl : T = ⟨n, hn⟩ := Fin.ext e
      rw [tripY_at]
      simp only [rowAt_eq _ _ n hn I.ctr, res_at hn I, I.r]
      rfl
    · next e => exact I.ys T d b h q (by omega)

/-- After `n` trips from an entry whose counter is zero. -/
theorem inv_iter (E : Valuation τ sig (Elt Ideal)) (h0 : E (Proc.devRef .tc main_v60_6) = fun _ => (0#32 : BitVec 32)) :
    ∀ n, n ≤ 256 → Inv E n (STEP^[n] E)
  | 0, _ => { r := rfl, w := rfl, kk := rfl, kka := rfl, v := rfl, k := rfl
              ctr := h0.trans (by rw [Scf.iv_zero])
              state := fun _ _ _ _ _ => rfl
              ys := fun _ _ _ _ _ h => absurd h (Nat.not_lt_zero _) }
  | n + 1, hn => by
    rw [Function.iterate_succ_apply']
    exact (inv_iter E h0 n (by omega)).step (by omega)

end Cert.ReferenceIdeal.Scan

end
-- ==== Proof.Scan.RefOut.lean ====
/- The scan's reference: the rows and the state that enter its loop, and its two results, at an index. -/
module

public import proofs.«01_k».proof.Proof.Scan.RefStep
public import Idealize.ShloMosaic.Lib.StableHlo.ReadAt

@[expose] public section

set_option maxRecDepth 16384

noncomputable section

namespace Cert.ReferenceIdeal.Scan

open Idealize.ShloMosaic Idealize.ShloMosaic.TcCoe Idealize.ShloMosaic.Tactic Idealize.ShloMosaic.StableHlo
open Cert.ReferenceIdeal Cert.ReferenceIdeal.Gen Cert.ReferenceIdeal.Value

/-- Head `h` of batch row `b` is lane `32 h + b`. -/
def lane (h : Fin 4) (b : Fin 32) : Fin 128 := ⟨h.val * 32 + b.val, by omega⟩

/-- The time that direction `d` reads at step `t`: itself, or counted from the end. -/
def timeOf (d : Fin 2) (t : Fin 256) : Fin 256 := ⟨if d.val = 0 then t.val else 255 - t.val, by split <;> omega⟩

/-- A forward and a time-reversed array of rows, by head, laid out step by step. -/
def seqOf (x y : FVec Ideal S256x64x128 .f32) : FVec Ideal S256x2x32x4x64 .f32 :=
  transpose S256x2x32x4x64 [3, 0, 1, 2, 4] (concatenate S2x32x4x256x64 0
    [⟨S1x32x4x256x64, broadcastInDim S1x32x4x256x64 ![1, 2, 3, 4] bcast_S32x4x256x64_S1x32x4x256x64_1_2_3_4 (transpose S32x4x256x64 [3, 2, 0, 1] (shapeCast S256x64x4x32 x shapeCasts_S256x64x128_S256x64x4x32) transposes_S256x64x4x32_S32x4x256x64_3_2_0_1)⟩,
     ⟨S1x32x4x256x64, broadcastInDim S1x32x4x256x64 ![1, 2, 3, 4] bcast_S32x4x256x64_S1x32x4x256x64_1_2_3_4 (Host.reverse [2] (transpose S32x4x256x64 [3, 2, 0, 1] (shapeCast S256x64x4x32 y shapeCasts_S256x64x128_S256x64x4x32) transposes_S256x64x4x32_S32x4x256x64_3_2_0_1))⟩]
    concatenates_S1x32x4x256x64_S1x32x4x256x64_S2x32x4x256x64_d0) transposes_S2x32x4x256x64_S256x2x32x4x64_3_0_1_2_4

theorem seqOf_at (x y : FVec Ideal S256x64x128 .f32) (t : Fin 256) (d : Fin 2) (b : Fin 32) (h : Fin 4) (j : Fin 64) :
    seqOf x y (ix5 t d b h j) = (if d.val = 0 then x else y) (ix3 (timeOf d t) j (lane h b)) := by
  unfold seqOf
  pointwise
  show (if h_1 : d.val < 1 then x (ix3 t j (lane h b)) else y (ix3 t.rev j (lane h b))) = _
  by_cases e : d.val = 0
  · rw [dif_pos (by omega), if_pos e]
    exact congrArg x (congrArg (fun z => ix3 z j (lane h b)) (Fin.ext (if_pos e).symm))
  · rw [dif_neg (by omega), if_neg e]
    refine congrArg y (congrArg (fun z => ix3 z j (lane h b)) (Fin.ext ?_))
    rw [Fin.val_rev]
    show 256 - (t.val + 1) = if d.val = 0 then _ else _
    rw [if_neg e]
    omega

variable (m : (ℓ : Loc nD τ sig) → Buf (Elt Ideal) ℓ) (c : Dev nD)

/-- Direction `d`'s half of the decays. -/
def half (d : ℕ) (x : FVec Ideal S2x256x64x128 .f32) (h : S2x256x64x128.Slices ![d, 0, 0, 0] S1x256x64x128) : FVec Ideal S256x64x128 .f32 :=
  shapeCast S256x64x128 (extractStridedSlice S1x256x64x128 ![d, 0, 0, 0] x h) shapeCasts_S1x256x64x128_S256x64x128

set_option maxHeartbeats 2000000 in
theorem entry_r : (entryContents preI m c) (Proc.devRef .tc main_v60_0) = seqOf (m ((c.tc : Thread nD τ).loc main_arg0)) (m ((c.tc : Thread nD τ).loc main_arg0)) := by
  simp only [entryContents, afterL_cons, afterL_nil]
  after_results
  rfl

set_option maxHeartbeats 2000000 in
theorem entry_w : (entryContents preI m c) (Proc.devRef .tc main_v60_1) = seqOf (half 0 (m ((c.tc : Thread nD τ).loc main_arg1)) slices_S2x256x64x128_S1x256x64x128_0_0_0_0) (half 1 (m ((c.tc : Thread nD τ).loc main_arg1)) slices_S2x256x64x128_S1x256x64x128_1_0_0_0) := by
  simp only [entryContents, afterL_cons, afterL_nil]
  after_results
  rfl

set_option maxHeartbeats 2000000 in
theorem entry_kk : (entryContents preI m c) (Proc.devRef .tc main_v60_2) = seqOf (m ((c.tc : Thread nD τ).loc main_arg2)) (m ((c.tc : Thread nD τ).loc main_arg2)) := by
  simp only [entryContents, afterL_cons, afterL_nil]
  after_results
  rfl

set_option maxHeartbeats 2000000 in
theorem entry_kka : (entryContents preI m c) (Proc.devRef .tc main_v60_3) = seqOf (m ((c.tc : Thread nD τ).loc main_arg3)) (m ((c.tc : Thread nD τ).loc main_arg3)) := by
  simp only [entryContents, afterL_cons, afterL_nil]
  after_results
  rfl

set_option maxHeartbeats 2000000 in
theorem entry_v : (entryContents preI m c) (Proc.devRef .tc main_v60_4) = seqOf (m ((c.tc : Thread nD τ).loc main_arg5)) (m ((c.tc : Thread nD τ).loc main_arg5)) := by
  simp only [entryContents, afterL_cons, afterL_nil]
  after_results
  rfl

set_option maxHeartbeats 2000000 in
theorem entry_k : (entryContents preI m c) (Proc.devRef .tc main_v60_5) = seqOf (m ((c.tc : Thread nD τ).loc main_arg4)) (m ((c.tc : Thread nD τ).loc main_arg4)) := by
  simp only [entryContents, afterL_cons, afterL_nil]
  after_results
  rfl

set_option maxHeartbeats 2000000 in
theorem entry_s : (entryContents preI m c) (Proc.devRef .tc main_v60_7) = transpose S2x32x4x64x64 [1, 0, 2, 3, 4] (m ((c.tc : Thread nD τ).loc main_arg6)) transposes_S32x2x4x64x64_S2x32x4x64x64_1_0_2_3_4 := by
  simp only [entryContents, afterL_cons, afterL_nil]
  after_results
  rfl

/-- Batch row and head of a lane. -/
def bat (l : Fin 128) : Fin 32 := ⟨l.val % 32, by omega⟩
def head (l : Fin 128) : Fin 4 := ⟨l.val / 32, by omega⟩

theorem lane_head_bat (l : Fin 128) : lane (head l) (bat l) = l := Fin.ext (by show l.val / 32 * 32 + l.val % 32 = l.val; omega)

/-- The state's result: key row, value row and lane of the loop's state. -/
theorem out_state_at (X : Valuation τ sig (Elt Ideal)) (d : Fin 2) (j q : Fin 64) (l : Fin 128) :
    (out_main_v73 X : FVec Ideal S2x64x64x128 .f32) (ix4 d j q l)
      = (X (Proc.devRef .tc main_v60_7) : FVec Ideal S2x32x4x64x64 .f32) (ix5 d (bat l) (head l) q j) := by
  unfold out_main_v73
  pointwise
  rfl

/-- The outputs' result: the loop's row of the step at which the direction visits the time. -/
theorem out_ys_at (X : Valuation τ sig (Elt Ideal)) (d : Fin 2) (t : Fin 256) (q : Fin 64) (l : Fin 128) :
    (out_main_v71 X : FVec Ideal S2x256x64x128 .f32) (ix4 d t q l)
      = (X (Proc.devRef .tc main_v60_8) : FVec Ideal S256x2x32x4x64 .f32) (ix5 (timeOf d t) d (bat l) (head l) q) := by
  unfold out_main_v71
  pointwise
  show (if h_1 : d.val < 1 then (X (Proc.devRef .tc main_v60_8) : FVec Ideal S256x2x32x4x64 .f32) (ix5 t 0 (bat l) (head l) q)
    else (X (Proc.devRef .tc main_v60_8) : FVec Ideal S256x2x32x4x64 .f32) (ix5 t.rev 1 (bat l) (head l) q)) = _
  by_cases e : d.val = 0
  · rw [dif_pos (by omega)]
    have e1 : t = timeOf d t := Fin.ext (if_pos e).symm
    have e2 : (0 : Fin 2) = d := Fin.ext e.symm
    rw [← e1, e2]
  · rw [dif_neg (by omega)]
    have e1 : t.rev = timeOf d t := Fin.ext (by
      rw [Fin.val_rev]
      show 256 - (t.val + 1) = if d.val = 0 then _ else _
      rw [if_neg e]; omega)
    have e2 : (1 : Fin 2) = d := Fin.ext (by show 1 = d.val; omega)
    rw [← e1, e2]

/-- The decays' halves at an index. -/
theorem half_at (x : FVec Ideal S2x256x64x128 .f32) (t : Fin 256) (d : Fin 2) (j : Fin 64) (l : Fin 128) :
    (if d.val = 0 then half 0 x slices_S2x256x64x128_S1x256x64x128_0_0_0_0 else half 1 x slices_S2x256x64x128_S1x256x64x128_1_0_0_0) (ix3 t j l)
      = x (ix4 d t j l) := by
  by_cases e : d.val = 0
  · rw [if_pos e]
    obtain rfl : d = 0 := Fin.ext e
    unfold half
    pointwise
  · rw [if_neg e]
    obtain rfl : d = 1 := Fin.ext (by show d.val = 1; omega)
    unfold half
    pointwise

/-- The rows of the arguments, step by step. -/
def argRows (r : FVec Ideal S256x64x128 .f32) (w : FVec Ideal S2x256x64x128 .f32) (kk kka k v : FVec Ideal S256x64x128 .f32) : Rows where
  r t d b h j := r (ix3 (timeOf d t) j (lane h b))
  w t d b h j := w (ix4 d (timeOf d t) j (lane h b))
  kk t d b h j := kk (ix3 (timeOf d t) j (lane h b))
  kka t d b h j := kka (ix3 (timeOf d t) j (lane h b))
  v t d b h j := v (ix3 (timeOf d t) j (lane h b))
  k t d b h j := k (ix3 (timeOf d t) j (lane h b))

/-- The initial state of the argument. -/
def argState (s : FVec Ideal S32x2x4x64x64 .f32) : RSt := fun d b h q j => s (ix5 b d h q j)

/-- The loop enters with the arguments' rows. -/
theorem rows_entry : rowsOf (entryContents preI m c)
    = argRows (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  unfold rowsOf argRows
  rw [entry_r, entry_w, entry_kk, entry_kka, entry_v, entry_k]
  simp only [seqOf_at, half_at, ite_self]

theorem state_entry : stateOf (entryContents preI m c) = argState (m ((c.tc : Thread nD τ).loc main_arg6)) := by
  unfold stateOf argState
  rw [entry_s]
  funext d b h q l
  pointwise

/-- The reference's first result. -/
def refY (R : Rows) (S0 : RSt) : FVec Ideal S2x256x64x128 .f32 := fun i => rY R S0 (timeOf (i 0) (i 1)) (i 0) (bat (i 3)) (head (i 3)) (i 2)

/-- The reference's second result. -/
def refS (R : Rows) (S0 : RSt) : FVec Ideal S2x64x64x128 .f32 := fun i => rS R S0 256 (i 0) (bat (i 3)) (head (i 3)) (i 2) (i 1)

theorem out_y : out_main_v71 (STEP^[256] (entryContents preI m c)) = refY (rowsOf (entryContents preI m c)) (stateOf (entryContents preI m c)) := by
  refine funext fun (i : S2x256x64x128.Idx) => ?_
  idx_vars i
  exact (out_ys_at _ _ _ _ _).trans ((inv_iter _ (ctr_entry m c) 256 (Nat.le_refl _)).ys _ _ _ _ _ (Fin.isLt _))

theorem out_s : out_main_v73 (STEP^[256] (entryContents preI m c)) = refS (rowsOf (entryContents preI m c)) (stateOf (entryContents preI m c)) := by
  refine funext fun (i : S2x64x64x128.Idx) => ?_
  idx_vars i
  exact (out_state_at _ _ _ _ _).trans ((inv_iter _ (ctr_entry m c) 256 (Nat.le_refl _)).state _ _ _ _ _)

end Cert.ReferenceIdeal.Scan

end
-- ==== Proof.Scan.Math.lean ====
/- The scan's step over the extended reals: the kernel's blocked sums are sums over the 64 key rows, and its step is the
   recurrence's step read at a lane. -/
module

public import proofs.«01_k».proof.Proof.Scan.Run
public import proofs.«01_k».proof.Proof.Scan.RefOut

@[expose] public section

set_option maxRecDepth 16384

noncomputable section

namespace Cert.Proof.Scan

open Idealize.ShloMosaic Idealize.ShloMosaic.TcCoe
open Cert.KernelIdeal Cert.KernelIdeal.Scan Cert.ReferenceIdeal.Scan

theorem zero_eq : (zero : Ideal .f32) = (0 : EReal) := by
  pointwise

/-- An accumulator's terms. -/
theorem acc_eq (g : ℕ → EReal) (a n : ℕ) : (acc (F := Ideal) g a n : EReal) = ∑ k ∈ Finset.range n, g (4 * k + a) := by
  induction n with
  | zero => exact zero_eq
  | succ n ih => rw [Finset.sum_range_succ, ← ih]; rfl

/-- Groups of four terms, one group after the other. -/
theorem sum_four (g : ℕ → EReal) (n : ℕ) :
    ∑ x ∈ Finset.range n, (g (4 * x + 0) + g (4 * x + 1) + g (4 * x + 2) + g (4 * x + 3)) = ∑ i ∈ Finset.range (4 * n), g i := by
  induction n with
  | zero => rfl
  | succ n ih =>
    rw [Finset.sum_range_succ, ih, show 4 * (n + 1) = 4 * n + 3 + 1 from rfl, Finset.sum_range_succ,
      Finset.sum_range_succ _ (4 * n + 2), Finset.sum_range_succ _ (4 * n + 1), Finset.sum_range_succ _ (4 * n)]
    simp only [add_assoc, Nat.add_zero]

/-- The four accumulators together are the sum of the 64 terms. -/
theorem comb_eq (g : ℕ → EReal) : (comb (F := Ideal) g : EReal) = ∑ n : Fin 64, g n.val := by
  have h : (comb (F := Ideal) g : EReal) = (((zero : Ideal .f32) + acc (F := Ideal) g 0 16 + acc (F := Ideal) g 1 16 + acc (F := Ideal) g 2 16 + acc (F := Ideal) g 3 16 : EReal)) := rfl
  rw [h, zero_eq, acc_eq, acc_eq, acc_eq, acc_eq, zero_add, ← Finset.sum_add_distrib, ← Finset.sum_add_distrib, ← Finset.sum_add_distrib]
  rw [Fin.sum_univ_eq_sum_range (fun n => g n) 64]
  exact sum_four g 16

/-- A pass over the state's key rows, as a sum. -/
theorem colSum_eq (S : St Ideal) (q : Row Ideal) (v : Fin 64) (l : Fin 128) :
    (colSum S q v l : EReal) = ∑ j : Fin 64, ((S j v l : EReal) * q j l) := by
  refine (comb_eq _).trans (Finset.sum_congr rfl fun j _ => ?_)
  show ((S (Fin.ofNat 64 j.val) v l : EReal) * q (Fin.ofNat 64 j.val) l) = _
  rw [show Fin.ofNat 64 j.val = j from Fin.ext (Nat.mod_eq_of_lt j.isLt)]

/-- The kernel's state of direction `d` that the recurrence's state is: key row, value row, lane. -/
def toSt (d : Fin 2) (S : RSt) : St Ideal := fun n v l => S d (bat l) (head l) v n

/-- A step's row of direction `d`, by channel and lane. -/
def toRow (d : Fin 2) (x : Fin 2 → Fin 32 → Fin 4 → Fin 64 → EReal) : Row Ideal := fun n l => x d (bat l) (head l) n

/-- The kernel's step is the recurrence's step. -/
theorem stepS_eq (d : Fin 2) (w kk kka v k : Fin 2 → Fin 32 → Fin 4 → Fin 64 → EReal) (S : RSt) :
    stepS (toRow d w) (toRow d kk) (toRow d kka) (toRow d k) (toRow d v) (toSt d S) = toSt d (rstep w kk kka v k S) := by
  funext n q l
  have h : (colSum (toSt d S) (toRow d kk) q l : EReal) = ∑ j : Fin 64, S d (bat l) (head l) q j * kk d (bat l) (head l) j := colSum_eq _ _ _ _
  show ((S d (bat l) (head l) q n * w d (bat l) (head l) n : EReal) + (v d (bat l) (head l) q * k d (bat l) (head l) n - colSum (toSt d S) (toRow d kk) q l * kka d (bat l) (head l) n) : EReal)
    = S d (bat l) (head l) q n * w d (bat l) (head l) n - (∑ j : Fin 64, S d (bat l) (head l) q j * kk d (bat l) (head l) j) * kka d (bat l) (head l) n + v d (bat l) (head l) q * k d (bat l) (head l) n
  rw [h, sub_eq_add_neg, sub_eq_add_neg]
  ac_rfl

/-- The step of direction `d` that a block's step `n` is, of the block that starts at step `s`. -/
abbrev stepNo (s n : ℕ) : Fin 256 := Fin.ofNat 256 (s + n)

/-- Blocks that hold the recurrence's rows of the 32 steps from `s` on, in the order in which direction `d` visits them. -/
structure Holds (R : Rows) (d : Fin 2) (s : ℕ) (x3 : S1x32x64x128.Idx → Ideal .f32) (x4 x5 x6 x7 : S32x64x128.Idx → Ideal .f32) : Prop where
  w : ∀ i : Fin 32, at4 x3 (row d i) = toRow d (R.w (stepNo s i.val))
  kk : ∀ i : Fin 32, at3 x4 (row d i) = toRow d (R.kk (stepNo s i.val))
  kka : ∀ i : Fin 32, at3 x5 (row d i) = toRow d (R.kka (stepNo s i.val))
  k : ∀ i : Fin 32, at3 x6 (row d i) = toRow d (R.k (stepNo s i.val))
  v : ∀ i : Fin 32, at3 x7 (row d i) = toRow d (R.v (stepNo s i.val))

/-- The kernel's state within a block is the recurrence's. -/
theorem bS_eq {R : Rows} {d : Fin 2} {s : ℕ} {x3 : S1x32x64x128.Idx → Ideal .f32} {x4 x5 x6 x7 : S32x64x128.Idx → Ideal .f32}
    (H : Holds R d s x3 x4 x5 x6 x7) (S0 : RSt) : ∀ n, n ≤ 32 → bS d x3 x4 x5 x6 x7 (toSt d (rS R S0 s)) n = toSt d (rS R S0 (s + n))
  | 0, _ => rfl
  | n + 1, hn => by
    have e : (Fin.ofNat 32 n).val = n := Nat.mod_eq_of_lt (by omega)
    rw [bS, bS_eq H S0 n (by omega), stepAt, H.w, H.kk, H.kka, H.k, H.v, e]
    exact stepS_eq d _ _ _ _ _ _

/-- The kernel's outputs of a block's step are the recurrence's. -/
theorem bY_eq {R : Rows} {d : Fin 2} {s : ℕ} {x2 : S32x64x128.Idx → Ideal .f32} {x3 : S1x32x64x128.Idx → Ideal .f32} {x4 x5 x6 x7 : S32x64x128.Idx → Ideal .f32}
    (H : Holds R d s x3 x4 x5 x6 x7) (hr : ∀ i : Fin 32, at3 x2 (row d i) = toRow d (R.r (stepNo s i.val))) (S0 : RSt) (i : Fin 32) (q : Fin 64) (l : Fin 128)
    (hs : s + 32 ≤ 256) : bY d x2 x3 x4 x5 x6 x7 (toSt d (rS R S0 s)) i.val q l = rY R S0 (stepNo s i.val) d (bat l) (head l) q := by
  have e : Fin.ofNat 32 i.val = i := Fin.ext (Nat.mod_eq_of_lt i.isLt)
  have e' : (stepNo s i.val).val = s + i.val := Nat.mod_eq_of_lt (by omega)
  rw [bY, bS_eq H S0 _ (by omega), e, hr, rY, e']
  exact colSum_eq _ _ _ _

end Cert.Proof.Scan

end
-- ==== Proof.Scan.Final.lean ====
/- The scan's two result arrays over the extended reals: the recurrence's outputs and its last state. -/
module

public import proofs.«01_k».proof.Proof.Scan.Math
public import Idealize.ShloMosaic.Lib.Pipeline.ValueKit.Acc
public import Idealize.ShloMosaic.Lib.Pipeline.ValueKit.Geometry

@[expose] public section

set_option maxRecDepth 16384

noncomputable section

namespace Cert.Proof.Scan

open Idealize.ShloMosaic Idealize.ShloMosaic.TcCoe Idealize.ShloMosaic.Tactic
open Cert.KernelIdeal Cert.KernelIdeal.Gen Cert.KernelIdeal.Scan Cert.ReferenceIdeal.Scan

/-- The time block of a grid point: its second coordinate, counted from the end in direction 1. -/
def tb (t : Fin cfg0.N) : ℕ := if t.val < 8 then t.val else 15 - t.val

theorem e0 : ∀ t : Fin cfg0.N, win0_0.index t = ![tb t, 0, 0] := (by decide +kernel : ∀ t : Fin grid0.N, _)
theorem e1 : ∀ t : Fin cfg0.N, win0_1.index t = ![t.val / 8, tb t, 0, 0] := (by decide +kernel : ∀ t : Fin grid0.N, _)
theorem e2 : ∀ t : Fin cfg0.N, win0_2.index t = ![tb t, 0, 0] := (by decide +kernel : ∀ t : Fin grid0.N, _)
theorem e3 : ∀ t : Fin cfg0.N, win0_3.index t = ![tb t, 0, 0] := (by decide +kernel : ∀ t : Fin grid0.N, _)
theorem e4 : ∀ t : Fin cfg0.N, win0_4.index t = ![tb t, 0, 0] := (by decide +kernel : ∀ t : Fin grid0.N, _)
theorem e5 : ∀ t : Fin cfg0.N, win0_5.index t = ![tb t, 0, 0] := (by decide +kernel : ∀ t : Fin grid0.N, _)
theorem e6 : ∀ t : Fin cfg0.N, win0_6.index t = ![t.val / 8, 0, 0, 0] := (by decide +kernel : ∀ t : Fin grid0.N, _)
theorem e7 : ∀ t : Fin cfg0.N, win0_7.index t = ![t.val / 8, tb t, 0, 0] := (by decide +kernel : ∀ t : Fin grid0.N, _)
theorem e8 : ∀ t : Fin cfg0.N, win0_8.index t = ![t.val / 8, 0, 0, 0] := (by decide +kernel : ∀ t : Fin grid0.N, _)
theorem dir_eq : ∀ t : Fin cfg0.N, (dir (grid0.coords t)).val = t.val / 8 := (by decide +kernel : ∀ t : Fin grid0.N, _)

theorem lt16 (t : Fin cfg0.N) : t.val < 16 := Nat.lt_of_lt_of_eq t.isLt N_0

/-- The time at which a grid point's block has row `i`. -/
def time (t : Fin cfg0.N) (i : Fin 32) : Fin 256 := ⟨tb t * 32 + i.val, by have := lt16 t; unfold tb; split <;> omega⟩

/-- The block's row of step `i` lies at the time that the direction visits at that step. -/
theorem time_row (t : Fin cfg0.N) (i : Fin 32) :
    time t (row (dir (grid0.coords t)) i) = timeOf (dir (grid0.coords t)) (stepNo (32 * (t.val % 8)) i.val) := by
  have h16 := lt16 t
  have hd := dir_eq t
  have hs : (stepNo (32 * (t.val % 8)) i.val).val = 32 * (t.val % 8) + i.val := Nat.mod_eq_of_lt (by omega)
  refine Fin.ext ?_
  show tb t * 32 + (row _ i).val = if (dir (grid0.coords t)).val = 0 then _ else 255 - _
  rw [hs]
  by_cases h : (dir (grid0.coords t)).val = 0
  · rw [if_pos h, row, if_pos (Fin.ext h), tb, if_pos (by omega)]
    omega
  · rw [if_neg h, row, if_neg (fun e => h (congrArg Fin.val e)), tb, if_neg (by omega)]
    show (15 - t.val) * 32 + (31 - i.val) = _
    omega

theorem timeOf_timeOf (d : Fin 2) (t : Fin 256) : timeOf d (timeOf d t) = t := by
  refine Fin.ext ?_
  show (if d.val = 0 then (if d.val = 0 then t.val else 255 - t.val) else 255 - (if d.val = 0 then t.val else 255 - t.val)) = t.val
  split <;> omega

variable (m : (ℓ : Loc nD τ sig) → Buf (Elt Ideal) ℓ) (c : Dev nD)

theorem blk_r (t : Fin cfg0.N) (i : Fin 32) (n : Fin 64) (l : Fin 128) :
    iblk m c 0 t (ix3 i n l) = (m ((c : Thread nD τ).loc main_arg0) : FVec Ideal S256x64x128 .f32) (ix3 (time t i) n l) := by
  blk_ext [iblk, V, e0, time]
theorem blk_w (t : Fin cfg0.N) (i : Fin 32) (n : Fin 64) (l : Fin 128) :
    iblk m c 1 t (ix4 (0 : Fin 1) i n l) = (m ((c : Thread nD τ).loc main_arg1) : FVec Ideal S2x256x64x128 .f32) (ix4 (dir (grid0.coords t)) (time t i) n l) := by
  blk_ext [iblk, V, e1, time, dir_eq]
/-- The host's layout of the initial state: by direction, key row, value row and lane. -/
theorem init_layout (x : FVec Ideal S32x2x4x64x64 .f32) (d : Fin 2) (j q : Fin 64) (l : Fin 128) :
    shapeCast S2x64x64x128 (transpose S2x64x64x1x4x32 [1, 5, 4, 3, 2, 0] (shapeCast S32x2x4x1x64x64 x shapeCasts_S32x2x4x64x64_S32x2x4x1x64x64)
        transposes_S32x2x4x1x64x64_S2x64x64x1x4x32_1_5_4_3_2_0) shapeCasts_S2x64x64x1x4x32_S2x64x64x128 (ix4 d j q l)
      = x (ix5 (bat l) d (head l) q j) := by
  pointwise
  rfl

/-- The initial state as the kernel reads it: by key row, value row and lane. -/
theorem init_at (d : Fin 2) (j q : Fin 64) (l : Fin 128) :
    (V m c main_v2 : FVec Ideal S2x64x64x128 .f32) (ix4 d j q l)
      = (m ((c : Thread nD τ).loc main_arg6) : FVec Ideal S32x2x4x64x64 .f32) (ix5 (bat l) d (head l) q j) := by
  have h : (V m c main_v2 : FVec Ideal S2x64x64x128 .f32)
      = shapeCast S2x64x64x128 (transpose S2x64x64x1x4x32 [1, 5, 4, 3, 2, 0] (shapeCast S32x2x4x1x64x64 (m ((c : Thread nD τ).loc main_arg6) : FVec Ideal S32x2x4x64x64 .f32) shapeCasts_S32x2x4x64x64_S32x2x4x1x64x64)
          transposes_S32x2x4x1x64x64_S2x64x64x1x4x32_1_5_4_3_2_0) shapeCasts_S2x64x64x1x4x32_S2x64x64x128 := by
    show StableHlo.after hostOps0 _ _ = _
    after_results
    rfl
  exact (congrFun h (ix4 d j q l)).trans (init_layout _ d j q l)

theorem blk_s (t : Fin cfg0.N) (j q : Fin 64) (l : Fin 128) :
    iblk m c 6 t (ix4 (0 : Fin 1) j q l) = (m ((c : Thread nD τ).loc main_arg6) : FVec Ideal S32x2x4x64x64 .f32) (ix5 (bat l) (dir (grid0.coords t)) (head l) q j) := by
  refine Eq.trans ?_ (init_at m c _ j q l)
  unfold iblk
  show (V m c main_v2 : FVec Ideal S2x64x64x128 .f32) ((win0_6.blk t).view.emb (ix4 (0 : Fin 1) j q l)) = _
  generalize (V m c main_v2 : FVec Ideal S2x64x64x128 .f32) = X
  blk_ext [e6, dir_eq]

theorem blk_kk (t : Fin cfg0.N) (i : Fin 32) (n : Fin 64) (l : Fin 128) :
    iblk m c 2 t (ix3 i n l) = (m ((c : Thread nD τ).loc main_arg2) : FVec Ideal S256x64x128 .f32) (ix3 (time t i) n l) := by
  blk_ext [iblk, V, e2, time]
theorem blk_kka (t : Fin cfg0.N) (i : Fin 32) (n : Fin 64) (l : Fin 128) :
    iblk m c 3 t (ix3 i n l) = (m ((c : Thread nD τ).loc main_arg3) : FVec Ideal S256x64x128 .f32) (ix3 (time t i) n l) := by
  blk_ext [iblk, V, e3, time]
theorem blk_k (t : Fin cfg0.N) (i : Fin 32) (n : Fin 64) (l : Fin 128) :
    iblk m c 4 t (ix3 i n l) = (m ((c : Thread nD τ).loc main_arg4) : FVec Ideal S256x64x128 .f32) (ix3 (time t i) n l) := by
  blk_ext [iblk, V, e4, time]
theorem blk_v (t : Fin cfg0.N) (i : Fin 32) (n : Fin 64) (l : Fin 128) :
    iblk m c 5 t (ix3 i n l) = (m ((c : Thread nD τ).loc main_arg5) : FVec Ideal S256x64x128 .f32) (ix3 (time t i) n l) := by
  blk_ext [iblk, V, e5, time]

/-- The recurrence's rows, of the kernel's arguments. -/
abbrev R : Rows := argRows (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
/-- The recurrence's first state, of the kernel's argument. -/
abbrev S0 : RSt := argState (m ((c : Thread nD τ).loc main_arg6))

theorem holds_r (t : Fin cfg0.N) (i : Fin 32) :
    at3 (iblk m c 0 t) (row (dir (grid0.coords t)) i) = toRow (dir (grid0.coords t)) ((R m c).r (stepNo (32 * (t.val % 8)) i.val)) := by
  funext n l
  show iblk m c 0 t (ix3 (row (dir (grid0.coords t)) i) n l) = (m ((c : Thread nD τ).loc main_arg0) : FVec Ideal S256x64x128 .f32) (ix3 _ n (lane (head l) (bat l)))
  rw [blk_r, time_row, lane_head_bat]

theorem holds (t : Fin cfg0.N) : Holds (R m c) (dir (grid0.coords t)) (32 * (t.val % 8)) (iblk m c 1 t) (iblk m c 2 t) (iblk m c 3 t) (iblk m c 4 t) (iblk m c 5 t) where
  w i := by
    funext n l
    show iblk m c 1 t (ix4 (0 : Fin 1) (row (dir (grid0.coords t)) i) n l) = (m ((c : Thread nD τ).loc main_arg1) : FVec Ideal S2x256x64x128 .f32) (ix4 (dir (grid0.coords t)) _ n (lane (head l) (bat l)))
    rw [blk_w, time_row, lane_head_bat]
  kk i := by
    funext n l
    show iblk m c 2 t (ix3 (row (dir (grid0.coords t)) i) n l) = (m ((c : Thread nD τ).loc main_arg2) : FVec Ideal S256x64x128 .f32) (ix3 _ n (lane (head l) (bat l)))
    rw [blk_kk, time_row, lane_head_bat]
  kka i := by
    funext n l
    show iblk m c 3 t (ix3 (row (dir (grid0.coords t)) i) n l) = (m ((c : Thread nD τ).loc main_arg3) : FVec Ideal S256x64x128 .f32) (ix3 _ n (lane (head l) (bat l)))
    rw [blk_kka, time_row, lane_head_bat]
  k i := by
    funext n l
    show iblk m c 4 t (ix3 (row (dir (grid0.coords t)) i) n l) = (m ((c : Thread nD τ).loc main_arg4) : FVec Ideal S256x64x128 .f32) (ix3 _ n (lane (head l) (bat l)))
    rw [blk_k, time_row, lane_head_bat]
  v i := by
    funext n l
    show iblk m c 5 t (ix3 (row (dir (grid0.coords t)) i) n l) = (m ((c : Thread nD τ).loc main_arg5) : FVec Ideal S256x64x128 .f32) (ix3 _ n (lane (head l) (bat l)))
    rw [blk_v, time_row, lane_head_bat]

/-- The state a block's loop starts from is the recurrence's, when the block before left the recurrence's. -/
theorem ent_eq (t : Fin cfg0.N) (S : St Ideal)
    (h : ¬t.val % 8 = 0 → S = toSt (dir (grid0.coords t)) (rS (R m c) (S0 m c) (32 * (t.val % 8)))) :
    ent m c t S = toSt (dir (grid0.coords t)) (rS (R m c) (S0 m c) (32 * (t.val % 8))) := by
  by_cases e : t.val % 8 = 0
  · rw [ent, if_pos e, e]
    funext j q l
    exact blk_s m c t j q l
  · rw [ent, if_neg e]
    exact h e

theorem next_div {n : ℕ} (h : ¬(n + 1) % 8 = 0) : (n + 1) / 8 = n / 8 := by omega
theorem next_mod {n : ℕ} (h : ¬(n + 1) % 8 = 0) : 32 * ((n + 1) % 8) = 32 * (n % 8) + 32 := by omega

/-- The state after a grid point. -/
theorem stN_eq : ∀ (n : ℕ) (h : n < cfg0.N),
    stN m c (n + 1) = toSt (dir (grid0.coords ⟨n, h⟩)) (rS (R m c) (S0 m c) (32 * (n % 8) + 32))
      ∧ ent m c ⟨n, h⟩ (stN m c n) = toSt (dir (grid0.coords ⟨n, h⟩)) (rS (R m c) (S0 m c) (32 * (n % 8)))
  | 0, h => by
    have he := ent_eq m c ⟨0, h⟩ (stN m c 0) (fun e => absurd rfl e)
    refine ⟨?_, he⟩
    rw [stN_succ m c ⟨0, h⟩, nxt, he]
    exact bS_eq (holds m c ⟨0, h⟩) _ 32 (Nat.le_refl _)
  | n + 1, h => by
    have ih := (stN_eq n (by omega)).1
    have he := ent_eq m c ⟨n + 1, h⟩ (stN m c (n + 1)) (fun e => by
      have e : ¬(n + 1) % 8 = 0 := e
      have hd : dir (grid0.coords ⟨n + 1, h⟩) = dir (grid0.coords ⟨n, Nat.lt_of_succ_lt h⟩) := Fin.ext (by
        rw [dir_eq, dir_eq]; exact next_div e)
      rw [ih, hd, show 32 * ((⟨n + 1, h⟩ : Fin cfg0.N).val % 8) = 32 * (n % 8) + 32 from next_mod e])
    refine ⟨?_, he⟩
    rw [stN_succ m c ⟨n + 1, h⟩, nxt, he]
    exact bS_eq (holds m c ⟨n + 1, h⟩) _ 32 (Nat.le_refl _)

/-- The kernel's outputs. -/
theorem final_y : (dats m 0 c).arrAt 7 cfg0.N = refY (R m c) (S0 m c) := by
  refine (dats m 0 c).arrAt_eq_of_covers 7 _ (by decide +kernel) fun t hf y => ?_
  blk_simp
  rw [after0_7]
  obtain ⟨i, q, l, hy⟩ : ∃ (i : Fin 32) (q : Fin 64) (l : Fin 128), y = ix4 (0 : Fin 1) i q l :=
    ⟨y 1, y 2, y 3, by funext a; fin_cases a <;> first | rfl | exact Fin.ext (by have := (y 0).isLt; show (y 0).val = 0; change (y 0).val < 1 at this; omega)⟩
  subst hy
  have h1 : yN m c t (ix4 (0 : Fin 1) i q l) = refY (R m c) (S0 m c) (ix4 (dir (grid0.coords t)) (time t i) q l) := by
    have hr := row_row (dir (grid0.coords t)) i
    have ht := time_row t (row (dir (grid0.coords t)) i)
    rw [hr] at ht
    show bY _ _ _ _ _ _ _ (ent m c t (stN m c t.val)) (row (dir (grid0.coords t)) i).val q l = rY _ _ (timeOf (dir (grid0.coords t)) (time t i)) _ _ _ q
    rw [(stN_eq m c t.val t.isLt).2, ht, timeOf_timeOf]
    exact bY_eq (holds m c t) (holds_r m c t) _ _ q l (by omega)
  rw [h1]
  blk_ext [e7, dir_eq, time]

/-- The kernel's last state. -/
theorem final_s : (dats m 0 c).arrAt 8 cfg0.N = refS (R m c) (S0 m c) := by
  refine (dats m 0 c).arrAt_eq_of_covers 8 _ (by decide +kernel) fun t hf y => ?_
  blk_simp
  rw [after0_8]
  obtain ⟨j, q, l, hy⟩ : ∃ (j q : Fin 64) (l : Fin 128), y = ix4 (0 : Fin 1) j q l :=
    ⟨y 1, y 2, y 3, by funext a; fin_cases a <;> first | rfl | exact Fin.ext (by have := (y 0).isLt; show (y 0).val = 0; change (y 0).val < 1 at this; omega)⟩
  subst hy
  have h1 : blkOf (stN m c (t.val + 1)) (ix4 (0 : Fin 1) j q l) = refS (R m c) (S0 m c) (ix4 (dir (grid0.coords t)) j q l) := by
    have h7 : t.val % 8 = 7 := (flush0_8 t).mp hf
    show stN m c (t.val + 1) j q l = rS _ _ 256 _ _ _ q j
    rw [(stN_eq m c t.val t.isLt).1, h7]
    rfl
  rw [h1]
  blk_ext [e8, dir_eq]

end Cert.Proof.Scan

end
-- ==== Proof.Scan.Claims.lean ====
/- The scan's claims: its two frames, its reference's. -/
module

public import proofs.«01_k».proof.Defs
public import proofs.«01_k».proof.Proof.Gen.Kernel
public import proofs.«01_k».proof.Proof.Gen.Kernel.Frame
public import proofs.«01_k».proof.Proof.Gen.ReferenceIdeal.Run
public import proofs.«01_k».proof.Proof.Scan.Final
public import Idealize.ShloMosaic.Lib.Quiescent

@[expose] public section

set_option maxRecDepth 16384

noncomputable section

namespace Cert.Proof.Scan

open Idealize.ShloMosaic Idealize.ShloMosaic.TcCoe Idealize.SL.Sem

/-- Every run of the scan over the extended reals ends, its arguments unchanged and its counters at zero. -/
theorem frame_ideal : Cert.quiescent_KernelIdeal := fun m ρ _ => Cert.KernelIdeal.Scan.frame_main m ρ

/-- The two programs have the same kernel bodies. -/
theorem bodies_eq : Cert.Kernel.defs₀ (F := Bits) = Cert.KernelIdeal.defs₀ := by
  unfold Cert.Kernel.defs₀ Cert.KernelIdeal.defs₀
  refine congrArg Defs.onTc (funext fun l => funext fun a => ?_)
  match l, a with
  | 0, (t, s) => rfl
  | ⟨n + 1, h⟩, _ => exact absurd h (Nat.not_lt.2 (Nat.le_add_left _ _))

theorem defs_eq : Cert.Kernel.defs (F := Bits) = Cert.KernelIdeal.defs :=
  congrArg (Pipeline.defs Cert.KernelIdeal.pcfgs) bodies_eq

/-- The frame over words: the two programs have one text, and the run is proved over any float values. -/
theorem frame_kernel : Cert.quiescent_Kernel := by
  intro m ρ _
  rw [defs_eq]
  exact Cert.KernelIdeal.Scan.frame_main (F := Bits) m ρ

/-- The reference's run, its arguments unchanged; it has no semaphore. -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

theorem preserves : Cert.preserves_Kernel_KernelIdeal := trivial

/-- The scan's two results: the recurrence's outputs and its last state, of the arguments. -/
theorem run_values (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v3_0) = Cert.ReferenceIdeal.Scan.refY (R m c) (S0 m c)
      ∧ r.2.mem ((c.tc : Thread Cert.KernelIdeal.nD Cert.KernelIdeal.τ).loc Cert.KernelIdeal.main_v3_1) = Cert.ReferenceIdeal.Scan.refS (R m c) (S0 m c)) :=
  (θ_run Cert.KernelIdeal.defs _ _).mono (fun r h c => ⟨((h c).1 7).trans (final_y m c), ((h c).1 8).trans (final_s m c)⟩) (Cert.KernelIdeal.Scan.run_main m ρ)

/-- Over the extended reals the scan's results are the reference's: both hold, at every index, the outputs and the last
    state of the RWKV-7 recurrence on the arguments. -/
theorem algebraic : Cert.algebraic_KernelIdeal_ReferenceIdeal := by
  intro m ρ m' ρ' _ hagree
  refine ⟨fun c => Cert.ReferenceIdeal.Scan.refY (R m c) (S0 m c), fun c => Cert.ReferenceIdeal.Scan.refS (R m c) (S0 m c), ?_, ?_⟩
  · exact (θ_run Cert.KernelIdeal.defs _ _).mono (fun r h c => ⟨(h.1 c).1, (h.1 c).2, h.2 c⟩)
      (θ_run_and (run_values m ρ) (Cert.KernelIdeal.Scan.unchanged m ρ))
  · refine (θ_run Cert.ReferenceIdeal.defs _ _).mono (fun r h c => ?_) (Cert.ReferenceIdeal.Value.run (F := Ideal) m' ρ')
    obtain ⟨h0, h1, h2, h3, h4, h5, h6⟩ := hagree c
    have eR : Cert.ReferenceIdeal.Scan.rowsOf (Idealize.ShloMosaic.StableHlo.entryContents Cert.ReferenceIdeal.Value.preI m' c) = R m c := by
      rw [Cert.ReferenceIdeal.Scan.rows_entry, h0, h1, h2, h3, h4, h5]
    have eS : Cert.ReferenceIdeal.Scan.stateOf (Idealize.ShloMosaic.StableHlo.entryContents Cert.ReferenceIdeal.Value.preI m' c) = S0 m c := by
      rw [Cert.ReferenceIdeal.Scan.state_entry, h6]
    refine ⟨(h c).1.trans ?_, (h c).2.1.trans ?_, (h c).2.2⟩
    · rw [Cert.ReferenceIdeal.Scan.out_y, eR, eS]
    · rw [Cert.ReferenceIdeal.Scan.out_s, eR, eS]

end Cert.Proof.Scan

end
-- ==== Proof.Ffn.Block.lean ====
/- The feed-forward call: what its result array holds, index by index, over the extended reals. -/
module

public import proofs.«01_k».proof.Proof.Gen.Kernel2Ideal.Value
public import Idealize.ShloMosaic.Lib.Pointwise
public import Idealize.ShloMosaic.Lib.Pipeline.ValueKit.Acc
public import Idealize.ShloMosaic.Lib.Pipeline.ValueKit.Geometry

@[expose] public section

set_option maxRecDepth 16384

noncomputable section

namespace Cert.Kernel2Ideal.Ffn

open Idealize.ShloMosaic Idealize.ShloMosaic.TcCoe Idealize.ShloMosaic.Tactic
open Cert.Kernel2Ideal Cert.Kernel2Ideal.Gen

/-- The gated unit: `a · 1/(1 + exp(−a)) · b`. -/
def gate (a b : EReal) : EReal := a * Ideal.div 1 (1 + Ideal.exp (0 - a)) * b

/-- One output of the feed-forward layer, from a token's row, the columns of the two up projections and a column of the down projection. -/
def ffn (x : Fin 1024 → EReal) (w1 w3 : Fin 1024 → Fin 2048 → EReal) (w2 : Fin 2048 → EReal) : EReal :=
  ∑ f : Fin 2048, gate (∑ d, x d * w1 d f) (∑ d, x d * w3 d f) * w2 f

/-- A sum over the hidden width is the sum over its first half and the sum over its second. -/
theorem sum_halves (h : Fin 2048 → EReal) :
    ∑ f, h f = (∑ f : Fin 1024, h ⟨f.val, by omega⟩) + ∑ f : Fin 1024, h ⟨1024 + f.val, by omega⟩ :=
  Fin.sum_univ_add (a := 1024) (b := 1024) h

theorem out_at (x0 : Vec Ideal S1x512x1024 .bf16) (x1 x2 : Vec Ideal S1x1024x2048 .bf16) (x3 : Vec Ideal S1x2048x1024 .bf16)
    (r : Fin 512) (o : Fin 1024) :
    out0_4 x0 x1 x2 x3 (ix3 (0 : Fin 1) r o)
      = ffn (fun d => x0 (ix3 (0 : Fin 1) r d)) (fun d f => x1 (ix3 (0 : Fin 1) d f)) (fun d f => x2 (ix3 (0 : Fin 1) d f)) (fun f => x3 (ix3 (0 : Fin 1) f o)) := by
  frame_out
  rw [ffn, sum_halves]
  pointwise [k0_pay1, k0_pay2, k0_pay3, k0_pay4, k0_pay5, k0_pay6]
  rfl

variable (m : (ℓ : Loc nD τ sig) → Buf (Elt Ideal) ℓ)

/-- The whole result. -/
def G (x : FVec Ideal S16x3072x1024 .bf16) (w1 w3 : FVec Ideal S16x1024x2048 .f32) (w2 : FVec Ideal S16x2048x1024 .f32) : FVec Ideal S16x3072x1024 .bf16 :=
  fun j => ffn (fun d => x (ix3 (j 0) (j 1) d)) (fun d f => w1 (ix3 (j 0) d f)) (fun d f => w3 (ix3 (j 0) d f)) (fun f => w2 (ix3 (j 0) f (j 2)))

theorem e0 : ∀ t : Fin cfg0.N, win0_0.index t = ![(grid0.coords t 0).val, (grid0.coords t 1).val, 0] := (by decide +kernel : ∀ t : Fin grid0.N, _)
theorem e1 : ∀ t : Fin cfg0.N, win0_1.index t = ![(grid0.coords t 0).val, 0, 0] := (by decide +kernel : ∀ t : Fin grid0.N, _)
theorem e2 : ∀ t : Fin cfg0.N, win0_2.index t = ![(grid0.coords t 0).val, 0, 0] := (by decide +kernel : ∀ t : Fin grid0.N, _)
theorem e3 : ∀ t : Fin cfg0.N, win0_3.index t = ![(grid0.coords t 0).val, 0, 0] := (by decide +kernel : ∀ t : Fin grid0.N, _)
theorem e4 : ∀ t : Fin cfg0.N, win0_4.index t = ![(grid0.coords t 0).val, (grid0.coords t 1).val, 0] := (by decide +kernel : ∀ t : Fin grid0.N, _)

theorem final (c : Dev nD) : (dats m 0 c).arrAt 4 cfg0.N
    = G (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  obtain ⟨r, o, hy⟩ : ∃ (r : Fin 512) (o : Fin 1024), y = ix3 (0 : Fin 1) r o := ⟨y 1, y 2, by funext a; fin_cases a <;> first | rfl | exact Fin.ext (by have := (y 0).isLt; show (y 0).val = 0; change (y 0).val < 1 at this; omega)⟩
  subst hy
  rw [out_at, G]
  congr 1
  · funext d
    blk_ext [iblk, V, e0, e4]
  · funext d f
    blk_ext [iblk, V, e1, e4]
  · funext d f
    blk_ext [iblk, V, e2, e4]
  · funext f
    blk_ext [iblk, V, e3, e4]

end Cert.Kernel2Ideal.Ffn

end
-- ==== Proof.Ffn.Ref.lean ====
/- The feed-forward reference: what its result holds at an index, over the extended reals. -/
module

public import proofs.«01_k».proof.Proof.Gen.Reference2Ideal.Run
public import proofs.«01_k».proof.Proof.Ffn.Block

@[expose] public section

set_option maxRecDepth 16384

noncomputable section

namespace Cert.Reference2Ideal.Ffn

open Idealize.ShloMosaic Idealize.ShloMosaic.TcCoe Idealize.ShloMosaic.Tactic
open Cert.Reference2Ideal Cert.Reference2Ideal.Gen
open Cert.Kernel2Ideal.Ffn (G ffn gate)

/-- The reference's result is the feed-forward layer at every index. -/
theorem ref_eq (x : FVec Ideal S16x3072x1024 .bf16) (w1 w3 : FVec Ideal S16x1024x2048 .f32) (w2 : FVec Ideal S16x2048x1024 .f32) :
    truncf .bf16 (Host.dotGeneral dot_S16x3072x2048_S16x2048x1024_S16x3072x1024_2_1_1_2_0_0 none (mulf (mulf (Host.dotGeneral dot_S16x3072x1024_S16x1024x2048_S16x3072x2048_2_1_1_2_0_0 none (extf .f32 x bitsLt_bf16_f32) w1) (Host.divf (broadcastInDim S16x3072x2048 ![] bcast_S_S16x3072x2048 (constant S_ .f32 0x3F800000#32)) (addf (broadcastInDim S16x3072x2048 ![] bcast_S_S16x3072x2048 (constant S_ .f32 0x3F800000#32)) (Host.exp (Host.negf (Host.dotGeneral dot_S16x3072x1024_S16x1024x2048_S16x3072x2048_2_1_1_2_0_0 none (extf .f32 x bitsLt_bf16_f32) w1)))))) (Host.dotGeneral dot_S16x3072x1024_S16x1024x2048_S16x3072x2048_2_1_1_2_0_0 none (extf .f32 x bitsLt_bf16_f32) w3)) w2) bitsLt_bf16_f32
      = G x w1 w3 w2 := by
  funext j
  idx_vars j
  pointwise [G, ffn, gate]
  simp only [zero_sub]

end Cert.Reference2Ideal.Ffn

end
-- ==== Proof.Ffn.Claims.lean ====
/- The feed-forward call's claims: its two frames, its reference's, and the equation of the two results. -/
module

public import proofs.«01_k».proof.Defs
public import proofs.«01_k».proof.Proof.Gen.Kernel2
public import proofs.«01_k».proof.Proof.Gen.Kernel2.Frame
public import proofs.«01_k».proof.Proof.Ffn.Ref
public import Idealize.ShloMosaic.Lib.Quiescent

@[expose] public section

noncomputable section

namespace Cert.Proof.Ffn

open Idealize.ShloMosaic Idealize.ShloMosaic.TcCoe Idealize.SL.Sem

/-- Every run of the feed-forward call ends, its arguments unchanged and its counters at zero. -/
theorem frame_kernel : Cert.quiescent_Kernel2 := fun m ρ _ => Cert.Kernel2.Gen.frame m ρ

/-- The same over the extended reals. -/
theorem frame_ideal : Cert.quiescent_Kernel2Ideal := fun m ρ _ => Cert.Kernel2Ideal.Gen.frame m ρ

/-- The reference's run, its arguments unchanged; it has no semaphore. -/
theorem frame_reference : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

theorem preserves : Cert.preserves_Kernel2_Kernel2Ideal := trivial

/-- Over the extended reals the call's result is the reference's: both hold, at every index, the gated feed-forward
    layer of the token's row (`Cert.Kernel2Ideal.Ffn.G`). -/
theorem algebraic : Cert.algebraic_Kernel2Ideal_Reference2Ideal := by
  intro m ρ m' ρ' _ hagree
  refine ⟨fun c => (Cert.Kernel2Ideal.Gen.dats m 0 c).arrAt 4 Cert.Kernel2Ideal.cfg0.N, Cert.Kernel2Ideal.Value.run_blocks m ρ, ?_⟩
  refine (θ_run Cert.Reference2Ideal.defs _ _).mono (fun r h c => ⟨?_, (h c).2⟩) (Cert.Reference2Ideal.Value.run (F := Ideal) m' ρ')
  obtain ⟨h0, h1, h2, h3⟩ := hagree c
  refine (h c).1.trans ((Cert.Reference2Ideal.Ffn.ref_eq _ _ _ _).trans ?_)
  refine Eq.trans ?_ (Cert.Kernel2Ideal.Ffn.final m c).symm
  rw [h0, h1, h2, h3]

end Cert.Proof.Ffn

end
-- ==== Proof.Norm.Rows.lean ====
/- The trunk's rows: the context's and the requests' tokens in one array, and a row's root-mean-square norm, over the
   extended reals. -/
module

public import Idealize.ShloMosaic.Lib.Pointwise

@[expose] public section

noncomputable section

namespace Cert.Rows

open Idealize.ShloMosaic

/-- Row `i` of the trunk: the first 8192 rows are the 32 contexts of 256 tokens, the others the 8 requests of 2048. -/
def two {α : Type} (a : Fin 32 → Fin 256 → α) (b : Fin 8 → Fin 2048 → α) (i : Fin 24576) : α :=
  if h : i.val < 8192 then a ⟨i.val / 256, by omega⟩ ⟨i.val % 256, by omega⟩
  else b ⟨(i.val - 8192) / 2048, by omega⟩ ⟨(i.val - 8192) % 2048, by omega⟩

/-- What is computed row by row is computed of row `i`. -/
theorem two_map {α β : Type} (f : α → β) (a : Fin 32 → Fin 256 → α) (b : Fin 8 → Fin 2048 → α) (i : Fin 24576) :
    two (fun p t => f (a p t)) (fun p t => f (b p t)) i = f (two a b i) := by
  unfold two
  split <;> rfl

/-- A row divided by the root of its mean square, `ε` added under the root. -/
def norm (x : Fin 1024 → EReal) (d : Fin 1024) : EReal :=
  x d * Ideal.rsqrt (Ideal.div (∑ k, x k * x k) (Scalar.ofBits (F := Ideal) .f32 0x44800000#32) + Scalar.ofBits (F := Ideal) .f32 0x358637BD#32)

/-- A row's norm times the gains `g`, scaled and shifted by the modulation `md` (the shift in its first 1024 entries, the scale's excess over 1 in the next). -/
def modulated (x g : Fin 1024 → EReal) (md : Fin 6144 → EReal) (d : Fin 1024) : EReal :=
  norm x d * g d * (1 + md ⟨1024 + d.val, by omega⟩) + md ⟨d.val, by omega⟩

end Cert.Rows

end
-- ==== Proof.Inproj.Block.lean ====
/- The input projection's call: what its result arrays hold, index by index, over the extended reals. -/
module

public import proofs.«01_k».proof.Proof.Gen.Kernel3Ideal.Frame
public import proofs.«01_k».proof.Proof.Norm.Rows
public import Idealize.ShloMosaic.Lib.Pipeline.ValueKit.Acc
public import Idealize.ShloMosaic.Lib.Pipeline.ValueKit.Geometry

@[expose] public section

set_option maxRecDepth 16384

noncomputable section

namespace Cert.Kernel3Ideal.Inproj

open Idealize.ShloMosaic Idealize.ShloMosaic.TcCoe Idealize.ShloMosaic.Tactic
open Cert.Kernel3Ideal Cert.Kernel3Ideal.Gen
open Cert.Rows (two modulated)

/-- A block's rows, normalised and modulated. -/
def hid (x0 : Vec Ideal S256x1024 .f32) (x1 : Vec Ideal S1x1024 .f32) (x2 : Vec Ideal S1x1x6144 .f32) (r : Fin 256) : Fin 1024 → EReal :=
  modulated (fun k => x0 (ix2 r k)) (fun k => x1 (ix2 (0 : Fin 1) k)) (fun k => x2 (ix3 (0 : Fin 1) (0 : Fin 1) k))

theorem pay_at (x0 : Vec Ideal S256x1024 .f32) (x1 : Vec Ideal S1x1024 .f32) (x2 : Vec Ideal S1x1x6144 .f32) (r : Fin 256) (d : Fin 1024) :
    k0_pay3 x0 x1 x2 (ix2 r d) = hid x0 x1 x2 r d := by
  pointwise [k0_pay3, hid, modulated, Cert.Rows.norm]

theorem out_at7 (x0 : Vec Ideal S256x1024 .f32) (x1 : Vec Ideal S1x1024 .f32) (x2 : Vec Ideal S1x1x6144 .f32) (x3 : Vec Ideal S1024x896 .bf16) (x4 : Vec Ideal S1024x768 .bf16) (x5 : Vec Ideal S1024x1024 .bf16) (x6 : Vec Ideal S1024x1280 .bf16)
    (r : Fin 256) (d : Fin 1024) : out0_7 x0 x1 x2 x3 x4 x5 x6 (ix2 r d) = hid x0 x1 x2 r d := by
  frame_out
  exact pay_at x0 x1 x2 r d

theorem out_at8 (x0 : Vec Ideal S256x1024 .f32) (x1 : Vec Ideal S1x1024 .f32) (x2 : Vec Ideal S1x1x6144 .f32) (x3 : Vec Ideal S1024x896 .bf16) (x4 : Vec Ideal S1024x768 .bf16) (x5 : Vec Ideal S1024x1024 .bf16) (x6 : Vec Ideal S1024x1280 .bf16)
    (r : Fin 256) (n : Fin 896) :
    out0_8 x0 x1 x2 x3 x4 x5 x6 (ix2 r n) = ∑ d, hid x0 x1 x2 r d * x3 (ix2 d n) := by
  frame_out
  pointwise [k0_pay1, k0_pay2, k0_pay4, k0_pay5, k0_pay6]
  exact Finset.sum_congr rfl fun d _ => congrArg (· * x3 (ix2 d n)) (pay_at x0 x1 x2 r d)

theorem out_at9 (x0 : Vec Ideal S256x1024 .f32) (x1 : Vec Ideal S1x1024 .f32) (x2 : Vec Ideal S1x1x6144 .f32) (x3 : Vec Ideal S1024x896 .bf16) (x4 : Vec Ideal S1024x768 .bf16) (x5 : Vec Ideal S1024x1024 .bf16) (x6 : Vec Ideal S1024x1280 .bf16)
    (r : Fin 256) (n : Fin 768) :
    out0_9 x0 x1 x2 x3 x4 x5 x6 (ix2 r n) = ∑ d, hid x0 x1 x2 r d * x4 (ix2 d n) := by
  frame_out
  pointwise [k0_pay1, k0_pay2, k0_pay4, k0_pay5, k0_pay6]
  exact Finset.sum_congr rfl fun d _ => congrArg (· * x4 (ix2 d n)) (pay_at x0 x1 x2 r d)

theorem out_at10 (x0 : Vec Ideal S256x1024 .f32) (x1 : Vec Ideal S1x1024 .f32) (x2 : Vec Ideal S1x1x6144 .f32) (x3 : Vec Ideal S1024x896 .bf16) (x4 : Vec Ideal S1024x768 .bf16) (x5 : Vec Ideal S1024x1024 .bf16) (x6 : Vec Ideal S1024x1280 .bf16)
    (r : Fin 256) (n : Fin 1024) :
    out0_10 x0 x1 x2 x3 x4 x5 x6 (ix2 r n) = ∑ d, hid x0 x1 x2 r d * x5 (ix2 d n) := by
  unfold_out out0_10
  frame_out
  pointwise [k0_pay1, k0_pay2, k0_pay4, k0_pay5, k0_pay6]
  exact Finset.sum_congr rfl fun d _ => congrArg (· * x5 (ix2 d n)) (pay_at x0 x1 x2 r d)

theorem out_at11 (x0 : Vec Ideal S256x1024 .f32) (x1 : Vec Ideal S1x1024 .f32) (x2 : Vec Ideal S1x1x6144 .f32) (x3 : Vec Ideal S1024x896 .bf16) (x4 : Vec Ideal S1024x768 .bf16) (x5 : Vec Ideal S1024x1024 .bf16) (x6 : Vec Ideal S1024x1280 .bf16)
    (r : Fin 256) (n : Fin 1280) :
    out0_11 x0 x1 x2 x3 x4 x5 x6 (ix2 r n) = ∑ d, hid x0 x1 x2 r d * x6 (ix2 d n) := by
  unfold_out out0_11
  frame_out
  pointwise [k0_pay1, k0_pay2, k0_pay4, k0_pay5, k0_pay6]
  exact Finset.sum_congr rfl fun d _ => congrArg (· * x6 (ix2 d n)) (pay_at x0 x1 x2 r d)

variable (m : (ℓ : Loc nD τ sig) → Buf (Elt Ideal) ℓ)

/-- The modulated norm of row `i`: the context's rows take row 8 of the modulations, a request's its own. -/
def H (xp : FVec Ideal S32x256x1024 .f32) (xs : FVec Ideal S8x2048x1024 .f32) (g : FVec Ideal S1024 .f32) (md : FVec Ideal S16x6144 .f32)
    (i : Fin 24576) : Fin 1024 → EReal :=
  two (fun b t => modulated (fun k => xp (ix3 b t k)) (fun k => g (ix1 k)) (fun k => md (ix2 (8 : Fin 16) k)))
    (fun b t => modulated (fun k => xs (ix3 b t k)) (fun k => g (ix1 k)) (fun k => md (ix2 (⟨b.val, by omega⟩ : Fin 16) k))) i

/-- The product of row `i` with column `n` of the projection. -/
def Z (xp : FVec Ideal S32x256x1024 .f32) (xs : FVec Ideal S8x2048x1024 .f32) (g : FVec Ideal S1024 .f32) (md : FVec Ideal S16x6144 .f32)
    (w : FVec Ideal S1024x8064 .f32) (i : Fin 24576) (n : Fin 8064) : EReal :=
  ∑ d, H xp xs g md i d * w (ix2 d n)

/-- Columns `off`, `off + 1`, … of the products. -/
def cut {n : Nat} (z : Fin 24576 → Fin 8064 → EReal) (off : Nat) (h : off + n ≤ 8064) (i : Fin 24576) (k : Fin n) : EReal :=
  z i ⟨off + k.val, by omega⟩

theorem e0 : ∀ t : Fin cfg0.N, win0_0.index t = ![(grid0.coords t 0).val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![if (grid0.coords t 0).val < 32 then 8 else ((grid0.coords t 0).val - 32) / 8, 0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![(grid0.coords t 0).val, 0] := (by decide +kernel : ∀ t : Fin grid0.N, _)
theorem e8 : ∀ t : Fin cfg0.N, win0_8.index t = ![(grid0.coords t 0).val, 0] := (by decide +kernel : ∀ t : Fin grid0.N, _)
theorem e9 : ∀ t : Fin cfg0.N, win0_9.index t = ![(grid0.coords t 0).val, 0] := (by decide +kernel : ∀ t : Fin grid0.N, _)
theorem e10 : ∀ t : Fin cfg0.N, win0_10.index t = ![(grid0.coords t 0).val, 0] := (by decide +kernel : ∀ t : Fin grid0.N, _)
theorem e11 : ∀ t : Fin cfg0.N, win0_11.index t = ![(grid0.coords t 0).val, 0] := (by decide +kernel : ∀ t : Fin grid0.N, _)

/-- The row of the array that row `r` of block `t` is. -/
def row (t : Fin cfg0.N) (r : Fin 256) : Fin 24576 :=
  ⟨256 * (grid0.coords t 0).val + r.val, by have : (grid0.coords t 0).val < 96 := (grid0.coords t 0).isLt; omega⟩

/-- The modulation block `t` takes. -/
def mrow (t : Fin cfg0.N) : Fin 16 :=
  ⟨if (grid0.coords t 0).val < 32 then 8 else ((grid0.coords t 0).val - 32) / 8, by
    have : (grid0.coords t 0).val < 96 := (grid0.coords t 0).isLt
    split <;> omega⟩

/-- The context's and the requests' rows laid end to end. -/
theorem rows_at (xp : FVec Ideal S32x256x1024 .f32) (xs : FVec Ideal S8x2048x1024 .f32) (i : Fin 24576) (d : Fin 1024) :
    concatenate S24576x1024 0 [⟨S8192x1024, shapeCast S8192x1024 xp shapeCasts_S32x256x1024_S8192x1024⟩, ⟨S16384x1024, shapeCast S16384x1024 xs shapeCasts_S8x2048x1024_S16384x1024⟩] concatenates_S8192x1024_S16384x1024_S24576x1024_d0 (ix2 i d)
      = two (fun b t k => xp (ix3 b t k)) (fun b t k => xs (ix3 b t k)) i d := by
  refine Eq.trans ?_ (Cert.Rows.two_map (fun x : Fin 1024 → EReal => x d) (fun b t k => xp (ix3 b t k)) (fun b t k => xs (ix3 b t k)) i)
  pointwise [two]

theorem blk_x (c : Dev nD) (t : Fin cfg0.N) (r : Fin 256) (k : Fin 1024) : iblk m c 0 t (ix2 r k)
    = two (fun b t k => (m ((c : Thread nD τ).loc main_arg0) : FVec Ideal S32x256x1024 .f32) (ix3 b t k)) (fun b t k => (m ((c : Thread nD τ).loc main_arg1) : FVec Ideal S8x2048x1024 .f32) (ix3 b t k)) (row t r) k := by
  have h : (V m c main_v2 : FVec Ideal S24576x1024 .f32)
      = concatenate S24576x1024 0 [⟨S8192x1024, shapeCast S8192x1024 (m ((c : Thread nD τ).loc main_arg0)) shapeCasts_S32x256x1024_S8192x1024⟩, ⟨S16384x1024, shapeCast S16384x1024 (m ((c : Thread nD τ).loc main_arg1)) shapeCasts_S8x2048x1024_S16384x1024⟩] concatenates_S8192x1024_S16384x1024_S24576x1024_d0 := by
    show StableHlo.after hostOps0 _ _ = _
    after_results
    rfl
  unfold iblk
  refine Eq.trans ?_ ((congrFun h (ix2 (row t r) k)).trans (rows_at _ _ _ k))
  show (V m c main_v2 : FVec Ideal S24576x1024 .f32) ((win0_0.blk t).view.emb (ix2 r k)) = _
  generalize (V m c main_v2 : FVec Ideal S24576x1024 .f32) = X
  blk_ext [e0, row]

theorem blk_g (c : Dev nD) (t : Fin cfg0.N) (d : Fin 1024) :
    iblk m c 1 t (ix2 (0 : Fin 1) d) = (m ((c : Thread nD τ).loc main_arg2) : FVec Ideal S1024 .f32) (ix1 d) := by
  have h : (V m c main_v4 : FVec Ideal S1x1024 .f32) = broadcastInDim S1x1024 ![1] bcast_S1024_S1x1024_1 (m ((c : Thread nD τ).loc main_arg2) : FVec Ideal S1024 .f32) := by
    show StableHlo.after hostOps0 _ _ = _
    after_results
  unfold iblk
  show (V m c main_v4 : FVec Ideal S1x1024 .f32) ((win0_1.blk t).view.emb (ix2 (0 : Fin 1) d)) = _
  rw [h]
  generalize (m ((c : Thread nD τ).loc main_arg2) : FVec Ideal S1024 .f32) = X
  have : (win0_1.blk t).view.emb (ix2 (0 : Fin 1) d) = ix2 (0 : Fin 1) d := by blk_ext [e1]
  rw [this]
  pointwise

theorem blk_md (c : Dev nD) (t : Fin cfg0.N) (d : Fin 6144) :
    iblk m c 2 t (ix3 (0 : Fin 1) (0 : Fin 1) d) = (m ((c : Thread nD τ).loc main_arg3) : FVec Ideal S16x6144 .f32) (ix2 (mrow t) d) := by
  have h : (V m c main_v3 : FVec Ideal S16x1x6144 .f32) = shapeCast S16x1x6144 (m ((c : Thread nD τ).loc main_arg3) : FVec Ideal S16x6144 .f32) shapeCasts_S16x6144_S16x1x6144 := by
    show StableHlo.after hostOps0 _ _ = _
    after_results
    rfl
  unfold iblk
  show (V m c main_v3 : FVec Ideal S16x1x6144 .f32) ((win0_2.blk t).view.emb (ix3 (0 : Fin 1) (0 : Fin 1) d)) = _
  rw [h]
  generalize (m ((c : Thread nD τ).loc main_arg3) : FVec Ideal S16x6144 .f32) = X
  have : (win0_2.blk t).view.emb (ix3 (0 : Fin 1) (0 : Fin 1) d) = ix3 (mrow t) (0 : Fin 1) d := by blk_ext [e2, mrow]
  rw [this]
  refine shapeCast_apply _ _ _ (ix2 (mrow t) d) ?_
  rw [Shape.rowMajor_val_two, Shape.rowMajor_val_three]
  show (mrow t).val * 6144 + d.val = ((mrow t).val * 1 + 0) * 6144 + d.val
  omega

theorem blk_w3 (c : Dev nD) (t : Fin cfg0.N) (d : Fin 1024) (n : Fin 896) :
    iblk m c 3 t (ix2 d n) = (m ((c : Thread nD τ).loc main_arg4) : FVec Ideal S1024x8064 .f32) (ix2 d ⟨0 + n.val, by omega⟩) := by
  have h : (V m c main_v6 : FVec Ideal S1024x896 .bf16)
      = (truncf (F := Ideal) .bf16 (extractStridedSlice S1024x896 ![0, 0] (m ((c : Thread nD τ).loc main_arg4) : FVec Ideal S1024x8064 .f32) slices_S1024x8064_S1024x896_0_0) bitsLt_bf16_f32 : FVec Ideal S1024x896 .bf16) := by
    show StableHlo.after hostOps0 _ _ = _
    after_results
  unfold iblk
  show (V m c main_v6 : FVec Ideal S1024x896 .bf16) ((win0_3.blk t).view.emb (ix2 d n)) = _
  rw [h]
  generalize (m ((c : Thread nD τ).loc main_arg4) : FVec Ideal S1024x8064 .f32) = X
  have : (win0_3.blk t).view.emb (ix2 d n) = ix2 d n := by blk_ext [e3]
  rw [this]
  pointwise

theorem blk_w4 (c : Dev nD) (t : Fin cfg0.N) (d : Fin 1024) (n : Fin 768) :
    iblk m c 4 t (ix2 d n) = (m ((c : Thread nD τ).loc main_arg4) : FVec Ideal S1024x8064 .f32) (ix2 d ⟨896 + n.val, by omega⟩) := by
  have h : (V m c main_v8 : FVec Ideal S1024x768 .bf16)
      = (truncf (F := Ideal) .bf16 (extractStridedSlice S1024x768 ![0, 896] (m ((c : Thread nD τ).loc main_arg4) : FVec Ideal S1024x8064 .f32) slices_S1024x8064_S1024x768_0_896) bitsLt_bf16_f32 : FVec Ideal S1024x768 .bf16) := by
    show StableHlo.after hostOps0 _ _ = _
    after_results
  unfold iblk
  show (V m c main_v8 : FVec Ideal S1024x768 .bf16) ((win0_4.blk t).view.emb (ix2 d n)) = _
  rw [h]
  generalize (m ((c : Thread nD τ).loc main_arg4) : FVec Ideal S1024x8064 .f32) = X
  have : (win0_4.blk t).view.emb (ix2 d n) = ix2 d n := by blk_ext [e4]
  rw [this]
  pointwise

theorem blk_w5 (c : Dev nD) (t : Fin cfg0.N) (d : Fin 1024) (n : Fin 1024) :
    iblk m c 5 t (ix2 d n) = (m ((c : Thread nD τ).loc main_arg4) : FVec Ideal S1024x8064 .f32) (ix2 d ⟨1664 + n.val, by omega⟩) := by
  have h : (V m c main_v10 : FVec Ideal S1024x1024 .bf16)
      = (truncf (F := Ideal) .bf16 (extractStridedSlice S1024x1024 ![0, 1664] (m ((c : Thread nD τ).loc main_arg4) : FVec Ideal S1024x8064 .f32) slices_S1024x8064_S1024x1024_0_1664) bitsLt_bf16_f32 : FVec Ideal S1024x1024 .bf16) := by
    show StableHlo.after hostOps0 _ _ = _
    after_results
  unfold iblk
  show (V m c main_v10 : FVec Ideal S1024x1024 .bf16) ((win0_5.blk t).view.emb (ix2 d n)) = _
  rw [h]
  generalize (m ((c : Thread nD τ).loc main_arg4) : FVec Ideal S1024x8064 .f32) = X
  have : (win0_5.blk t).view.emb (ix2 d n) = ix2 d n := by blk_ext [e5]
  rw [this]
  pointwise

theorem blk_w6 (c : Dev nD) (t : Fin cfg0.N) (d : Fin 1024) (n : Fin 1280) :
    iblk m c 6 t (ix2 d n) = (m ((c : Thread nD τ).loc main_arg4) : FVec Ideal S1024x8064 .f32) (ix2 d ⟨2688 + n.val, by omega⟩) := by
  have h : (V m c main_v12 : FVec Ideal S1024x1280 .bf16)
      = (truncf (F := Ideal) .bf16 (extractStridedSlice S1024x1280 ![0, 2688] (m ((c : Thread nD τ).loc main_arg4) : FVec Ideal S1024x8064 .f32) slices_S1024x8064_S1024x1280_0_2688) bitsLt_bf16_f32 : FVec Ideal S1024x1280 .bf16) := by
    show StableHlo.after hostOps0 _ _ = _
    after_results
  unfold iblk
  show (V m c main_v12 : FVec Ideal S1024x1280 .bf16) ((win0_6.blk t).view.emb (ix2 d n)) = _
  rw [h]
  generalize (m ((c : Thread nD τ).loc main_arg4) : FVec Ideal S1024x8064 .f32) = X
  have : (win0_6.blk t).view.emb (ix2 d n) = ix2 d n := by blk_ext [e6]
  rw [this]
  pointwise

/-- A block's modulated rows are the array's. -/
theorem hid_eq (c : Dev nD) (t : Fin cfg0.N) (r : Fin 256) :
    hid (iblk m c 0 t) (iblk m c 1 t) (iblk m c 2 t) r = H (m ((c : Thread nD τ).loc main_arg0)) (m ((c : Thread nD τ).loc main_arg1)) (m ((c : Thread nD τ).loc main_arg2)) (m ((c : Thread nD τ).loc main_arg3)) (row t r) := by
  have hx : (fun k => iblk m c 0 t (ix2 r k)) = two (fun b t k => (m ((c : Thread nD τ).loc main_arg0) : FVec Ideal S32x256x1024 .f32) (ix3 b t k)) (fun b t k => (m ((c : Thread nD τ).loc main_arg1) : FVec Ideal S8x2048x1024 .f32) (ix3 b t k)) (row t r) :=
    funext fun k => blk_x m c t r k
  have hg : (fun k => iblk m c 1 t (ix2 (0 : Fin 1) k)) = fun k => (m ((c : Thread nD τ).loc main_arg2) : FVec Ideal S1024 .f32) (ix1 k) := funext fun k => blk_g m c t k
  have hm : (fun k => iblk m c 2 t (ix3 (0 : Fin 1) (0 : Fin 1) k)) = fun k => (m ((c : Thread nD τ).loc main_arg3) : FVec Ideal S16x6144 .f32) (ix2 (mrow t) k) := funext fun k => blk_md m c t k
  rw [hid, hx, hg, hm, H]
  unfold two
  have ht : (grid0.coords t 0).val < 96 := (grid0.coords t 0).isLt
  by_cases h : (row t r).val < 8192
  · rw [dif_pos h, dif_pos h]
    have h8 : mrow t = 8 := Fin.ext (by
      show (if (grid0.coords t 0).val < 32 then 8 else ((grid0.coords t 0).val - 32) / 8) = 8
      have : 256 * (grid0.coords t 0).val + r.val < 8192 := h
      rw [if_pos (by omega)])
    rw [h8]
  · rw [dif_neg h, dif_neg h]
    have h8 : mrow t = ⟨((row t r).val - 8192) / 2048, by have := (row t r).isLt; omega⟩ := Fin.ext (by
      show (if (grid0.coords t 0).val < 32 then 8 else ((grid0.coords t 0).val - 32) / 8) = (256 * (grid0.coords t 0).val + r.val - 8192) / 2048
      have : ¬ 256 * (grid0.coords t 0).val + r.val < 8192 := h
      rw [if_neg (by omega)]
      omega)
    rw [h8]

/-- The first result: every row's modulated norm. -/
theorem final7 (c : Dev nD) : (dats m 0 c).arrAt 7 cfg0.N = (fun j => H (m ((c : Thread nD τ).loc main_arg0)) (m ((c : Thread nD τ).loc main_arg1)) (m ((c : Thread nD τ).loc main_arg2)) (m ((c : Thread nD τ).loc main_arg3)) (j 0) (j 1) : FVec Ideal S24576x1024 .bf16) := by
  refine (dats m 0 c).arrAt_eq_of_covers 7 _ (by decide +kernel) fun t hf y => ?_
  blk_simp
  rw [after0_7]
  obtain ⟨r, d, hy⟩ : ∃ (r : Fin 256) (d : Fin 1024), y = ix2 r d := ⟨y 0, y 1, by funext a; fin_cases a <;> rfl⟩
  subst hy
  have he : (win0_7.blk t).view.emb (ix2 r d) = ix2 (row t r) d := by blk_ext [e7, row]
  rw [out_at7, he, hid_eq]
  rfl

/-- The columns of the projection from 0 on. -/
theorem final8 (c : Dev nD) : (dats m 0 c).arrAt 8 cfg0.N
    = (fun j => cut (Z (m ((c : Thread nD τ).loc main_arg0)) (m ((c : Thread nD τ).loc main_arg1)) (m ((c : Thread nD τ).loc main_arg2)) (m ((c : Thread nD τ).loc main_arg3)) (m ((c : Thread nD τ).loc main_arg4))) 0 (by decide) (j 0) (j 1) : FVec Ideal S24576x896 .f32) := by
  refine (dats m 0 c).arrAt_eq_of_covers 8 _ (by decide +kernel) fun t hf y => ?_
  blk_simp
  rw [after0_8]
  obtain ⟨r, n, hy⟩ : ∃ (r : Fin 256) (n : Fin 896), y = ix2 r n := ⟨y 0, y 1, by funext a; fin_cases a <;> rfl⟩
  subst hy
  have he : (win0_8.blk t).view.emb (ix2 r n) = ix2 (row t r) n := by blk_ext [e8, row]
  rw [out_at8, he, hid_eq]
  exact Finset.sum_congr rfl fun d _ => congrArg (H (m ((c : Thread nD τ).loc main_arg0)) (m ((c : Thread nD τ).loc main_arg1)) (m ((c : Thread nD τ).loc main_arg2)) (m ((c : Thread nD τ).loc main_arg3)) (row t r) d * ·) (blk_w3 m c t d n)

/-- The columns of the projection from 896 on. -/
theorem final9 (c : Dev nD) : (dats m 0 c).arrAt 9 cfg0.N
    = (fun j => cut (Z (m ((c : Thread nD τ).loc main_arg0)) (m ((c : Thread nD τ).loc main_arg1)) (m ((c : Thread nD τ).loc main_arg2)) (m ((c : Thread nD τ).loc main_arg3)) (m ((c : Thread nD τ).loc main_arg4))) 896 (by decide) (j 0) (j 1) : FVec Ideal S24576x768 .f32) := by
  refine (dats m 0 c).arrAt_eq_of_covers 9 _ (by decide +kernel) fun t hf y => ?_
  blk_simp
  rw [after0_9]
  obtain ⟨r, n, hy⟩ : ∃ (r : Fin 256) (n : Fin 768), y = ix2 r n := ⟨y 0, y 1, by funext a; fin_cases a <;> rfl⟩
  subst hy
  have he : (win0_9.blk t).view.emb (ix2 r n) = ix2 (row t r) n := by blk_ext [e9, row]
  rw [out_at9, he, hid_eq]
  exact Finset.sum_congr rfl fun d _ => congrArg (H (m ((c : Thread nD τ).loc main_arg0)) (m ((c : Thread nD τ).loc main_arg1)) (m ((c : Thread nD τ).loc main_arg2)) (m ((c : Thread nD τ).loc main_arg3)) (row t r) d * ·) (blk_w4 m c t d n)

/-- The columns of the projection from 1664 on. -/
theorem final10 (c : Dev nD) : (dats m 0 c).arrAt 10 cfg0.N
    = (fun j => cut (Z (m ((c : Thread nD τ).loc main_arg0)) (m ((c : Thread nD τ).loc main_arg1)) (m ((c : Thread nD τ).loc main_arg2)) (m ((c : Thread nD τ).loc main_arg3)) (m ((c : Thread nD τ).loc main_arg4))) 1664 (by decide) (j 0) (j 1) : FVec Ideal S24576x1024 .f32) := by
  refine (dats m 0 c).arrAt_eq_of_covers 10 _ (by decide +kernel) fun t hf y => ?_
  blk_simp
  rw [after0_10]
  obtain ⟨r, n, hy⟩ : ∃ (r : Fin 256) (n : Fin 1024), y = ix2 r n := ⟨y 0, y 1, by funext a; fin_cases a <;> rfl⟩
  subst hy
  have he : (win0_10.blk t).view.emb (ix2 r n) = ix2 (row t r) n := by blk_ext [e10, row]
  rw [out_at10, he, hid_eq]
  exact Finset.sum_congr rfl fun d _ => congrArg (H (m ((c : Thread nD τ).loc main_arg0)) (m ((c : Thread nD τ).loc main_arg1)) (m ((c : Thread nD τ).loc main_arg2)) (m ((c : Thread nD τ).loc main_arg3)) (row t r) d * ·) (blk_w5 m c t d n)

/-- The columns of the projection from 2688 on. -/
theorem final11 (c : Dev nD) : (dats m 0 c).arrAt 11 cfg0.N
    = (fun j => cut (Z (m ((c : Thread nD τ).loc main_arg0)) (m ((c : Thread nD τ).loc main_arg1)) (m ((c : Thread nD τ).loc main_arg2)) (m ((c : Thread nD τ).loc main_arg3)) (m ((c : Thread nD τ).loc main_arg4))) 2688 (by decide) (j 0) (j 1) : FVec Ideal S24576x1280 .f32) := by
  refine (dats m 0 c).arrAt_eq_of_covers 11 _ (by decide +kernel) fun t hf y => ?_
  blk_simp
  rw [after0_11]
  obtain ⟨r, n, hy⟩ : ∃ (r : Fin 256) (n : Fin 1280), y = ix2 r n := ⟨y 0, y 1, by funext a; fin_cases a <;> rfl⟩
  subst hy
  have he : (win0_11.blk t).view.emb (ix2 r n) = ix2 (row t r) n := by blk_ext [e11, row]
  rw [out_at11, he, hid_eq]
  exact Finset.sum_congr rfl fun d _ => congrArg (H (m ((c : Thread nD τ).loc main_arg0)) (m ((c : Thread nD τ).loc main_arg1)) (m ((c : Thread nD τ).loc main_arg2)) (m ((c : Thread nD τ).loc main_arg3)) (row t r) d * ·) (blk_w6 m c t d n)

open Idealize.SL.Sem in
/-- The call's run: its results are the arrays written block by block, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v13_0) = (dats m 0 c).arrAt 7 cfg0.N
      ∧ r.2.mem ((c : Thread nD τ).loc main_v13_1) = (dats m 0 c).arrAt 8 cfg0.N
      ∧ r.2.mem ((c : Thread nD τ).loc main_v13_2) = (dats m 0 c).arrAt 9 cfg0.N
      ∧ r.2.mem ((c : Thread nD τ).loc main_v13_3) = (dats m 0 c).arrAt 10 cfg0.N
      ∧ r.2.mem ((c : Thread nD τ).loc main_v13_4) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 7, (h c).1 8, (h c).1 9, (h c).1 10, (h c).1 11,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.Kernel3Ideal.Inproj

end
-- ==== Proof.Inproj.Ref.lean ====
/- The input projection's reference: what its results hold at an index, over the extended reals. -/
module

public import proofs.«01_k».proof.Proof.Gen.Reference3Ideal.Run
public import proofs.«01_k».proof.Proof.Inproj.Block

@[expose] public section

set_option maxRecDepth 16384

noncomputable section

namespace Cert.Reference3Ideal.Inproj

open Idealize.ShloMosaic Idealize.ShloMosaic.TcCoe Idealize.ShloMosaic.Tactic
open Cert.Reference3Ideal Cert.Reference3Ideal.Gen
open Cert.Kernel3Ideal.Inproj (H Z cut rows_at)
open Cert.Rows (two two_map modulated)

/-- The context's modulated norms, as the reference writes them. -/
def hp (xp : FVec Ideal S32x256x1024 .f32) (g : FVec Ideal S1024 .f32) (md : FVec Ideal S16x6144 .f32) : FVec Ideal S32x256x1024 .f32 :=
  addf (mulf (mulf (mulf xp (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf xp xp) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 g))) (broadcastInDim S32x256x1024 ![0, 1, 2] bcast_S1x1x1024_S32x256x1024_0_1_2 (addf (broadcastInDim S1x1x1024 ![] bcast_S_S1x1x1024 (constant S_ .f32 0x3F800000#32)) (extractStridedSlice S1x1x1024 ![0, 0, 1024] (broadcastInDim S1x1x6144 ![0, 2] bcast_S1x6144_S1x1x6144_0_2 (broadcastInDim S1x6144 ![1] bcast_S6144_S1x6144_1 (shapeCast _ (extractStridedSlice S1x6144 ![8, 0] md slices_S16x6144_S1x6144_8_0) shapeCasts_S1x6144_S6144))) slices_S1x1x6144_S1x1x1024_0_0_1024)))) (broadcastInDim S32x256x1024 ![0, 1, 2] bcast_S1x1x1024_S32x256x1024_0_1_2 (extractStridedSlice S1x1x1024 ![0, 0, 0] (broadcastInDim S1x1x6144 ![0, 2] bcast_S1x6144_S1x1x6144_0_2 (broadcastInDim S1x6144 ![1] bcast_S6144_S1x6144_1 (shapeCast _ (extractStridedSlice S1x6144 ![8, 0] md slices_S16x6144_S1x6144_8_0) shapeCasts_S1x6144_S6144))) slices_S1x1x6144_S1x1x1024_0_0_0))

/-- The requests' modulated norms, as the reference writes them. -/
def hs (xs : FVec Ideal S8x2048x1024 .f32) (g : FVec Ideal S1024 .f32) (md : FVec Ideal S16x6144 .f32) : FVec Ideal S8x2048x1024 .f32 :=
  addf (mulf (mulf (mulf xs (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf xs xs) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))) (broadcastInDim S8x2048x1024 ![0, 1, 2] bcast_S8x1x1024_S8x2048x1024_0_1_2 (addf (broadcastInDim S8x1x1024 ![] bcast_S_S8x1x1024 (constant S_ .f32 0x3F800000#32)) (extractStridedSlice S8x1x1024 ![0, 0, 1024] (broadcastInDim S8x1x6144 ![0, 2] bcast_S8x6144_S8x1x6144_0_2 (extractStridedSlice S8x6144 ![0, 0] md slices_S16x6144_S8x6144_0_0)) slices_S8x1x6144_S8x1x1024_0_0_1024)))) (broadcastInDim S8x2048x1024 ![0, 1, 2] bcast_S8x1x1024_S8x2048x1024_0_1_2 (extractStridedSlice S8x1x1024 ![0, 0, 0] (broadcastInDim S8x1x6144 ![0, 2] bcast_S8x6144_S8x1x6144_0_2 (extractStridedSlice S8x6144 ![0, 0] md slices_S16x6144_S8x6144_0_0)) slices_S8x1x6144_S8x1x1024_0_0_0))

theorem hp_at (xp : FVec Ideal S32x256x1024 .f32) (g : FVec Ideal S1024 .f32) (md : FVec Ideal S16x6144 .f32) (b : Fin 32) (t : Fin 256) (d : Fin 1024) :
    hp xp g md (ix3 b t d) = modulated (fun k => xp (ix3 b t k)) (fun k => g (ix1 k)) (fun k => md (ix2 (8 : Fin 16) k)) d := by
  pointwise [hp, modulated, Cert.Rows.norm]

theorem hs_at (xs : FVec Ideal S8x2048x1024 .f32) (g : FVec Ideal S1024 .f32) (md : FVec Ideal S16x6144 .f32) (b : Fin 8) (t : Fin 2048) (d : Fin 1024) :
    hs xs g md (ix3 b t d) = modulated (fun k => xs (ix3 b t k)) (fun k => g (ix1 k)) (fun k => md (ix2 (⟨b.val, by omega⟩ : Fin 16) k)) d := by
  pointwise [hs, modulated, Cert.Rows.norm]

/-- The first result holds every row's modulated norm. -/
theorem ref_h (xp : FVec Ideal S32x256x1024 .f32) (xs : FVec Ideal S8x2048x1024 .f32) (g : FVec Ideal S1024 .f32) (md : FVec Ideal S16x6144 .f32) :
    concatenate S24576x1024 0 [⟨S8192x1024, shapeCast S8192x1024 (truncf .bf16 (hp xp g md) bitsLt_bf16_f32) shapeCasts_S32x256x1024_S8192x1024⟩, ⟨S16384x1024, shapeCast S16384x1024 (truncf .bf16 (hs xs g md) bitsLt_bf16_f32) shapeCasts_S8x2048x1024_S16384x1024⟩] concatenates_S8192x1024_S16384x1024_S24576x1024_d0
      = (fun j => H xp xs g md (j 0) (j 1) : FVec Ideal S24576x1024 .bf16) := by
  refine funext fun (j : S24576x1024.Idx) => ?_
  idx_vars j
  refine (rows_at (hp xp g md) (hs xs g md) j0 j1).trans ?_
  show _ = H xp xs g md j0 j1
  unfold H two
  split
  · exact hp_at xp g md _ _ _
  · exact hs_at xs g md _ _ _

/-- The context's products. -/
def zp (xp : FVec Ideal S32x256x1024 .f32) (g : FVec Ideal S1024 .f32) (md : FVec Ideal S16x6144 .f32) (w : FVec Ideal S1024x8064 .f32) : FVec Ideal S32x256x8064 .f32 :=
  Host.dotGeneral dot_S32x256x1024_S1024x8064_S32x256x8064_2_0_01_1_n_n none (hp xp g md) w

/-- The requests' products. -/
def zs (xs : FVec Ideal S8x2048x1024 .f32) (g : FVec Ideal S1024 .f32) (md : FVec Ideal S16x6144 .f32) (w : FVec Ideal S1024x8064 .f32) : FVec Ideal S8x2048x8064 .f32 :=
  Host.dotGeneral dot_S8x2048x1024_S1024x8064_S8x2048x8064_2_0_01_1_n_n none (hs xs g md) w

theorem zp_at (xp : FVec Ideal S32x256x1024 .f32) (g : FVec Ideal S1024 .f32) (md : FVec Ideal S16x6144 .f32) (w : FVec Ideal S1024x8064 .f32) (b : Fin 32) (t : Fin 256) (n : Fin 8064) :
    zp xp g md w (ix3 b t n) = ∑ d, modulated (fun k => xp (ix3 b t k)) (fun k => g (ix1 k)) (fun k => md (ix2 (8 : Fin 16) k)) d * w (ix2 d n) := by
  pointwise [zp]
  exact Finset.sum_congr rfl fun d _ => congrArg (· * w (ix2 d n)) (hp_at xp g md b t d)

theorem zs_at (xs : FVec Ideal S8x2048x1024 .f32) (g : FVec Ideal S1024 .f32) (md : FVec Ideal S16x6144 .f32) (w : FVec Ideal S1024x8064 .f32) (b : Fin 8) (t : Fin 2048) (n : Fin 8064) :
    zs xs g md w (ix3 b t n) = ∑ d, modulated (fun k => xs (ix3 b t k)) (fun k => g (ix1 k)) (fun k => md (ix2 (⟨b.val, by omega⟩ : Fin 16) k)) d * w (ix2 d n) := by
  pointwise [zs]
  exact Finset.sum_congr rfl fun d _ => congrArg (· * w (ix2 d n)) (hs_at xs g md b t d)

/-- The products of the context's and the requests' rows are those of the rows laid end to end. -/
theorem two_z (xp : FVec Ideal S32x256x1024 .f32) (xs : FVec Ideal S8x2048x1024 .f32) (g : FVec Ideal S1024 .f32) (md : FVec Ideal S16x6144 .f32) (w : FVec Ideal S1024x8064 .f32) (i : Fin 24576) (n : Fin 8064) :
    two (fun b t => zp xp g md w (ix3 b t n)) (fun b t => zs xs g md w (ix3 b t n)) i = Z xp xs g md w i n := by
  unfold Z H two
  split
  · exact zp_at xp g md w _ _ n
  · exact zs_at xs g md w _ _ n

theorem rows896 (a : FVec Ideal S32x256x896 .f32) (b : FVec Ideal S8x2048x896 .f32) (i : Fin 24576) (k : Fin 896) :
    concatenate S24576x896 0 [⟨S8192x896, shapeCast S8192x896 a shapeCasts_S32x256x896_S8192x896⟩, ⟨S16384x896, shapeCast S16384x896 b shapeCasts_S8x2048x896_S16384x896⟩] concatenates_S8192x896_S16384x896_S24576x896_d0 (ix2 i k)
      = two (fun p t => a (ix3 p t k)) (fun p t => b (ix3 p t k)) i := by
  pointwise [two]

/-- The result that holds the 896 columns from 0 on. -/
theorem ref_z0 (xp : FVec Ideal S32x256x1024 .f32) (xs : FVec Ideal S8x2048x1024 .f32) (g : FVec Ideal S1024 .f32) (md : FVec Ideal S16x6144 .f32) (w : FVec Ideal S1024x8064 .f32) :
    concatenate S24576x896 0 [⟨S8192x896, shapeCast S8192x896 (extractStridedSlice S32x256x896 ![0, 0, 0] (zp xp g md w) slices_S32x256x8064_S32x256x896_0_0_0) shapeCasts_S32x256x896_S8192x896⟩, ⟨S16384x896, shapeCast S16384x896 (extractStridedSlice S8x2048x896 ![0, 0, 0] (zs xs g md w) slices_S8x2048x8064_S8x2048x896_0_0_0) shapeCasts_S8x2048x896_S16384x896⟩] concatenates_S8192x896_S16384x896_S24576x896_d0
      = (fun j => cut (Z xp xs g md w) 0 (by decide) (j 0) (j 1) : FVec Ideal S24576x896 .f32) := by
  refine funext fun (j : S24576x896.Idx) => ?_
  idx_vars j
  refine Eq.trans ?_ (two_z xp xs g md w j0 ⟨0 + j1.val, by omega⟩)
  generalize zp xp g md w = a
  generalize zs xs g md w = b
  refine (rows896 _ _ j0 j1).trans ?_
  congr 1 <;> funext p t <;> pointwise

theorem rows768 (a : FVec Ideal S32x256x768 .f32) (b : FVec Ideal S8x2048x768 .f32) (i : Fin 24576) (k : Fin 768) :
    concatenate S24576x768 0 [⟨S8192x768, shapeCast S8192x768 a shapeCasts_S32x256x768_S8192x768⟩, ⟨S16384x768, shapeCast S16384x768 b shapeCasts_S8x2048x768_S16384x768⟩] concatenates_S8192x768_S16384x768_S24576x768_d0 (ix2 i k)
      = two (fun p t => a (ix3 p t k)) (fun p t => b (ix3 p t k)) i := by
  pointwise [two]

/-- The result that holds the 768 columns from 896 on. -/
theorem ref_z896 (xp : FVec Ideal S32x256x1024 .f32) (xs : FVec Ideal S8x2048x1024 .f32) (g : FVec Ideal S1024 .f32) (md : FVec Ideal S16x6144 .f32) (w : FVec Ideal S1024x8064 .f32) :
    concatenate S24576x768 0 [⟨S8192x768, shapeCast S8192x768 (extractStridedSlice S32x256x768 ![0, 0, 896] (zp xp g md w) slices_S32x256x8064_S32x256x768_0_0_896) shapeCasts_S32x256x768_S8192x768⟩, ⟨S16384x768, shapeCast S16384x768 (extractStridedSlice S8x2048x768 ![0, 0, 896] (zs xs g md w) slices_S8x2048x8064_S8x2048x768_0_0_896) shapeCasts_S8x2048x768_S16384x768⟩] concatenates_S8192x768_S16384x768_S24576x768_d0
      = (fun j => cut (Z xp xs g md w) 896 (by decide) (j 0) (j 1) : FVec Ideal S24576x768 .f32) := by
  refine funext fun (j : S24576x768.Idx) => ?_
  idx_vars j
  refine Eq.trans ?_ (two_z xp xs g md w j0 ⟨896 + j1.val, by omega⟩)
  generalize zp xp g md w = a
  generalize zs xs g md w = b
  refine (rows768 _ _ j0 j1).trans ?_
  congr 1 <;> funext p t <;> pointwise

theorem rows1024 (a : FVec Ideal S32x256x1024 .f32) (b : FVec Ideal S8x2048x1024 .f32) (i : Fin 24576) (k : Fin 1024) :
    concatenate S24576x1024 0 [⟨S8192x1024, shapeCast S8192x1024 a shapeCasts_S32x256x1024_S8192x1024⟩, ⟨S16384x1024, shapeCast S16384x1024 b shapeCasts_S8x2048x1024_S16384x1024⟩] concatenates_S8192x1024_S16384x1024_S24576x1024_d0 (ix2 i k)
      = two (fun p t => a (ix3 p t k)) (fun p t => b (ix3 p t k)) i := by
  pointwise [two]

/-- The result that holds the 1024 columns from 1664 on. -/
theorem ref_z1664 (xp : FVec Ideal S32x256x1024 .f32) (xs : FVec Ideal S8x2048x1024 .f32) (g : FVec Ideal S1024 .f32) (md : FVec Ideal S16x6144 .f32) (w : FVec Ideal S1024x8064 .f32) :
    concatenate S24576x1024 0 [⟨S8192x1024, shapeCast S8192x1024 (extractStridedSlice S32x256x1024 ![0, 0, 1664] (zp xp g md w) slices_S32x256x8064_S32x256x1024_0_0_1664) shapeCasts_S32x256x1024_S8192x1024⟩, ⟨S16384x1024, shapeCast S16384x1024 (extractStridedSlice S8x2048x1024 ![0, 0, 1664] (zs xs g md w) slices_S8x2048x8064_S8x2048x1024_0_0_1664) shapeCasts_S8x2048x1024_S16384x1024⟩] concatenates_S8192x1024_S16384x1024_S24576x1024_d0
      = (fun j => cut (Z xp xs g md w) 1664 (by decide) (j 0) (j 1) : FVec Ideal S24576x1024 .f32) := by
  refine funext fun (j : S24576x1024.Idx) => ?_
  idx_vars j
  refine Eq.trans ?_ (two_z xp xs g md w j0 ⟨1664 + j1.val, by omega⟩)
  generalize zp xp g md w = a
  generalize zs xs g md w = b
  refine (rows1024 _ _ j0 j1).trans ?_
  congr 1 <;> funext p t <;> pointwise

theorem rows1280 (a : FVec Ideal S32x256x1280 .f32) (b : FVec Ideal S8x2048x1280 .f32) (i : Fin 24576) (k : Fin 1280) :
    concatenate S24576x1280 0 [⟨S8192x1280, shapeCast S8192x1280 a shapeCasts_S32x256x1280_S8192x1280⟩, ⟨S16384x1280, shapeCast S16384x1280 b shapeCasts_S8x2048x1280_S16384x1280⟩] concatenates_S8192x1280_S16384x1280_S24576x1280_d0 (ix2 i k)
      = two (fun p t => a (ix3 p t k)) (fun p t => b (ix3 p t k)) i := by
  pointwise [two]

/-- The result that holds the 1280 columns from 2688 on. -/
theorem ref_z2688 (xp : FVec Ideal S32x256x1024 .f32) (xs : FVec Ideal S8x2048x1024 .f32) (g : FVec Ideal S1024 .f32) (md : FVec Ideal S16x6144 .f32) (w : FVec Ideal S1024x8064 .f32) :
    concatenate S24576x1280 0 [⟨S8192x1280, shapeCast S8192x1280 (extractStridedSlice S32x256x1280 ![0, 0, 2688] (zp xp g md w) slices_S32x256x8064_S32x256x1280_0_0_2688) shapeCasts_S32x256x1280_S8192x1280⟩, ⟨S16384x1280, shapeCast S16384x1280 (extractStridedSlice S8x2048x1280 ![0, 0, 2688] (zs xs g md w) slices_S8x2048x8064_S8x2048x1280_0_0_2688) shapeCasts_S8x2048x1280_S16384x1280⟩] concatenates_S8192x1280_S16384x1280_S24576x1280_d0
      = (fun j => cut (Z xp xs g md w) 2688 (by decide) (j 0) (j 1) : FVec Ideal S24576x1280 .f32) := by
  refine funext fun (j : S24576x1280.Idx) => ?_
  idx_vars j
  refine Eq.trans ?_ (two_z xp xs g md w j0 ⟨2688 + j1.val, by omega⟩)
  generalize zp xp g md w = a
  generalize zs xs g md w = b
  refine (rows1280 _ _ j0 j1).trans ?_
  congr 1 <;> funext p t <;> pointwise

end Cert.Reference3Ideal.Inproj

end
-- ==== Proof.Inproj.Claims.lean ====
/- The input projection's claims: its two frames, its reference's, and the equation of the five results. -/
module

public import proofs.«01_k».proof.Defs
public import proofs.«01_k».proof.Proof.Gen.Kernel3
public import proofs.«01_k».proof.Proof.Gen.Kernel3.Frame
public import proofs.«01_k».proof.Proof.Inproj.Ref
public import Idealize.ShloMosaic.Lib.Quiescent

@[expose] public section

noncomputable section

namespace Cert.Proof.Inproj

open Idealize.ShloMosaic Idealize.ShloMosaic.TcCoe Idealize.SL.Sem

/-- Every run of the input projection ends, its arguments unchanged and its counters at zero. -/
theorem frame_kernel : Cert.quiescent_Kernel3 := fun m ρ _ => Cert.Kernel3.Gen.frame m ρ

/-- The same over the extended reals. -/
theorem frame_ideal : Cert.quiescent_Kernel3Ideal := fun m ρ _ => Cert.Kernel3Ideal.Gen.frame m ρ

/-- The reference's run, its arguments unchanged; it has no semaphore. -/
theorem frame_reference : Cert.quiescent_Reference3Ideal := fun m ρ _ =>
  (θ_run Cert.Reference3Ideal.defs _ _).mono
    (fun r h => ⟨fun c => (h c).2.2.2.2.2, sem_eq_zero_of_no_sems (by decide) r.2⟩)
    (Cert.Reference3Ideal.Value.run (F := Ideal) m ρ)

theorem preserves : Cert.preserves_Kernel3_Kernel3Ideal := trivial

/-- Over the extended reals the call's results are the reference's: the modulated norm of every row, and its products
    with the four ranges of columns of the projection (`Cert.Kernel3Ideal.Inproj.H`, `Z`). -/
theorem algebraic : Cert.algebraic_Kernel3Ideal_Reference3Ideal := by
  intro m ρ m' ρ' _ hagree
  refine ⟨fun c => (Cert.Kernel3Ideal.Gen.dats m 0 c).arrAt 7 Cert.Kernel3Ideal.cfg0.N, fun c => (Cert.Kernel3Ideal.Gen.dats m 0 c).arrAt 8 Cert.Kernel3Ideal.cfg0.N,
    fun c => (Cert.Kernel3Ideal.Gen.dats m 0 c).arrAt 9 Cert.Kernel3Ideal.cfg0.N, fun c => (Cert.Kernel3Ideal.Gen.dats m 0 c).arrAt 10 Cert.Kernel3Ideal.cfg0.N,
    fun c => (Cert.Kernel3Ideal.Gen.dats m 0 c).arrAt 11 Cert.Kernel3Ideal.cfg0.N, Cert.Kernel3Ideal.Inproj.run m ρ, ?_⟩
  refine (θ_run Cert.Reference3Ideal.defs _ _).mono (fun r h c => ?_) (Cert.Reference3Ideal.Value.run (F := Ideal) m' ρ')
  obtain ⟨h0, h1, h2, h3, h4⟩ := hagree c
  obtain ⟨g0, g1, g2, g3, g4, hargs⟩ := h c
  refine ⟨?_, ?_, ?_, ?_, ?_, hargs⟩
  · refine g0.trans ((Cert.Reference3Ideal.Inproj.ref_h _ _ _ _).trans ?_)
    refine Eq.trans ?_ (Cert.Kernel3Ideal.Inproj.final7 m c).symm
    rw [h0, h1, h2, h3]
  · refine g1.trans ((Cert.Reference3Ideal.Inproj.ref_z0 _ _ _ _ _).trans ?_)
    refine Eq.trans ?_ (Cert.Kernel3Ideal.Inproj.final8 m c).symm
    rw [h0, h1, h2, h3, h4]
  · refine g2.trans ((Cert.Reference3Ideal.Inproj.ref_z896 _ _ _ _ _).trans ?_)
    refine Eq.trans ?_ (Cert.Kernel3Ideal.Inproj.final9 m c).symm
    rw [h0, h1, h2, h3, h4]
  · refine g3.trans ((Cert.Reference3Ideal.Inproj.ref_z1664 _ _ _ _ _).trans ?_)
    refine Eq.trans ?_ (Cert.Kernel3Ideal.Inproj.final10 m c).symm
    rw [h0, h1, h2, h3, h4]
  · refine g4.trans ((Cert.Reference3Ideal.Inproj.ref_z2688 _ _ _ _ _).trans ?_)
    refine Eq.trans ?_ (Cert.Kernel3Ideal.Inproj.final11 m c).symm
    rw [h0, h1, h2, h3, h4]

end Cert.Proof.Inproj

end
-- ==== Proof.Norm.Block.lean ====
/- The final norm's call: what its result array holds, index by index, over the extended reals. -/
module

public import proofs.«01_k».proof.Proof.Gen.Kernel4Ideal.Value
public import proofs.«01_k».proof.Proof.Norm.Rows
public import Idealize.ShloMosaic.Lib.Pipeline.ValueKit.Acc
public import Idealize.ShloMosaic.Lib.Pipeline.ValueKit.Geometry

@[expose] public section

set_option maxRecDepth 16384

noncomputable section

namespace Cert.Kernel4Ideal.Norm

open Idealize.ShloMosaic Idealize.ShloMosaic.TcCoe Idealize.ShloMosaic.Tactic
open Cert.Kernel4Ideal Cert.Kernel4Ideal.Gen
open Cert.Rows (two)

theorem out_at (x0 : Vec Ideal S512x1024 .f32) (x1 : Vec Ideal S1x1024 .f32) (r : Fin 512) (d : Fin 1024) :
    out0_2 x0 x1 (ix2 r d) = Cert.Rows.norm (fun k => x0 (ix2 r k)) d * x1 (ix2 (0 : Fin 1) d) := by
  frame_out
  pointwise [k0_pay1, Cert.Rows.norm]

variable (m : (ℓ : Loc nD τ sig) → Buf (Elt Ideal) ℓ)

/-- The context's and the requests' rows laid end to end. -/
theorem rows_at (xp : FVec Ideal S32x256x1024 .f32) (xs : FVec Ideal S8x2048x1024 .f32) (i : Fin 24576) (d : Fin 1024) :
    concatenate S24576x1024 0 [⟨S8192x1024, shapeCast S8192x1024 xp shapeCasts_S32x256x1024_S8192x1024⟩, ⟨S16384x1024, shapeCast S16384x1024 xs shapeCasts_S8x2048x1024_S16384x1024⟩] concatenates_S8192x1024_S16384x1024_S24576x1024_d0 (ix2 i d)
      = two (fun b t => xp (ix3 b t d)) (fun b t => xs (ix3 b t d)) i := by
  pointwise [two]

/-- The whole result: every row's norm, times the gains. -/
def G (xp : FVec Ideal S32x256x1024 .f32) (xs : FVec Ideal S8x2048x1024 .f32) (g : FVec Ideal S1024 .f32) : FVec Ideal S24576x1024 .f32 :=
  fun j => Cert.Rows.norm (fun k => two (fun b t => xp (ix3 b t k)) (fun b t => xs (ix3 b t k)) (j 0)) (j 1) * g (ix1 (j 1))

theorem e0 : ∀ t : Fin cfg0.N, win0_0.index t = ![(grid0.coords t 0).val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![(grid0.coords t 0).val, 0] := (by decide +kernel : ∀ t : Fin grid0.N, _)

theorem V_rows (c : Dev nD) (i : Fin 24576) (d : Fin 1024) : (V m c main_v2 : FVec Ideal S24576x1024 .f32) (ix2 i d)
    = two (fun b t => (m ((c : Thread nD τ).loc main_arg0) : FVec Ideal S32x256x1024 .f32) (ix3 b t d)) (fun b t => (m ((c : Thread nD τ).loc main_arg1) : FVec Ideal S8x2048x1024 .f32) (ix3 b t d)) i := by
  have h : (V m c main_v2 : FVec Ideal S24576x1024 .f32)
      = concatenate S24576x1024 0 [⟨S8192x1024, shapeCast S8192x1024 (m ((c : Thread nD τ).loc main_arg0)) shapeCasts_S32x256x1024_S8192x1024⟩, ⟨S16384x1024, shapeCast S16384x1024 (m ((c : Thread nD τ).loc main_arg1)) shapeCasts_S8x2048x1024_S16384x1024⟩] concatenates_S8192x1024_S16384x1024_S24576x1024_d0 := by
    show StableHlo.after hostOps0 _ _ = _
    after_results
    rfl
  exact (congrFun h (ix2 i d)).trans (rows_at _ _ i d)

/-- The row of the array that row `r` of block `t` is. -/
def row (t : Fin cfg0.N) (r : Fin 512) : Fin 24576 :=
  ⟨512 * (grid0.coords t 0).val + r.val, by have : (grid0.coords t 0).val < 48 := (grid0.coords t 0).isLt; omega⟩

theorem emb_out (t : Fin cfg0.N) (r : Fin 512) (d : Fin 1024) : (win0_2.blk t).view.emb (ix2 r d) = ix2 (row t r) d := by
  blk_ext [e2, row]

theorem blk_x (c : Dev nD) (t : Fin cfg0.N) (r : Fin 512) (k : Fin 1024) :
    iblk m c 0 t (ix2 r k) = (V m c main_v2 : FVec Ideal S24576x1024 .f32) (ix2 (row t r) k) := by
  unfold iblk
  show (V m c main_v2 : FVec Ideal S24576x1024 .f32) ((win0_0.blk t).view.emb (ix2 r k)) = _
  generalize (V m c main_v2 : FVec Ideal S24576x1024 .f32) = X
  blk_ext [e0, row]

theorem blk_g (c : Dev nD) (t : Fin cfg0.N) (d : Fin 1024) :
    iblk m c 1 t (ix2 (0 : Fin 1) d) = (m ((c : Thread nD τ).loc main_arg2) : FVec Ideal S1024 .f32) (ix1 d) := by
  have h : (V m c main_v3 : FVec Ideal S1x1024 .f32)
      = broadcastInDim S1x1024 ![1] bcast_S1024_S1x1024_1 (m ((c : Thread nD τ).loc main_arg2) : FVec Ideal S1024 .f32) := by
    show StableHlo.after hostOps0 _ _ = _
    after_results
  unfold iblk
  show (V m c main_v3 : FVec Ideal S1x1024 .f32) ((win0_1.blk t).view.emb (ix2 (0 : Fin 1) d)) = _
  rw [h]
  generalize (m ((c : Thread nD τ).loc main_arg2) : FVec Ideal S1024 .f32) = X
  have : (win0_1.blk t).view.emb (ix2 (0 : Fin 1) d) = ix2 (0 : Fin 1) d := by blk_ext [e1]
  rw [this]
  pointwise

theorem final (c : Dev nD) : (dats m 0 c).arrAt 2 cfg0.N
    = G (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  obtain ⟨r, d, hy⟩ : ∃ (r : Fin 512) (d : Fin 1024), y = ix2 r d := ⟨y 0, y 1, by funext a; fin_cases a <;> rfl⟩
  subst hy
  rw [out_at, emb_out, G, blk_g]
  refine congrArg₂ (· * ·) (congrArg (Cert.Rows.norm · d) (funext fun k => (blk_x m c t r k).trans (V_rows m c _ k))) rfl

end Cert.Kernel4Ideal.Norm

end
-- ==== Proof.Norm.Ref.lean ====
/- The final norm's reference: what its result holds at an index, over the extended reals. -/
module

public import proofs.«01_k».proof.Proof.Gen.Reference4Ideal.Run
public import proofs.«01_k».proof.Proof.Norm.Block

@[expose] public section

set_option maxRecDepth 16384

noncomputable section

namespace Cert.Reference4Ideal.Norm

open Idealize.ShloMosaic Idealize.ShloMosaic.TcCoe Idealize.ShloMosaic.Tactic
open Cert.Reference4Ideal Cert.Reference4Ideal.Gen
open Cert.Kernel4Ideal.Norm (G rows_at)
open Cert.Rows (two two_map)

/-- The reference's result is the norm of every row, times the gains. -/
theorem ref_eq (xp : FVec Ideal S32x256x1024 .f32) (xs : FVec Ideal S8x2048x1024 .f32) (g : FVec Ideal S1024 .f32) :
    concatenate S24576x1024 0 [⟨S8192x1024, (shapeCast _ (mulf (mulf xp (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf xp xp) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 g))) shapeCasts_S32x256x1024_S8192x1024)⟩, ⟨S16384x1024, (shapeCast _ (mulf (mulf xs (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf xs xs) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))) shapeCasts_S8x2048x1024_S16384x1024)⟩] concatenates_S8192x1024_S16384x1024_S24576x1024_d0
      = G xp xs g := by
  refine funext fun (j : S24576x1024.Idx) => ?_
  idx_vars j
  refine (rows_at _ _ j0 j1).trans ?_
  rw [G]
  have hrow : (fun k => two (fun b t => xp (ix3 b t k)) (fun b t => xs (ix3 b t k)) j0)
      = two (fun b t k => xp (ix3 b t k)) (fun b t k => xs (ix3 b t k)) j0 :=
    funext fun k => two_map (fun x : Fin 1024 → EReal => x k) (fun b t k => xp (ix3 b t k)) (fun b t k => xs (ix3 b t k)) j0
  show _ = Cert.Rows.norm (fun k => two (fun b t => xp (ix3 b t k)) (fun b t => xs (ix3 b t k)) j0) j1 * g (ix1 j1)
  rw [hrow, ← two_map (fun x => Cert.Rows.norm x j1 * g (ix1 j1))]
  congr 1
  · funext b t
    pointwise [Cert.Rows.norm]
  · funext b t
    pointwise [Cert.Rows.norm]

end Cert.Reference4Ideal.Norm

end
-- ==== Proof.Norm.Claims.lean ====
/- The final norm's claims: its two frames, its reference's, and the equation of the two results. -/
module

public import proofs.«01_k».proof.Defs
public import proofs.«01_k».proof.Proof.Gen.Kernel4
public import proofs.«01_k».proof.Proof.Gen.Kernel4.Frame
public import proofs.«01_k».proof.Proof.Norm.Ref
public import Idealize.ShloMosaic.Lib.Quiescent

@[expose] public section

noncomputable section

namespace Cert.Proof.Norm

open Idealize.ShloMosaic Idealize.ShloMosaic.TcCoe Idealize.SL.Sem

/-- Every run of the final norm ends, its arguments unchanged and its counters at zero. -/
theorem frame_kernel : Cert.quiescent_Kernel4 := fun m ρ _ => Cert.Kernel4.Gen.frame m ρ

/-- The same over the extended reals. -/
theorem frame_ideal : Cert.quiescent_Kernel4Ideal := fun m ρ _ => Cert.Kernel4Ideal.Gen.frame m ρ

/-- The reference's run, its arguments unchanged; it has no semaphore. -/
theorem frame_reference : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

theorem preserves : Cert.preserves_Kernel4_Kernel4Ideal := trivial

/-- Over the extended reals the call's result is the reference's: both hold every row's norm times the gains
    (`Cert.Kernel4Ideal.Norm.G`). -/
theorem algebraic : Cert.algebraic_Kernel4Ideal_Reference4Ideal := by
  intro m ρ m' ρ' _ hagree
  refine ⟨fun c => (Cert.Kernel4Ideal.Gen.dats m 0 c).arrAt 2 Cert.Kernel4Ideal.cfg0.N, Cert.Kernel4Ideal.Value.run_blocks m ρ, ?_⟩
  refine (θ_run Cert.Reference4Ideal.defs _ _).mono (fun r h c => ⟨?_, (h c).2⟩) (Cert.Reference4Ideal.Value.run (F := Ideal) m' ρ')
  obtain ⟨h0, h1, h2⟩ := hagree c
  refine (h c).1.trans ((Cert.Reference4Ideal.Norm.ref_eq _ _ _).trans ?_)
  refine Eq.trans ?_ (Cert.Kernel4Ideal.Norm.final m c).symm
  rw [h0, h1, h2]

end Cert.Proof.Norm

end
-- ==== Proof.Merge.Rows.lean ====
/- One row of the merge: the norm of a head's lanes, a branch's gate, the gated sum of the branches, the residual and
   the second norm, over the extended reals. -/
module

public import proofs.«01_k».proof.Proof.Norm.Rows

@[expose] public section

noncomputable section

namespace Cert.Merge

open Idealize.ShloMosaic

/-- Lane `k` of the head that lane `c` lies in. -/
def lane (c : Fin 256) (k : Fin 64) : Fin 256 := ⟨64 * (c.val / 64) + k.val, by omega⟩

/-- The mean over the head of lane `c`. -/
def mean (y : Fin 256 → EReal) (c : Fin 256) : EReal :=
  Ideal.div (∑ k, y (lane c k)) (Scalar.ofBits (F := Ideal) .f32 0x42800000#32)

/-- A row's lanes less their head's mean. -/
def centred (y : Fin 256 → EReal) (c : Fin 256) : EReal := y c - mean y c

/-- A row normalised head by head, with gain `g` and bias `b` of a lane. -/
def headNorm (y g b : Fin 256 → EReal) (c : Fin 256) : EReal :=
  centred y c * Ideal.rsqrt (mean (fun k => centred y k * centred y k) c + Scalar.ofBits (F := Ideal) .f32 0x3A27C5AC#32) * g c + b c

/-- `1 / (1 + exp (-a))`. -/
def gateOf (a : EReal) : EReal := Ideal.div 1 (1 + Ideal.exp (0 - a))

/-- The four branches of a row. -/
def four {α : Type} (a b c d : α) : Fin 4 → α := ![a, b, c, d]

/-- The branches of a row, each through its own matrix and its gate, added. -/
def mixed (h : Fin 1024 → EReal) (br : Fin 4 → Fin 256 → EReal) (w : Fin 1024 → Fin 4 → Fin 1024 → EReal) (bw : Fin 4 → Fin 256 → Fin 1024 → EReal) (d : Fin 1024) : EReal :=
  ∑ n, gateOf (∑ k, h k * w k n d) * ∑ c, br n c * bw n c d

/-- The row after the merge: the row, and the mixed branches through the output matrix under the modulation's gate. -/
def merged (x h : Fin 1024 → EReal) (br : Fin 4 → Fin 256 → EReal) (w : Fin 1024 → Fin 4 → Fin 1024 → EReal) (bw : Fin 4 → Fin 256 → Fin 1024 → EReal) (wo : Fin 1024 → Fin 1024 → EReal) (md : Fin 6144 → EReal) (e : Fin 1024) : EReal :=
  x e + md ⟨2048 + e.val, by omega⟩ * ∑ d, mixed h br w bw d * wo d e

/-- The row's second norm, modulated by the last three parts of the modulation. -/
def second (x g : Fin 1024 → EReal) (md : Fin 6144 → EReal) (d : Fin 1024) : EReal :=
  Cert.Rows.norm x d * g d * (1 + md ⟨4096 + d.val, by omega⟩) + md ⟨3072 + d.val, by omega⟩

/-- An extended real that is a real. -/
def Fin' (a : EReal) : Prop := a ≠ ⊤ ∧ a ≠ ⊥

theorem Fin'.lift {a : EReal} (h : Fin' a) : ∃ r : ℝ, a = r := ⟨a.toReal, (EReal.coe_toReal h.1 h.2).symm⟩

theorem fin_coe (r : ℝ) : Fin' (r : EReal) := ⟨EReal.coe_ne_top r, EReal.coe_ne_bot r⟩

theorem Fin'.add {a b : EReal} (ha : Fin' a) (hb : Fin' b) : Fin' (a + b) := by
  obtain ⟨r, rfl⟩ := ha.lift; obtain ⟨s, rfl⟩ := hb.lift; rw [← EReal.coe_add]; exact fin_coe _

theorem Fin'.sub {a b : EReal} (ha : Fin' a) (hb : Fin' b) : Fin' (a - b) := by
  obtain ⟨r, rfl⟩ := ha.lift; obtain ⟨s, rfl⟩ := hb.lift; rw [← EReal.coe_sub]; exact fin_coe _

theorem Fin'.mul {a b : EReal} (ha : Fin' a) (hb : Fin' b) : Fin' (a * b) := by
  obtain ⟨r, rfl⟩ := ha.lift; obtain ⟨s, rfl⟩ := hb.lift; rw [← EReal.coe_mul]; exact fin_coe _

theorem Fin'.sum {n : ℕ} {f : Fin n → EReal} (h : ∀ k, Fin' (f k)) : Fin' (∑ k, f k) :=
  Finset.sum_induction f Fin' (fun _ _ => Fin'.add) (fin_coe 0) fun k _ => h k

/-- A real less itself is zero. -/
theorem Fin'.sub_self {a : EReal} (h : Fin' a) : a - a = 0 := by
  obtain ⟨r, rfl⟩ := h.lift; rw [← EReal.coe_sub, _root_.sub_self]; rfl

theorem sixtyFour : Scalar.ofBits (F := Ideal) .f32 0x42800000#32 = ((64 : ℝ) : EReal) := by
  show Ideal.ofBits .f32 0x42800000#32 = _
  simp [Ideal.ofBits, Ideal.ieee, -EReal.coe_mul]; norm_num

theorem recip64 : Scalar.ofBits (F := Ideal) .f32 0x3C800000#32 = ((1 / 64 : ℝ) : EReal) := by
  show Ideal.ofBits .f32 0x3C800000#32 = _
  simp [Ideal.ofBits, Ideal.ieee, -EReal.coe_mul]; norm_num

/-- The quotient by 64 is the product with 1/64. -/
theorem mul_recip (a : EReal) : a * Scalar.ofBits (F := Ideal) .f32 0x3C800000#32 = Ideal.div a (Scalar.ofBits (F := Ideal) .f32 0x42800000#32) := by
  rw [sixtyFour, recip64, Ideal.div_coe (by norm_num)]

theorem fin_mean {y : Fin 256 → EReal} (h : ∀ k, Fin' (y k)) (c : Fin 256) : Fin' (mean y c) := by
  unfold mean
  rw [← mul_recip, recip64]
  exact (Fin'.sum fun k => h _).mul (fin_coe _)

theorem fin_centred {y : Fin 256 → EReal} (h : ∀ k, Fin' (y k)) (c : Fin 256) : Fin' (centred y c) := (h c).sub (fin_mean h c)

/-- The 0/1 entry that tells whether two lanes lie in one head. -/
def same (k c : Fin 256) : EReal := if k.val / 64 = c.val / 64 then 1 else 0

/-- A sum over all lanes against the heads' 0/1 matrix is the sum over the lanes of one head. -/
theorem sum_same (y : Fin 256 → EReal) (c : Fin 256) : ∑ k, y k * same k c = ∑ k, y (lane c k) := by
  have hs : ∀ k, y k * same k c = if k ∈ Finset.univ.image (lane c) then y k else 0 := by
    intro k
    have : (k.val / 64 = c.val / 64) ↔ k ∈ Finset.univ.image (lane c) := by
      constructor
      · intro h
        exact Finset.mem_image.mpr ⟨⟨k.val % 64, by omega⟩, Finset.mem_univ _, Fin.ext (by simp only [lane]; omega)⟩
      · intro h
        obtain ⟨q, -, rfl⟩ := Finset.mem_image.mp h
        simp only [lane]; omega
    unfold same
    simp only [this]
    split <;> simp
  rw [Finset.sum_congr rfl fun k _ => hs k, Finset.sum_ite_mem, Finset.univ_inter, Finset.sum_image]
  intro a _ b _ hab
  have := congrArg Fin.val hab
  simp only [lane] at this
  exact Fin.ext (by omega)

/-- The kernel's mean: the lanes and what their rounding left, each against the heads' matrix, by the reciprocal. -/
theorem mean_split {y : Fin 256 → EReal} (h : ∀ k, Fin' (y k)) (c : Fin 256) :
    ((∑ k, y k * same k c) + ∑ k, (y k - y k) * same k c) * Scalar.ofBits (F := Ideal) .f32 0x3C800000#32 = mean y c := by
  have : ∑ k, (y k - y k) * same k c = 0 := Finset.sum_eq_zero fun k _ => by rw [(h k).sub_self, zero_mul]
  rw [this, add_zero, sum_same, mul_recip]; rfl

end Cert.Merge

end
-- ==== Proof.Merge.Pay.lean ====
/- The merge's block: what its arithmetic computes of a block's rows, over the extended reals. -/
module

public import proofs.«01_k».proof.Proof.Gen.Kernel5Ideal.Skeleton
public import proofs.«01_k».proof.Proof.Merge.Rows

@[expose] public section

set_option maxRecDepth 16384

noncomputable section

namespace Cert.Kernel5Ideal.Merge

open Idealize.ShloMosaic Idealize.ShloMosaic.TcCoe Idealize.ShloMosaic.Tactic
open Cert.Kernel5Ideal Cert.Kernel5Ideal.Gen
open Cert.Merge

/-- The two directions' lanes added: of the contexts' scan in the first 32 points, of the requests' scan in the others. -/
def lanes (i : ℕ) (yp yq ys yr : Fin 2 → Fin 128 → EReal) (c : Fin 256) : EReal :=
  if i < 32 then yp ⟨c.val / 128, by omega⟩ ⟨c.val % 128, by omega⟩ + yq ⟨c.val / 128, by omega⟩ ⟨c.val % 128, by omega⟩
  else ys ⟨c.val / 128, by omega⟩ ⟨c.val % 128, by omega⟩ + yr ⟨c.val / 128, by omega⟩ ⟨c.val % 128, by omega⟩

theorem early (i : Fin 96) : Scalar.cmpi .slt (BitVec.ofNat 32 i.val) 32#32 = (if i.val < 32 then 1#1 else 0#1) := by
  revert i; decide +kernel

/-- The head norm of the scan's lanes, with the bonus added and gated. -/
theorem pay7_at (v1 : FVec Ideal S256x256 .bf16) (v26 : FVec Ideal S256x256 .f32) (v27 v28 : FVec Ideal S1x256 .f32) (v57 v59 : Vec Ideal S256x256 .f32)
    (h1 : ∀ k c : Fin 256, v1 (ix2 k c) = same k c) (hf : ∀ r k : Fin 256, Fin' (v26 (ix2 r k))) (r c : Fin 256) :
    k0_pay7 v1 v26 v27 v28 (truncf .bf16 v26 bitsLt_bf16_f32) v57 v59 (ix2 r c)
      = (headNorm (fun k => v26 (ix2 r k)) (fun k => v27 (ix2 (0 : Fin 1) k)) (fun k => v28 (ix2 (0 : Fin 1) k)) c + v57 (ix2 r c)) * v59 (ix2 r c) := by
  have hm : ∀ c, (∑ k, v26 (ix2 r k) * same k c + ∑ k, (v26 (ix2 r k) - v26 (ix2 r k)) * same k c) * Ideal.ofBits .f32 0x3C800000#32
      = mean (fun k => v26 (ix2 r k)) c := mean_split (hf r)
  have hd : ∀ k, v26 (ix2 r k) - mean (fun k => v26 (ix2 r k)) k = centred (fun k => v26 (ix2 r k)) k := fun _ => rfl
  have hc : ∀ k, Fin' (centred (fun k => v26 (ix2 r k)) k) := fin_centred (hf r)
  have hv := mean_split (fun k => (hc k).mul (hc k))
  simp only [show Scalar.ofBits (F := Ideal) .f32 0x3C800000#32 = Ideal.ofBits .f32 0x3C800000#32 from rfl] at hv
  pointwise [k0_pay7, headNorm]
  simp only [h1, hm, hd, hv]

/-- The mixed branches: the first two. -/
theorem pay10_at (v60 : FVec Ideal S256x256 .f32) (v61 : Vec Ideal S256x1024 .bf16) (v62 : FVec Ideal S256x1024 .f32) (v63 : Vec Ideal S256x256 .f32) (v67 : FVec Ideal S1024x1024 .bf16) (v77 : Vec Ideal S1x256x1024 .bf16) (v82 : Vec Ideal S1024x1024 .bf16) (v93 : Vec Ideal S1x256x1024 .bf16) (r : Fin 256) (d : Fin 1024) :
    k0_pay10 v60 v61 v62 v63 v67 v77 v82 v93 (ix2 r d) = v62 (ix2 r d)
      + gateOf (∑ k, v61 (ix2 r k) * v67 (ix2 k d)) * (∑ c, v60 (ix2 r c) * v77 (ix3 (0 : Fin 1) c d))
      + gateOf (∑ k, v61 (ix2 r k) * v82 (ix2 k d)) * (∑ c, v63 (ix2 r c) * v93 (ix3 (0 : Fin 1) c d)) := by
  pointwise [k0_pay10, gateOf]

theorem pay11_at (v61 : Vec Ideal S256x1024 .bf16) (v98 : Vec Ideal S1024x1024 .bf16) (r : Fin 256) (d : Fin 1024) :
    k0_pay11 v61 v98 (ix2 r d) = Ideal.exp (0 - ∑ k, v61 (ix2 r k) * v98 (ix2 k d)) := by
  pointwise [k0_pay11]

/-- The other two branches, the output matrix and the residual. -/
theorem pay14_at (v61 : Vec Ideal S256x1024 .bf16) (v64 v65 : Vec Ideal S256x256 .f32) (v97 v103 : FVec Ideal S256x1024 .f32) (v109 : Vec Ideal S1x256x1024 .bf16) (v114 : Vec Ideal S1024x1024 .bf16) (v125 : Vec Ideal S1x256x1024 .bf16) (v131 : Vec Ideal S1024x1024 .bf16) (v134 : Vec Ideal S1x1x6144 .f32) (v136 : Vec Ideal S256x1024 .f32) (r : Fin 256) (e : Fin 1024) :
    k0_pay14 v61 v64 v65 v97 v103 k0_pay12 v109 v114 v125 v131 v134 v136 (ix2 r e) = v136 (ix2 r e)
      + v134 (ix3 (0 : Fin 1) (0 : Fin 1) ⟨2048 + e.val, by omega⟩) * ∑ d, (v97 (ix2 r d)
        + Ideal.div 1 (1 + v103 (ix2 r d)) * (∑ c, v64 (ix2 r c) * v109 (ix3 (0 : Fin 1) c d))
        + gateOf (∑ k, v61 (ix2 r k) * v114 (ix2 k d)) * (∑ c, v65 (ix2 r c) * v125 (ix3 (0 : Fin 1) c d))) * v131 (ix2 d e) := by
  pointwise [k0_pay14, k0_pay12, k0_pay13, gateOf]

/-- The second norm. -/
theorem pay16_at (v134 : Vec Ideal S1x1x6144 .f32) (v140 : FVec Ideal S256x1024 .f32) (v152 : Vec Ideal S1x1024 .f32) (r : Fin 256) (d : Fin 1024) :
    k0_pay16 (k0_pay13 v134) v140 v152 (ix2 r d) = second (fun k => v140 (ix2 r k)) (fun k => v152 (ix2 (0 : Fin 1) k)) (fun k => v134 (ix3 (0 : Fin 1) (0 : Fin 1) k)) d := by
  pointwise [k0_pay16, k0_pay15, k0_pay13, second, Cert.Rows.norm]

theorem pay3_at (i : grid0.Coords) (v4 v6 v9 v11 v15 v17 v20 v22 : Vec Ideal S1x256x128 .f32) (r c : Fin 256) :
    k0_pay3 i v4 v6 v9 v11 v15 v17 v20 v22 (ix2 r c) = lanes (i 0).val
      (fun h l => if h.val < 1 then v4 (ix3 (0 : Fin 1) r l) else v15 (ix3 (0 : Fin 1) r l)) (fun h l => if h.val < 1 then v6 (ix3 (0 : Fin 1) r l) else v17 (ix3 (0 : Fin 1) r l))
      (fun h l => if h.val < 1 then v9 (ix3 (0 : Fin 1) r l) else v20 (ix3 (0 : Fin 1) r l)) (fun h l => if h.val < 1 then v11 (ix3 (0 : Fin 1) r l) else v22 (ix3 (0 : Fin 1) r l)) c := by
  have he : Scalar.cmpi .slt (BitVec.ofNat 32 (i 0).val) 32#32 = (if (i 0).val < 32 then 1#1 else 0#1) := early (i 0)
  pointwise [k0_pay3, lanes]
  rw [he]
  by_cases hc : c.val < 128
  · have h0 : c.val / 128 < 1 := by omega
    have h1 : c.val % 128 = c.val := by omega
    simp only [dif_pos hc, if_pos h0, h1]
    split <;> rfl
  · have h0 : ¬ c.val / 128 < 1 := by omega
    have h1 : c.val % 128 = c.val - 128 := by omega
    simp only [dif_neg hc, if_neg h0, h1]
    split <;> rfl

end Cert.Kernel5Ideal.Merge

end
-- ==== Proof.Merge.Out.lean ====
/- The merge's block: what its two results hold of the block's inputs, index by index, over the extended reals. -/
module

public import proofs.«01_k».proof.Proof.Gen.Kernel5Ideal.Frame
public import proofs.«01_k».proof.Proof.Merge.Pay
public import Idealize.ShloMosaic.Lib.Pipeline.ValueKit.Acc
public import Idealize.ShloMosaic.Lib.Pipeline.ValueKit.Geometry

@[expose] public section

set_option maxRecDepth 16384

noncomputable section

namespace Cert.Kernel5Ideal.Merge

open Idealize.ShloMosaic Idealize.ShloMosaic.TcCoe Idealize.ShloMosaic.Tactic
open Cert.Kernel5Ideal Cert.Kernel5Ideal.Gen
open Cert.Merge

section block

variable (i : grid0.Coords) (x0 : Vec Ideal S256x1024 .f32) (x1 : Vec Ideal S256x1024 .bf16) (x2 x3 x4 x5 : Vec Ideal S2x256x128 .f32)
  (x6 x7 x8 x9 x10 : Vec Ideal S256x256 .f32) (x11 : Vec Ideal S1024x4096 .bf16) (x12 : Vec Ideal S4x256x1024 .bf16) (x13 : Vec Ideal S1024x1024 .bf16)
  (x14 : Vec Ideal S2x256 .f32) (x15 : Vec Ideal S1x1x6144 .f32) (x16 : Vec Ideal S1x1024 .f32) (x17 : Vec Ideal S16x1024 .f32) (x18 : Vec Ideal S256x256 .bf16)

/-- Row `r` of the scan's lanes. -/
def yrow (r c : Fin 256) : EReal :=
  lanes (i 0).val (fun h l => x2 (ix3 h r l)) (fun h l => x3 (ix3 h r l)) (fun h l => x4 (ix3 h r l)) (fun h l => x5 (ix3 h r l)) c

/-- The four branches of row `r`. -/
def brow (r : Fin 256) : Fin 4 → Fin 256 → EReal :=
  four (fun c => (headNorm (yrow i x2 x3 x4 x5 r) (fun k => x14 (ix2 (0 : Fin 2) k)) (fun k => x14 (ix2 (1 : Fin 2) k)) c + x6 (ix2 r c)) * x7 (ix2 r c))
    (fun c => x8 (ix2 r c)) (fun c => x9 (ix2 r c)) (fun c => x10 (ix2 r c))

/-- Row `r` of the block merged. -/
def xrow (r : Fin 256) : Fin 1024 → EReal :=
  merged (fun k => x0 (ix2 r k)) (fun k => x1 (ix2 r k)) (brow i x2 x3 x4 x5 x6 x7 x8 x9 x10 x14 r) (fun k n d => x11 (ix2 k ⟨1024 * n.val + d.val, by omega⟩))
    (fun n c d => x12 (ix3 n c d)) (fun d e => x13 (ix2 d e)) (fun k => x15 (ix3 (0 : Fin 1) (0 : Fin 1) k))

theorem y_at (r c : Fin 256) :
    k0_pay3 i (View.ld x2 r0_2) (View.ld x3 r0_2) (View.ld x4 r0_2) (View.ld x5 r0_2) (View.ld x2 r0_3) (View.ld x3 r0_3) (View.ld x4 r0_3) (View.ld x5 r0_3) (ix2 r c)
      = yrow i x2 x3 x4 x5 r c := by
  have h2 : ∀ x : Vec Ideal S2x256x128 .f32, (fun (h : Fin 2) (l : Fin 128) => if h.val < 1 then View.ld x r0_2 (ix3 (0 : Fin 1) r l) else View.ld x r0_3 (ix3 (0 : Fin 1) r l)) = fun h l => x (ix3 h r l) := by
    intro x; funext h l
    pointwise
    fin_cases h <;> rfl
  rw [pay3_at, h2, h2, h2, h2]; rfl

theorem pay20_at (h18 : ∀ k c : Fin 256, x18 (ix2 k c) = same k c) (hf : ∀ r c, Fin' (yrow i x2 x3 x4 x5 r c)) (r : Fin 256) (e : Fin 1024) :
    k0_pay20 i x0 x1 x2 x3 x4 x5 x6 x7 x8 x9 x10 x11 x12 x13 x14 x15 x16 x17 x18 (ix2 r e)
      = xrow i x0 x1 x2 x3 x4 x5 x6 x7 x8 x9 x10 x11 x12 x13 x14 x15 r e := by
  have hb : ∀ k c : Fin 256, k0_pay2 (View.ld x18 r0_0) (ix2 k c) = same k c := fun k c => by
    rw [← h18]; pointwise [k0_pay2]
  have hy : ∀ r k : Fin 256, Fin' (k0_pay3 i (View.ld x2 r0_2) (View.ld x3 r0_2) (View.ld x4 r0_2) (View.ld x5 r0_2) (View.ld x2 r0_3) (View.ld x3 r0_3) (View.ld x4 r0_3) (View.ld x5 r0_3) (ix2 r k)) :=
    fun r k => by rw [y_at]; exact hf r k
  unfold k0_pay20
  rw [pay14_at]
  simp only [pay10_at, pay11_at]
  unfold k0_pay6
  simp only [pay7_at _ _ _ _ _ _ hb hy, y_at]
  simp only [xrow, merged, mixed, Fin.sum_univ_four]
  pointwise [k0_pay8, k0_pay9, k0_pay4, k0_pay5, brow, four, gateOf]

/-- The first result's block: the merged rows. -/
theorem out_at19 (h18 : ∀ k c : Fin 256, x18 (ix2 k c) = same k c) (hf : ∀ r c, Fin' (yrow i x2 x3 x4 x5 r c)) (r : Fin 256) (e : Fin 1024) :
    out0_19 i x0 x1 x2 x3 x4 x5 x6 x7 x8 x9 x10 x11 x12 x13 x14 x15 x16 x17 x18 (ix2 r e)
      = xrow i x0 x1 x2 x3 x4 x5 x6 x7 x8 x9 x10 x11 x12 x13 x14 x15 r e := by
  unfold out0_19
  frame_out
  exact pay20_at i x0 x1 x2 x3 x4 x5 x6 x7 x8 x9 x10 x11 x12 x13 x14 x15 x16 x17 x18 h18 hf r e

/-- The second result's block: the merged rows' second norm. -/
theorem out_at20 (h18 : ∀ k c : Fin 256, x18 (ix2 k c) = same k c) (hf : ∀ r c, Fin' (yrow i x2 x3 x4 x5 r c)) (r : Fin 256) (d : Fin 1024) :
    out0_20 i x0 x1 x2 x3 x4 x5 x6 x7 x8 x9 x10 x11 x12 x13 x14 x15 x16 x17 x18 (ix2 r d)
      = second (xrow i x0 x1 x2 x3 x4 x5 x6 x7 x8 x9 x10 x11 x12 x13 x14 x15 r) (fun k => x16 (ix2 (0 : Fin 1) k)) (fun k => x15 (ix3 (0 : Fin 1) (0 : Fin 1) k)) d := by
  unfold out0_20
  frame_out
  unfold k0_pay19
  rw [pay16_at]
  simp only [pay20_at i x0 x1 x2 x3 x4 x5 x6 x7 x8 x9 x10 x11 x12 x13 x14 x15 x16 x17 x18 h18 hf]
  pointwise

end block

end Cert.Kernel5Ideal.Merge

end
-- ==== Proof.Merge.Mask.lean ====
/- The heads' 0/1 matrix the merge takes: lane against lane, one head or two. -/
module

public import proofs.«01_k».proof.Proof.Gen.Kernel5Ideal.Frame
public import proofs.«01_k».proof.Proof.Merge.Rows
public import Idealize.ShloMosaic.Lib.Pipeline.ValueKit.Acc
public import Idealize.ShloMosaic.Lib.Pipeline.ValueKit.Geometry

@[expose] public section

set_option maxRecDepth 16384

noncomputable section

namespace Cert.Kernel5Ideal.Merge

open Idealize.ShloMosaic Idealize.ShloMosaic.TcCoe Idealize.ShloMosaic.Tactic
open Cert.Kernel5Ideal Cert.Kernel5Ideal.Gen
open Cert.Merge

variable (m : (ℓ : Loc nD τ sig) → Buf (Elt Ideal) ℓ)

/-- The heads of the lanes, down a column: the host's quotient of the lane by 64. -/
def down : IVec S256x1 32 :=
  select (andi (cmpi .ne (signi (broadcastInDim S256x1 ![0] bcast_S256_S256x1_0 (iotaInDim S256 32 0))) (broadcastInDim S256x1 ![] bcast_S_S256x1 (signi (constantI S_ 32 64#32)))) (cmpi .ne (Host.remsi (broadcastInDim S256x1 ![0] bcast_S256_S256x1_0 (iotaInDim S256 32 0)) (broadcastInDim S256x1 ![] bcast_S_S256x1 (constantI S_ 32 64#32))) (broadcastInDim S256x1 ![] bcast_S_S256x1 (constantI S_ 32 0#32)))) (subi (Host.divsi (broadcastInDim S256x1 ![0] bcast_S256_S256x1_0 (iotaInDim S256 32 0)) (broadcastInDim S256x1 ![] bcast_S_S256x1 (constantI S_ 32 64#32))) (broadcastInDim S256x1 ![] bcast_S_S256x1 (constantI S_ 32 1#32))) (Host.divsi (broadcastInDim S256x1 ![0] bcast_S256_S256x1_0 (iotaInDim S256 32 0)) (broadcastInDim S256x1 ![] bcast_S_S256x1 (constantI S_ 32 64#32)))

/-- The heads of the lanes, along a row. -/
def along : IVec S1x256 32 :=
  select (andi (cmpi .ne (signi (broadcastInDim S1x256 ![1] bcast_S256_S1x256_1 (iotaInDim S256 32 0))) (broadcastInDim S1x256 ![] bcast_S_S1x256 (signi (constantI S_ 32 64#32)))) (cmpi .ne (Host.remsi (broadcastInDim S1x256 ![1] bcast_S256_S1x256_1 (iotaInDim S256 32 0)) (broadcastInDim S1x256 ![] bcast_S_S1x256 (constantI S_ 32 64#32))) (broadcastInDim S1x256 ![] bcast_S_S1x256 (constantI S_ 32 0#32)))) (subi (Host.divsi (broadcastInDim S1x256 ![1] bcast_S256_S1x256_1 (iotaInDim S256 32 0)) (broadcastInDim S1x256 ![] bcast_S_S1x256 (constantI S_ 32 64#32))) (broadcastInDim S1x256 ![] bcast_S_S1x256 (constantI S_ 32 1#32))) (Host.divsi (broadcastInDim S1x256 ![1] bcast_S256_S1x256_1 (iotaInDim S256 32 0)) (broadcastInDim S1x256 ![] bcast_S_S1x256 (constantI S_ 32 64#32)))

theorem down_at (i : Fin 256) : down (ix2 i (0 : Fin 1)) = BitVec.ofNat 32 (i.val / 64) := by
  revert i; decide +kernel

theorem along_at (j : Fin 256) : along (ix2 (0 : Fin 1) j) = BitVec.ofNat 32 (j.val / 64) := by
  revert j; decide +kernel

theorem heads_eq : ∀ a b : Fin 4, IntOp.cmpi .eq (BitVec.ofNat 32 a.val) (BitVec.ofNat 32 b.val) = if a.val = b.val then 1#1 else 0#1 := by
  decide +kernel

/-- The matrix the call takes is 1 where two lanes lie in one head, and 0 elsewhere. -/
theorem mask (c : Dev nD) (i j : Fin 256) : (V m c main_v10 : FVec Ideal S256x256 .bf16) (ix2 i j) = same i j := by
  have h : (V m c main_v10 : FVec Ideal S256x256 .bf16) = (uitofp (F := Ideal) .bf16 (cmpi .eq (broadcastInDim S256x256 ![0, 1] bcast_S256x1_S256x256_0_1 down) (broadcastInDim S256x256 ![0, 1] bcast_S1x256_S256x256_0_1 along)) : FVec Ideal S256x256 .bf16) := by
    show StableHlo.after (List.flatten [hostOps0, hostOps0_1, hostOps0_2, hostOps0_3, hostOps0_4]) _ _ = _
    simp only [List.flatten_cons, List.flatten_nil, List.append_nil, List.cons_append, List.nil_append, hostOps0, hostOps0_1, hostOps0_2, hostOps0_3, hostOps0_4]
    after_results
    rfl
  rw [h]
  pointwise
  rw [down_at, along_at]
  rw [show IntOp.cmpi .eq (BitVec.ofNat 32 (i.val / 64)) (BitVec.ofNat 32 (j.val / 64)) = if i.val / 64 = j.val / 64 then 1#1 else 0#1 from
    heads_eq ⟨i.val / 64, by omega⟩ ⟨j.val / 64, by omega⟩]
  unfold same
  split
  · show (((1#1 : BitVec 1).toNat : ℝ) : EReal) = 1
    simp
  · show (((0#1 : BitVec 1).toNat : ℝ) : EReal) = 0
    simp

end Cert.Kernel5Ideal.Merge

end
-- ==== Proof.Merge.Block.lean ====
/- The merge's call: what its result arrays hold, index by index, over the extended reals. -/
module

public import proofs.«01_k».proof.Proof.Merge.Out
public import proofs.«01_k».proof.Proof.Merge.Mask

@[expose] public section

set_option maxRecDepth 16384

noncomputable section

namespace Cert.Kernel5Ideal.Merge

open Idealize.ShloMosaic Idealize.ShloMosaic.TcCoe Idealize.ShloMosaic.Tactic
open Cert.Kernel5Ideal Cert.Kernel5Ideal.Gen
open Cert.Merge

/-- The arrays the merge is of. -/
structure Args where
  x : FVec Ideal S24576x1024 .f32
  hb : FVec Ideal S24576x1024 .bf16
  yp : FVec Ideal S2x8192x128 .f32
  yq : FVec Ideal S2x8192x128 .f32
  ys : FVec Ideal S2x16384x128 .f32
  yr : FVec Ideal S2x16384x128 .f32
  bonus : FVec Ideal S24576x256 .f32
  gate : FVec Ideal S24576x256 .f32
  hy : FVec Ideal S24576x256 .f32
  ret : FVec Ideal S24576x256 .f32
  hg : FVec Ideal S24576x256 .f32
  w : FVec Ideal S1024x8064 .f32
  bw : FVec Ideal S4x256x1024 .f32
  wo : FVec Ideal S1024x1024 .f32
  ln : FVec Ideal S2x256 .f32
  md : FVec Ideal S16x6144 .f32
  g2 : FVec Ideal S1024 .f32

/-- The row of the modulation that token `i` takes: 8 for the contexts' tokens, its request's for the others. -/
def mtok (i : Fin 24576) : Fin 16 := ⟨if i.val < 8192 then 8 else (i.val - 8192) / 2048, by split <;> omega⟩

/-- Token `i`'s lanes of the scan, the two directions added. -/
def Args.y (a : Args) (i : Fin 24576) (c : Fin 256) : EReal :=
  if h : i.val < 8192 then a.yp (ix3 ⟨c.val / 128, by omega⟩ ⟨i.val, h⟩ ⟨c.val % 128, by omega⟩) + a.yq (ix3 ⟨c.val / 128, by omega⟩ ⟨i.val, h⟩ ⟨c.val % 128, by omega⟩)
  else a.ys (ix3 ⟨c.val / 128, by omega⟩ ⟨i.val - 8192, by omega⟩ ⟨c.val % 128, by omega⟩) + a.yr (ix3 ⟨c.val / 128, by omega⟩ ⟨i.val - 8192, by omega⟩ ⟨c.val % 128, by omega⟩)

/-- The four branches of token `i`. -/
def Args.br (a : Args) (i : Fin 24576) : Fin 4 → Fin 256 → EReal :=
  four (fun c => (headNorm (a.y i) (fun k => a.ln (ix2 (0 : Fin 2) k)) (fun k => a.ln (ix2 (1 : Fin 2) k)) c + a.bonus (ix2 i c)) * a.gate (ix2 i c))
    (fun c => a.hy (ix2 i c)) (fun c => a.ret (ix2 i c)) (fun c => a.hg (ix2 i c))

/-- Column `d` of branch `n`'s gate in the input projection's matrix. -/
def gcol (n : Fin 4) (d : Fin 1024) : Fin 8064 := ⟨3968 + (1024 * n.val + d.val), by omega⟩

/-- Token `i` merged. -/
def Args.merged (a : Args) (i : Fin 24576) : Fin 1024 → EReal :=
  Cert.Merge.merged (fun k => a.x (ix2 i k)) (fun k => a.hb (ix2 i k)) (a.br i) (fun k n d => a.w (ix2 k (gcol n d)))
    (fun n c d => a.bw (ix3 n c d)) (fun d e => a.wo (ix2 d e)) (fun k => a.md (ix2 (mtok i) k))

/-- Token `i`'s second norm. -/
def Args.second (a : Args) (i : Fin 24576) : Fin 1024 → EReal :=
  Cert.Merge.second (a.merged i) (fun k => a.g2 (ix1 k)) (fun k => a.md (ix2 (mtok i) k))

/-- Every entry of the scan's results is a real. -/
def Args.Finite (a : Args) : Prop := (∀ j, Fin' (a.yp j)) ∧ (∀ j, Fin' (a.yq j)) ∧ (∀ j, Fin' (a.ys j)) ∧ ∀ j, Fin' (a.yr j)

theorem Args.Finite.y {a : Args} (h : a.Finite) (i : Fin 24576) (c : Fin 256) : Fin' (a.y i c) := by
  unfold Args.y
  split
  · exact (h.1 _).add (h.2.1 _)
  · exact (h.2.2.1 _).add (h.2.2.2 _)

/-- Row `r` of block `t`. -/
def row (t : Fin cfg0.N) (r : Fin 256) : Fin 24576 :=
  ⟨256 * (grid0.coords t 0).val + r.val, by have : (grid0.coords t 0).val < 96 := (grid0.coords t 0).isLt; omega⟩

/-- The modulation block `t` takes. -/
def mrow (t : Fin cfg0.N) : Fin 16 :=
  ⟨if (grid0.coords t 0).val < 32 then 8 else ((grid0.coords t 0).val - 32) / 8, by
    have : (grid0.coords t 0).val < 96 := (grid0.coords t 0).isLt
    split <;> omega⟩

theorem mtok_row (t : Fin cfg0.N) (r : Fin 256) : mtok (row t r) = mrow t := by
  apply Fin.ext
  have : ∀ n : ℕ, (if 256 * n + r.val < 8192 then 8 else (256 * n + r.val - 8192) / 2048) = if n < 32 then 8 else (n - 32) / 8 := by
    intro n
    split <;> split <;> omega
  exact this _

theorem e0 : ∀ t : Fin cfg0.N, win0_0.index t = ![(grid0.coords t 0).val, 0] := (by decide +kernel : ∀ t : Fin grid0.N, _)
theorem e1 : ∀ t : Fin cfg0.N, win0_1.index t = ![(grid0.coords t 0).val, 0] := (by decide +kernel : ∀ t : Fin grid0.N, _)
theorem e2 : ∀ t : Fin cfg0.N, win0_2.index t = ![0, min (grid0.coords t 0).val 31, 0] := (by decide +kernel : ∀ t : Fin grid0.N, _)
theorem e3 : ∀ t : Fin cfg0.N, win0_3.index t = ![0, min (grid0.coords t 0).val 31, 0] := (by decide +kernel : ∀ t : Fin grid0.N, _)
theorem e4 : ∀ t : Fin cfg0.N, win0_4.index t = ![0, (grid0.coords t 0).val - 32, 0] := (by decide +kernel : ∀ t : Fin grid0.N, _)
theorem e5 : ∀ t : Fin cfg0.N, win0_5.index t = ![0, (grid0.coords t 0).val - 32, 0] := (by decide +kernel : ∀ t : Fin grid0.N, _)
theorem e6 : ∀ t : Fin cfg0.N, win0_6.index t = ![(grid0.coords t 0).val, 0] := (by decide +kernel : ∀ t : Fin grid0.N, _)
theorem e7 : ∀ t : Fin cfg0.N, win0_7.index t = ![(grid0.coords t 0).val, 0] := (by decide +kernel : ∀ t : Fin grid0.N, _)
theorem e8 : ∀ t : Fin cfg0.N, win0_8.index t = ![(grid0.coords t 0).val, 0] := (by decide +kernel : ∀ t : Fin grid0.N, _)
theorem e9 : ∀ t : Fin cfg0.N, win0_9.index t = ![(grid0.coords t 0).val, 0] := (by decide +kernel : ∀ t : Fin grid0.N, _)
theorem e10 : ∀ t : Fin cfg0.N, win0_10.index t = ![(grid0.coords t 0).val, 0] := (by decide +kernel : ∀ t : Fin grid0.N, _)
theorem e11 : ∀ t : Fin cfg0.N, win0_11.index t = ![0, 0] := (by decide +kernel : ∀ t : Fin grid0.N, _)
theorem e12 : ∀ t : Fin cfg0.N, win0_12.index t = ![0, 0, 0] := (by decide +kernel : ∀ t : Fin grid0.N, _)
theorem e13 : ∀ t : Fin cfg0.N, win0_13.index t = ![0, 0] := (by decide +kernel : ∀ t : Fin grid0.N, _)
theorem e14 : ∀ t : Fin cfg0.N, win0_14.index t = ![0, 0] := (by decide +kernel : ∀ t : Fin grid0.N, _)
theorem e15 : ∀ t : Fin cfg0.N, win0_15.index t = ![if (grid0.coords t 0).val < 32 then 8 else ((grid0.coords t 0).val - 32) / 8, 0, 0] := (by decide +kernel : ∀ t : Fin grid0.N, _)
theorem e16 : ∀ t : Fin cfg0.N, win0_16.index t = ![0, 0] := (by decide +kernel : ∀ t : Fin grid0.N, _)
theorem e18 : ∀ t : Fin cfg0.N, win0_18.index t = ![0, 0] := (by decide +kernel : ∀ t : Fin grid0.N, _)
theorem e19 : ∀ t : Fin cfg0.N, win0_19.index t = ![(grid0.coords t 0).val, 0] := (by decide +kernel : ∀ t : Fin grid0.N, _)
theorem e20 : ∀ t : Fin cfg0.N, win0_20.index t = ![(grid0.coords t 0).val, 0] := (by decide +kernel : ∀ t : Fin grid0.N, _)

variable (m : (ℓ : Loc nD τ sig) → Buf (Elt Ideal) ℓ)

/-- The arrays as launched. -/
def args (c : Dev nD) : Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16)⟩

theorem blk0 (c : Dev nD) (t : Fin cfg0.N) (r : Fin 256) (k : Fin 1024) : iblk m c 0 t (ix2 r k) = (args m c).x (ix2 (row t r) k) := by
  unfold iblk
  show (V m c main_arg0 : FVec Ideal S24576x1024 .f32) ((win0_0.blk t).view.emb (ix2 r k)) = _
  rw [V_main_arg0]
  show _ = (m ((c : Thread nD τ).loc main_arg0) : FVec Ideal S24576x1024 .f32) _
  generalize (m ((c : Thread nD τ).loc main_arg0) : FVec Ideal S24576x1024 .f32) = X
  blk_ext [e0, row]

theorem blk1 (c : Dev nD) (t : Fin cfg0.N) (r : Fin 256) (k : Fin 1024) : iblk m c 1 t (ix2 r k) = (args m c).hb (ix2 (row t r) k) := by
  unfold iblk
  show (V m c main_arg1 : FVec Ideal S24576x1024 .bf16) ((win0_1.blk t).view.emb (ix2 r k)) = _
  rw [V_main_arg1]
  show _ = (m ((c : Thread nD τ).loc main_arg1) : FVec Ideal S24576x1024 .bf16) _
  generalize (m ((c : Thread nD τ).loc main_arg1) : FVec Ideal S24576x1024 .bf16) = X
  blk_ext [e1, row]

theorem blk6 (c : Dev nD) (t : Fin cfg0.N) (r : Fin 256) (k : Fin 256) : iblk m c 6 t (ix2 r k) = (args m c).bonus (ix2 (row t r) k) := by
  unfold iblk
  show (V m c main_arg6 : FVec Ideal S24576x256 .f32) ((win0_6.blk t).view.emb (ix2 r k)) = _
  rw [V_main_arg6]
  show _ = (m ((c : Thread nD τ).loc main_arg6) : FVec Ideal S24576x256 .f32) _
  generalize (m ((c : Thread nD τ).loc main_arg6) : FVec Ideal S24576x256 .f32) = X
  blk_ext [e6, row]

theorem blk7 (c : Dev nD) (t : Fin cfg0.N) (r : Fin 256) (k : Fin 256) : iblk m c 7 t (ix2 r k) = (args m c).gate (ix2 (row t r) k) := by
  unfold iblk
  show (V m c main_arg7 : FVec Ideal S24576x256 .f32) ((win0_7.blk t).view.emb (ix2 r k)) = _
  rw [V_main_arg7]
  show _ = (m ((c : Thread nD τ).loc main_arg7) : FVec Ideal S24576x256 .f32) _
  generalize (m ((c : Thread nD τ).loc main_arg7) : FVec Ideal S24576x256 .f32) = X
  blk_ext [e7, row]

theorem blk8 (c : Dev nD) (t : Fin cfg0.N) (r : Fin 256) (k : Fin 256) : iblk m c 8 t (ix2 r k) = (args m c).hy (ix2 (row t r) k) := by
  unfold iblk
  show (V m c main_arg8 : FVec Ideal S24576x256 .f32) ((win0_8.blk t).view.emb (ix2 r k)) = _
  rw [V_main_arg8]
  show _ = (m ((c : Thread nD τ).loc main_arg8) : FVec Ideal S24576x256 .f32) _
  generalize (m ((c : Thread nD τ).loc main_arg8) : FVec Ideal S24576x256 .f32) = X
  blk_ext [e8, row]

theorem blk9 (c : Dev nD) (t : Fin cfg0.N) (r : Fin 256) (k : Fin 256) : iblk m c 9 t (ix2 r k) = (args m c).ret (ix2 (row t r) k) := by
  unfold iblk
  show (V m c main_arg9 : FVec Ideal S24576x256 .f32) ((win0_9.blk t).view.emb (ix2 r k)) = _
  rw [V_main_arg9]
  show _ = (m ((c : Thread nD τ).loc main_arg9) : FVec Ideal S24576x256 .f32) _
  generalize (m ((c : Thread nD τ).loc main_arg9) : FVec Ideal S24576x256 .f32) = X
  blk_ext [e9, row]

theorem blk10 (c : Dev nD) (t : Fin cfg0.N) (r : Fin 256) (k : Fin 256) : iblk m c 10 t (ix2 r k) = (args m c).hg (ix2 (row t r) k) := by
  unfold iblk
  show (V m c main_arg10 : FVec Ideal S24576x256 .f32) ((win0_10.blk t).view.emb (ix2 r k)) = _
  rw [V_main_arg10]
  show _ = (m ((c : Thread nD τ).loc main_arg10) : FVec Ideal S24576x256 .f32) _
  generalize (m ((c : Thread nD τ).loc main_arg10) : FVec Ideal S24576x256 .f32) = X
  blk_ext [e10, row]

theorem blk2 (c : Dev nD) (t : Fin cfg0.N) (ht : (grid0.coords t 0).val < 32) (h : Fin 2) (r : Fin 256) (l : Fin 128) (hr) :
    iblk m c 2 t (ix3 h r l) = (args m c).yp (ix3 h ⟨(row t r).val, hr⟩ l) := by
  unfold iblk
  show (V m c main_arg2 : FVec Ideal S2x8192x128 .f32) ((win0_2.blk t).view.emb (ix3 h r l)) = _
  rw [V_main_arg2]
  show _ = (m ((c : Thread nD τ).loc main_arg2) : FVec Ideal S2x8192x128 .f32) _
  generalize (m ((c : Thread nD τ).loc main_arg2) : FVec Ideal S2x8192x128 .f32) = X
  blk_ext [e2, row]

theorem blk3 (c : Dev nD) (t : Fin cfg0.N) (ht : (grid0.coords t 0).val < 32) (h : Fin 2) (r : Fin 256) (l : Fin 128) (hr) :
    iblk m c 3 t (ix3 h r l) = (args m c).yq (ix3 h ⟨(row t r).val, hr⟩ l) := by
  unfold iblk
  show (V m c main_arg3 : FVec Ideal S2x8192x128 .f32) ((win0_3.blk t).view.emb (ix3 h r l)) = _
  rw [V_main_arg3]
  show _ = (m ((c : Thread nD τ).loc main_arg3) : FVec Ideal S2x8192x128 .f32) _
  generalize (m ((c : Thread nD τ).loc main_arg3) : FVec Ideal S2x8192x128 .f32) = X
  blk_ext [e3, row]

theorem blk4 (c : Dev nD) (t : Fin cfg0.N) (ht : ¬ (grid0.coords t 0).val < 32) (h : Fin 2) (r : Fin 256) (l : Fin 128) (hr) :
    iblk m c 4 t (ix3 h r l) = (args m c).ys (ix3 h ⟨(row t r).val - 8192, hr⟩ l) := by
  unfold iblk
  show (V m c main_arg4 : FVec Ideal S2x16384x128 .f32) ((win0_4.blk t).view.emb (ix3 h r l)) = _
  rw [V_main_arg4]
  show _ = (m ((c : Thread nD τ).loc main_arg4) : FVec Ideal S2x16384x128 .f32) _
  generalize (m ((c : Thread nD τ).loc main_arg4) : FVec Ideal S2x16384x128 .f32) = X
  blk_ext [e4, row]

theorem blk5 (c : Dev nD) (t : Fin cfg0.N) (ht : ¬ (grid0.coords t 0).val < 32) (h : Fin 2) (r : Fin 256) (l : Fin 128) (hr) :
    iblk m c 5 t (ix3 h r l) = (args m c).yr (ix3 h ⟨(row t r).val - 8192, hr⟩ l) := by
  unfold iblk
  show (V m c main_arg5 : FVec Ideal S2x16384x128 .f32) ((win0_5.blk t).view.emb (ix3 h r l)) = _
  rw [V_main_arg5]
  show _ = (m ((c : Thread nD τ).loc main_arg5) : FVec Ideal S2x16384x128 .f32) _
  generalize (m ((c : Thread nD τ).loc main_arg5) : FVec Ideal S2x16384x128 .f32) = X
  blk_ext [e5, row]

theorem blk11 (c : Dev nD) (t : Fin cfg0.N) (k : Fin 1024) (n : Fin 4096) : iblk m c 11 t (ix2 k n) = (args m c).w (ix2 k ⟨3968 + n.val, by omega⟩) := by
  have h : (V m c main_v12 : FVec Ideal S1024x4096 .bf16) = (truncf (F := Ideal) .bf16 (extractStridedSlice S1024x4096 ![0, 3968] (args m c).w slices_S1024x8064_S1024x4096_0_3968) bitsLt_bf16_f32 : FVec Ideal S1024x4096 .bf16) := by
    show StableHlo.after (List.flatten [hostOps0, hostOps0_1, hostOps0_2, hostOps0_3, hostOps0_4]) _ _ = _
    simp only [List.flatten_cons, List.flatten_nil, List.append_nil, List.cons_append, List.nil_append, hostOps0, hostOps0_1, hostOps0_2, hostOps0_3, hostOps0_4]
    after_results
    rfl
  unfold iblk
  show (V m c main_v12 : FVec Ideal S1024x4096 .bf16) ((win0_11.blk t).view.emb (ix2 k n)) = _
  rw [h]
  have : (win0_11.blk t).view.emb (ix2 k n) = ix2 k n := by blk_ext [e11]
  rw [this]
  pointwise

theorem blk12 (c : Dev nD) (t : Fin cfg0.N) (n : Fin 4) (k : Fin 256) (d : Fin 1024) : iblk m c 12 t (ix3 n k d) = (args m c).bw (ix3 n k d) := by
  have h : (V m c main_v13 : FVec Ideal S4x256x1024 .bf16) = (truncf (F := Ideal) .bf16 (args m c).bw bitsLt_bf16_f32 : FVec Ideal S4x256x1024 .bf16) := by
    show StableHlo.after (List.flatten [hostOps0, hostOps0_1, hostOps0_2, hostOps0_3, hostOps0_4]) _ _ = _
    simp only [List.flatten_cons, List.flatten_nil, List.append_nil, List.cons_append, List.nil_append, hostOps0, hostOps0_1, hostOps0_2, hostOps0_3, hostOps0_4]
    after_results
    rfl
  unfold iblk
  show (V m c main_v13 : FVec Ideal S4x256x1024 .bf16) ((win0_12.blk t).view.emb (ix3 n k d)) = _
  rw [h]
  have : (win0_12.blk t).view.emb (ix3 n k d) = ix3 n k d := by blk_ext [e12]
  rw [this]
  pointwise

theorem blk13 (c : Dev nD) (t : Fin cfg0.N) (d e : Fin 1024) : iblk m c 13 t (ix2 d e) = (args m c).wo (ix2 d e) := by
  have h : (V m c main_v14 : FVec Ideal S1024x1024 .bf16) = (truncf (F := Ideal) .bf16 (args m c).wo bitsLt_bf16_f32 : FVec Ideal S1024x1024 .bf16) := by
    show StableHlo.after (List.flatten [hostOps0, hostOps0_1, hostOps0_2, hostOps0_3, hostOps0_4]) _ _ = _
    simp only [List.flatten_cons, List.flatten_nil, List.append_nil, List.cons_append, List.nil_append, hostOps0, hostOps0_1, hostOps0_2, hostOps0_3, hostOps0_4]
    after_results
    rfl
  unfold iblk
  show (V m c main_v14 : FVec Ideal S1024x1024 .bf16) ((win0_13.blk t).view.emb (ix2 d e)) = _
  rw [h]
  have : (win0_13.blk t).view.emb (ix2 d e) = ix2 d e := by blk_ext [e13]
  rw [this]
  pointwise

theorem blk14 (c : Dev nD) (t : Fin cfg0.N) (n : Fin 2) (k : Fin 256) : iblk m c 14 t (ix2 n k) = (args m c).ln (ix2 n k) := by
  unfold iblk
  show (V m c main_arg14 : FVec Ideal S2x256 .f32) ((win0_14.blk t).view.emb (ix2 n k)) = _
  rw [V_main_arg14]
  show _ = (m ((c : Thread nD τ).loc main_arg14) : FVec Ideal S2x256 .f32) _
  generalize (m ((c : Thread nD τ).loc main_arg14) : FVec Ideal S2x256 .f32) = X
  blk_ext [e14]

theorem blk15 (c : Dev nD) (t : Fin cfg0.N) (d : Fin 6144) : iblk m c 15 t (ix3 (0 : Fin 1) (0 : Fin 1) d) = (args m c).md (ix2 (mrow t) d) := by
  have h : (V m c main_v0 : FVec Ideal S16x1x6144 .f32) = shapeCast S16x1x6144 (args m c).md shapeCasts_S16x6144_S16x1x6144 := by
    show StableHlo.after (List.flatten [hostOps0, hostOps0_1, hostOps0_2, hostOps0_3, hostOps0_4]) _ _ = _
    simp only [List.flatten_cons, List.flatten_nil, List.append_nil, List.cons_append, List.nil_append, hostOps0, hostOps0_1, hostOps0_2, hostOps0_3, hostOps0_4]
    after_results
    rfl
  unfold iblk
  show (V m c main_v0 : FVec Ideal S16x1x6144 .f32) ((win0_15.blk t).view.emb (ix3 (0 : Fin 1) (0 : Fin 1) d)) = _
  rw [h]
  generalize (args m c).md = X
  have : (win0_15.blk t).view.emb (ix3 (0 : Fin 1) (0 : Fin 1) d) = ix3 (mrow t) (0 : Fin 1) d := by blk_ext [e15, mrow]
  rw [this]
  refine shapeCast_apply _ _ _ (ix2 (mrow t) d) ?_
  rw [Shape.rowMajor_val_two, Shape.rowMajor_val_three]
  show (mrow t).val * 6144 + d.val = ((mrow t).val * 1 + 0) * 6144 + d.val
  omega

theorem blk16 (c : Dev nD) (t : Fin cfg0.N) (d : Fin 1024) : iblk m c 16 t (ix2 (0 : Fin 1) d) = (args m c).g2 (ix1 d) := by
  have h : (V m c main_v15 : FVec Ideal S1x1024 .f32) = broadcastInDim S1x1024 ![1] bcast_S1024_S1x1024_1 (args m c).g2 := by
    show StableHlo.after (List.flatten [hostOps0, hostOps0_1, hostOps0_2, hostOps0_3, hostOps0_4]) _ _ = _
    simp only [List.flatten_cons, List.flatten_nil, List.append_nil, List.cons_append, List.nil_append, hostOps0, hostOps0_1, hostOps0_2, hostOps0_3, hostOps0_4]
    after_results
    rfl
  unfold iblk
  show (V m c main_v15 : FVec Ideal S1x1024 .f32) ((win0_16.blk t).view.emb (ix2 (0 : Fin 1) d)) = _
  rw [h]
  generalize (args m c).g2 = X
  have : (win0_16.blk t).view.emb (ix2 (0 : Fin 1) d) = ix2 (0 : Fin 1) d := by blk_ext [e16]
  rw [this]
  pointwise

theorem blk18 (c : Dev nD) (t : Fin cfg0.N) (i j : Fin 256) : iblk m c 18 t (ix2 i j) = same i j := by
  unfold iblk
  show (V m c main_v10 : FVec Ideal S256x256 .bf16) ((win0_18.blk t).view.emb (ix2 i j)) = _
  have : (win0_18.blk t).view.emb (ix2 i j) = ix2 i j := by blk_ext [e18]
  rw [this, mask]

end Cert.Kernel5Ideal.Merge

end
-- ==== Proof.Merge.Final.lean ====
/- The merge's call: its two result arrays, whole, over the extended reals. -/
module

public import proofs.«01_k».proof.Proof.Merge.Block

@[expose] public section

set_option maxRecDepth 16384

noncomputable section

namespace Cert.Kernel5Ideal.Merge

open Idealize.ShloMosaic Idealize.ShloMosaic.TcCoe Idealize.ShloMosaic.Tactic
open Cert.Kernel5Ideal Cert.Kernel5Ideal.Gen
open Cert.Merge

variable (m : (ℓ : Loc nD τ sig) → Buf (Elt Ideal) ℓ)

/-- A block's row of the scan's lanes is the token's. -/
theorem yrow_eq (c : Dev nD) (t : Fin cfg0.N) (r : Fin 256) :
    yrow (grid0.coords t) (iblk m c 2 t) (iblk m c 3 t) (iblk m c 4 t) (iblk m c 5 t) r = (args m c).y (row t r) := by
  have hn : (grid0.coords t 0).val < 96 := (grid0.coords t 0).isLt
  funext k
  unfold yrow lanes Args.y
  by_cases ht : (grid0.coords t 0).val < 32
  · have hr : (row t r).val < 8192 := by simp only [row]; omega
    rw [if_pos ht, dif_pos hr]
    beta_reduce
    rw [blk2 m c t ht _ r _ hr, blk3 m c t ht _ r _ hr]
  · have hr : ¬ (row t r).val < 8192 := by simp only [row]; omega
    have hs : (row t r).val - 8192 < 16384 := by simp only [row]; omega
    rw [if_neg ht, dif_neg hr]
    beta_reduce
    rw [blk4 m c t ht _ r _ hs, blk5 m c t ht _ r _ hs]

/-- A block's row merged is the token merged. -/
theorem xrow_eq (c : Dev nD) (t : Fin cfg0.N) (r : Fin 256) :
    xrow (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r
      = (args m c).merged (row t r) := by
  unfold xrow brow
  rw [yrow_eq]
  simp only [blk0, blk1, blk6, blk7, blk8, blk9, blk10, blk11, blk12, blk13, blk14, blk15]
  unfold Args.merged Args.br
  rw [mtok_row]
  rfl

/-- The first result: every token merged. -/
theorem final19 (c : Dev nD) (h : (args m c).Finite) : (dats m 0 c).arrAt 19 cfg0.N
    = (fun j => (args m c).merged (j 0) (j 1) : FVec Ideal S24576x1024 .f32) := by
  refine (dats m 0 c).arrAt_eq_of_covers 19 _ (by decide +kernel) fun t hf y => ?_
  blk_simp
  rw [after0_19]
  obtain ⟨r, n, hy⟩ : ∃ (r : Fin 256) (n : Fin 1024), y = ix2 r n := ⟨y 0, y 1, by funext a; fin_cases a <;> rfl⟩
  subst hy
  have he : (win0_19.blk t).view.emb (ix2 r n) = ix2 (row t r) n := by blk_ext [e19, row]
  rw [out_at19 (h18 := blk18 m c t) (hf := fun r k => by rw [yrow_eq]; exact h.y _ k), he, xrow_eq]
  rfl

/-- The second result: every merged token's second norm. -/
theorem final20 (c : Dev nD) (h : (args m c).Finite) : (dats m 0 c).arrAt 20 cfg0.N
    = (fun j => (args m c).second (j 0) (j 1) : FVec Ideal S24576x1024 .bf16) := by
  refine (dats m 0 c).arrAt_eq_of_covers 20 _ (by decide +kernel) fun t hf y => ?_
  blk_simp
  rw [after0_20]
  obtain ⟨r, n, hy⟩ : ∃ (r : Fin 256) (n : Fin 1024), y = ix2 r n := ⟨y 0, y 1, by funext a; fin_cases a <;> rfl⟩
  subst hy
  have he : (win0_20.blk t).view.emb (ix2 r n) = ix2 (row t r) n := by blk_ext [e20, row]
  rw [out_at20 (h18 := blk18 m c t) (hf := fun r k => by rw [yrow_eq]; exact h.y _ k), he, xrow_eq]
  simp only [blk15, blk16]
  show _ = Args.second (args m c) (row t r) n
  unfold Args.second
  rw [mtok_row]

end Cert.Kernel5Ideal.Merge

end
-- ==== Proof.Merge.RefOps.lean ====
/- The steps of the merge's reference, each at an index, over the extended reals. -/
module

public import proofs.«01_k».proof.Proof.Gen.Reference5Ideal.Run
public import proofs.«01_k».proof.Proof.Merge.Block

@[expose] public section

set_option maxRecDepth 16384

noncomputable section

namespace Cert.Reference5Ideal.Merge

open Idealize.ShloMosaic Idealize.ShloMosaic.TcCoe Idealize.ShloMosaic.Tactic
open Cert.Reference5Ideal Cert.Reference5Ideal.Gen
open Cert.Kernel5Ideal.Merge (Args mtok gcol)
open Cert.Merge

/-- Every token's row of the modulation. -/
def rmod (md : FVec Ideal S16x6144 .f32) : FVec Ideal S24576x6144 .f32 :=
  concatenate S24576x6144 0 [⟨S8192x6144, (broadcastInDim S8192x6144 ![1] bcast_S6144_S8192x6144_1 (shapeCast _ (extractStridedSlice S1x6144 ![8, 0] md slices_S16x6144_S1x6144_8_0) shapeCasts_S1x6144_S6144))⟩, ⟨S16384x6144, (shapeCast _ (broadcastInDim S8x2048x6144 ![0, 1, 2] bcast_S8x1x6144_S8x2048x6144_0_1_2 (broadcastInDim S8x1x6144 ![0, 2] bcast_S8x6144_S8x1x6144_0_2 (extractStridedSlice S8x6144 ![0, 0] md slices_S16x6144_S8x6144_0_0))) shapeCasts_S8x2048x6144_S16384x6144)⟩] concatenates_S8192x6144_S16384x6144_S24576x6144_d0

/-- The scan's lanes, the two directions added, of both batches. -/
def rcat (p q : FVec Ideal S2x8192x128 .f32) (u v : FVec Ideal S2x16384x128 .f32) : FVec Ideal S2x24576x128 .f32 :=
  concatenate S2x24576x128 1 [⟨S2x8192x128, (addf p q)⟩, ⟨S2x16384x128, (addf u v)⟩] concatenates_S2x8192x128_S2x16384x128_S2x24576x128_d1

/-- The scan's lanes, head by head. -/
def rheads (y : FVec Ideal S2x24576x128 .f32) : FVec Ideal S24576x4x64 .f32 :=
  shapeCast _ (transpose S24576x2x2x64 [1, 0, 2, 3] (shapeCast _ y shapeCasts_S2x24576x128_S2x24576x2x64) transposes_S2x24576x2x64_S24576x2x2x64_1_0_2_3) shapeCasts_S24576x2x2x64_S24576x4x64

/-- The means over the heads. -/
def rmean (y : FVec Ideal S24576x4x64 .f32) : FVec Ideal S24576x4x1 .f32 :=
  Host.divf (broadcastInDim S24576x4x1 ![0, 1] bcast_S24576x4_S24576x4x1_0_1 (Host.reduceAdd y (constant S_ .f32 0x00000000#32) reducesTo_S24576x4x64_S24576x4_d2 h_S_)) (broadcastInDim S24576x4x1 ![] bcast_S_S24576x4x1 (constant S_ .f32 0x42800000#32))

/-- The lanes less their head's mean. -/
def rcen (y : FVec Ideal S24576x4x64 .f32) : FVec Ideal S24576x4x64 .f32 :=
  subf y (broadcastInDim S24576x4x64 ![0, 1, 2] bcast_S24576x4x1_S24576x4x64_0_1_2 (rmean y))

/-- The lanes normalised. -/
def rnormed (y : FVec Ideal S24576x4x64 .f32) : FVec Ideal S24576x4x64 .f32 :=
  mulf (rcen y) (broadcastInDim S24576x4x64 ![0, 1, 2] bcast_S24576x4x1_S24576x4x64_0_1_2 (Host.rsqrt (addf (rmean (mulf (rcen y) (rcen y))) (broadcastInDim S24576x4x1 ![] bcast_S_S24576x4x1 (constant S_ .f32 0x3A27C5AC#32)))))

/-- The branch of normalised lanes: gain, bias, bonus and gate. -/
def rbranch (n : FVec Ideal S24576x4x64 .f32) (ln : FVec Ideal S2x256 .f32) (bonus gate : FVec Ideal S24576x256 .f32) : FVec Ideal S24576x256 .f32 :=
  mulf (addf (addf (mulf (shapeCast _ n shapeCasts_S24576x4x64_S24576x256) (broadcastInDim S24576x256 ![0, 1] bcast_S1x256_S24576x256_0_1 (broadcastInDim S1x256 ![1] bcast_S256_S1x256_1 (shapeCast _ (extractStridedSlice S1x256 ![0, 0] ln slices_S2x256_S1x256_0_0) shapeCasts_S1x256_S256)))) (broadcastInDim S24576x256 ![0, 1] bcast_S1x256_S24576x256_0_1 (broadcastInDim S1x256 ![1] bcast_S256_S1x256_1 (shapeCast _ (extractStridedSlice S1x256 ![1, 0] ln slices_S2x256_S1x256_1_0) shapeCasts_S1x256_S256)))) bonus) gate

/-- Four arrays side by side. -/
def rstack (p q r s : FVec Ideal S24576x256 .f32) : FVec Ideal S24576x4x256 .f32 :=
  concatenate S24576x4x256 1 [⟨S24576x1x256, broadcastInDim S24576x1x256 ![0, 2] bcast_S24576x256_S24576x1x256_0_2 p⟩, ⟨S24576x1x256, broadcastInDim S24576x1x256 ![0, 2] bcast_S24576x256_S24576x1x256_0_2 q⟩, ⟨S24576x1x256, broadcastInDim S24576x1x256 ![0, 2] bcast_S24576x256_S24576x1x256_0_2 r⟩, ⟨S24576x1x256, broadcastInDim S24576x1x256 ![0, 2] bcast_S24576x256_S24576x1x256_0_2 s⟩] concatenates_S24576x1x256_S24576x1x256_S24576x1x256_S24576x1x256_S24576x4x256_d1

/-- The branches through their matrices. -/
def rproj (bw : FVec Ideal S4x256x1024 .f32) (br : FVec Ideal S24576x4x256 .f32) : FVec Ideal S24576x4x1024 .f32 :=
  transpose S24576x4x1024 [2, 0, 1] (Host.dotGeneral dot_S4x256x1024_S24576x4x256_S4x1024x24576_1_2_2_0_0_1 none bw br) transposes_S4x1024x24576_S24576x4x1024_2_0_1

/-- The gates' products. -/
def rz (hb : FVec Ideal S24576x1024 .bf16) (w : FVec Ideal S1024x8064 .f32) : FVec Ideal S24576x8064 .f32 :=
  Host.dotGeneral dot_S24576x1024_S1024x8064_S24576x8064_1_0_0_1_n_n none (extf .f32 hb bitsLt_bf16_f32) w

/-- The gates' columns of an array, branch by branch. -/
def rcols (z : FVec Ideal S24576x8064 .f32) : FVec Ideal S24576x4x1024 .f32 :=
  shapeCast _ (extractStridedSlice S24576x4096 ![0, 3968] z slices_S24576x8064_S24576x4096_0_3968) shapeCasts_S24576x4096_S24576x4x1024

/-- The gates. -/
def rgate (z : FVec Ideal S24576x4x1024 .f32) : FVec Ideal S24576x4x1024 .f32 :=
  Host.divf (broadcastInDim S24576x4x1024 ![] bcast_S_S24576x4x1024 (constant S_ .f32 0x3F800000#32)) (addf (broadcastInDim S24576x4x1024 ![] bcast_S_S24576x4x1024 (constant S_ .f32 0x3F800000#32)) (Host.exp (Host.negf z)))

/-- The gated branches added. -/
def rmixed (g p : FVec Ideal S24576x4x1024 .f32) : FVec Ideal S24576x1024 .f32 :=
  Host.reduceAdd (mulf g p) (constant S_ .f32 0x00000000#32) reducesTo_S24576x4x1024_S24576x1024_d1 h_S_

/-- The rows after the merge, of the modulation's rows and the mixed branches. -/
def rout (x mx : FVec Ideal S24576x1024 .f32) (wo : FVec Ideal S1024x1024 .f32) (mo : FVec Ideal S24576x6144 .f32) : FVec Ideal S24576x1024 .f32 :=
  addf x (mulf (extractStridedSlice S24576x1024 ![0, 2048] mo slices_S24576x6144_S24576x1024_0_2048) (Host.dotGeneral dot_S24576x1024_S1024x1024_S24576x1024_1_0_0_1_n_n none mx wo))

/-- The second norm, of the rows and of the modulation's rows. -/
def rsecond (x : FVec Ideal S24576x1024 .f32) (g : FVec Ideal S1024 .f32) (mo : FVec Ideal S24576x6144 .f32) : FVec Ideal S24576x1024 .f32 :=
  addf (mulf (mulf (mulf x (broadcastInDim S24576x1024 ![0, 1] bcast_S24576x1_S24576x1024_0_1 (Host.rsqrt (addf (Host.divf (broadcastInDim S24576x1 ![0] bcast_S24576_S24576x1_0 (Host.reduceAdd (mulf x x) (constant S_ .f32 0x00000000#32) reducesTo_S24576x1024_S24576_d1 h_S_)) (broadcastInDim S24576x1 ![] bcast_S_S24576x1 (constant S_ .f32 0x44800000#32))) (broadcastInDim S24576x1 ![] bcast_S_S24576x1 (constant S_ .f32 0x358637BD#32)))))) (broadcastInDim S24576x1024 ![0, 1] bcast_S1x1024_S24576x1024_0_1 (broadcastInDim S1x1024 ![1] bcast_S1024_S1x1024_1 g))) (addf (broadcastInDim S24576x1024 ![] bcast_S_S24576x1024 (constant S_ .f32 0x3F800000#32)) (extractStridedSlice S24576x1024 ![0, 4096] mo slices_S24576x6144_S24576x1024_0_4096))) (extractStridedSlice S24576x1024 ![0, 3072] mo slices_S24576x6144_S24576x1024_0_3072)

theorem rmod_at (md : FVec Ideal S16x6144 .f32) (i : Fin 24576) (k : Fin 6144) : rmod md (ix2 i k) = md (ix2 (mtok i) k) := by
  pointwise [rmod, mtok]
  by_cases h : i.val < 8192 <;> simp only [h, if_true, if_false, dite_true, dite_false] <;> rfl

theorem rcat_at (p q : FVec Ideal S2x8192x128 .f32) (u v : FVec Ideal S2x16384x128 .f32) (n : Fin 2) (i : Fin 24576) (k : Fin 128) :
    rcat p q u v (ix3 n i k) = if h : i.val < 8192 then p (ix3 n ⟨i.val, h⟩ k) + q (ix3 n ⟨i.val, h⟩ k) else u (ix3 n ⟨i.val - 8192, by omega⟩ k) + v (ix3 n ⟨i.val - 8192, by omega⟩ k) := by
  pointwise [rcat]

theorem rheads_at (y : FVec Ideal S2x24576x128 .f32) (i : Fin 24576) (n : Fin 4) (k : Fin 64) :
    rheads y (ix3 i n k) = y (ix3 ⟨n.val / 2, by omega⟩ i ⟨n.val % 2 * 64 + k.val, by omega⟩) := by
  pointwise [rheads]

theorem rmean_at (y : FVec Ideal S24576x4x64 .f32) (i : Fin 24576) (n : Fin 4) (u : Fin 1) :
    rmean y (ix3 i n u) = Ideal.div (∑ k, y (ix3 i n k)) (Scalar.ofBits (F := Ideal) .f32 0x42800000#32) := by
  pointwise [rmean]

theorem rcen_at (y : FVec Ideal S24576x4x64 .f32) (i : Fin 24576) (n : Fin 4) (k : Fin 64) :
    rcen y (ix3 i n k) = y (ix3 i n k) - rmean y (ix3 i n 0) := by
  pointwise [rcen]

theorem rnormed_at (y : FVec Ideal S24576x4x64 .f32) (i : Fin 24576) (n : Fin 4) (k : Fin 64) :
    rnormed y (ix3 i n k) = rcen y (ix3 i n k) * Ideal.rsqrt (rmean (mulf (rcen y) (rcen y)) (ix3 i n 0) + Scalar.ofBits (F := Ideal) .f32 0x3A27C5AC#32) := by
  pointwise [rnormed]

theorem rbranch_at (n : FVec Ideal S24576x4x64 .f32) (ln : FVec Ideal S2x256 .f32) (bonus gate : FVec Ideal S24576x256 .f32) (i : Fin 24576) (c : Fin 256) :
    rbranch n ln bonus gate (ix2 i c) = (n (ix3 i ⟨c.val / 64, by omega⟩ ⟨c.val % 64, by omega⟩) * ln (ix2 (0 : Fin 2) c) + ln (ix2 (1 : Fin 2) c) + bonus (ix2 i c)) * gate (ix2 i c) := by
  pointwise [rbranch]

theorem rstack_at (p q r s : FVec Ideal S24576x256 .f32) (i : Fin 24576) (n : Fin 4) (c : Fin 256) :
    rstack p q r s (ix3 i n c) = four (p (ix2 i c)) (q (ix2 i c)) (r (ix2 i c)) (s (ix2 i c)) n := by
  fin_cases n <;> pointwise [rstack, four]

theorem rproj_at (bw : FVec Ideal S4x256x1024 .f32) (br : FVec Ideal S24576x4x256 .f32) (i : Fin 24576) (n : Fin 4) (d : Fin 1024) :
    rproj bw br (ix3 i n d) = ∑ c, bw (ix3 n c d) * br (ix3 i n c) := by
  pointwise [rproj]

theorem rz_at (hb : FVec Ideal S24576x1024 .bf16) (w : FVec Ideal S1024x8064 .f32) (i : Fin 24576) (n : Fin 8064) :
    rz hb w (ix2 i n) = ∑ k, hb (ix2 i k) * w (ix2 k n) := by
  pointwise [rz]

theorem rcols_at (z : FVec Ideal S24576x8064 .f32) (i : Fin 24576) (n : Fin 4) (d : Fin 1024) : rcols z (ix3 i n d) = z (ix2 i (gcol n d)) := by
  have e : gcol n d = ⟨3968 + (n.val * 1024 + d.val), by omega⟩ := Fin.ext (by simp only [gcol]; omega)
  rw [e]
  pointwise [rcols]

theorem rgate_at (z : FVec Ideal S24576x4x1024 .f32) (i : Fin 24576) (n : Fin 4) (d : Fin 1024) : rgate z (ix3 i n d) = gateOf (z (ix3 i n d)) := by
  unfold gateOf
  rw [zero_sub]
  pointwise [rgate]

theorem rmixed_at (g p : FVec Ideal S24576x4x1024 .f32) (i : Fin 24576) (d : Fin 1024) :
    rmixed g p (ix2 i d) = ∑ n, g (ix3 i n d) * p (ix3 i n d) := by
  pointwise [rmixed]

theorem rout_at (x mx : FVec Ideal S24576x1024 .f32) (wo : FVec Ideal S1024x1024 .f32) (mo : FVec Ideal S24576x6144 .f32) (i : Fin 24576) (e : Fin 1024) :
    rout x mx wo mo (ix2 i e) = x (ix2 i e) + mo (ix2 i ⟨2048 + e.val, by omega⟩) * ∑ d, mx (ix2 i d) * wo (ix2 d e) := by
  pointwise [rout]

theorem rsecond_at (x : FVec Ideal S24576x1024 .f32) (g : FVec Ideal S1024 .f32) (mo : FVec Ideal S24576x6144 .f32) (i : Fin 24576) (d : Fin 1024) :
    rsecond x g mo (ix2 i d) = second (fun k => x (ix2 i k)) (fun k => g (ix1 k)) (fun k => mo (ix2 i k)) d := by
  pointwise [rsecond, second, Cert.Rows.norm]

end Cert.Reference5Ideal.Merge

end
-- ==== Proof.Merge.Ref.lean ====
/- The merge's reference: what its results hold at an index, over the extended reals. -/
module

public import proofs.«01_k».proof.Proof.Merge.RefOps

@[expose] public section

set_option maxRecDepth 16384

noncomputable section

namespace Cert.Reference5Ideal.Merge

open Idealize.ShloMosaic Idealize.ShloMosaic.TcCoe Idealize.ShloMosaic.Tactic
open Cert.Reference5Ideal Cert.Reference5Ideal.Gen
open Cert.Kernel5Ideal.Merge (Args mtok gcol)
open Cert.Merge

/-- The scan's lanes of the arrays, head by head. -/
def ry (a : Args) : FVec Ideal S24576x4x64 .f32 := rheads (rcat a.yp a.yq a.ys a.yr)

/-- The scan's branch of the arrays. -/
def ryw (a : Args) : FVec Ideal S24576x256 .f32 := rbranch (rnormed (ry a)) a.ln a.bonus a.gate

/-- The mixed branches of the arrays. -/
def rmx (a : Args) : FVec Ideal S24576x1024 .f32 := rmixed (rgate (rcols (rz a.hb a.w))) (rproj a.bw (rstack (ryw a) a.hy a.ret a.hg))

/-- The rows after the merge, of the arrays. -/
def rmerged (a : Args) : FVec Ideal S24576x1024 .f32 := rout a.x (rmx a) a.wo (rmod a.md)

/-- The lanes head by head are the lanes of the row. -/
theorem ry_at (a : Args) (i : Fin 24576) (n : Fin 4) (k : Fin 64) : ry a (ix3 i n k) = a.y i ⟨64 * n.val + k.val, by omega⟩ := by
  refine (rheads_at _ i n k).trans ((rcat_at _ _ _ _ _ i _).trans ?_)
  have e1 : (⟨n.val / 2, by omega⟩ : Fin 2) = ⟨(64 * n.val + k.val) / 128, by omega⟩ := by simp only [Fin.mk.injEq]; omega
  have e2 : (⟨n.val % 2 * 64 + k.val, by omega⟩ : Fin 128) = ⟨(64 * n.val + k.val) % 128, by omega⟩ := by simp only [Fin.mk.injEq]; omega
  rw [e1, e2]
  rfl

/-- A head's mean is that of the row's lanes. -/
theorem rmean_row (y : FVec Ideal S24576x4x64 .f32) (f : Fin 256 → EReal) (i : Fin 24576) (h : ∀ n k, y (ix3 i n k) = f ⟨64 * n.val + k.val, by omega⟩) (c : Fin 256) :
    rmean y (ix3 i ⟨c.val / 64, by omega⟩ 0) = mean f c := by
  rw [rmean_at]
  unfold mean
  exact congrArg (Ideal.div · _) (Finset.sum_congr rfl fun k _ => h _ k)

/-- The centred lanes are the row's. -/
theorem rcen_row (y : FVec Ideal S24576x4x64 .f32) (f : Fin 256 → EReal) (i : Fin 24576) (h : ∀ n k, y (ix3 i n k) = f ⟨64 * n.val + k.val, by omega⟩) (n : Fin 4) (k : Fin 64) :
    rcen y (ix3 i n k) = centred f ⟨64 * n.val + k.val, by omega⟩ := by
  rw [rcen_at, h]
  unfold centred
  rw [← rmean_row y f i h]
  have e : (⟨(64 * n.val + k.val) / 64, by omega⟩ : Fin 4) = n := Fin.ext (by show (64 * n.val + k.val) / 64 = _; omega)
  show _ - rmean y (ix3 i n 0) = _ - rmean y (ix3 i ⟨(64 * n.val + k.val) / 64, by omega⟩ 0)
  rw [e]

/-- The normalised lanes are the row's. -/
theorem rnormed_row (y : FVec Ideal S24576x4x64 .f32) (f : Fin 256 → EReal) (i : Fin 24576) (h : ∀ n k, y (ix3 i n k) = f ⟨64 * n.val + k.val, by omega⟩) (c : Fin 256) :
    rnormed y (ix3 i ⟨c.val / 64, by omega⟩ ⟨c.val % 64, by omega⟩) = centred f c * Ideal.rsqrt (mean (fun k => centred f k * centred f k) c + Scalar.ofBits (F := Ideal) .f32 0x3A27C5AC#32) := by
  have hc := rcen_row y f i h
  have e : (⟨64 * (c.val / 64) + c.val % 64, by omega⟩ : Fin 256) = c := by apply Fin.ext; simp only []; omega
  refine (rnormed_at y i _ _).trans (congrArg₂ (· * ·) ((hc _ _).trans (congrArg (centred f) e)) (congrArg (fun s => Ideal.rsqrt (s + Scalar.ofBits (F := Ideal) .f32 0x3A27C5AC#32)) ?_))
  exact rmean_row (mulf (rcen y) (rcen y)) (fun k => centred f k * centred f k) i (fun n k => congrArg₂ (· * ·) (hc n k) (hc n k)) c

/-- The scan's branch is the row's head norm with the bonus, gated. -/
theorem ryw_row (a : Args) (i : Fin 24576) (c : Fin 256) :
    ryw a (ix2 i c) = (headNorm (a.y i) (fun k => a.ln (ix2 (0 : Fin 2) k)) (fun k => a.ln (ix2 (1 : Fin 2) k)) c + a.bonus (ix2 i c)) * a.gate (ix2 i c) := by
  refine (rbranch_at _ _ _ _ i c).trans ?_
  have := rnormed_row (ry a) (a.y i) i (ry_at a i) c
  rw [this]
  rfl

/-- The four branches of the reference are the row's. -/
theorem rstack_row (a : Args) (i : Fin 24576) (n : Fin 4) (c : Fin 256) : rstack (ryw a) a.hy a.ret a.hg (ix3 i n c) = a.br i n c := by
  rw [rstack_at, ryw_row]
  fin_cases n <;> rfl

/-- The mixed branches are the row's. -/
theorem rmx_row (a : Args) (i : Fin 24576) (d : Fin 1024) :
    rmx a (ix2 i d) = mixed (fun k => a.hb (ix2 i k)) (a.br i) (fun k n d => a.w (ix2 k (gcol n d))) (fun n c d => a.bw (ix3 n c d)) d := by
  unfold rmx
  rw [rmixed_at]
  unfold mixed
  refine Finset.sum_congr rfl fun n _ => ?_
  rw [rgate_at, rcols_at, rz_at, rproj_at]
  refine congrArg (fun s : EReal => gateOf (∑ k, a.hb (ix2 i k) * a.w (ix2 k (gcol n d))) * s) (Finset.sum_congr rfl fun c _ => ?_)
  rw [rstack_row, mul_comm]

/-- The rows after the merge are the arrays' merged tokens. -/
theorem rmerged_row (a : Args) (i : Fin 24576) (e : Fin 1024) : rmerged a (ix2 i e) = a.merged i e := by
  have hs : ∑ d, rmx a (ix2 i d) * a.wo (ix2 d e) = ∑ d, mixed (fun k => a.hb (ix2 i k)) (a.br i) (fun k n d => a.w (ix2 k (gcol n d))) (fun n c d => a.bw (ix3 n c d)) d * a.wo (ix2 d e) :=
    Finset.sum_congr rfl fun d _ => congrArg (fun s : EReal => s * a.wo (ix2 d e)) (rmx_row a i d)
  refine (rout_at _ _ _ _ i e).trans ?_
  rw [hs]
  exact congrArg (fun s : EReal => a.x (ix2 i e) + s * _) (rmod_at a.md i _)

/-- The reference's first result: every token merged. -/
theorem ref_merged (a : Args) : rmerged a = (fun j => a.merged (j 0) (j 1) : FVec Ideal S24576x1024 .f32) := by
  refine funext fun (j : S24576x1024.Idx) => ?_
  idx_vars j
  exact rmerged_row a j0 j1

/-- The reference's second result: every merged token's second norm. -/
theorem ref_second (a : Args) :
    truncf .bf16 (rsecond (rmerged a) a.g2 (rmod a.md)) bitsLt_bf16_f32 = (fun j => a.second (j 0) (j 1) : FVec Ideal S24576x1024 .bf16) := by
  refine funext fun (j : S24576x1024.Idx) => ?_
  idx_vars j
  refine (rsecond_at (rmerged a) a.g2 (rmod a.md) j0 j1).trans ?_
  show _ = a.second j0 j1
  unfold Args.second
  rw [show (fun k => rmerged a (ix2 j0 k)) = a.merged j0 from funext fun k => rmerged_row a j0 k,
    show (fun k => rmod a.md (ix2 j0 k)) = fun k => a.md (ix2 (mtok j0) k) from funext fun k => rmod_at a.md j0 k]

variable (m : (ℓ : Loc nD τ sig) → Buf (Elt Ideal) ℓ)

/-- The arrays as launched. -/
def args (c : Dev nD) : Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16)⟩

theorem res0 (c : Dev nD) : Value.res_main_v72 m c = rmerged (args m c) := rfl

theorem res1 (c : Dev nD) : Value.res_main_v90 m c = (truncf .bf16 (rsecond (rmerged (args m c)) (args m c).g2 (rmod (args m c).md)) bitsLt_bf16_f32 : FVec Ideal S24576x1024 .bf16) := rfl

end Cert.Reference5Ideal.Merge

end
-- ==== Proof.Merge.Claims.lean ====
/- The merge's claims: its two frames, its reference's, and the equation of the two results. -/
module

public import proofs.«01_k».proof.Defs
public import proofs.«01_k».proof.Proof.Gen.Kernel5
public import proofs.«01_k».proof.Proof.Gen.Kernel5.Frame
public import proofs.«01_k».proof.Proof.Gen.Kernel5Ideal.Value
public import proofs.«01_k».proof.Proof.Merge.Final
public import proofs.«01_k».proof.Proof.Merge.Ref
public import Idealize.ShloMosaic.Lib.Quiescent

@[expose] public section

noncomputable section

namespace Cert.Proof.Merge

open Idealize.ShloMosaic Idealize.ShloMosaic.TcCoe Idealize.SL.Sem

/-- The side conditions of the precondition. -/
theorem pre_facts : Cert.Pre_scan_finite.Facts := ⟨by decide, by decide⟩

instance : Cert.Pre_scan_finite.Facts := pre_facts

/-- An extended real whose absolute value lies below infinity is a real. -/
theorem fin_of_lt (x : Ideal .f32) (h : FloatOps.cmpf .olt (FloatOps.hostAbsf x) (FloatOps.ofBits (F := Ideal) .f32 0x7F800000#32) = 1#1) : Cert.Merge.Fin' x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have hl := max_lt_iff.mp (show max (x : EReal) (-(x : EReal)) < ⊤ from by
    by_contra hn
    simp [Ideal.cmp, hn] at h')
  exact ⟨hl.1.ne, fun e => by have := hl.2; rw [e] at this; simp at this⟩

/-- Under the precondition the scan's results are real. -/
theorem finite (m : (ℓ : Loc Cert.Kernel5Ideal.nD Cert.Kernel5Ideal.τ Cert.Kernel5Ideal.sig) → Buf (Elt Ideal) ℓ) (h : Cert.Pre_Kernel5Ideal_scan_finite m)
    (c : Dev Cert.Kernel5Ideal.nD) : (Cert.Kernel5Ideal.Merge.args m c).Finite :=
  ⟨fun j => fin_of_lt _ (congrFun (h c).1 j), fun j => fin_of_lt _ (congrFun (h c).2.1 j), fun j => fin_of_lt _ (congrFun (h c).2.2.1 j),
    fun j => fin_of_lt _ (congrFun (h c).2.2.2 j)⟩

/-- Every run of the merge ends, its arguments unchanged and its counters at zero. -/
theorem frame_kernel : Cert.quiescent_Kernel5 := fun m ρ _ => Cert.Kernel5.Gen.frame m ρ

/-- The same over the extended reals. -/
theorem frame_ideal : Cert.quiescent_Kernel5Ideal := fun m ρ _ => Cert.Kernel5Ideal.Gen.frame m ρ

/-- The same under the precondition, which it does not use. -/
theorem frame_ideal_pre : Cert.quiescent_Kernel5Ideal_pre_scan_finite := fun m ρ _ => Cert.Kernel5Ideal.Gen.frame m ρ

/-- The reference's run, its arguments unchanged; it has no semaphore. -/
theorem frame_reference : Cert.quiescent_Reference5Ideal := fun m ρ _ =>
  (θ_run Cert.Reference5Ideal.defs _ _).mono
    (fun r h => ⟨fun c => (h c).2.2, sem_eq_zero_of_no_sems (by decide) r.2⟩)
    (Cert.Reference5Ideal.Value.run (F := Ideal) m ρ)

/-- The same under the precondition, which it does not use. -/
theorem frame_reference_pre : Cert.quiescent_Reference5Ideal_pre_scan_finite := fun m ρ _ =>
  (θ_run Cert.Reference5Ideal.defs _ _).mono
    (fun r h => ⟨fun c => (h c).2.2, sem_eq_zero_of_no_sems (by decide) r.2⟩)
    (Cert.Reference5Ideal.Value.run (F := Ideal) m ρ)

theorem preserves : Cert.preserves_Kernel5_Kernel5Ideal := trivial

/-- Over the extended reals, where the scan's results are real, the call's two results are the reference's: every token
    merged, and its second norm (`Cert.Merge.merged`, `second`). -/
theorem algebraic : Cert.algebraic_Kernel5Ideal_Reference5Ideal_pre_scan_finite := by
  intro m ρ m' ρ' hpre hagree
  refine ⟨fun c => (Cert.Kernel5Ideal.Gen.dats m 0 c).arrAt 19 Cert.Kernel5Ideal.cfg0.N, fun c => (Cert.Kernel5Ideal.Gen.dats m 0 c).arrAt 20 Cert.Kernel5Ideal.cfg0.N, ?_, ?_⟩
  · exact (θ_run Cert.Kernel5Ideal.defs _ _).mono (fun r h c => ⟨(h c).1, (h c).2.1, (h c).2.2.2⟩) (Cert.Kernel5Ideal.Value.run_blocks m ρ)
  refine (θ_run Cert.Reference5Ideal.defs _ _).mono (fun r h c => ?_) (Cert.Reference5Ideal.Value.run (F := Ideal) m' ρ')
  obtain ⟨g0, g1, hargs⟩ := h c
  have ea : Cert.Reference5Ideal.Merge.args m' c = Cert.Kernel5Ideal.Merge.args m c := by
    obtain ⟨h0, h1, h2, h3, h4, h5, h6, h7, h8, h9, h10, h11, h12, h13, h14, h15, h16, h17⟩ := hagree c
    unfold Cert.Reference5Ideal.Merge.args
    rw [h0, h1, h2, h3, h4, h5, h6, h7, h8, h9, h10, h11, h12, h13, h14, h15, h16]
    rfl
  refine ⟨?_, ?_, hargs⟩
  · refine g0.trans ((Cert.Reference5Ideal.Merge.res0 m' c).trans ((Cert.Reference5Ideal.Merge.ref_merged _).trans ?_))
    refine Eq.trans ?_ (Cert.Kernel5Ideal.Merge.final19 m c (finite m hpre c)).symm
    rw [ea]
  · refine g1.trans ((Cert.Reference5Ideal.Merge.res1 m' c).trans ((Cert.Reference5Ideal.Merge.ref_second _).trans ?_))
    refine Eq.trans ?_ (Cert.Kernel5Ideal.Merge.final20 m c (finite m hpre c)).symm
    rw [ea]

end Cert.Proof.Merge

end
-- ==== Proof.Ret.Loop.lean ====
/- One chunk of the retention's kernel, and the loop over a block's two chunks. -/
module

public import proofs.«01_k».proof.Proof.Gen.Kernel6Ideal.Skeleton
public import Idealize.ShloMosaic.Lib.Exec
public import Idealize.ShloMosaic.Lib.Tactic
public import Idealize.ShloMosaic.Lib.Pipeline.Kit

@[expose] public section

set_option maxRecDepth 16384

noncomputable section

namespace Cert.Kernel6Ideal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel6Ideal.Gen

variable {F : FTy → Type} [FloatOps F]

/-- The resource algebra of the run. -/
local notation "𝕄G" => MT nD τ sig Unit (Elt F) ℕ (UR sig nD τ) ℕ

variable (𝒱 : Variants) (c : Dev nD) (bd : Option 𝒱.V) (i : grid0.Coords)
  (arg1 : Memref sig .tc .vmem S256x1024 .f32) (harg1 : arg1.IsWhole)
  (arg2 : Memref sig .tc .vmem S256x256 .f32) (harg2 : arg2.IsWhole)
  (arg3 : Memref sig .tc .vmem S256x256 .f32) (harg3 : arg3.IsWhole)
  (arg4 : Memref sig .tc .vmem S2x256 .f32) (harg4 : arg4.IsWhole)
  (arg5 : Memref sig .tc .vmem S2x256 .f32) (harg5 : arg5.IsWhole)
  (arg6 : Memref sig .tc .vmem S1x2x4x64x64 .f32) (harg6 : arg6.IsWhole)
  (arg7 : Memref sig .tc .vmem S256x256 .bf16) (harg7 : arg7.IsWhole)
  (arg8 : Memref sig .tc .vmem S256x256 .f32) (harg8 : arg8.IsWhole)
  (arg9 : Memref sig .tc .vmem S1x2x4x64x64 .f32) (harg9 : arg9.IsWhole)
  (arg10 : Memref sig .tc .vmem S256x256 .f32) (harg10 : arg10.IsWhole)
  (arg11 : Memref sig .tc .vmem S256x256 .f32) (harg11 : arg11.IsWhole)
  (arg12 : Memref sig .tc .vmem S2x256x256 .f32) (harg12 : arg12.IsWhole)
  (arg13 : Memref sig .tc .vmem S2x4x64x64 .f32) (harg13 : arg13.IsWhole)
  (arg14 : Memref sig .tc .vmem S8x128x128 .f32) (harg14 : arg14.IsWhole)
  (v19 : FVec F S2x256 .f32) (v29 v35 v41 v45 : FVec F S128x256 .f32) (v48 : FVec F S2x256 .f32) (v97 : IVec S128x128 32) (v100 : FVec F S128x128 .f32)
  (v114 : IVec S128x128 1) (v117 : FVec F S128x128 .f32)

/-- What one chunk touches: the block of rows, the queries, the keys and the masks, the state and the sums. -/
abbrev Res (c : Dev nD) (arg1 : Memref sig .tc .vmem S256x1024 .f32) (arg10 arg11 : Memref sig .tc .vmem S256x256 .f32)
    (arg14 : Memref sig .tc .vmem S8x128x128 .f32) (arg13 : Memref sig .tc .vmem S2x4x64x64 .f32) (arg12 : Memref sig .tc .vmem S2x256x256 .f32)
    (X1 : BufTy.Contents (Elt F) arg1.view.ty) (X10 : BufTy.Contents (Elt F) arg10.view.ty) (X11 : BufTy.Contents (Elt F) arg11.view.ty) (X14 : BufTy.Contents (Elt F) arg14.view.ty) (f : BufTy.Contents (Elt F) arg13.view.ty) (g : BufTy.Contents (Elt F) arg12.view.ty) : sProp 𝕄G :=
  iprop((arg1.view.loc (c : Thread nD τ) ↦[arg1.view.set]{fullShare} X1) ∗ (arg10.view.loc (c : Thread nD τ) ↦[arg10.view.set]{fullShare} X10)
    ∗ (arg11.view.loc (c : Thread nD τ) ↦[arg11.view.set]{fullShare} X11) ∗ (arg14.view.loc (c : Thread nD τ) ↦[arg14.view.set]{fullShare} X14)
    ∗ (arg13.view.loc (c : Thread nD τ) ↦[arg13.view.set]{fullShare} f) ∗ (arg12.view.loc (c : Thread nD τ) ↦[arg12.view.set]{fullShare} g))

/-- The new state of one head in one direction, from the two directions' chunks of keys and values and the head's old state. -/
def payS (v41 v45 : FVec F S128x256 .f32) (v48 : FVec F S2x256 .f32) (k0 z0 k1 z1 : Vec F S128x256 .f32) (s : Vec F S1x1x64x64 .f32) :
    Fin 2 → Fin 4 → FVec F S1x1x64x64 .f32
  | 0, 0 => k0_pay53 v48 (k0_pay7 s) (k0_pay11 v41 k0 z0)
  | 0, 1 => k0_pay55 v48 (k0_pay12 s) (k0_pay16 v41 k0 z0)
  | 0, 2 => k0_pay57 v48 (k0_pay17 s) (k0_pay21 (k0_pay5 v41 k0) (k0_pay6 z0))
  | 0, 3 => k0_pay59 v48 (k0_pay22 s) (k0_pay26 (k0_pay5 v41 k0) (k0_pay6 z0))
  | 1, 0 => k0_pay62 (k0_pay61 v48 (k0_pay32 s) (k0_pay36 (k0_pay30 v45 k1) (k0_pay31 z1)))
  | 1, 1 => k0_pay64 v48 (k0_pay37 s) (k0_pay41 (k0_pay30 v45 k1) (k0_pay31 z1))
  | 1, 2 => k0_pay66 v48 (k0_pay42 s) (k0_pay46 (k0_pay30 v45 k1) (k0_pay31 z1))
  | 1, 3 => k0_pay97 (k0_pay51 (k0_pay30 v45 k1) (k0_pay31 z1)) (k0_pay68 v48 (k0_pay47 s))

/-- One head's matrix lies inside the state. -/
theorem inbS (d : Fin 2) (h : Fin 4) : ∀ a, (![d.val, h.val, 0, 0] : Fin 4 → ℕ) a + S1x1x64x64.size a ≤ S2x4x64x64.size a := by
  revert d h; decide

/-- The place of one head's matrix in the state. -/
abbrev rcS (d : Fin 2) (h : Fin 4) : Rect S2x4x64x64 := Rect.unit (s := S2x4x64x64) ![d.val, h.val, 0, 0] S1x1x64x64.size (inbS d h)

/-- The eight matrices one chunk writes into the state, the last written first. -/
def stPieces (v41 v45 : FVec F S128x256 .f32) (v48 : FVec F S2x256 .f32) (k0 z0 k1 z1 : Vec F S128x256 .f32) (s : Fin 2 → Fin 4 → Vec F S1x1x64x64 .f32) :
    List (Σ r : Rect S2x4x64x64, r.shape.Idx → F .f32) :=
  [⟨rcS 1 3, payS v41 v45 v48 k0 z0 k1 z1 (s 1 3) 1 3⟩, ⟨rcS 1 2, payS v41 v45 v48 k0 z0 k1 z1 (s 1 2) 1 2⟩,
   ⟨rcS 1 1, payS v41 v45 v48 k0 z0 k1 z1 (s 1 1) 1 1⟩, ⟨rcS 1 0, payS v41 v45 v48 k0 z0 k1 z1 (s 1 0) 1 0⟩,
   ⟨rcS 0 3, payS v41 v45 v48 k0 z0 k1 z1 (s 0 3) 0 3⟩, ⟨rcS 0 2, payS v41 v45 v48 k0 z0 k1 z1 (s 0 2) 0 2⟩,
   ⟨rcS 0 1, payS v41 v45 v48 k0 z0 k1 z1 (s 0 1) 0 1⟩, ⟨rcS 0 0, payS v41 v45 v48 k0 z0 k1 z1 (s 0 0) 0 0⟩]

/-- What the state's scratch holds after chunk `k`, from what it held before. -/
def stNext (arg1 : Memref sig .tc .vmem S256x1024 .f32) (arg11 : Memref sig .tc .vmem S256x256 .f32) (arg13 : Memref sig .tc .vmem S2x4x64x64 .f32)
    (v41 v45 : FVec F S128x256 .f32) (v48 : FVec F S2x256 .f32) (X1 : BufTy.Contents (Elt F) arg1.view.ty) (X11 : BufTy.Contents (Elt F) arg11.view.ty) (f : BufTy.Contents (Elt F) arg13.view.ty) (k : Fin k0_t1_loop.trips) : BufTy.Contents (Elt F) arg13.view.ty :=
  arg13.view.writes (Elt F) f (stPieces v41 v45 v48
    (arg11.view.readAt (Elt F) (Rect.unit (s := S256x256) (k0_off1 k) S128x256.size (k0_off1_inb k)).toLoadRect X11)
    (arg1.view.readAt (Elt F) (Rect.unit (s := S256x1024) (k0_off2 k) S128x256.size (k0_off2_inb k)).toLoadRect X1)
    (arg11.view.readAt (Elt F) (Rect.unit (s := S256x256) (k0_off3 k) S128x256.size (k0_off3_inb k)).toLoadRect X11)
    (arg1.view.readAt (Elt F) (Rect.unit (s := S256x1024) (k0_off4 k) S128x256.size (k0_off4_inb k)).toLoadRect X1)
    (fun d h => arg13.view.readAt (Elt F) (rcS d h).toLoadRect f))

/-- What one chunk writes into the sums: rows of the first direction and rows of the second. -/
abbrev yPieces (k : Fin k0_t1_loop.trips) (y0 y1 : FVec F S1x128x256 .f32) : List (Σ r : Rect S2x256x256, r.shape.Idx → F .f32) :=
  [⟨Rect.unit (s := S2x256x256) (k0_off6 k) S1x128x256.size (k0_off6_inb k), y1⟩,
   ⟨Rect.unit (s := S2x256x256) (k0_off5 k) S1x128x256.size (k0_off5_inb k), y0⟩]

/-- One chunk, run. -/
theorem trip_t1 (X1 : BufTy.Contents (Elt F) arg1.view.ty) (X10 : BufTy.Contents (Elt F) arg10.view.ty) (X11 : BufTy.Contents (Elt F) arg11.view.ty) (X14 : BufTy.Contents (Elt F) arg14.view.ty) (f : BufTy.Contents (Elt F) arg13.view.ty) (k : Fin k0_t1_loop.trips) :
    ∃ (f' : BufTy.Contents (Elt F) arg13.view.ty) (y0 y1 : FVec F S1x128x256 .f32), f' = stNext arg1 arg11 arg13 v41 v45 v48 X1 X11 f k ∧ ∀ (E : Set ℕ) (acc : Unit) (g : BufTy.Contents (Elt F) arg12.view.ty),
      (Res c arg1 arg10 arg11 arg14 arg13 arg12 X1 X10 X11 X14 f g
      ⊢ wp (M := 𝕄G) frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 v19 v29 v35 v41 v45 v48 v97 v100 v114 v117 k acc)
        (fun _ => Res c arg1 arg10 arg11 arg14 arg13 arg12 X1 X10 X11 X14 f' (arg12.view.writes (Elt F) g (yPieces k y0 y1)))) := by
  refine ⟨?_, ?_, ?_, ?facts, fun E acc g => ?run⟩
  case run =>
    unfold k0_t1_body
    iintro ⟨H1, H10, H11, H14, H13, H12⟩
    sl_exec
    sl_step
    isplitl [H1]; · iexact H1
    isplitl [H10]; · iexact H10
    isplitl [H11]; · iexact H11
    isplitl [H14]; · iexact H14
    isplitl [H13]; · iexact H13
    iexact H12
  case facts =>
    sl_unfold_words
    rfl

/-- The state's scratch before chunk `n`. -/
def stAt (arg1 : Memref sig .tc .vmem S256x1024 .f32) (arg11 : Memref sig .tc .vmem S256x256 .f32) (arg13 : Memref sig .tc .vmem S2x4x64x64 .f32)
    (v41 v45 : FVec F S128x256 .f32) (v48 : FVec F S2x256 .f32) (X1 : BufTy.Contents (Elt F) arg1.view.ty) (X11 : BufTy.Contents (Elt F) arg11.view.ty) (f : BufTy.Contents (Elt F) arg13.view.ty) : ℕ → BufTy.Contents (Elt F) arg13.view.ty
  | 0 => f
  | n + 1 => if h : n < k0_t1_loop.trips then stNext arg1 arg11 arg13 v41 v45 v48 X1 X11 (stAt arg1 arg11 arg13 v41 v45 v48 X1 X11 f n) ⟨n, h⟩
    else stAt arg1 arg11 arg13 v41 v45 v48 X1 X11 f n

/-- The rows chunk `k` writes into the sums, of the state before it. -/
theorem trip_y (X1 : BufTy.Contents (Elt F) arg1.view.ty) (X10 : BufTy.Contents (Elt F) arg10.view.ty) (X11 : BufTy.Contents (Elt F) arg11.view.ty) (X14 : BufTy.Contents (Elt F) arg14.view.ty) (f : BufTy.Contents (Elt F) arg13.view.ty) (k : Fin k0_t1_loop.trips) :
    ∃ Y : FVec F S1x128x256 .f32 × FVec F S1x128x256 .f32, ∀ (E : Set ℕ) (acc : Unit) (g : BufTy.Contents (Elt F) arg12.view.ty),
      (Res c arg1 arg10 arg11 arg14 arg13 arg12 X1 X10 X11 X14 f g
      ⊢ wp (M := 𝕄G) frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 v19 v29 v35 v41 v45 v48 v97 v100 v114 v117 k acc)
        (fun _ => Res c arg1 arg10 arg11 arg14 arg13 arg12 X1 X10 X11 X14 (stNext arg1 arg11 arg13 v41 v45 v48 X1 X11 f k) (arg12.view.writes (Elt F) g (yPieces k Y.1 Y.2)))) := by
  obtain ⟨f', y0, y1, rfl, h⟩ := trip_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 v19 v29 v35 v41 v45 v48 v97 v100 v114 v117 X1 X10 X11 X14 f k
  exact ⟨(y0, y1), h⟩

/-- What the chunks before `n` have written into the sums, the last written first. -/
def yPcs (X1 : BufTy.Contents (Elt F) arg1.view.ty) (X10 : BufTy.Contents (Elt F) arg10.view.ty) (X11 : BufTy.Contents (Elt F) arg11.view.ty) (X14 : BufTy.Contents (Elt F) arg14.view.ty) (f : BufTy.Contents (Elt F) arg13.view.ty) : ℕ → List (Σ r : Rect S2x256x256, r.shape.Idx → F .f32)
  | 0 => []
  | n + 1 => if h : n < k0_t1_loop.trips then
      let T := trip_y 𝒱 c bd i arg1 harg1 arg2 harg2 arg3 harg3 arg4 harg4 arg5 harg5 arg6 harg6 arg7 harg7 arg8 harg8 arg9 harg9 arg10 harg10 arg11 harg11 arg12 harg12 arg13 harg13 arg14 harg14 v19 v29 v35 v41 v45 v48 v97 v100 v114 v117 X1 X10 X11 X14 (stAt arg1 arg11 arg13 v41 v45 v48 X1 X11 f n) ⟨n, h⟩
      yPieces ⟨n, h⟩ T.choose.1 T.choose.2 ++ yPcs X1 X10 X11 X14 f n
    else yPcs X1 X10 X11 X14 f n

/-- The sums' scratch before chunk `n`: after the last chunk every element is written, whatever the scratch held. -/
def yC (X1 : BufTy.Contents (Elt F) arg1.view.ty) (X10 : BufTy.Contents (Elt F) arg10.view.ty) (X11 : BufTy.Contents (Elt F) arg11.view.ty) (X14 : BufTy.Contents (Elt F) arg14.view.ty) (f : BufTy.Contents (Elt F) arg13.view.ty) (g : BufTy.Contents (Elt F) arg12.view.ty) (n : ℕ) : BufTy.Contents (Elt F) arg12.view.ty :=
  if n = k0_t1_loop.trips then arg12.view.writes (Elt F) arg12.view.junk (yPcs 𝒱 c bd i arg1 harg1 arg2 harg2 arg3 harg3 arg4 harg4 arg5 harg5 arg6 harg6 arg7 harg7 arg8 harg8 arg9 harg9 arg10 harg10 arg11 harg11 arg12 harg12 arg13 harg13 arg14 harg14 v19 v29 v35 v41 v45 v48 v97 v100 v114 v117 X1 X10 X11 X14 f n)
  else arg12.view.writes (Elt F) g (yPcs 𝒱 c bd i arg1 harg1 arg2 harg2 arg3 harg3 arg4 harg4 arg5 harg5 arg6 harg6 arg7 harg7 arg8 harg8 arg9 harg9 arg10 harg10 arg11 harg11 arg12 harg12 arg13 harg13 arg14 harg14 v19 v29 v35 v41 v45 v48 v97 v100 v114 v117 X1 X10 X11 X14 f n)

/-- A chunk by its number. -/
abbrev tr (n : Fin 2) : Fin k0_t1_loop.trips := n.cast (by decide)

include harg12 in
/-- The two chunks write every element of the sums. -/
theorem y_junk (g : BufTy.Contents (Elt F) arg12.view.ty) (y0 y1 y0' y1' : FVec F S1x128x256 .f32) :
    arg12.view.writes (Elt F) g (yPieces (tr 1) y0' y1' ++ (yPieces (tr 0) y0 y1 ++ []))
      = arg12.view.writes (Elt F) arg12.view.junk (yPieces (tr 1) y0' y1' ++ (yPieces (tr 0) y0 y1 ++ [])) := by
  have hc (L : List (View.Piece (Elt F) S2x256x256 .f32))
      (hL : L.map Sigma.fst = [Rect.unit (s := S2x256x256) (k0_off6 (tr 1)) S1x128x256.size (k0_off6_inb (tr 1)), Rect.unit (s := S2x256x256) (k0_off5 (tr 1)) S1x128x256.size (k0_off5_inb (tr 1)),
        Rect.unit (s := S2x256x256) (k0_off6 (tr 0)) S1x128x256.size (k0_off6_inb (tr 0)), Rect.unit (s := S2x256x256) (k0_off5 (tr 0)) S1x128x256.size (k0_off5_inb (tr 0))]) :
      arg12.view.writes (Elt F) g L = arg12.view.writes (Elt F) arg12.view.junk L := by
    refine Memref.writes_eq_junk_of_covChk harg12 g L (.split 0 1 (.split 1 128 (.leaf 3) (.leaf 1)) (.split 1 128 (.leaf 0) (.leaf 2))) ?_
    rw [hL]
    decide +kernel
  exact hc _ rfl

theorem yC_last (X1 : BufTy.Contents (Elt F) arg1.view.ty) (X10 : BufTy.Contents (Elt F) arg10.view.ty) (X11 : BufTy.Contents (Elt F) arg11.view.ty) (X14 : BufTy.Contents (Elt F) arg14.view.ty) (f : BufTy.Contents (Elt F) arg13.view.ty) (g : BufTy.Contents (Elt F) arg12.view.ty) {n : ℕ} (h : n = k0_t1_loop.trips) :
    yC 𝒱 c bd i arg1 harg1 arg2 harg2 arg3 harg3 arg4 harg4 arg5 harg5 arg6 harg6 arg7 harg7 arg8 harg8 arg9 harg9 arg10 harg10 arg11 harg11 arg12 harg12 arg13 harg13 arg14 harg14 v19 v29 v35 v41 v45 v48 v97 v100 v114 v117 X1 X10 X11 X14 f g n = arg12.view.writes (Elt F) arg12.view.junk (yPcs 𝒱 c bd i arg1 harg1 arg2 harg2 arg3 harg3 arg4 harg4 arg5 harg5 arg6 harg6 arg7 harg7 arg8 harg8 arg9 harg9 arg10 harg10 arg11 harg11 arg12 harg12 arg13 harg13 arg14 harg14 v19 v29 v35 v41 v45 v48 v97 v100 v114 v117 X1 X10 X11 X14 f n) := if_pos h

/-- One chunk takes the sums from before it to after it. -/
theorem yC_succ (X1 : BufTy.Contents (Elt F) arg1.view.ty) (X10 : BufTy.Contents (Elt F) arg10.view.ty) (X11 : BufTy.Contents (Elt F) arg11.view.ty) (X14 : BufTy.Contents (Elt F) arg14.view.ty) (f : BufTy.Contents (Elt F) arg13.view.ty) (k : Fin k0_t1_loop.trips) :
    ∃ Y : FVec F S1x128x256 .f32 × FVec F S1x128x256 .f32, (∀ g : BufTy.Contents (Elt F) arg12.view.ty, yC 𝒱 c bd i arg1 harg1 arg2 harg2 arg3 harg3 arg4 harg4 arg5 harg5 arg6 harg6 arg7 harg7 arg8 harg8 arg9 harg9 arg10 harg10 arg11 harg11 arg12 harg12 arg13 harg13 arg14 harg14 v19 v29 v35 v41 v45 v48 v97 v100 v114 v117 X1 X10 X11 X14 f g (k.val + 1) = arg12.view.writes (Elt F) (yC 𝒱 c bd i arg1 harg1 arg2 harg2 arg3 harg3 arg4 harg4 arg5 harg5 arg6 harg6 arg7 harg7 arg8 harg8 arg9 harg9 arg10 harg10 arg11 harg11 arg12 harg12 arg13 harg13 arg14 harg14 v19 v29 v35 v41 v45 v48 v97 v100 v114 v117 X1 X10 X11 X14 f g k.val) (yPieces k Y.1 Y.2))
      ∧ ∀ (E : Set ℕ) (acc : Unit) (g : BufTy.Contents (Elt F) arg12.view.ty),
      (Res c arg1 arg10 arg11 arg14 arg13 arg12 X1 X10 X11 X14 (stAt arg1 arg11 arg13 v41 v45 v48 X1 X11 f k.val) g
      ⊢ wp (M := 𝕄G) frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 v19 v29 v35 v41 v45 v48 v97 v100 v114 v117 k acc)
        (fun _ => Res c arg1 arg10 arg11 arg14 arg13 arg12 X1 X10 X11 X14 (stNext arg1 arg11 arg13 v41 v45 v48 X1 X11 (stAt arg1 arg11 arg13 v41 v45 v48 X1 X11 f k.val) k) (arg12.view.writes (Elt F) g (yPieces k Y.1 Y.2)))) := by
  refine ⟨(trip_y 𝒱 c bd i arg1 harg1 arg2 harg2 arg3 harg3 arg4 harg4 arg5 harg5 arg6 harg6 arg7 harg7 arg8 harg8 arg9 harg9 arg10 harg10 arg11 harg11 arg12 harg12 arg13 harg13 arg14 harg14 v19 v29 v35 v41 v45 v48 v97 v100 v114 v117 X1 X10 X11 X14 (stAt arg1 arg11 arg13 v41 v45 v48 X1 X11 f k.val) k).choose, fun g => ?_, (trip_y 𝒱 c bd i arg1 harg1 arg2 harg2 arg3 harg3 arg4 harg4 arg5 harg5 arg6 harg6 arg7 harg7 arg8 harg8 arg9 harg9 arg10 harg10 arg11 harg11 arg12 harg12 arg13 harg13 arg14 harg14 v19 v29 v35 v41 v45 v48 v97 v100 v114 v117 X1 X10 X11 X14 (stAt arg1 arg11 arg13 v41 v45 v48 X1 X11 f k.val) k).choose_spec⟩
  have ht : k0_t1_loop.trips = 2 := by decide
  have hk : k.val < 2 := lt_of_lt_of_eq k.isLt ht
  have e1 : ∀ n (h : n < k0_t1_loop.trips), yPcs 𝒱 c bd i arg1 harg1 arg2 harg2 arg3 harg3 arg4 harg4 arg5 harg5 arg6 harg6 arg7 harg7 arg8 harg8 arg9 harg9 arg10 harg10 arg11 harg11 arg12 harg12 arg13 harg13 arg14 harg14 v19 v29 v35 v41 v45 v48 v97 v100 v114 v117 X1 X10 X11 X14 f (n + 1)
      = yPieces ⟨n, h⟩ (trip_y 𝒱 c bd i arg1 harg1 arg2 harg2 arg3 harg3 arg4 harg4 arg5 harg5 arg6 harg6 arg7 harg7 arg8 harg8 arg9 harg9 arg10 harg10 arg11 harg11 arg12 harg12 arg13 harg13 arg14 harg14 v19 v29 v35 v41 v45 v48 v97 v100 v114 v117 X1 X10 X11 X14 (stAt arg1 arg11 arg13 v41 v45 v48 X1 X11 f n) ⟨n, h⟩).choose.1 (trip_y 𝒱 c bd i arg1 harg1 arg2 harg2 arg3 harg3 arg4 harg4 arg5 harg5 arg6 harg6 arg7 harg7 arg8 harg8 arg9 harg9 arg10 harg10 arg11 harg11 arg12 harg12 arg13 harg13 arg14 harg14 v19 v29 v35 v41 v45 v48 v97 v100 v114 v117 X1 X10 X11 X14 (stAt arg1 arg11 arg13 v41 v45 v48 X1 X11 f n) ⟨n, h⟩).choose.2 ++ yPcs 𝒱 c bd i arg1 harg1 arg2 harg2 arg3 harg3 arg4 harg4 arg5 harg5 arg6 harg6 arg7 harg7 arg8 harg8 arg9 harg9 arg10 harg10 arg11 harg11 arg12 harg12 arg13 harg13 arg14 harg14 v19 v29 v35 v41 v45 v48 v97 v100 v114 v117 X1 X10 X11 X14 f n :=
    fun n h => (yPcs.eq_2 ..).trans (dif_pos h)
  have h2 : yC 𝒱 c bd i arg1 harg1 arg2 harg2 arg3 harg3 arg4 harg4 arg5 harg5 arg6 harg6 arg7 harg7 arg8 harg8 arg9 harg9 arg10 harg10 arg11 harg11 arg12 harg12 arg13 harg13 arg14 harg14 v19 v29 v35 v41 v45 v48 v97 v100 v114 v117 X1 X10 X11 X14 f g k.val = arg12.view.writes (Elt F) g (yPcs 𝒱 c bd i arg1 harg1 arg2 harg2 arg3 harg3 arg4 harg4 arg5 harg5 arg6 harg6 arg7 harg7 arg8 harg8 arg9 harg9 arg10 harg10 arg11 harg11 arg12 harg12 arg13 harg13 arg14 harg14 v19 v29 v35 v41 v45 v48 v97 v100 v114 v117 X1 X10 X11 X14 f k.val) := if_neg (by omega)
  rw [h2, ← View.writes_append]
  unfold yC
  split
  · next h =>
    have hk1 : k.val = 1 := by omega
    obtain ⟨kv, hkv⟩ := k
    obtain rfl : kv = 1 := hk1
    rw [e1 1 hkv, e1 0 (by omega)]
    exact (y_junk arg12 harg12 g _ _ _ _).symm
  · rw [e1 k.val k.isLt]

set_option warn.classDefReducibility false in
/-- The loop over the block's two chunks. -/
@[sl_loop] def loopInv_k0_t1 (E : Set ℕ) (X1 : BufTy.Contents (Elt F) arg1.view.ty) (X10 : BufTy.Contents (Elt F) arg10.view.ty) (X11 : BufTy.Contents (Elt F) arg11.view.ty) (X14 : BufTy.Contents (Elt F) arg14.view.ty) (G13 : BufTy.Contents (Elt F) arg13.view.ty) (G12 : BufTy.Contents (Elt F) arg12.view.ty) :
    Idealize.ShloMosaic.LoopInv (M := 𝕄G) Idealize.ShloMosaic.frame (wpE (defs₀ (F := F)) 𝒱 (c : Thread nD τ) bd) E k0_t1_loop.lb k0_t1_loop.ub k0_t1_loop.st k0_t1_ok ()
      (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 v19 v29 v35 v41 v45 v48 v97 v100 v114 v117) where
  inv n _ := iprop((arg1.view.loc (c : Thread nD τ) ↦[arg1.view.set]{fullShare} X1) ∗ (arg10.view.loc (c : Thread nD τ) ↦[arg10.view.set]{fullShare} X10) ∗ (arg11.view.loc (c : Thread nD τ) ↦[arg11.view.set]{fullShare} X11) ∗ (arg14.view.loc (c : Thread nD τ) ↦[arg14.view.set]{fullShare} X14)
    ∗ (∃ f, (arg13.view.loc (c : Thread nD τ) ↦[arg13.view.set]{fullShare} f) ∗ ⌜f = stAt arg1 arg11 arg13 v41 v45 v48 X1 X11 G13 n⌝)
    ∗ (∃ g, (arg12.view.loc (c : Thread nD τ) ↦[arg12.view.set]{fullShare} g) ∗ ⌜g = yC 𝒱 c bd i arg1 harg1 arg2 harg2 arg3 harg3 arg4 harg4 arg5 harg5 arg6 harg6 arg7 harg7 arg8 harg8 arg9 harg9 arg10 harg10 arg11 harg11 arg12 harg12 arg13 harg13 arg14 harg14 v19 v29 v35 v41 v45 v48 v97 v100 v114 v117 X1 X10 X11 X14 G13 G12 n⌝))
  step k acc := by
    iintro ⟨H1, H10, H11, H14, ⟨%f, H13, %hf⟩, ⟨%g, H12, %hg⟩⟩
    subst hf hg
    obtain ⟨Y, hY, hrun⟩ := yC_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 v19 v29 v35 v41 v45 v48 v97 v100 v114 v117 X1 X10 X11 X14 G13 k
    have hS : stAt arg1 arg11 arg13 v41 v45 v48 X1 X11 G13 (k.val + 1) = stNext arg1 arg11 arg13 v41 v45 v48 X1 X11 (stAt arg1 arg11 arg13 v41 v45 v48 X1 X11 G13 k.val) k :=
      (stAt.eq_2 ..).trans (dif_pos k.isLt)
    iapply (wp_wand_r Idealize.ShloMosaic.frame (wpE (defs₀ (F := F)) 𝒱 (c : Thread nD τ) bd) E)
    isplitl [H1 H10 H11 H14 H13 H12]
    · iapply (hrun E acc _)
      isplitl [H1]; · iexact H1
      isplitl [H10]; · iexact H10
      isplitl [H11]; · iexact H11
      isplitl [H14]; · iexact H14
      isplitl [H13]; · iexact H13
      iexact H12
    · iintro %yld ⟨H1, H10, H11, H14, H13, H12⟩
      isplitl [H1]; · iexact H1
      isplitl [H10]; · iexact H10
      isplitl [H11]; · iexact H11
      isplitl [H14]; · iexact H14
      isplitl [H13]
      · iexists _; isplitl [H13]; · iexact H13
        ipureintro; exact hS.symm
      · iexists _; isplitl [H12]; · iexact H12
        ipureintro; exact (hY _).symm

end Cert.Kernel6Ideal.Ret

end
-- ==== Proof.Ret.Body.lean ====
/- The retention's kernel at one grid point, run: what the two outputs hold afterwards. -/
module

public import proofs.«01_k».proof.Proof.Ret.Loop
public import Idealize.ShloMosaic.Lib.Ring
public import Idealize.ShloMosaic.Lib.ValueIdx
public import Idealize.ShloMosaic.Lib.VecWindow
public import Idealize.ShloMosaic.Lib.Pointwise
public import Idealize.ShloMosaic.Lib.Pipeline.FrameBody

@[expose] public section

set_option maxRecDepth 16384

noncomputable section

namespace Cert.Kernel6Ideal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel6Ideal.Gen

variable {F : FTy → Type} [FloatOps F]

/-- Rows of an array, as a load reads them. -/
abbrev rowsAt {S : Shape} (x : Vec F S .f32) (B : LoadRect S) : Vec F B.shape .f32 := fun j => x (B.idx j)

/-- A load read as rows of what the array holds. -/
theorem readAt_rows {κ : Kind} {sp : Space} {S : Shape} (v : View sig κ sp S .f32) {f : v.ty.Contents (Elt F)} {x : Vec F S .f32} (h : v.read (Elt F) f = x) (B : LoadRect S) :
    v.readAt (Elt F) B f = rowsAt x B := by
  subst h; rfl

/-- The state after one chunk, from the block of rows, the keys, the decays and the state before. -/
def sNext (x1 : Vec F S256x1024 .f32) (xk : Vec F S256x256 .f32) (v41 v45 : FVec F S128x256 .f32) (v48 : FVec F S2x256 .f32) (k : Fin k0_t1_loop.trips)
    (s : Vec F S2x4x64x64 .f32) : Vec F S2x4x64x64 .f32 := fun j =>
  payS v41 v45 v48
    (rowsAt xk (Rect.unit (s := S256x256) (k0_off1 k) S128x256.size (k0_off1_inb k)).toLoadRect)
    (rowsAt x1 (Rect.unit (s := S256x1024) (k0_off2 k) S128x256.size (k0_off2_inb k)).toLoadRect)
    (rowsAt xk (Rect.unit (s := S256x256) (k0_off3 k) S128x256.size (k0_off3_inb k)).toLoadRect)
    (rowsAt x1 (Rect.unit (s := S256x1024) (k0_off4 k) S128x256.size (k0_off4_inb k)).toLoadRect)
    (rowsAt s (rcS (j 0) (j 1)).toLoadRect) (j 0) (j 1) (ix4 (0 : Fin 1) (0 : Fin 1) (j 2) (j 3))

/-- The state a block leaves, from its rows, the decay rates and the state it starts from. -/
def stBlk (x1 : Vec F S256x1024 .f32) (x4 : Vec F S2x256 .f32) (x6 : Vec F S1x2x4x64x64 .f32) : Vec F S1x2x4x64x64 .f32 :=
  let xk := k0_pay70 (rowsAt x1 (Rect.unit (s := S256x1024) ![0, 256] S256x256.size inb_S256x1024_S256x256_0_256).toLoadRect)
  let v41 := k0_pay78 (k0_pay72 x4) (k0_pay73)
  let v45 := k0_pay79 (k0_pay72 x4) (k0_pay73)
  let v48 := k0_pay80 (k0_pay72 x4)
  k0_pay1 (sNext x1 xk v41 v45 v48 (tr 1) (sNext x1 xk v41 v45 v48 (tr 0) (k0_pay71 x6)))

/-- Two indices of one head's matrix agree when their last two coordinates do. -/
theorem ix_mat (x : S1x1x64x64.Idx) : x = ix4 (0 : Fin 1) (0 : Fin 1) (x 2) (x 3) := by
  refine funext fun a => ?_
  match a with
  | ⟨0, _⟩ => exact Subsingleton.elim (α := Fin 1) _ _
  | ⟨1, _⟩ => exact Subsingleton.elim (α := Fin 1) _ _
  | ⟨2, _⟩ => rfl
  | ⟨3, _⟩ => rfl

/-- A head's matrix inside the state. -/
theorem emb_mat (d : Fin 2) (h : Fin 4) (x : S1x1x64x64.Idx) : (rcS d h).emb x = (ix4 d h (x 2) (x 3) : S2x4x64x64.Idx) := by
  refine funext fun a => Fin.ext ?_
  rw [Rect.emb_apply]
  match a with
  | ⟨0, _⟩ => have h : (x 0).val < 1 := (x 0).isLt; show d.val + 1 * (x 0).val = d.val; omega
  | ⟨1, _⟩ => have h' : (x 1).val < 1 := (x 1).isLt; show h.val + 1 * (x 1).val = h.val; omega
  | ⟨2, _⟩ => show 0 + 1 * (x 2).val = (x 2).val; omega
  | ⟨3, _⟩ => show 0 + 1 * (x 3).val = (x 3).val; omega

/-- The scratch after one chunk, read. -/
theorem read_stNext (arg1 : Memref sig .tc .vmem S256x1024 .f32) (arg11 : Memref sig .tc .vmem S256x256 .f32) (arg13 : Memref sig .tc .vmem S2x4x64x64 .f32)
    (v41 v45 : FVec F S128x256 .f32) (v48 : FVec F S2x256 .f32) (X1 : BufTy.Contents (Elt F) arg1.view.ty) (X11 : BufTy.Contents (Elt F) arg11.view.ty)
    (f : BufTy.Contents (Elt F) arg13.view.ty) (k : Fin k0_t1_loop.trips) :
    arg13.view.read (Elt F) (stNext arg1 arg11 arg13 v41 v45 v48 X1 X11 f k)
      = sNext (arg1.view.read (Elt F) X1) (arg11.view.read (Elt F) X11) v41 v45 v48 k (arg13.view.read (Elt F) f) := by
  funext j
  unfold stNext
  refine View.read_writes_apply_of_pieces arg13.view f _ _ ?_ j (View.cover_of_tiled _ ![1, 1, 64, 64] rfl j)
  unfold stPieces
  simp only [List.forall_mem_cons]
  refine ⟨?_, ?_, ?_, ?_, ?_, ?_, ?_, ?_, fun _ h => absurd h List.not_mem_nil⟩
  all_goals
    intro x
    exact (congrArg _ (ix_mat x)).trans (congrArg (sNext (arg1.view.read (Elt F) X1) (arg11.view.read (Elt F) X11) v41 v45 v48 k (arg13.view.read (Elt F) f)) (emb_mat _ _ x).symm)

/-- The scratch after both chunks, read. -/
theorem read_stAt (arg1 : Memref sig .tc .vmem S256x1024 .f32) (arg11 : Memref sig .tc .vmem S256x256 .f32) (arg13 : Memref sig .tc .vmem S2x4x64x64 .f32)
    (v41 v45 : FVec F S128x256 .f32) (v48 : FVec F S2x256 .f32) (X1 : BufTy.Contents (Elt F) arg1.view.ty) (X11 : BufTy.Contents (Elt F) arg11.view.ty)
    (f : BufTy.Contents (Elt F) arg13.view.ty) {x1 : Vec F S256x1024 .f32} {xk : Vec F S256x256 .f32} {s : Vec F S2x4x64x64 .f32}
    (h1 : arg1.view.read (Elt F) X1 = x1) (hk : arg11.view.read (Elt F) X11 = xk) (hs : arg13.view.read (Elt F) f = s) :
    arg13.view.read (Elt F) (stAt arg1 arg11 arg13 v41 v45 v48 X1 X11 f (Scf.trips k0_t1_loop.lb k0_t1_loop.ub k0_t1_loop.st))
      = sNext x1 xk v41 v45 v48 (tr 1) (sNext x1 xk v41 v45 v48 (tr 0) s) := by
  subst h1 hk hs
  rw [show Scf.trips k0_t1_loop.lb k0_t1_loop.ub k0_t1_loop.st = 2 by decide +kernel]
  have e1 : stAt arg1 arg11 arg13 v41 v45 v48 X1 X11 f 1 = stNext arg1 arg11 arg13 v41 v45 v48 X1 X11 f (tr 0) := dif_pos (tr 0).isLt
  have e2 : stAt arg1 arg11 arg13 v41 v45 v48 X1 X11 f 2 = stNext arg1 arg11 arg13 v41 v45 v48 X1 X11 (stAt arg1 arg11 arg13 v41 v45 v48 X1 X11 f 1) (tr 1) := dif_pos (tr 1).isLt
  rw [e2, e1, read_stNext, read_stNext]

set_option maxHeartbeats 4000000 in
/-- One grid point: the inputs stay, the outputs get a block of the inputs alone and the state the block leaves. -/
theorem body (c : Dev nD) (i : grid0.Coords)
    (arg1 : Memref sig .tc .vmem S256x1024 .f32) (harg1 : arg1.IsWhole)
    (arg2 : Memref sig .tc .vmem S256x256 .f32) (harg2 : arg2.IsWhole)
    (arg3 : Memref sig .tc .vmem S256x256 .f32) (harg3 : arg3.IsWhole)
    (arg4 : Memref sig .tc .vmem S2x256 .f32) (harg4 : arg4.IsWhole)
    (arg5 : Memref sig .tc .vmem S2x256 .f32) (harg5 : arg5.IsWhole)
    (arg6 : Memref sig .tc .vmem S1x2x4x64x64 .f32) (harg6 : arg6.IsWhole)
    (arg7 : Memref sig .tc .vmem S256x256 .bf16) (harg7 : arg7.IsWhole)
    (arg8 : Memref sig .tc .vmem S256x256 .f32) (harg8 : arg8.IsWhole)
    (arg9 : Memref sig .tc .vmem S1x2x4x64x64 .f32) (harg9 : arg9.IsWhole)
    (arg10 : Memref sig .tc .vmem S256x256 .f32) (harg10 : arg10.IsWhole)
    (arg11 : Memref sig .tc .vmem S256x256 .f32) (harg11 : arg11.IsWhole)
    (arg12 : Memref sig .tc .vmem S2x256x256 .f32) (harg12 : arg12.IsWhole)
    (arg13 : Memref sig .tc .vmem S2x4x64x64 .f32) (harg13 : arg13.IsWhole)
    (arg14 : Memref sig .tc .vmem S8x128x128 .f32) (harg14 : arg14.IsWhole)
    (x1 : Vec F S256x1024 .f32) (x2 x3 : Vec F S256x256 .f32) (x4 x5 : Vec F S2x256 .f32) (x6 : Vec F S1x2x4x64x64 .f32) (x7 : Vec F S256x256 .bf16) :
    ∃ Y : Vec F S256x256 .f32, ∀ (E : Set ℕ) (K : PUnit → sProp (MT nD τ sig Unit (Elt F) ℕ (UR sig nD τ) ℕ)),
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare Y ∗ owns (c : Thread nD τ) arg9 fullShare (stBlk x1 x4 x6) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
    ⊢ wp frame (wpE (defs₀ (F := F)) Variants.none c none) E (cc0_retention i arg1 harg1 arg2 harg2 arg3 harg3 arg4 harg4 arg5 harg5 arg6 harg6 arg7 harg7 arg8 harg8 arg9 harg9 arg10 harg10 arg11 harg11 arg12 harg12 arg13 harg13 arg14 harg14) K := by
  apply Exists.intro
  intro E K
  simp only [cc0_retention_eq_skeleton]; unfold cc0_retention_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  sl_exec
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro
    sl_unfold_run_names
    rw [View.read_writes_full]
    rw [yC_last]
    decide +kernel
  isplitl [H9]
  · iexists _; isplitr; swap; · iexact H9
    ipureintro
    sl_unfold_run_names
    rw [View.read_writes_full]
    unfold stBlk
    refine congrArg k0_pay1 ?_
    refine (View.readAt_full arg13.view _ _).trans ?_
    rw [View.readAt_full arg4.view (harg4.unread x4), hf4]
    refine read_stAt arg1 arg11 arg13 _ _ _ _ _ _ hf1 ((View.read_writes_full arg11.view _ _ _ _).trans ?_) ((View.read_writes_full arg13.view arg13.view.junk inb_S2x4x64x64_S2x4x64x64_0_0_0_0 _ []).trans ?_)
    · exact congrArg k0_pay70 (readAt_rows arg1.view hf1 _)
    · exact congrArg k0_pay71 ((View.readAt_full arg6.view _ _).trans hf6)
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  · iexists _, _; isplitr; swap; · iexact H14
    ipureintro; rfl

end Cert.Kernel6Ideal.Ret

end
-- ==== Proof.Ret.Run.lean ====
/- The retention's run over its grid: the pipeline's proof data, the run and what it leaves unchanged. -/
module

public import proofs.«01_k».proof.Proof.Ret.Body
public import proofs.«01_k».proof.Proof.Gen.Kernel6Ideal.Launch
public import proofs.«01_k».proof.Proof.Gen.Kernel6Ideal.Points
public import Idealize.ShloMosaic.Lib.WordCmp
public import Idealize.ShloMosaic.Lib.Claim

@[expose] public section

set_option maxRecDepth 16384

noncomputable section

namespace Cert.Kernel6Ideal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The buffers of a core when the region is entered: after the host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem fresh0 : (hostOps0 : List (HloOp τ sig (Elt F))).Forall fun op => op.fresh = ∅ := by simp only [List.Forall]; repeat' constructor
theorem fresh1 : (hostOps0_1 : List (HloOp τ sig (Elt F))).Forall fun op => op.fresh = ∅ := by simp only [List.Forall]; repeat' constructor
theorem fresh2 : (hostOps0_2 : List (HloOp τ sig (Elt F))).Forall fun op => op.fresh = ∅ := by simp only [List.Forall]; repeat' constructor
theorem fresh3 : (hostOps0_3 : List (HloOp τ sig (Elt F))).Forall fun op => op.fresh = ∅ := by simp only [List.Forall]; repeat' constructor
theorem fresh4 : (hostOps0_4 : List (HloOp τ sig (Elt F))).Forall fun op => op.fresh = ∅ := by simp only [List.Forall]; repeat' constructor

set_option maxHeartbeats 800000 in
/-- The program is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨fresh0, fresh1, fresh2, fresh3, fresh4⟩) main_chain

/-- The host operations write none of the arguments. -/
theorem V_arg (c : Dev nD) : V m c main_arg0 = m ((c : Thread nD τ).loc main_arg0) ∧ V m c main_arg1 = m ((c : Thread nD τ).loc main_arg1)
    ∧ V m c main_arg2 = m ((c : Thread nD τ).loc main_arg2) ∧ V m c main_arg3 = m ((c : Thread nD τ).loc main_arg3) := by
  refine ⟨?_, ?_, ?_, ?_⟩
  all_goals
    refine StableHlo.after_of_forall_not_mem _ _ (List.forall_iff_forall_mem.mp ?_)
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-! ## The windows' blocks -/

/-- A window's block at a point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms0 (t : Fin cfg0.N) : Memref sig .tc .vmem S256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x2x4x64x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x256 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x2x4x64x64 .f32 := win0_8.stage (cfg0.slots t 8)
abbrev hs8 (t : Fin cfg0.N) : (ms8 t).IsWhole := hstage0_8 ((cfg0.slots t 8).cast nbuf0_8)
abbrev sc0 : Memref sig .tc .vmem S256x256 .f32 := Memref.whole cc0_scratch0
abbrev sc1 : Memref sig .tc .vmem S256x256 .f32 := Memref.whole cc0_scratch1
abbrev sc2 : Memref sig .tc .vmem S2x256x256 .f32 := Memref.whole cc0_scratch2
abbrev sc3 : Memref sig .tc .vmem S2x4x64x64 .f32 := Memref.whole cc0_scratch3
abbrev sc4 : Memref sig .tc .vmem S8x128x128 .f32 := Memref.whole cc0_scratch4

/-- The kernel's own buffers and the generator's state, each at something. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-! ## The pipeline's proof data -/

/-- The block of outputs of a point: the one the run of the body leaves, a function of the point's blocks. -/
def yN (c : Dev nD) (t : Fin cfg0.N) : Vec F S256x256 .f32 :=
  (body c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) (iblk m c 5 t) (iblk m c 6 t)).choose

/-- The proof data: each input's buffer at its block, the outputs' at `yN` and at the state the block leaves; nothing is carried between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => yN m c t
    | ⟨8, _⟩ => stBlk (iblk m c 0 t) (iblk m c 3 t) (iblk m c 5 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = yN m c t := by dsimp only [dats]
theorem after8 (c : Dev nD) (t : Fin cfg0.N) : (dats m 0 c).after 8 t = stBlk (iblk m c 0 t) (iblk m c 3 t) (iblk m c 5 t) := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0 t) fullShare ((dats m 0 c).after 0 t) from by
    unfold Dat.leavesExact; rw [show cfg0.idle 0 (grid0.coords t) = false from rfl], after0]
  rw [show (dats m 0 c).leavesExact 1 t = owns (c : Thread nD τ) (ms1 t) fullShare ((dats m 0 c).after 1 t) from by
    unfold Dat.leavesExact; rw [show cfg0.idle 1 (grid0.coords t) = false from rfl], after1]
  rw [show (dats m 0 c).leavesExact 2 t = owns (c : Thread nD τ) (ms2 t) fullShare ((dats m 0 c).after 2 t) from by
    unfold Dat.leavesExact; rw [show cfg0.idle 2 (grid0.coords t) = false from rfl], after2]
  rw [show (dats m 0 c).leavesExact 3 t = owns (c : Thread nD τ) (ms3 t) fullShare ((dats m 0 c).after 3 t) from by
    unfold Dat.leavesExact; rw [show cfg0.idle 3 (grid0.coords t) = false from rfl], after3]
  rw [show (dats m 0 c).leavesExact 4 t = owns (c : Thread nD τ) (ms4 t) fullShare ((dats m 0 c).after 4 t) from by
    unfold Dat.leavesExact; rw [show cfg0.idle 4 (grid0.coords t) = false from rfl], after4]
  rw [show (dats m 0 c).leavesExact 5 t = owns (c : Thread nD τ) (ms5 t) fullShare ((dats m 0 c).after 5 t) from by
    unfold Dat.leavesExact; rw [show cfg0.idle 5 (grid0.coords t) = false from rfl], after5]
  rw [show (dats m 0 c).leavesExact 6 t = owns (c : Thread nD τ) (ms6 t) fullShare ((dats m 0 c).after 6 t) from by
    unfold Dat.leavesExact; rw [show cfg0.idle 6 (grid0.coords t) = false from rfl], after6]
  rw [show (dats m 0 c).leavesExact 7 t = owns (c : Thread nD τ) (ms7 t) fullShare ((dats m 0 c).after 7 t) from by
    unfold Dat.leavesExact; rw [show cfg0.idle 7 (grid0.coords t) = false from rfl], after7]
  rw [show (dats m 0 c).leavesExact 8 t = owns (c : Thread nD τ) (ms8 t) fullShare ((dats m 0 c).after 8 t) from by
    unfold Dat.leavesExact; rw [show cfg0.idle 8 (grid0.coords t) = false from rfl], after8]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((body c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) (iblk m c 5 t) (iblk m c 6 t)).choose_spec Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every run ends with the arrays at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun _ => Idealize.SL.BI.Entails.refl _) (hout := fun _ => Idealize.SL.BI.Entails.refl _)

theorem run_main : θ_run defs (onTc (τ := τ) (main (F := F))) (s₀ m ρ) (Pipeline.FramePost cfgs (dats m) 0 (V m)) :=
  (θ_run defs _ _).mono (fun _ h => h.1) (run_main_quiescent m ρ)

/-- The run leaves the arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats m 0 c).arrAt_in 0 rfl _).trans ((A_eq m c 0).trans (V_arg m c).1)),
      ((h c).2 main_arg1 (Pipeline.mem_restRefs_of main_arg1 (by decide) (by decide))).trans (V_arg m c).2.1,
      ((h c).1 4).trans (((dats m 0 c).arrAt_in 4 rfl _).trans ((A_eq m c 4).trans (V_arg m c).2.2.1)),
      ((h c).1 5).trans (((dats m 0 c).arrAt_in 5 rfl _).trans ((A_eq m c 5).trans (V_arg m c).2.2.2))⟩) (run_main m ρ)

/-- The run leaves the arguments unchanged and every semaphore at zero, over any float values. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel6Ideal.Ret

end
-- ==== Proof.Ret.Spec.lean ====
/- The retention's state in chunks, over the extended reals: the recurrence both programs compute. -/
module

public import Idealize.ShloMosaic.PureOps.Ideal
public import Idealize.ShloMosaic.Lib.IdealHost

@[expose] public section

noncomputable section

namespace Cert.Ret

open Idealize.ShloMosaic

/-- The token that direction `d` reads at place `m` of chunk `c`: forward from the first, or backward from the last. -/
def tok (d c : Fin 2) (m : Fin 128) : Fin 256 := ⟨if d.val = 0 then c.val * 128 + m.val else 255 - (c.val * 128 + m.val), by split <;> omega⟩

/-- How many places follow place `m` in its chunk. -/
def left (m : Fin 128) : EReal := ((127 - (m.val : ℝ) : ℝ) : EReal)

/-- Column `a` of head `h` among the columns of one of the projection's parts. -/
def col (h : Fin 4) (a : Fin 64) : Fin 256 := ⟨h.val * 64 + a.val, by omega⟩
/-- Column `a` of head `h`'s keys and of its values in a projected row. -/
def colK (h : Fin 4) (a : Fin 64) : Fin 1024 := ⟨256 + (h.val * 64 + a.val), by omega⟩
def colV (h : Fin 4) (a : Fin 64) : Fin 1024 := ⟨512 + (h.val * 64 + a.val), by omega⟩
/-- Row `t` of batch row `b` among the projected rows. -/
def rowOf (b : Fin 32) (t : Fin 256) : Fin 24576 := ⟨b.val * 256 + t.val, by omega⟩

/-- A state: direction, head, key column, value column. -/
abbrev St := Fin 2 → Fin 4 → Fin 64 → Fin 64 → EReal

/-- Chunk `c`'s update: the state decayed over 128 places, plus the chunk's keys, each decayed over the places that
    follow it, times its values. -/
def nxt (k v : Fin 4 → Fin 256 → Fin 64 → EReal) (lg : Fin 2 → Fin 4 → EReal) (c : Fin 2) (S : St) : St := fun d h a b =>
  S d h a b * Ideal.exp ((128 : ℝ) * lg d h) + ∑ m : Fin 128, k h (tok d c m) a * Ideal.exp (left m * lg d h) * v h (tok d c m) b

/-- The state after the two chunks. -/
def newState (k v : Fin 4 → Fin 256 → Fin 64 → EReal) (lg : Fin 2 → Fin 4 → EReal) (S : St) : St := nxt k v lg 1 (nxt k v lg 0 S)

theorem lit127 : Ideal.ofBits .f32 1123942400#32 = ((127 : ℝ) : EReal) := by
  simp [Ideal.ofBits, Ideal.ieee, -EReal.coe_mul]; norm_num

theorem lit128 : Ideal.ofBits .f32 1124073472#32 = ((128 : ℝ) : EReal) := by
  simp [Ideal.ofBits, Ideal.ieee, -EReal.coe_mul]; norm_num

/-- A place's number as a float. -/
theorem place (n : Fin 128) : FloatOps.sitofp (F := Ideal) FTy.f32 (BitVec.ofNat 32 n.val) = ((n.val : ℝ) : EReal) := by
  have e : (BitVec.ofNat 32 n.val).toInt = (n.val : ℤ) := by
    rw [BitVec.toInt_ofNat']; simp [Int.bmod_def]; omega
  show (((BitVec.ofNat 32 n.val).toInt : ℝ) : EReal) = _
  rw [e, Int.cast_natCast]

theorem left_rev (n : Fin 128) : left n.rev = ((n.val : ℝ) : EReal) := by
  unfold left
  rw [Fin.val_rev, Nat.cast_sub (by omega)]
  congr 1
  push_cast
  ring

theorem left_eq (n : Fin 128) : ((127 : ℝ) : EReal) - ((n.val : ℝ) : EReal) = left n := by
  unfold left
  rw [EReal.coe_sub]

end Cert.Ret

end
-- ==== Proof.Ret.StVal.lean ====
/- The retention's new state at an index, over the extended reals: one chunk's update and the two chunks of a block. -/
module

public import proofs.«01_k».proof.Proof.Ret.Body
public import proofs.«01_k».proof.Proof.Ret.Spec

@[expose] public section

set_option maxRecDepth 16384

noncomputable section

namespace Cert.Kernel6Ideal.Ret

open Idealize.ShloMosaic Idealize.ShloMosaic.TcCoe Idealize.ShloMosaic.Tactic
open Cert.Kernel6Ideal.Gen Cert.Ret

/-- One chunk's update of a head's state: the old state decayed, plus the decayed keys times the values. -/
theorem payS_at (v41 v45 : FVec Ideal S128x256 .f32) (v48 : FVec Ideal S2x256 .f32) (k0 z0 k1 z1 : FVec Ideal S128x256 .f32) (s : FVec Ideal S1x1x64x64 .f32)
    (d : Fin 2) (h : Fin 4) (a b : Fin 64) :
    payS (F := Ideal) v41 v45 v48 k0 z0 k1 z1 s d h (ix4 0 0 a b)
      = (s (ix4 0 0 a b) * v48 (ix2 d (col h 0)) + ∑ n : Fin 128, (if d.val = 0 then k0 else k1) (ix2 n (col h a)) * (if d.val = 0 then v41 else v45) (ix2 n (col h a))
          * (if d.val = 0 then z0 else z1) (ix2 n (col h b)) : EReal) := by
  fin_cases d <;> fin_cases h
  · show k0_pay53 v48 (k0_pay7 s) (k0_pay11 v41 k0 z0) (ix4 0 0 a b) = _
    pointwise [k0_pay53, k0_pay7, k0_pay11, k0_pay5, k0_pay6]
    simp only [show ∀ x : Fin 64, (⟨x.val, by omega⟩ : Fin 256) = col 0 x from fun x => Fin.ext (by simp [col])]
    rfl
  · show k0_pay55 v48 (k0_pay12 s) (k0_pay16 v41 k0 z0) (ix4 0 0 a b) = _
    pointwise [k0_pay55, k0_pay12, k0_pay16, k0_pay5, k0_pay6]
    rfl
  · show k0_pay57 v48 (k0_pay17 s) (k0_pay21 (k0_pay5 v41 k0) (k0_pay6 z0)) (ix4 0 0 a b) = _
    pointwise [k0_pay57, k0_pay17, k0_pay21, k0_pay5, k0_pay6]
    rfl
  · show k0_pay59 v48 (k0_pay22 s) (k0_pay26 (k0_pay5 v41 k0) (k0_pay6 z0)) (ix4 0 0 a b) = _
    pointwise [k0_pay59, k0_pay22, k0_pay26, k0_pay5, k0_pay6]
    rfl
  · show k0_pay62 (k0_pay61 v48 (k0_pay32 s) (k0_pay36 (k0_pay30 v45 k1) (k0_pay31 z1))) (ix4 0 0 a b) = _
    pointwise [k0_pay62, k0_pay61, k0_pay32, k0_pay36, k0_pay30, k0_pay31]
    simp only [show ∀ x : Fin 64, (⟨x.val, by omega⟩ : Fin 256) = col 0 x from fun x => Fin.ext (by simp [col])]
    rfl
  · show k0_pay64 v48 (k0_pay37 s) (k0_pay41 (k0_pay30 v45 k1) (k0_pay31 z1)) (ix4 0 0 a b) = _
    pointwise [k0_pay64, k0_pay37, k0_pay41, k0_pay30, k0_pay31]
    rfl
  · show k0_pay66 v48 (k0_pay42 s) (k0_pay46 (k0_pay30 v45 k1) (k0_pay31 z1)) (ix4 0 0 a b) = _
    pointwise [k0_pay66, k0_pay42, k0_pay46, k0_pay30, k0_pay31]
    rfl
  · show k0_pay97 (k0_pay51 (k0_pay30 v45 k1) (k0_pay31 z1)) (k0_pay68 v48 (k0_pay47 s)) (ix4 0 0 a b) = _
    pointwise [k0_pay97, k0_pay51, k0_pay68, k0_pay47, k0_pay30, k0_pay31]
    rfl

/-- The keys' decays at a place: over the places that follow it, which for the backward direction are those before it in the rows. -/
theorem kd_at (x : FVec Ideal S2x256 .f32) (d : Fin 2) (n : Fin 128) (j : Fin 256) :
    (if d.val = 0 then k0_pay78 (F := Ideal) (k0_pay72 x) k0_pay73 else k0_pay79 (F := Ideal) (k0_pay72 x) k0_pay73) (ix2 n j)
      = Ideal.exp (left (if d.val = 0 then n else n.rev) * -(Ideal.exp (x (ix2 d j)))) := by
  fin_cases d
  · show k0_pay78 (F := Ideal) (k0_pay72 x) k0_pay73 (ix2 n j) = Ideal.exp (left n * -(Ideal.exp (x (ix2 0 j))))
    pointwise [k0_pay78, k0_pay72, k0_pay73]
    rw [lit127, place, left_eq, zero_sub]
  · show k0_pay79 (F := Ideal) (k0_pay72 x) k0_pay73 (ix2 n j) = Ideal.exp (left n.rev * -(Ideal.exp (x (ix2 1 j))))
    pointwise [k0_pay79, k0_pay72, k0_pay73]
    rw [left_rev, place, zero_sub]

/-- The state's decay over a chunk. -/
theorem cd_at (x : FVec Ideal S2x256 .f32) (d : Fin 2) (j : Fin 256) :
    k0_pay80 (F := Ideal) (k0_pay72 x) (ix2 d j) = Ideal.exp ((128 : ℝ) * -(Ideal.exp (x (ix2 d j)))) := by
  pointwise [k0_pay80, k0_pay72]
  rw [lit128, zero_sub]

/-- The row of a block that chunk `c` has at place `n` in direction `d`, the rows of a chunk in their own order. -/
def row (d c : Fin 2) (n : Fin 128) : Fin 256 := ⟨if d.val = 0 then c.val * 128 + n.val else (1 - c.val) * 128 + n.val, by split <;> omega⟩

theorem row_eq (d c : Fin 2) (n : Fin 128) : row d c n = tok d c (if d.val = 0 then n else n.rev) := by
  refine Fin.ext ?_
  unfold row tok
  dsimp only
  split
  · rfl
  · rw [Fin.val_rev]; omega

theorem off1 (c : Fin 2) : k0_off1 (tr c) = ![c.val * 128, 0] := by revert c; decide
theorem off2 (c : Fin 2) : k0_off2 (tr c) = ![c.val * 128, 512] := by revert c; decide
theorem off3 (c : Fin 2) : k0_off3 (tr c) = ![(1 - c.val) * 128, 0] := by revert c; decide
theorem off4 (c : Fin 2) : k0_off4 (tr c) = ![(1 - c.val) * 128, 512] := by revert c; decide

/-- Rows of an array of 256 columns loaded at a place. -/
theorem rows_at {w o : ℕ} (x : FVec Ideal ⟨2, ![256, w]⟩ .f32) (off : Fin 2 → ℕ) (r : ℕ) (hoff : off = ![r, o]) (inb : ∀ a, off a + S128x256.size a ≤ (⟨2, ![256, w]⟩ : Shape).size a)
    (n : Fin 128) (j : Fin 256) (R : Fin 256) (hR : R.val = r + n.val) (J : Fin w) (hJ : J.val = o + j.val) :
    rowsAt (F := Ideal) x (Rect.unit (s := ⟨2, ![256, w]⟩) off S128x256.size inb).toLoadRect (ix2 n j) = x (ix2 R J) := by
  subst hoff
  refine congrArg x (funext fun a => Fin.ext ?_)
  match a with
  | ⟨0, _⟩ => show r + 1 * n.val = R.val; omega
  | ⟨1, _⟩ => show o + 1 * j.val = J.val; omega

/-- The state after one chunk, at an index. -/
theorem sNext_at (x1 : FVec Ideal S256x1024 .f32) (xk : FVec Ideal S256x256 .f32) (v41 v45 : FVec Ideal S128x256 .f32) (v48 : FVec Ideal S2x256 .f32) (c : Fin 2)
    (s : FVec Ideal S2x4x64x64 .f32) (d : Fin 2) (h : Fin 4) (a b : Fin 64) :
    sNext (F := Ideal) x1 xk v41 v45 v48 (tr c) s (ix4 d h a b)
      = (s (ix4 d h a b) * v48 (ix2 d (col h 0)) + ∑ n : Fin 128, xk (ix2 (row d c n) (col h a)) * (if d.val = 0 then v41 else v45) (ix2 n (col h a))
          * x1 (ix2 (row d c n) (colV h b)) : EReal) := by
  unfold sNext
  refine (payS_at _ _ _ _ _ _ _ _ d h a b).trans ?_
  refine congrArg₂ (· + ·) (congrArg (· * _) (congrArg s (emb_mat d h (ix4 0 0 a b)))) (Finset.sum_congr rfl fun n _ => ?_)
  by_cases e : d.val = 0
  · simp only [if_pos e]
    rw [rows_at xk _ (c.val * 128) (off1 c) _ n (col h a) (row d c n) (if_pos e) (col h a) (by omega),
      rows_at x1 _ (c.val * 128) (off2 c) _ n (col h b) (row d c n) (if_pos e) (colV h b) rfl]
  · simp only [if_neg e]
    rw [rows_at xk _ ((1 - c.val) * 128) (off3 c) _ n (col h a) (row d c n) (if_neg e) (col h a) (by omega),
      rows_at x1 _ ((1 - c.val) * 128) (off4 c) _ n (col h b) (row d c n) (if_neg e) (colV h b) rfl]

/-- The keys a block loads. -/
theorem keys_at (x1 : FVec Ideal S256x1024 .f32) (t : Fin 256) (h : Fin 4) (a : Fin 64) :
    k0_pay70 (F := Ideal) (rowsAt x1 (Rect.unit (s := S256x1024) ![0, 256] S256x256.size inb_S256x1024_S256x256_0_256).toLoadRect) (ix2 t (col h a)) = x1 (ix2 t (colK h a)) := by
  refine Eq.trans (b := rowsAt (F := Ideal) x1 (Rect.unit (s := S256x1024) ![0, 256] S256x256.size inb_S256x1024_S256x256_0_256).toLoadRect (ix2 t (col h a))) ?_ ?_
  · pointwise [k0_pay70]
  · refine congrArg x1 (funext fun i => Fin.ext ?_)
    match i with
    | ⟨0, _⟩ => show 0 + 1 * t.val = t.val; omega
    | ⟨1, _⟩ => show 256 + 1 * (col h a).val = (colK h a).val; unfold col colK; dsimp only; omega

/-- One chunk of a block, from the block's rows and rates. -/
def chunk (x1 : FVec Ideal S256x1024 .f32) (x4 : FVec Ideal S2x256 .f32) (c : Fin 2) (s : FVec Ideal S2x4x64x64 .f32) : FVec Ideal S2x4x64x64 .f32 :=
  sNext (F := Ideal) x1 (k0_pay70 (F := Ideal) (rowsAt (F := Ideal) x1 (Rect.unit (s := S256x1024) ![0, 256] S256x256.size inb_S256x1024_S256x256_0_256).toLoadRect))
    (k0_pay78 (k0_pay72 x4) k0_pay73) (k0_pay79 (k0_pay72 x4) k0_pay73) (k0_pay80 (k0_pay72 x4)) (tr c) s

/-- One chunk of a block is the recurrence's. -/
theorem chunk_at (x1 : FVec Ideal S256x1024 .f32) (x4 : FVec Ideal S2x256 .f32) (r : Fin 2 → Fin 4 → EReal) (hr : ∀ d h a, x4 (ix2 d (col h a)) = r d h)
    (c : Fin 2) (s : FVec Ideal S2x4x64x64 .f32) (S : St) (hs : ∀ d h a b, s (ix4 d h a b) = S d h a b) (d : Fin 2) (h : Fin 4) (a b : Fin 64) :
    chunk x1 x4 c s (ix4 d h a b)
      = nxt (fun h t a => x1 (ix2 t (colK h a))) (fun h t a => x1 (ix2 t (colV h a))) (fun d h => -(Ideal.exp (r d h))) c S d h a b := by
  unfold chunk
  rw [sNext_at]
  simp only [keys_at, kd_at, cd_at, hr, hs, row_eq]
  unfold nxt
  refine congrArg (HAdd.hAdd _) ?_
  by_cases e : d.val = 0
  · simp only [if_pos e]
  · simp only [if_neg e]
    exact Equiv.sum_comp Fin.revPerm (fun m : Fin 128 => x1 (ix2 (tok d c m) (colK h a)) * Ideal.exp (left m * -(Ideal.exp (r d h))) * x1 (ix2 (tok d c m) (colV h b)))

theorem pay1_at (S : FVec Ideal S2x4x64x64 .f32) (d : Fin 2) (h : Fin 4) (a b : Fin 64) : k0_pay1 (F := Ideal) S (ix5 0 d h a b) = S (ix4 d h a b) := by
  pointwise [k0_pay1]

theorem pay71_at (x : FVec Ideal S1x2x4x64x64 .f32) (d : Fin 2) (h : Fin 4) (a b : Fin 64) : k0_pay71 (F := Ideal) x (ix4 d h a b) = x (ix5 0 d h a b) := by
  pointwise [k0_pay71]

theorem stBlk_eq (x1 : FVec Ideal S256x1024 .f32) (x4 : FVec Ideal S2x256 .f32) (x6 : FVec Ideal S1x2x4x64x64 .f32) :
    (stBlk (F := Ideal) x1 x4 x6 : FVec Ideal S1x2x4x64x64 .f32) = k0_pay1 (F := Ideal) (chunk x1 x4 1 (chunk x1 x4 0 (k0_pay71 (F := Ideal) x6))) := rfl

/-- The state a block leaves is the recurrence's over its two chunks. -/
theorem stBlk_at (x1 : FVec Ideal S256x1024 .f32) (x4 : FVec Ideal S2x256 .f32) (r : Fin 2 → Fin 4 → EReal) (hr : ∀ d h a, x4 (ix2 d (col h a)) = r d h)
    (x6 : FVec Ideal S1x2x4x64x64 .f32) (d : Fin 2) (h : Fin 4) (a b : Fin 64) :
    stBlk (F := Ideal) x1 x4 x6 (ix5 0 d h a b)
      = newState (fun h t a => x1 (ix2 t (colK h a))) (fun h t a => x1 (ix2 t (colV h a))) (fun d h => -(Ideal.exp (r d h))) (fun d h a b => x6 (ix5 0 d h a b)) d h a b := by
  rw [stBlk_eq, pay1_at]
  exact chunk_at x1 x4 r hr 1 _ _ (fun d h a b => chunk_at x1 x4 r hr 0 _ _ (fun d h a b => pay71_at x6 d h a b) d h a b) d h a b

end Cert.Kernel6Ideal.Ret

end
-- ==== Proof.Ret.RefSeq.lean ====
/- The retention's reference: its rows forward and backward, laid out by head and chunk. -/
module

public import proofs.«01_k».proof.Proof.Gen.Reference6Ideal.Run
public import proofs.«01_k».proof.Proof.Ret.Spec
public import Idealize.ShloMosaic.Lib.Pointwise

@[expose] public section

set_option maxRecDepth 16384

noncomputable section

namespace Cert.Reference6Ideal.Ret

open Idealize.ShloMosaic Idealize.ShloMosaic.TcCoe Idealize.ShloMosaic.Tactic Idealize.ShloMosaic.StableHlo
open Cert.Reference6Ideal Cert.Reference6Ideal.Gen Cert.Reference6Ideal.Value Cert.Ret

/-- Rows forward, then backward. -/
def bothOf (x : FVec Ideal S32x256x256 .f32) : FVec Ideal S2x32x256x256 .f32 :=
  concatenate S2x32x256x256 0
    [⟨S1x32x256x256, broadcastInDim S1x32x256x256 ![1, 2, 3] bcast_S32x256x256_S1x32x256x256_1_2_3 x⟩,
     ⟨S1x32x256x256, broadcastInDim S1x32x256x256 ![1, 2, 3] bcast_S32x256x256_S1x32x256x256_1_2_3 (Host.reverse [1] x)⟩] concatenates_S1x32x256x256_S1x32x256x256_S2x32x256x256_d0

/-- The time that direction `d` reads at step `t`. -/
def timeOf (d : Fin 2) (t : Fin 256) : Fin 256 := ⟨if d.val = 0 then t.val else 255 - t.val, by split <;> omega⟩

theorem bothOf_at (x : FVec Ideal S32x256x256 .f32) (d : Fin 2) (b : Fin 32) (t j : Fin 256) : bothOf x (ix4 d b t j) = x (ix3 b (timeOf d t) j) := by
  unfold bothOf
  pointwise
  show (if h_1 : d.val < 1 then x (ix3 b t j) else x (ix3 b t.rev j)) = _
  by_cases e : d.val = 0
  · rw [dif_pos (by omega)]
    exact congrArg x (congrArg (fun z => ix3 b z j) (Fin.ext (if_pos e).symm))
  · rw [dif_neg (by omega)]
    refine congrArg x (congrArg (fun z => ix3 b z j) (Fin.ext ?_))
    rw [Fin.val_rev]
    show 256 - (t.val + 1) = if d.val = 0 then _ else _
    rw [if_neg e]
    omega

/-- The columns by head, the heads before the time. -/
def headsOf (x : FVec Ideal S2x32x256x256 .f32) : FVec Ideal S2x32x4x256x64 .f32 :=
  transpose S2x32x4x256x64 [0, 1, 3, 2, 4] (shapeCast S2x32x256x4x64 x shapeCasts_S2x32x256x256_S2x32x256x4x64) transposes_S2x32x256x4x64_S2x32x4x256x64_0_1_3_2_4

theorem headsOf_at (x : FVec Ideal S2x32x256x256 .f32) (d : Fin 2) (b : Fin 32) (h : Fin 4) (t : Fin 256) (a : Fin 64) :
    headsOf x (ix5 d b h t a) = x (ix4 d b t (col h a)) := by
  unfold headsOf
  pointwise
  rfl

/-- The time by chunk, the chunks first. -/
def chunksOf (x : FVec Ideal S2x32x4x256x64 .f32) : FVec Ideal S2x2x32x4x128x64 .f32 :=
  transpose S2x2x32x4x128x64 [3, 0, 1, 2, 4, 5] (shapeCast S2x32x4x2x128x64 x shapeCasts_S2x32x4x256x64_S2x32x4x2x128x64) transposes_S2x32x4x2x128x64_S2x2x32x4x128x64_3_0_1_2_4_5

theorem chunksOf_at (x : FVec Ideal S2x32x4x256x64 .f32) (c d : Fin 2) (b : Fin 32) (h : Fin 4) (m : Fin 128) (a : Fin 64) :
    chunksOf x (ix6 c d b h m a) = x (ix5 d b h ⟨c.val * 128 + m.val, by omega⟩ a) := by
  unfold chunksOf
  pointwise

/-- Rows forward and backward, by head and chunk. -/
def seqOf (x : FVec Ideal S32x256x256 .f32) : FVec Ideal S2x2x32x4x128x64 .f32 := chunksOf (headsOf (bothOf x))

theorem seqOf_at (x : FVec Ideal S32x256x256 .f32) (c d : Fin 2) (b : Fin 32) (h : Fin 4) (m : Fin 128) (a : Fin 64) :
    seqOf x (ix6 c d b h m a) = x (ix3 b (tok d c m) (col h a)) :=
  (chunksOf_at _ c d b h m a).trans ((headsOf_at _ d b h _ a).trans (bothOf_at x d b _ _))

end Cert.Reference6Ideal.Ret

end
-- ==== Proof.Ret.RefVal.lean ====
/- The retention's reference: its loop's two trips and its result at an index, over the extended reals. -/
module

public import proofs.«01_k».proof.Proof.Gen.Reference6Ideal.Run
public import proofs.«01_k».proof.Proof.Ret.RefSeq
public import Idealize.ShloMosaic.Lib.Pointwise
public import Idealize.ShloMosaic.Lib.DynamicIndex
public import Idealize.ShloMosaic.Lib.WordCmp
public import Idealize.ShloMosaic.Lib.StableHlo.ReadAt

@[expose] public section

set_option maxRecDepth 16384

noncomputable section

namespace Cert.Reference6Ideal.Ret

open Idealize.ShloMosaic Idealize.ShloMosaic.TcCoe Idealize.ShloMosaic.Tactic Idealize.ShloMosaic.StableHlo
open Cert.Reference6Ideal Cert.Reference6Ideal.Gen Cert.Reference6Ideal.Value Cert.Ret

/-- The new state that the reference leaves, a function of its arguments: for every batch row the recurrence over the
    row's two chunks, forward and backward. -/
def refState (z : FVec Ideal S24576x1024 .f32) (r : FVec Ideal S2x4 .f32) (s : FVec Ideal S32x2x4x64x64 .f32) : FVec Ideal S32x2x4x64x64 .f32 := fun i =>
  newState (fun h t a => z (ix2 (rowOf (i 0) t) (colK h a))) (fun h t a => z (ix2 (rowOf (i 0) t) (colV h a))) (fun d h => -(Ideal.exp (r (ix2 d h))))
    (fun d h a b => s (ix5 (i 0) d h a b)) (i 1) (i 2) (i 3) (i 4)

/-! ## One trip -/

abbrev Ctr := (⟨S_, .i32⟩ : BufTy).Contents (Elt Ideal)

/-- Chunk `c` of an array of chunks, as the reference's loop reads it. -/
def chunkAt (x : FVec Ideal S2x2x32x4x128x64 .f32) (c : Ctr) : FVec Ideal S2x32x4x128x64 .f32 :=
  shapeCast S2x32x4x128x64 (Host.dynamicSlice S1x2x32x4x128x64 x (fun k => (((![c, constantI S_ 32 0#32, constantI S_ 32 0#32, constantI S_ 32 0#32, constantI S_ 32 0#32, constantI S_ 32 0#32] : Fin 6 → Ctr)) k (Shape.Idx.first h_S_)).toInt) sliceFits_S2x2x32x4x128x64_S1x2x32x4x128x64) shapeCasts_S1x2x32x4x128x64_S2x32x4x128x64

/-- The loop counter's word at trip `n`, read as an integer. -/
theorem toInt_ctr (n : Fin 2) : (Scf.iv 0#32 1#32 n.val).toInt = (n.val : ℤ) := by
  fin_cases n <;> decide

theorem starts_at (n : Fin 2) (a : Fin 6) :
    ((![(fun _ => Scf.iv 0#32 1#32 n.val), constantI S_ 32 0#32, constantI S_ 32 0#32, constantI S_ 32 0#32, constantI S_ 32 0#32, constantI S_ 32 0#32] : Fin 6 → Ctr) a (Shape.Idx.first h_S_)).toInt = ((![n.val, 0, 0, 0, 0, 0] : Fin 6 → ℕ) a : ℤ) := by
  fin_cases a
  · exact toInt_ctr n
  all_goals rfl

theorem fits (n : Fin 2) : S2x2x32x4x128x64.Slices ![n.val, 0, 0, 0, 0, 0] S1x2x32x4x128x64 := by
  refine ⟨rfl, fun a => ?_⟩
  fin_cases a
  · show n.val + 1 ≤ 2; omega
  all_goals (show 0 + _ ≤ _; decide)

theorem chunkAt_eq (x : FVec Ideal S2x2x32x4x128x64 .f32) (c : Ctr) (n : Fin 2) (hc : c = fun _ => Scf.iv 0#32 1#32 n.val) (d : Fin 2) (b : Fin 32) (h : Fin 4) (m : Fin 128) (a : Fin 64) :
    chunkAt x c (ix5 d b h m a) = x (ix6 n d b h m a) := by
  subst hc
  unfold chunkAt
  rw [Host.dynamicSlice_eq_extractStridedSlice S1x2x32x4x128x64 x _ ![n.val, 0, 0, 0, 0, 0] _ (fits n) (starts_at n)]
  pointwise

/-- What one trip makes of the state from the chunk's keys and values and the decays. -/
def tripS (k v : FVec Ideal S2x32x4x128x64 .f32) (cd : FVec Ideal S2x1x4x1x1 .f32) (kd : FVec Ideal S2x1x4x128x1 .f32) (S : FVec Ideal S2x32x4x64x64 .f32) : FVec Ideal S2x32x4x64x64 .f32 :=
  addf (mulf S (broadcastInDim S2x32x4x64x64 ![0, 1, 2, 3, 4] bcast_S2x1x4x1x1_S2x32x4x64x64_0_1_2_3_4 cd))
    (Host.dotGeneral (F := Ideal) (φ₁ := .f32) (φ₂ := .f32) dot_S2x32x4x128x64_S2x32x4x128x64_S2x32x4x64x64_3_3_4_4_012_012 none
      (mulf k (broadcastInDim S2x32x4x128x64 ![0, 1, 2, 3, 4] bcast_S2x1x4x128x1_S2x32x4x128x64_0_1_2_3_4 kd)) v)

theorem step_eq (X : Valuation τ sig (Elt Ideal)) :
    step_main_v70_8 X = tripS (chunkAt (X (Proc.devRef .tc main_v70_1)) (X (Proc.devRef .tc main_v70_7))) (chunkAt (X (Proc.devRef .tc main_v70_2)) (X (Proc.devRef .tc main_v70_7)))
      (X (Proc.devRef .tc main_v70_5)) (X (Proc.devRef .tc main_v70_6)) (X (Proc.devRef .tc main_v70_8)) := rfl

theorem tripS_at (k v : FVec Ideal S2x32x4x128x64 .f32) (cd : FVec Ideal S2x1x4x1x1 .f32) (kd : FVec Ideal S2x1x4x128x1 .f32) (S : FVec Ideal S2x32x4x64x64 .f32) (d : Fin 2) (b : Fin 32) (h : Fin 4) (a e : Fin 64) :
    tripS k v cd kd S (ix5 d b h a e) = (S (ix5 d b h a e) * cd (ix5 d 0 h 0 0) + ∑ m : Fin 128, k (ix5 d b h m a) * kd (ix5 d 0 h m 0) * v (ix5 d b h m e) : EReal) := by
  unfold tripS
  pointwise

/-! ## What enters the loop -/

/-- The columns of the projected rows of the context that hold the keys, or the values. -/
def keysOf (z : FVec Ideal S24576x1024 .f32) : FVec Ideal S32x256x256 .f32 :=
  extractStridedSlice S32x256x256 ![0, 0, 256] (shapeCast S32x256x1024 (extractStridedSlice S8192x1024 ![0, 0] z slices_S24576x1024_S8192x1024_0_0) shapeCasts_S8192x1024_S32x256x1024) slices_S32x256x1024_S32x256x256_0_0_256
def valsOf (z : FVec Ideal S24576x1024 .f32) : FVec Ideal S32x256x256 .f32 :=
  extractStridedSlice S32x256x256 ![0, 0, 512] (shapeCast S32x256x1024 (extractStridedSlice S8192x1024 ![0, 0] z slices_S24576x1024_S8192x1024_0_0) shapeCasts_S8192x1024_S32x256x1024) slices_S32x256x1024_S32x256x256_0_0_512

theorem keysOf_at (z : FVec Ideal S24576x1024 .f32) (b : Fin 32) (t : Fin 256) (h : Fin 4) (a : Fin 64) :
    keysOf z (ix3 b t (col h a)) = z (ix2 (rowOf b t) (colK h a)) := by
  unfold keysOf
  pointwise
  rfl

theorem valsOf_at (z : FVec Ideal S24576x1024 .f32) (b : Fin 32) (t : Fin 256) (h : Fin 4) (a : Fin 64) :
    valsOf z (ix3 b t (col h a)) = z (ix2 (rowOf b t) (colV h a)) := by
  unfold valsOf
  pointwise
  rfl

/-- The logarithms of the decays, and the decays of a chunk and of its places. -/
def lgOf (r : FVec Ideal S2x4 .f32) : FVec Ideal S2x1x4x1x1 .f32 := broadcastInDim S2x1x4x1x1 ![0, 2] bcast_S2x4_S2x1x4x1x1_0_2 (Host.negf (Host.exp r))
def cdOf (r : FVec Ideal S2x4 .f32) : FVec Ideal S2x1x4x1x1 .f32 :=
  Host.exp (mulf (broadcastInDim S2x1x4x1x1 ![] bcast_S_S2x1x4x1x1 (constant (F := Ideal) S_ .f32 0x43000000#32)) (lgOf r))
def kdOf (r : FVec Ideal S2x4 .f32) : FVec Ideal S2x1x4x128x1 .f32 :=
  Host.exp (mulf (broadcastInDim S2x1x4x128x1 ![0, 1, 2, 3, 4] bcast_S1x1x1x128x1_S2x1x4x128x1_0_1_2_3_4 (broadcastInDim S1x1x1x128x1 ![3, 4] bcast_S128x1_S1x1x1x128x1_3_4
      (subf (broadcastInDim S128x1 ![] bcast_S_S128x1 (constant (F := Ideal) S_ .f32 0x42FE0000#32)) (broadcastInDim S128x1 ![0] bcast_S128_S128x1_0 (sitofp (F := Ideal) .f32 (iotaInDim S128 32 0))))))
    (broadcastInDim S2x1x4x128x1 ![0, 1, 2, 3, 4] bcast_S2x1x4x1x1_S2x1x4x128x1_0_1_2_3_4 (lgOf r)))

theorem cdOf_at (r : FVec Ideal S2x4 .f32) (d : Fin 2) (h : Fin 4) : cdOf r (ix5 d 0 h 0 0) = Ideal.exp ((128 : ℝ) * -(Ideal.exp (r (ix2 d h)))) := by
  unfold cdOf lgOf
  pointwise
  rw [← lit128]

theorem kdOf_at (r : FVec Ideal S2x4 .f32) (d : Fin 2) (h : Fin 4) (m : Fin 128) : kdOf r (ix5 d 0 h m 0) = Ideal.exp (left m * -(Ideal.exp (r (ix2 d h)))) := by
  unfold kdOf lgOf
  pointwise
  rw [← left_eq, ← lit127, ← place]

variable (m : (ℓ : Loc nD τ sig) → Buf (Elt Ideal) ℓ) (c : Dev nD)

set_option maxHeartbeats 2000000 in
theorem entry_k : (entryContents preI m c) (Proc.devRef .tc main_v70_1) = seqOf (keysOf (m ((c.tc : Thread nD τ).loc main_arg0))) := by
  simp only [entryContents, afterL_cons, afterL_nil]
  after_results
  rfl

set_option maxHeartbeats 2000000 in
theorem entry_v : (entryContents preI m c) (Proc.devRef .tc main_v70_2) = seqOf (valsOf (m ((c.tc : Thread nD τ).loc main_arg0))) := by
  simp only [entryContents, afterL_cons, afterL_nil]
  after_results
  rfl

set_option maxHeartbeats 2000000 in
theorem entry_cd : (entryContents preI m c) (Proc.devRef .tc main_v70_5) = cdOf (m ((c.tc : Thread nD τ).loc main_arg1)) := by
  simp only [entryContents, afterL_cons, afterL_nil]
  after_results
  rfl

set_option maxHeartbeats 2000000 in
theorem entry_kd : (entryContents preI m c) (Proc.devRef .tc main_v70_6) = kdOf (m ((c.tc : Thread nD τ).loc main_arg1)) := by
  simp only [entryContents, afterL_cons, afterL_nil]
  after_results
  rfl

set_option maxHeartbeats 2000000 in
theorem entry_s : (entryContents preI m c) (Proc.devRef .tc main_v70_8) = transpose S2x32x4x64x64 [1, 0, 2, 3, 4] (m ((c.tc : Thread nD τ).loc main_arg3)) transposes_S32x2x4x64x64_S2x32x4x64x64_1_0_2_3_4 := by
  simp only [entryContents, afterL_cons, afterL_nil]
  after_results
  rfl

/-! ## The two trips -/

/-- A trip at chunk `n`, of the arguments. -/
theorem trip_at (z : FVec Ideal S24576x1024 .f32) (r : FVec Ideal S2x4 .f32) (w : Ctr) (n : Fin 2) (hw : w = fun _ => Scf.iv 0#32 1#32 n.val)
    (X : FVec Ideal S2x32x4x64x64 .f32) (b : Fin 32) (S : St) (hS : ∀ d h a e, X (ix5 d b h a e) = S d h a e) (d : Fin 2) (h : Fin 4) (a e : Fin 64) :
    tripS (chunkAt (seqOf (keysOf z)) w) (chunkAt (seqOf (valsOf z)) w) (cdOf r) (kdOf r) X (ix5 d b h a e)
      = nxt (fun h t a => z (ix2 (rowOf b t) (colK h a))) (fun h t a => z (ix2 (rowOf b t) (colV h a))) (fun d h => -(Ideal.exp (r (ix2 d h)))) n S d h a e := by
  rw [tripS_at]
  simp only [chunkAt_eq _ w n hw, seqOf_at, keysOf_at, valsOf_at, cdOf_at, kdOf_at, hS]
  rfl

/-- The state after the two trips. -/
theorem state_two (b : Fin 32) (d : Fin 2) (h : Fin 4) (a e : Fin 64) :
    (STEP^[2] (entryContents preI m c) (Proc.devRef .tc main_v70_8) : FVec Ideal S2x32x4x64x64 .f32) (ix5 d b h a e)
      = refState (m ((c.tc : Thread nD τ).loc main_arg0)) (m ((c.tc : Thread nD τ).loc main_arg1)) (m ((c.tc : Thread nD τ).loc main_arg3)) (ix5 b d h a e) := by
  have c0 : (entryContents preI m c) (Proc.devRef .tc main_v70_7) = fun _ => Scf.iv 0#32 1#32 (0 : Fin 2).val := ctr_entry m c
  have c1 : (STEP (entryContents preI m c)) (Proc.devRef .tc main_v70_7) = fun _ => Scf.iv 0#32 1#32 (1 : Fin 2).val := by
    rw [STEP_main_v70_7, step_main_v70_7, id_eq, ctr_entry]
    rfl
  show (STEP (STEP (entryContents preI m c)) (Proc.devRef .tc main_v70_8) : FVec Ideal S2x32x4x64x64 .f32) (ix5 d b h a e) = _
  rw [STEP_main_v70_8, step_eq, STEP_main_v70_1, STEP_main_v70_2, STEP_main_v70_5, STEP_main_v70_6, STEP_main_v70_8, step_eq, entry_k, entry_v, entry_cd, entry_kd]
  refine trip_at _ _ _ 1 c1 _ b _ (fun d h a e => trip_at _ _ _ 0 c0 _ b (fun d h a e => (m ((c.tc : Thread nD τ).loc main_arg3) : FVec Ideal S32x2x4x64x64 .f32) (ix5 b d h a e)) (fun d h a e => ?_) d h a e) d h a e
  rw [entry_s]
  pointwise

/-- The reference's result. -/
theorem out_s : out_main_v73 (STEP^[2] (entryContents preI m c))
    = refState (m ((c.tc : Thread nD τ).loc main_arg0)) (m ((c.tc : Thread nD τ).loc main_arg1)) (m ((c.tc : Thread nD τ).loc main_arg3)) := by
  refine funext fun (i : S32x2x4x64x64.Idx) => ?_
  idx_vars i
  refine Eq.trans ?_ (state_two m c _ _ _ _ _)
  unfold out_main_v73
  generalize (STEP^[2] (entryContents preI m c)) (Proc.devRef .tc main_v70_8) = X
  pointwise

end Cert.Reference6Ideal.Ret

end
-- ==== Proof.Ret.Final.lean ====
/- The retention's state array over the extended reals: the recurrence's new state of every batch row. -/
module

public import proofs.«01_k».proof.Proof.Ret.Run
public import proofs.«01_k».proof.Proof.Ret.StVal
public import proofs.«01_k».proof.Proof.Ret.RefVal
public import Idealize.ShloMosaic.Lib.Pipeline.ValueKit.Acc
public import Idealize.ShloMosaic.Lib.Pipeline.ValueKit.Geometry

@[expose] public section

set_option maxRecDepth 16384

noncomputable section

namespace Cert.Proof.Ret

open Idealize.ShloMosaic Idealize.ShloMosaic.TcCoe Idealize.ShloMosaic.Tactic
open Cert.Kernel6Ideal Cert.Kernel6Ideal.Gen Cert.Kernel6Ideal.Ret Cert.Ret

theorem e0 : ∀ t : Fin cfg0.N, win0_0.index t = ![t.val, 0] := (by decide +kernel : ∀ t : Fin grid0.N, _)
theorem e3 : ∀ t : Fin cfg0.N, win0_3.index t = ![0, 0] := (by decide +kernel : ∀ t : Fin grid0.N, _)
theorem e5 : ∀ t : Fin cfg0.N, win0_5.index t = ![t.val, 0, 0, 0, 0] := (by decide +kernel : ∀ t : Fin grid0.N, _)
theorem e8 : ∀ t : Fin cfg0.N, win0_8.index t = ![t.val, 0, 0, 0, 0] := (by decide +kernel : ∀ t : Fin grid0.N, _)

/-- The batch row of a grid point. -/
def bt (t : Fin cfg0.N) : Fin 32 := ⟨t.val, Nat.lt_of_lt_of_eq t.isLt N_0⟩

variable (m : (ℓ : Loc nD τ sig) → Buf (Elt Ideal) ℓ) (c : Dev nD)

abbrev z : FVec Ideal S24576x1024 .f32 := m ((c : Thread nD τ).loc main_arg0)
abbrev rate : FVec Ideal S2x4 .f32 := m ((c : Thread nD τ).loc main_arg1)
abbrev s0 : FVec Ideal S32x2x4x64x64 .f32 := m ((c : Thread nD τ).loc main_arg3)

theorem blk_z (t : Fin cfg0.N) (n : Fin 256) (j : Fin 1024) : iblk m c 0 t (ix2 n j) = z m c (ix2 (rowOf (bt t) n) j) := by
  unfold iblk
  show (V m c main_arg0 : FVec Ideal S24576x1024 .f32) ((win0_0.blk t).view.emb (ix2 n j)) = _
  rw [(V_arg m c).1]
  show z m c _ = _
  generalize z m c = X
  blk_ext [e0, bt, rowOf]

theorem blk_s (t : Fin cfg0.N) (d : Fin 2) (h : Fin 4) (a b : Fin 64) : iblk m c 5 t (ix5 (0 : Fin 1) d h a b) = s0 m c (ix5 (bt t) d h a b) := by
  unfold iblk
  show (V m c main_arg3 : FVec Ideal S32x2x4x64x64 .f32) ((win0_5.blk t).view.emb (ix5 (0 : Fin 1) d h a b)) = _
  rw [(V_arg m c).2.2.2]
  show s0 m c _ = _
  generalize s0 m c = X
  blk_ext [e5, bt]

/-- The rates as the kernel reads them: every head's rate repeated over its columns. -/
def rates (x : FVec Ideal S2x4 .f32) : FVec Ideal S2x256 .f32 := shapeCast S2x256 (broadcastInDim S2x4x64 ![0, 1] bcast_S2x4_S2x4x64_0_1 x) shapeCasts_S2x4x64_S2x256

theorem rates_at (x : FVec Ideal S2x4 .f32) (d : Fin 2) (h : Fin 4) (a : Fin 64) : rates x (ix2 d (col h a)) = x (ix2 d h) := by
  unfold rates
  pointwise
  refine congrArg x (congrArg (fun k => ix2 d k) (Fin.ext ?_))
  show (h.val * 64 + a.val) / 64 = h.val
  omega

set_option maxHeartbeats 2000000 in
theorem V_rates : (V m c main_v12 : FVec Ideal S2x256 .f32) = rates (rate m c) := by
  show StableHlo.after (List.flatten [hostOps0, hostOps0_1, hostOps0_2, hostOps0_3, hostOps0_4]) _ _ = _
  simp only [List.flatten_cons, List.flatten_nil, List.append_nil, List.cons_append, List.nil_append]
  after_results
  rfl

theorem blk_r (t : Fin cfg0.N) (d : Fin 2) (h : Fin 4) (a : Fin 64) : iblk m c 3 t (ix2 d (col h a)) = rate m c (ix2 d h) := by
  refine Eq.trans ?_ (rates_at (rate m c) d h a)
  rw [← V_rates]
  unfold iblk
  show (V m c main_v12 : FVec Ideal S2x256 .f32) ((win0_3.blk t).view.emb (ix2 d (col h a))) = _
  generalize (V m c main_v12 : FVec Ideal S2x256 .f32) = X
  blk_ext [e3]

/-- The kernel's new state. -/
theorem final_s : (dats m 0 c).arrAt 8 cfg0.N = Cert.Reference6Ideal.Ret.refState (z m c) (rate m c) (s0 m c) := by
  refine (dats m 0 c).arrAt_eq_of_covers 8 _ (by decide +kernel) fun t hf y => ?_
  blk_simp
  rw [after8]
  obtain ⟨d, h, a, b, hy⟩ : ∃ (d : Fin 2) (h : Fin 4) (a b : Fin 64), y = ix5 (0 : Fin 1) d h a b :=
    ⟨y 1, y 2, y 3, y 4, by funext a; fin_cases a <;> first | rfl | exact Fin.ext (by have := (y 0).isLt; show (y 0).val = 0; change (y 0).val < 1 at this; omega)⟩
  subst hy
  have h1 : stBlk (F := Ideal) (iblk m c 0 t) (iblk m c 3 t) (iblk m c 5 t) (ix5 (0 : Fin 1) d h a b)
      = Cert.Reference6Ideal.Ret.refState (z m c) (rate m c) (s0 m c) (ix5 (bt t) d h a b) := by
    refine (stBlk_at _ _ (fun d h => rate m c (ix2 d h)) (fun d h a => blk_r m c t d h a) _ d h a b).trans ?_
    simp only [blk_z, blk_s]
    rfl
  rw [h1]
  blk_ext [e8, bt]

end Cert.Proof.Ret

end
-- ==== Proof.Ret.Claims.lean ====
/- The retention's claims: its two frames, its reference's, and its new state against the reference's. -/
module

public import proofs.«01_k».proof.Defs
public import proofs.«01_k».proof.Proof.Gen.Kernel6
public import proofs.«01_k».proof.Proof.Gen.Reference6Ideal.Run
public import proofs.«01_k».proof.Proof.Ret.Final
public import Idealize.ShloMosaic.Lib.Quiescent

@[expose] public section

set_option maxRecDepth 16384

noncomputable section

namespace Cert.Proof.Ret

open Idealize.ShloMosaic Idealize.ShloMosaic.TcCoe Idealize.SL.Sem

/-- Every run of the retention over the extended reals ends, its arguments unchanged and its counters at zero. -/
theorem frame_ideal : Cert.quiescent_Kernel6Ideal := fun m ρ _ => Cert.Kernel6Ideal.Ret.frame_main m ρ

/-- The two programs have the same kernel bodies. -/
theorem bodies_eq : Cert.Kernel6.defs₀ (F := Bits) = Cert.Kernel6Ideal.defs₀ := by
  unfold Cert.Kernel6.defs₀ Cert.Kernel6Ideal.defs₀
  refine congrArg Defs.onTc (funext fun l => funext fun a => ?_)
  match l, a with
  | 0, (t, s) => rfl
  | ⟨n + 1, h⟩, _ => exact absurd h (Nat.not_lt.2 (Nat.le_add_left _ _))

theorem defs_eq : Cert.Kernel6.defs (F := Bits) = Cert.Kernel6Ideal.defs :=
  congrArg (Pipeline.defs Cert.Kernel6Ideal.pcfgs) bodies_eq

set_option maxHeartbeats 4000000 in
/-- The two programs have the same host code. -/
theorem main_eq : Cert.Kernel6.main (F := Bits) = Cert.Kernel6Ideal.main := by
  unfold Cert.Kernel6.main Cert.Kernel6Ideal.main
  rfl

/-- The frame over words: the two programs have one text, and the run is proved over any float values. -/
theorem frame_kernel : Cert.quiescent_Kernel6 := by
  intro m ρ _
  rw [defs_eq, main_eq]
  exact Cert.Kernel6Ideal.Ret.frame_main (F := Bits) m ρ

/-- The reference's run, its arguments unchanged; it has no semaphore. -/
theorem frame_reference : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

theorem preserves : Cert.preserves_Kernel6_Kernel6Ideal := trivial

/-- The retention's new state, of the arguments. -/
theorem run_values (m : (ℓ : Loc Cert.Kernel6Ideal.nD Cert.Kernel6Ideal.τ Cert.Kernel6Ideal.sig) → Buf (Elt Ideal) ℓ) (ρ : Dev Cert.Kernel6Ideal.nD → PrngReg) :
    θ_run (Cert.Kernel6Ideal.defs (F := Ideal)) (onTc (τ := Cert.Kernel6Ideal.τ) (Cert.Kernel6Ideal.main (F := Ideal))) ⟨m, fun _ => 0, ρ⟩ (fun r => ∀ c : Dev Cert.Kernel6Ideal.nD,
      r.2.mem ((c.tc : Thread Cert.Kernel6Ideal.nD Cert.Kernel6Ideal.τ).loc Cert.Kernel6Ideal.main_v13_1) = Cert.Reference6Ideal.Ret.refState (z m c) (rate m c) (s0 m c)) :=
  (θ_run Cert.Kernel6Ideal.defs _ _).mono (fun r h c => ((h c).1 8).trans (final_s m c)) (Cert.Kernel6Ideal.Ret.run_main m ρ)

/-- Over the extended reals the retention's new state is the reference's: of every batch row, both hold the state after
    the row's two chunks, read forward in direction 0 and backward in direction 1. -/
theorem algebraic : Cert.algebraic_Kernel6Ideal_Reference6Ideal := by
  intro m ρ m' ρ' _ hagree
  refine ⟨fun c => Cert.Reference6Ideal.Ret.refState (z m c) (rate m c) (s0 m c), ?_, ?_⟩
  · exact (θ_run Cert.Kernel6Ideal.defs _ _).mono (fun r h c => ⟨h.1 c, h.2 c⟩)
      (θ_run_and (run_values m ρ) (Cert.Kernel6Ideal.Ret.unchanged m ρ))
  · refine (θ_run Cert.Reference6Ideal.defs _ _).mono (fun r h c => ?_) (Cert.Reference6Ideal.Value.run (F := Ideal) m' ρ')
    obtain ⟨h0, h1, h2, h3⟩ := hagree c
    refine ⟨(h c).1.trans ?_, (h c).2⟩
    rw [Cert.Reference6Ideal.Ret.out_s, h0, h1, h3]

end Cert.Proof.Ret

end
-- ==== Proof.lean ====
/- The certificate: the RWKV-7 scan (`Proof/Scan/`), the experts' feed-forward call (`Proof/Ffn/`), the input projection
   (`Proof/Inproj/`) and the final norm (`Proof/Norm/`), each proved in its own modules; the claims are put together here. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Reference6Ideal
public import proofs.«01_k».proof.Proof.Gen.Reference6Ideal.Run
public import proofs.«01_k».proof.Pre_scan_finite
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Reference3Ideal.Run
public import proofs.«01_k».proof.Proof.Gen.Kernel4Ideal.Value
public import proofs.«01_k».proof.Proof.Gen.Reference4Ideal.Run
public import proofs.«01_k».proof.Proof.Scan.Claims
public import proofs.«01_k».proof.Proof.Ffn.Claims
public import proofs.«01_k».proof.Proof.Inproj.Claims
public import proofs.«01_k».proof.Proof.Norm.Claims
public import proofs.«01_k».proof.Proof.Merge.Claims
public import proofs.«01_k».proof.Proof.Ret.Claims
public import Idealize.ShloMosaic.Adequacy
public import Idealize.ShloMosaic.Init

@[expose] public section

noncomputable section

namespace Cert.Proof

/-- Everything claimed, with the side conditions of the programs. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Merge.pre_facts,
  Scan.frame_kernel, Scan.frame_ideal, Scan.frame_reference,
  Ffn.frame_kernel, Ffn.frame_ideal, Ffn.frame_reference,
  Inproj.frame_kernel, Inproj.frame_ideal, Inproj.frame_reference,
  Norm.frame_kernel, Norm.frame_ideal, Norm.frame_reference,
  Merge.frame_kernel, Merge.frame_ideal, Merge.frame_ideal_pre, Merge.frame_reference, Merge.frame_reference_pre,
  Ret.frame_kernel, Ret.frame_ideal, Ret.frame_reference,
  Scan.preserves, Scan.algebraic, Ffn.preserves, Ffn.algebraic, Inproj.preserves, Inproj.algebraic, Norm.preserves, Norm.algebraic, Merge.preserves, Merge.algebraic, Ret.preserves, Ret.algebraic⟩

end Cert.Proof

end
